-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2 = (fun _ => 1#1)

def Pre_InDw (m : (ℓ : Loc Cert.InDw.nD Cert.InDw.τ Cert.InDw.sig) → Buf (Elt Bits) ℓ) : Prop :=
  True

def Pre_InDwIdeal (m : (ℓ : Loc Cert.InDwIdeal.nD Cert.InDwIdeal.τ Cert.InDwIdeal.sig) → Buf (Elt Ideal) ℓ) : Prop :=
  True

def Pre_InDwReferenceIdeal (m : (ℓ : Loc Cert.InDwReferenceIdeal.nD Cert.InDwReferenceIdeal.τ Cert.InDwReferenceIdeal.sig) → Buf (Elt Ideal) ℓ) : Prop :=
  True

def Pre_InDx (m : (ℓ : Loc Cert.InDx.nD Cert.InDx.τ Cert.InDx.sig) → Buf (Elt Bits) ℓ) : Prop :=
  True

def Pre_InDxIdeal (m : (ℓ : Loc Cert.InDxIdeal.nD Cert.InDxIdeal.τ Cert.InDxIdeal.sig) → Buf (Elt Ideal) ℓ) : Prop :=
  True

def Pre_InDxReferenceIdeal (m : (ℓ : Loc Cert.InDxReferenceIdeal.nD Cert.InDxReferenceIdeal.τ Cert.InDxReferenceIdeal.sig) → Buf (Elt Ideal) ℓ) : Prop :=
  True

def Pre_OutDw (m : (ℓ : Loc Cert.OutDw.nD Cert.OutDw.τ Cert.OutDw.sig) → Buf (Elt Bits) ℓ) : Prop :=
  True

def Pre_OutDwIdeal (m : (ℓ : Loc Cert.OutDwIdeal.nD Cert.OutDwIdeal.τ Cert.OutDwIdeal.sig) → Buf (Elt Ideal) ℓ) : Prop :=
  True

def Pre_OutDwReferenceIdeal (m : (ℓ : Loc Cert.OutDwReferenceIdeal.nD Cert.OutDwReferenceIdeal.τ Cert.OutDwReferenceIdeal.sig) → Buf (Elt Ideal) ℓ) : Prop :=
  True

def Pre_SsmInDw (m : (ℓ : Loc Cert.SsmInDw.nD Cert.SsmInDw.τ Cert.SsmInDw.sig) → Buf (Elt Bits) ℓ) : Prop :=
  True

def Pre_SsmInDwIdeal (m : (ℓ : Loc Cert.SsmInDwIdeal.nD Cert.SsmInDwIdeal.τ Cert.SsmInDwIdeal.sig) → Buf (Elt Ideal) ℓ) : Prop :=
  True

def Pre_SsmInDwReferenceIdeal (m : (ℓ : Loc Cert.SsmInDwReferenceIdeal.nD Cert.SsmInDwReferenceIdeal.τ Cert.SsmInDwReferenceIdeal.sig) → Buf (Elt Ideal) ℓ) : Prop :=
  True

def Pre_SsmInDx (m : (ℓ : Loc Cert.SsmInDx.nD Cert.SsmInDx.τ Cert.SsmInDx.sig) → Buf (Elt Bits) ℓ) : Prop :=
  True

def Pre_SsmInDxIdeal (m : (ℓ : Loc Cert.SsmInDxIdeal.nD Cert.SsmInDxIdeal.τ Cert.SsmInDxIdeal.sig) → Buf (Elt Ideal) ℓ) : Prop :=
  True

def Pre_SsmInDxReferenceIdeal (m : (ℓ : Loc Cert.SsmInDxReferenceIdeal.nD Cert.SsmInDxReferenceIdeal.τ Cert.SsmInDxReferenceIdeal.sig) → Buf (Elt Ideal) ℓ) : Prop :=
  True

def Pre_OutDx (m : (ℓ : Loc Cert.OutDx.nD Cert.OutDx.τ Cert.OutDx.sig) → Buf (Elt Bits) ℓ) : Prop :=
  True

def Pre_OutDxIdeal (m : (ℓ : Loc Cert.OutDxIdeal.nD Cert.OutDxIdeal.τ Cert.OutDxIdeal.sig) → Buf (Elt Ideal) ℓ) : Prop :=
  True

def Pre_OutDxReferenceIdeal (m : (ℓ : Loc Cert.OutDxReferenceIdeal.nD Cert.OutDxReferenceIdeal.τ Cert.OutDxReferenceIdeal.sig) → Buf (Elt Ideal) ℓ) : Prop :=
  True

def Pre_GateDx (m : (ℓ : Loc Cert.GateDx.nD Cert.GateDx.τ Cert.GateDx.sig) → Buf (Elt Bits) ℓ) : Prop :=
  True

def Pre_GateDxIdeal (m : (ℓ : Loc Cert.GateDxIdeal.nD Cert.GateDxIdeal.τ Cert.GateDxIdeal.sig) → Buf (Elt Ideal) ℓ) : Prop :=
  True

def Pre_GateDxReferenceIdeal (m : (ℓ : Loc Cert.GateDxReferenceIdeal.nD Cert.GateDxReferenceIdeal.τ Cert.GateDxReferenceIdeal.sig) → Buf (Elt Ideal) ℓ) : Prop :=
  True

def Pre_SwaInDw (m : (ℓ : Loc Cert.SwaInDw.nD Cert.SwaInDw.τ Cert.SwaInDw.sig) → Buf (Elt Bits) ℓ) : Prop :=
  True

def Pre_SwaInDwIdeal (m : (ℓ : Loc Cert.SwaInDwIdeal.nD Cert.SwaInDwIdeal.τ Cert.SwaInDwIdeal.sig) → Buf (Elt Ideal) ℓ) : Prop :=
  True

def Pre_SwaInDwReferenceIdeal (m : (ℓ : Loc Cert.SwaInDwReferenceIdeal.nD Cert.SwaInDwReferenceIdeal.τ Cert.SwaInDwReferenceIdeal.sig) → Buf (Elt Ideal) ℓ) : Prop :=
  True

def Pre_SwaInDx (m : (ℓ : Loc Cert.SwaInDx.nD Cert.SwaInDx.τ Cert.SwaInDx.sig) → Buf (Elt Bits) ℓ) : Prop :=
  True

def Pre_SwaInDxIdeal (m : (ℓ : Loc Cert.SwaInDxIdeal.nD Cert.SwaInDxIdeal.τ Cert.SwaInDxIdeal.sig) → Buf (Elt Ideal) ℓ) : Prop :=
  True

def Pre_SwaInDxReferenceIdeal (m : (ℓ : Loc Cert.SwaInDxReferenceIdeal.nD Cert.SwaInDxReferenceIdeal.τ Cert.SwaInDxReferenceIdeal.sig) → Buf (Elt Ideal) ℓ) : Prop :=
  True

def Pre_FoxIn (m : (ℓ : Loc Cert.FoxIn.nD Cert.FoxIn.τ Cert.FoxIn.sig) → Buf (Elt Bits) ℓ) : Prop :=
  True

def Pre_FoxInIdeal (m : (ℓ : Loc Cert.FoxInIdeal.nD Cert.FoxInIdeal.τ Cert.FoxInIdeal.sig) → Buf (Elt Ideal) ℓ) : Prop :=
  True

def Pre_FoxInReferenceIdeal (m : (ℓ : Loc Cert.FoxInReferenceIdeal.nD Cert.FoxInReferenceIdeal.τ Cert.FoxInReferenceIdeal.sig) → Buf (Elt Ideal) ℓ) : Prop :=
  True

def Pre_MixerOut (m : (ℓ : Loc Cert.MixerOut.nD Cert.MixerOut.τ Cert.MixerOut.sig) → Buf (Elt Bits) ℓ) : Prop :=
  True

def Pre_MixerOutIdeal (m : (ℓ : Loc Cert.MixerOutIdeal.nD Cert.MixerOutIdeal.τ Cert.MixerOutIdeal.sig) → Buf (Elt Ideal) ℓ) : Prop :=
  True

def Pre_MixerOutReferenceIdeal (m : (ℓ : Loc Cert.MixerOutReferenceIdeal.nD Cert.MixerOutReferenceIdeal.τ Cert.MixerOutReferenceIdeal.sig) → Buf (Elt Ideal) ℓ) : Prop :=
  True

def Pre_SsmIn (m : (ℓ : Loc Cert.SsmIn.nD Cert.SsmIn.τ Cert.SsmIn.sig) → Buf (Elt Bits) ℓ) : Prop :=
  True

def Pre_SsmInIdeal (m : (ℓ : Loc Cert.SsmInIdeal.nD Cert.SsmInIdeal.τ Cert.SsmInIdeal.sig) → Buf (Elt Ideal) ℓ) : Prop :=
  True

def Pre_SsmInReferenceIdeal (m : (ℓ : Loc Cert.SsmInReferenceIdeal.nD Cert.SsmInReferenceIdeal.τ Cert.SsmInReferenceIdeal.sig) → Buf (Elt Ideal) ℓ) : Prop :=
  True

def Pre_SwaIn (m : (ℓ : Loc Cert.SwaIn.nD Cert.SwaIn.τ Cert.SwaIn.sig) → Buf (Elt Bits) ℓ) : Prop :=
  True

def Pre_SwaInIdeal (m : (ℓ : Loc Cert.SwaInIdeal.nD Cert.SwaInIdeal.τ Cert.SwaInIdeal.sig) → Buf (Elt Ideal) ℓ) : Prop :=
  True

def Pre_SwaInReferenceIdeal (m : (ℓ : Loc Cert.SwaInReferenceIdeal.nD Cert.SwaInReferenceIdeal.τ Cert.SwaInReferenceIdeal.sig) → Buf (Elt Ideal) ℓ) : Prop :=
  True

def Pre_PleMixBwd (m : (ℓ : Loc Cert.PleMixBwd.nD Cert.PleMixBwd.τ Cert.PleMixBwd.sig) → Buf (Elt Bits) ℓ) : Prop :=
  True

def Pre_PleMixBwdIdeal (m : (ℓ : Loc Cert.PleMixBwdIdeal.nD Cert.PleMixBwdIdeal.τ Cert.PleMixBwdIdeal.sig) → Buf (Elt Ideal) ℓ) : Prop :=
  True

def Pre_PleMixBwdReferenceIdeal (m : (ℓ : Loc Cert.PleMixBwdReferenceIdeal.nD Cert.PleMixBwdReferenceIdeal.τ Cert.PleMixBwdReferenceIdeal.sig) → Buf (Elt Ideal) ℓ) : Prop :=
  True

def Pre_PleEmbDw (m : (ℓ : Loc Cert.PleEmbDw.nD Cert.PleEmbDw.τ Cert.PleEmbDw.sig) → Buf (Elt Bits) ℓ) : Prop :=
  True

def Pre_PleEmbDwIdeal (m : (ℓ : Loc Cert.PleEmbDwIdeal.nD Cert.PleEmbDwIdeal.τ Cert.PleEmbDwIdeal.sig) → Buf (Elt Ideal) ℓ) : Prop :=
  True

def Pre_PleEmbDwReferenceIdeal (m : (ℓ : Loc Cert.PleEmbDwReferenceIdeal.nD Cert.PleEmbDwReferenceIdeal.τ Cert.PleEmbDwReferenceIdeal.sig) → Buf (Elt Ideal) ℓ) : Prop :=
  True

def Pre_PleEmb (m : (ℓ : Loc Cert.PleEmb.nD Cert.PleEmb.τ Cert.PleEmb.sig) → Buf (Elt Bits) ℓ) : Prop :=
  True

def Pre_PleEmbIdeal (m : (ℓ : Loc Cert.PleEmbIdeal.nD Cert.PleEmbIdeal.τ Cert.PleEmbIdeal.sig) → Buf (Elt Ideal) ℓ) : Prop :=
  True

def Pre_PleEmbReferenceIdeal (m : (ℓ : Loc Cert.PleEmbReferenceIdeal.nD Cert.PleEmbReferenceIdeal.τ Cert.PleEmbReferenceIdeal.sig) → Buf (Elt Ideal) ℓ) : Prop :=
  True

def Pre_FoxGateBwd (m : (ℓ : Loc Cert.FoxGateBwd.nD Cert.FoxGateBwd.τ Cert.FoxGateBwd.sig) → Buf (Elt Bits) ℓ) : Prop :=
  True

def Pre_FoxGateBwdIdeal (m : (ℓ : Loc Cert.FoxGateBwdIdeal.nD Cert.FoxGateBwdIdeal.τ Cert.FoxGateBwdIdeal.sig) → Buf (Elt Ideal) ℓ) : Prop :=
  True

def Pre_FoxGateBwdIdeal_finite_gated [hPre_finite_gated : Cert.Pre_finite_gated.Facts] (m : (ℓ : Loc Cert.FoxGateBwdIdeal.nD Cert.FoxGateBwdIdeal.τ Cert.FoxGateBwdIdeal.sig) → Buf (Elt Ideal) ℓ) : Prop :=
  ∀ c : Dev Cert.FoxGateBwdIdeal.nD,
    (Cert.Pre_finite_gated.fn (F := Ideal) (m ((c.tc : Thread Cert.FoxGateBwdIdeal.nD Cert.FoxGateBwdIdeal.τ).loc Cert.FoxGateBwdIdeal.main_arg0)) (m ((c.tc : Thread Cert.FoxGateBwdIdeal.nD Cert.FoxGateBwdIdeal.τ).loc Cert.FoxGateBwdIdeal.main_arg1)) (m ((c.tc : Thread Cert.FoxGateBwdIdeal.nD Cert.FoxGateBwdIdeal.τ).loc Cert.FoxGateBwdIdeal.main_arg2))).1 = (fun _ => 1#1)
    ∧ (Cert.Pre_finite_gated.fn (F := Ideal) (m ((c.tc : Thread Cert.FoxGateBwdIdeal.nD Cert.FoxGateBwdIdeal.τ).loc Cert.FoxGateBwdIdeal.main_arg0)) (m ((c.tc : Thread Cert.FoxGateBwdIdeal.nD Cert.FoxGateBwdIdeal.τ).loc Cert.FoxGateBwdIdeal.main_arg1)) (m ((c.tc : Thread Cert.FoxGateBwdIdeal.nD Cert.FoxGateBwdIdeal.τ).loc Cert.FoxGateBwdIdeal.main_arg2))).2 = (fun _ => 1#1)

def Pre_FoxGateBwdReferenceIdeal (m : (ℓ : Loc Cert.FoxGateBwdReferenceIdeal.nD Cert.FoxGateBwdReferenceIdeal.τ Cert.FoxGateBwdReferenceIdeal.sig) → Buf (Elt Ideal) ℓ) : Prop :=
  True

def Pre_FoxGateBwdReferenceIdeal_finite_gated [hPre_finite_gated : Cert.Pre_finite_gated.Facts] (m : (ℓ : Loc Cert.FoxGateBwdReferenceIdeal.nD Cert.FoxGateBwdReferenceIdeal.τ Cert.FoxGateBwdReferenceIdeal.sig) → Buf (Elt Ideal) ℓ) : Prop :=
  ∀ c : Dev Cert.FoxGateBwdReferenceIdeal.nD,
    (Cert.Pre_finite_gated.fn (F := Ideal) (m ((c.tc : Thread Cert.FoxGateBwdReferenceIdeal.nD Cert.FoxGateBwdReferenceIdeal.τ).loc Cert.FoxGateBwdReferenceIdeal.main_arg0)) (m ((c.tc : Thread Cert.FoxGateBwdReferenceIdeal.nD Cert.FoxGateBwdReferenceIdeal.τ).loc Cert.FoxGateBwdReferenceIdeal.main_arg1)) (m ((c.tc : Thread Cert.FoxGateBwdReferenceIdeal.nD Cert.FoxGateBwdReferenceIdeal.τ).loc Cert.FoxGateBwdReferenceIdeal.main_arg2))).1 = (fun _ => 1#1)
    ∧ (Cert.Pre_finite_gated.fn (F := Ideal) (m ((c.tc : Thread Cert.FoxGateBwdReferenceIdeal.nD Cert.FoxGateBwdReferenceIdeal.τ).loc Cert.FoxGateBwdReferenceIdeal.main_arg0)) (m ((c.tc : Thread Cert.FoxGateBwdReferenceIdeal.nD Cert.FoxGateBwdReferenceIdeal.τ).loc Cert.FoxGateBwdReferenceIdeal.main_arg1)) (m ((c.tc : Thread Cert.FoxGateBwdReferenceIdeal.nD Cert.FoxGateBwdReferenceIdeal.τ).loc Cert.FoxGateBwdReferenceIdeal.main_arg2))).2 = (fun _ => 1#1)

def Pre_FoxGate (m : (ℓ : Loc Cert.FoxGate.nD Cert.FoxGate.τ Cert.FoxGate.sig) → Buf (Elt Bits) ℓ) : Prop :=
  True

def Pre_FoxGateIdeal (m : (ℓ : Loc Cert.FoxGateIdeal.nD Cert.FoxGateIdeal.τ Cert.FoxGateIdeal.sig) → Buf (Elt Ideal) ℓ) : Prop :=
  True

def Pre_FoxGateReferenceIdeal (m : (ℓ : Loc Cert.FoxGateReferenceIdeal.nD Cert.FoxGateReferenceIdeal.τ Cert.FoxGateReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_InDw [hInDw : Cert.InDw.Facts] : Prop :=
  ∀ (m : (ℓ : Loc Cert.InDw.nD Cert.InDw.τ Cert.InDw.sig) → Buf (Elt Bits) ℓ) (g : Dev Cert.InDw.nD → PrngReg), Pre_InDw m →
    θ_run (Cert.InDw.defs (F := Bits)) (onTc (τ := Cert.InDw.τ) (Cert.InDw.main (F := Bits))) ⟨m, fun _ => 0, g⟩ (fun r => (∀ c : Dev Cert.InDw.nD,
      r.2.mem ((c.tc : Thread Cert.InDw.nD Cert.InDw.τ).loc Cert.InDw.main_arg0) = m ((c.tc : Thread Cert.InDw.nD Cert.InDw.τ).loc Cert.InDw.main_arg0)
      ∧ r.2.mem ((c.tc : Thread Cert.InDw.nD Cert.InDw.τ).loc Cert.InDw.main_arg1) = m ((c.tc : Thread Cert.InDw.nD Cert.InDw.τ).loc Cert.InDw.main_arg1))
      ∧ r.2.sem = fun _ => 0)

def quiescent_InDwIdeal [hInDwIdeal : Cert.InDwIdeal.Facts] : Prop :=
  ∀ (m : (ℓ : Loc Cert.InDwIdeal.nD Cert.InDwIdeal.τ Cert.InDwIdeal.sig) → Buf (Elt Ideal) ℓ) (g : Dev Cert.InDwIdeal.nD → PrngReg), Pre_InDwIdeal m →
    θ_run (Cert.InDwIdeal.defs (F := Ideal)) (onTc (τ := Cert.InDwIdeal.τ) (Cert.InDwIdeal.main (F := Ideal))) ⟨m, fun _ => 0, g⟩ (fun r => (∀ c : Dev Cert.InDwIdeal.nD,
      r.2.mem ((c.tc : Thread Cert.InDwIdeal.nD Cert.InDwIdeal.τ).loc Cert.InDwIdeal.main_arg0) = m ((c.tc : Thread Cert.InDwIdeal.nD Cert.InDwIdeal.τ).loc Cert.InDwIdeal.main_arg0)
      ∧ r.2.mem ((c.tc : Thread Cert.InDwIdeal.nD Cert.InDwIdeal.τ).loc Cert.InDwIdeal.main_arg1) = m ((c.tc : Thread Cert.InDwIdeal.nD Cert.InDwIdeal.τ).loc Cert.InDwIdeal.main_arg1))
      ∧ r.2.sem = fun _ => 0)

def quiescent_InDwReferenceIdeal [hInDwReferenceIdeal : Cert.InDwReferenceIdeal.Facts] : Prop :=
  ∀ (m : (ℓ : Loc Cert.InDwReferenceIdeal.nD Cert.InDwReferenceIdeal.τ Cert.InDwReferenceIdeal.sig) → Buf (Elt Ideal) ℓ) (g : Dev Cert.InDwReferenceIdeal.nD → PrngReg), Pre_InDwReferenceIdeal m →
    θ_run (Cert.InDwReferenceIdeal.defs (F := Ideal)) (onTc (τ := Cert.InDwReferenceIdeal.τ) (Cert.InDwReferenceIdeal.main (F := Ideal))) ⟨m, fun _ => 0, g⟩ (fun r => (∀ c : Dev Cert.InDwReferenceIdeal.nD,
      r.2.mem ((c.tc : Thread Cert.InDwReferenceIdeal.nD Cert.InDwReferenceIdeal.τ).loc Cert.InDwReferenceIdeal.main_arg0) = m ((c.tc : Thread Cert.InDwReferenceIdeal.nD Cert.InDwReferenceIdeal.τ).loc Cert.InDwReferenceIdeal.main_arg0)
      ∧ r.2.mem ((c.tc : Thread Cert.InDwReferenceIdeal.nD Cert.InDwReferenceIdeal.τ).loc Cert.InDwReferenceIdeal.main_arg1) = m ((c.tc : Thread Cert.InDwReferenceIdeal.nD Cert.InDwReferenceIdeal.τ).loc Cert.InDwReferenceIdeal.main_arg1))
      ∧ r.2.sem = fun _ => 0)

def quiescent_InDx [hInDx : Cert.InDx.Facts] : Prop :=
  ∀ (m : (ℓ : Loc Cert.InDx.nD Cert.InDx.τ Cert.InDx.sig) → Buf (Elt Bits) ℓ) (g : Dev Cert.InDx.nD → PrngReg), Pre_InDx m →
    θ_run (Cert.InDx.defs (F := Bits)) (onTc (τ := Cert.InDx.τ) (Cert.InDx.main (F := Bits))) ⟨m, fun _ => 0, g⟩ (fun r => (∀ c : Dev Cert.InDx.nD,
      r.2.mem ((c.tc : Thread Cert.InDx.nD Cert.InDx.τ).loc Cert.InDx.main_arg0) = m ((c.tc : Thread Cert.InDx.nD Cert.InDx.τ).loc Cert.InDx.main_arg0)
      ∧ r.2.mem ((c.tc : Thread Cert.InDx.nD Cert.InDx.τ).loc Cert.InDx.main_arg1) = m ((c.tc : Thread Cert.InDx.nD Cert.InDx.τ).loc Cert.InDx.main_arg1))
      ∧ r.2.sem = fun _ => 0)

def quiescent_InDxIdeal [hInDxIdeal : Cert.InDxIdeal.Facts] : Prop :=
  ∀ (m : (ℓ : Loc Cert.InDxIdeal.nD Cert.InDxIdeal.τ Cert.InDxIdeal.sig) → Buf (Elt Ideal) ℓ) (g : Dev Cert.InDxIdeal.nD → PrngReg), Pre_InDxIdeal m →
    θ_run (Cert.InDxIdeal.defs (F := Ideal)) (onTc (τ := Cert.InDxIdeal.τ) (Cert.InDxIdeal.main (F := Ideal))) ⟨m, fun _ => 0, g⟩ (fun r => (∀ c : Dev Cert.InDxIdeal.nD,
      r.2.mem ((c.tc : Thread Cert.InDxIdeal.nD Cert.InDxIdeal.τ).loc Cert.InDxIdeal.main_arg0) = m ((c.tc : Thread Cert.InDxIdeal.nD Cert.InDxIdeal.τ).loc Cert.InDxIdeal.main_arg0)
      ∧ r.2.mem ((c.tc : Thread Cert.InDxIdeal.nD Cert.InDxIdeal.τ).loc Cert.InDxIdeal.main_arg1) = m ((c.tc : Thread Cert.InDxIdeal.nD Cert.InDxIdeal.τ).loc Cert.InDxIdeal.main_arg1))
      ∧ r.2.sem = fun _ => 0)

def quiescent_InDxReferenceIdeal [hInDxReferenceIdeal : Cert.InDxReferenceIdeal.Facts] : Prop :=
  ∀ (m : (ℓ : Loc Cert.InDxReferenceIdeal.nD Cert.InDxReferenceIdeal.τ Cert.InDxReferenceIdeal.sig) → Buf (Elt Ideal) ℓ) (g : Dev Cert.InDxReferenceIdeal.nD → PrngReg), Pre_InDxReferenceIdeal m →
    θ_run (Cert.InDxReferenceIdeal.defs (F := Ideal)) (onTc (τ := Cert.InDxReferenceIdeal.τ) (Cert.InDxReferenceIdeal.main (F := Ideal))) ⟨m, fun _ => 0, g⟩ (fun r => (∀ c : Dev Cert.InDxReferenceIdeal.nD,
      r.2.mem ((c.tc : Thread Cert.InDxReferenceIdeal.nD Cert.InDxReferenceIdeal.τ).loc Cert.InDxReferenceIdeal.main_arg0) = m ((c.tc : Thread Cert.InDxReferenceIdeal.nD Cert.InDxReferenceIdeal.τ).loc Cert.InDxReferenceIdeal.main_arg0)
      ∧ r.2.mem ((c.tc : Thread Cert.InDxReferenceIdeal.nD Cert.InDxReferenceIdeal.τ).loc Cert.InDxReferenceIdeal.main_arg1) = m ((c.tc : Thread Cert.InDxReferenceIdeal.nD Cert.InDxReferenceIdeal.τ).loc Cert.InDxReferenceIdeal.main_arg1))
      ∧ r.2.sem = fun _ => 0)

def quiescent_OutDw [hOutDw : Cert.OutDw.Facts] : Prop :=
  ∀ (m : (ℓ : Loc Cert.OutDw.nD Cert.OutDw.τ Cert.OutDw.sig) → Buf (Elt Bits) ℓ) (g : Dev Cert.OutDw.nD → PrngReg), Pre_OutDw m →
    θ_run (Cert.OutDw.defs (F := Bits)) (onTc (τ := Cert.OutDw.τ) (Cert.OutDw.main (F := Bits))) ⟨m, fun _ => 0, g⟩ (fun r => (∀ c : Dev Cert.OutDw.nD,
      r.2.mem ((c.tc : Thread Cert.OutDw.nD Cert.OutDw.τ).loc Cert.OutDw.main_arg0) = m ((c.tc : Thread Cert.OutDw.nD Cert.OutDw.τ).loc Cert.OutDw.main_arg0)
      ∧ r.2.mem ((c.tc : Thread Cert.OutDw.nD Cert.OutDw.τ).loc Cert.OutDw.main_arg1) = m ((c.tc : Thread Cert.OutDw.nD Cert.OutDw.τ).loc Cert.OutDw.main_arg1))
      ∧ r.2.sem = fun _ => 0)

def quiescent_OutDwIdeal [hOutDwIdeal : Cert.OutDwIdeal.Facts] : Prop :=
  ∀ (m : (ℓ : Loc Cert.OutDwIdeal.nD Cert.OutDwIdeal.τ Cert.OutDwIdeal.sig) → Buf (Elt Ideal) ℓ) (g : Dev Cert.OutDwIdeal.nD → PrngReg), Pre_OutDwIdeal m →
    θ_run (Cert.OutDwIdeal.defs (F := Ideal)) (onTc (τ := Cert.OutDwIdeal.τ) (Cert.OutDwIdeal.main (F := Ideal))) ⟨m, fun _ => 0, g⟩ (fun r => (∀ c : Dev Cert.OutDwIdeal.nD,
      r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
      ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1))
      ∧ r.2.sem = fun _ => 0)

def quiescent_OutDwReferenceIdeal [hOutDwReferenceIdeal : Cert.OutDwReferenceIdeal.Facts] : Prop :=
  ∀ (m : (ℓ : Loc Cert.OutDwReferenceIdeal.nD Cert.OutDwReferenceIdeal.τ Cert.OutDwReferenceIdeal.sig) → Buf (Elt Ideal) ℓ) (g : Dev Cert.OutDwReferenceIdeal.nD → PrngReg), Pre_OutDwReferenceIdeal m →
    θ_run (Cert.OutDwReferenceIdeal.defs (F := Ideal)) (onTc (τ := Cert.OutDwReferenceIdeal.τ) (Cert.OutDwReferenceIdeal.main (F := Ideal))) ⟨m, fun _ => 0, g⟩ (fun r => (∀ c : Dev Cert.OutDwReferenceIdeal.nD,
      r.2.mem ((c.tc : Thread Cert.OutDwReferenceIdeal.nD Cert.OutDwReferenceIdeal.τ).loc Cert.OutDwReferenceIdeal.main_arg0) = m ((c.tc : Thread Cert.OutDwReferenceIdeal.nD Cert.OutDwReferenceIdeal.τ).loc Cert.OutDwReferenceIdeal.main_arg0)
      ∧ r.2.mem ((c.tc : Thread Cert.OutDwReferenceIdeal.nD Cert.OutDwReferenceIdeal.τ).loc Cert.OutDwReferenceIdeal.main_arg1) = m ((c.tc : Thread Cert.OutDwReferenceIdeal.nD Cert.OutDwReferenceIdeal.τ).loc Cert.OutDwReferenceIdeal.main_arg1))
      ∧ r.2.sem = fun _ => 0)

def quiescent_SsmInDw [hSsmInDw : Cert.SsmInDw.Facts] : Prop :=
  ∀ (m : (ℓ : Loc Cert.SsmInDw.nD Cert.SsmInDw.τ Cert.SsmInDw.sig) → Buf (Elt Bits) ℓ) (g : Dev Cert.SsmInDw.nD → PrngReg), Pre_SsmInDw m →
    θ_run (Cert.SsmInDw.defs (F := Bits)) (onTc (τ := Cert.SsmInDw.τ) (Cert.SsmInDw.main (F := Bits))) ⟨m, fun _ => 0, g⟩ (fun r => (∀ c : Dev Cert.SsmInDw.nD,
      r.2.mem ((c.tc : Thread Cert.SsmInDw.nD Cert.SsmInDw.τ).loc Cert.SsmInDw.main_arg0) = m ((c.tc : Thread Cert.SsmInDw.nD Cert.SsmInDw.τ).loc Cert.SsmInDw.main_arg0)
      ∧ r.2.mem ((c.tc : Thread Cert.SsmInDw.nD Cert.SsmInDw.τ).loc Cert.SsmInDw.main_arg1) = m ((c.tc : Thread Cert.SsmInDw.nD Cert.SsmInDw.τ).loc Cert.SsmInDw.main_arg1))
      ∧ r.2.sem = fun _ => 0)

def quiescent_SsmInDwIdeal [hSsmInDwIdeal : Cert.SsmInDwIdeal.Facts] : Prop :=
  ∀ (m : (ℓ : Loc Cert.SsmInDwIdeal.nD Cert.SsmInDwIdeal.τ Cert.SsmInDwIdeal.sig) → Buf (Elt Ideal) ℓ) (g : Dev Cert.SsmInDwIdeal.nD → PrngReg), Pre_SsmInDwIdeal m →
    θ_run (Cert.SsmInDwIdeal.defs (F := Ideal)) (onTc (τ := Cert.SsmInDwIdeal.τ) (Cert.SsmInDwIdeal.main (F := Ideal))) ⟨m, fun _ => 0, g⟩ (fun r => (∀ c : Dev Cert.SsmInDwIdeal.nD,
      r.2.mem ((c.tc : Thread Cert.SsmInDwIdeal.nD Cert.SsmInDwIdeal.τ).loc Cert.SsmInDwIdeal.main_arg0) = m ((c.tc : Thread Cert.SsmInDwIdeal.nD Cert.SsmInDwIdeal.τ).loc Cert.SsmInDwIdeal.main_arg0)
      ∧ r.2.mem ((c.tc : Thread Cert.SsmInDwIdeal.nD Cert.SsmInDwIdeal.τ).loc Cert.SsmInDwIdeal.main_arg1) = m ((c.tc : Thread Cert.SsmInDwIdeal.nD Cert.SsmInDwIdeal.τ).loc Cert.SsmInDwIdeal.main_arg1))
      ∧ r.2.sem = fun _ => 0)

def quiescent_SsmInDwReferenceIdeal [hSsmInDwReferenceIdeal : Cert.SsmInDwReferenceIdeal.Facts] : Prop :=
  ∀ (m : (ℓ : Loc Cert.SsmInDwReferenceIdeal.nD Cert.SsmInDwReferenceIdeal.τ Cert.SsmInDwReferenceIdeal.sig) → Buf (Elt Ideal) ℓ) (g : Dev Cert.SsmInDwReferenceIdeal.nD → PrngReg), Pre_SsmInDwReferenceIdeal m →
    θ_run (Cert.SsmInDwReferenceIdeal.defs (F := Ideal)) (onTc (τ := Cert.SsmInDwReferenceIdeal.τ) (Cert.SsmInDwReferenceIdeal.main (F := Ideal))) ⟨m, fun _ => 0, g⟩ (fun r => (∀ c : Dev Cert.SsmInDwReferenceIdeal.nD,
      r.2.mem ((c.tc : Thread Cert.SsmInDwReferenceIdeal.nD Cert.SsmInDwReferenceIdeal.τ).loc Cert.SsmInDwReferenceIdeal.main_arg0) = m ((c.tc : Thread Cert.SsmInDwReferenceIdeal.nD Cert.SsmInDwReferenceIdeal.τ).loc Cert.SsmInDwReferenceIdeal.main_arg0)
      ∧ r.2.mem ((c.tc : Thread Cert.SsmInDwReferenceIdeal.nD Cert.SsmInDwReferenceIdeal.τ).loc Cert.SsmInDwReferenceIdeal.main_arg1) = m ((c.tc : Thread Cert.SsmInDwReferenceIdeal.nD Cert.SsmInDwReferenceIdeal.τ).loc Cert.SsmInDwReferenceIdeal.main_arg1))
      ∧ r.2.sem = fun _ => 0)

def quiescent_SsmInDx [hSsmInDx : Cert.SsmInDx.Facts] : Prop :=
  ∀ (m : (ℓ : Loc Cert.SsmInDx.nD Cert.SsmInDx.τ Cert.SsmInDx.sig) → Buf (Elt Bits) ℓ) (g : Dev Cert.SsmInDx.nD → PrngReg), Pre_SsmInDx m →
    θ_run (Cert.SsmInDx.defs (F := Bits)) (onTc (τ := Cert.SsmInDx.τ) (Cert.SsmInDx.main (F := Bits))) ⟨m, fun _ => 0, g⟩ (fun r => (∀ c : Dev Cert.SsmInDx.nD,
      r.2.mem ((c.tc : Thread Cert.SsmInDx.nD Cert.SsmInDx.τ).loc Cert.SsmInDx.main_arg0) = m ((c.tc : Thread Cert.SsmInDx.nD Cert.SsmInDx.τ).loc Cert.SsmInDx.main_arg0)
      ∧ r.2.mem ((c.tc : Thread Cert.SsmInDx.nD Cert.SsmInDx.τ).loc Cert.SsmInDx.main_arg1) = m ((c.tc : Thread Cert.SsmInDx.nD Cert.SsmInDx.τ).loc Cert.SsmInDx.main_arg1))
      ∧ r.2.sem = fun _ => 0)

def quiescent_SsmInDxIdeal [hSsmInDxIdeal : Cert.SsmInDxIdeal.Facts] : Prop :=
  ∀ (m : (ℓ : Loc Cert.SsmInDxIdeal.nD Cert.SsmInDxIdeal.τ Cert.SsmInDxIdeal.sig) → Buf (Elt Ideal) ℓ) (g : Dev Cert.SsmInDxIdeal.nD → PrngReg), Pre_SsmInDxIdeal m →
    θ_run (Cert.SsmInDxIdeal.defs (F := Ideal)) (onTc (τ := Cert.SsmInDxIdeal.τ) (Cert.SsmInDxIdeal.main (F := Ideal))) ⟨m, fun _ => 0, g⟩ (fun r => (∀ c : Dev Cert.SsmInDxIdeal.nD,
      r.2.mem ((c.tc : Thread Cert.SsmInDxIdeal.nD Cert.SsmInDxIdeal.τ).loc Cert.SsmInDxIdeal.main_arg0) = m ((c.tc : Thread Cert.SsmInDxIdeal.nD Cert.SsmInDxIdeal.τ).loc Cert.SsmInDxIdeal.main_arg0)
      ∧ r.2.mem ((c.tc : Thread Cert.SsmInDxIdeal.nD Cert.SsmInDxIdeal.τ).loc Cert.SsmInDxIdeal.main_arg1) = m ((c.tc : Thread Cert.SsmInDxIdeal.nD Cert.SsmInDxIdeal.τ).loc Cert.SsmInDxIdeal.main_arg1))
      ∧ r.2.sem = fun _ => 0)

def quiescent_SsmInDxReferenceIdeal [hSsmInDxReferenceIdeal : Cert.SsmInDxReferenceIdeal.Facts] : Prop :=
  ∀ (m : (ℓ : Loc Cert.SsmInDxReferenceIdeal.nD Cert.SsmInDxReferenceIdeal.τ Cert.SsmInDxReferenceIdeal.sig) → Buf (Elt Ideal) ℓ) (g : Dev Cert.SsmInDxReferenceIdeal.nD → PrngReg), Pre_SsmInDxReferenceIdeal m →
    θ_run (Cert.SsmInDxReferenceIdeal.defs (F := Ideal)) (onTc (τ := Cert.SsmInDxReferenceIdeal.τ) (Cert.SsmInDxReferenceIdeal.main (F := Ideal))) ⟨m, fun _ => 0, g⟩ (fun r => (∀ c : Dev Cert.SsmInDxReferenceIdeal.nD,
      r.2.mem ((c.tc : Thread Cert.SsmInDxReferenceIdeal.nD Cert.SsmInDxReferenceIdeal.τ).loc Cert.SsmInDxReferenceIdeal.main_arg0) = m ((c.tc : Thread Cert.SsmInDxReferenceIdeal.nD Cert.SsmInDxReferenceIdeal.τ).loc Cert.SsmInDxReferenceIdeal.main_arg0)
      ∧ r.2.mem ((c.tc : Thread Cert.SsmInDxReferenceIdeal.nD Cert.SsmInDxReferenceIdeal.τ).loc Cert.SsmInDxReferenceIdeal.main_arg1) = m ((c.tc : Thread Cert.SsmInDxReferenceIdeal.nD Cert.SsmInDxReferenceIdeal.τ).loc Cert.SsmInDxReferenceIdeal.main_arg1))
      ∧ r.2.sem = fun _ => 0)

def quiescent_OutDx [hOutDx : Cert.OutDx.Facts] : Prop :=
  ∀ (m : (ℓ : Loc Cert.OutDx.nD Cert.OutDx.τ Cert.OutDx.sig) → Buf (Elt Bits) ℓ) (g : Dev Cert.OutDx.nD → PrngReg), Pre_OutDx m →
    θ_run (Cert.OutDx.defs (F := Bits)) (onTc (τ := Cert.OutDx.τ) (Cert.OutDx.main (F := Bits))) ⟨m, fun _ => 0, g⟩ (fun r => (∀ c : Dev Cert.OutDx.nD,
      r.2.mem ((c.tc : Thread Cert.OutDx.nD Cert.OutDx.τ).loc Cert.OutDx.main_arg0) = m ((c.tc : Thread Cert.OutDx.nD Cert.OutDx.τ).loc Cert.OutDx.main_arg0)
      ∧ r.2.mem ((c.tc : Thread Cert.OutDx.nD Cert.OutDx.τ).loc Cert.OutDx.main_arg1) = m ((c.tc : Thread Cert.OutDx.nD Cert.OutDx.τ).loc Cert.OutDx.main_arg1))
      ∧ r.2.sem = fun _ => 0)

def quiescent_OutDxIdeal [hOutDxIdeal : Cert.OutDxIdeal.Facts] : Prop :=
  ∀ (m : (ℓ : Loc Cert.OutDxIdeal.nD Cert.OutDxIdeal.τ Cert.OutDxIdeal.sig) → Buf (Elt Ideal) ℓ) (g : Dev Cert.OutDxIdeal.nD → PrngReg), Pre_OutDxIdeal m →
    θ_run (Cert.OutDxIdeal.defs (F := Ideal)) (onTc (τ := Cert.OutDxIdeal.τ) (Cert.OutDxIdeal.main (F := Ideal))) ⟨m, fun _ => 0, g⟩ (fun r => (∀ c : Dev Cert.OutDxIdeal.nD,
      r.2.mem ((c.tc : Thread Cert.OutDxIdeal.nD Cert.OutDxIdeal.τ).loc Cert.OutDxIdeal.main_arg0) = m ((c.tc : Thread Cert.OutDxIdeal.nD Cert.OutDxIdeal.τ).loc Cert.OutDxIdeal.main_arg0)
      ∧ r.2.mem ((c.tc : Thread Cert.OutDxIdeal.nD Cert.OutDxIdeal.τ).loc Cert.OutDxIdeal.main_arg1) = m ((c.tc : Thread Cert.OutDxIdeal.nD Cert.OutDxIdeal.τ).loc Cert.OutDxIdeal.main_arg1))
      ∧ r.2.sem = fun _ => 0)

def quiescent_OutDxReferenceIdeal [hOutDxReferenceIdeal : Cert.OutDxReferenceIdeal.Facts] : Prop :=
  ∀ (m : (ℓ : Loc Cert.OutDxReferenceIdeal.nD Cert.OutDxReferenceIdeal.τ Cert.OutDxReferenceIdeal.sig) → Buf (Elt Ideal) ℓ) (g : Dev Cert.OutDxReferenceIdeal.nD → PrngReg), Pre_OutDxReferenceIdeal m →
    θ_run (Cert.OutDxReferenceIdeal.defs (F := Ideal)) (onTc (τ := Cert.OutDxReferenceIdeal.τ) (Cert.OutDxReferenceIdeal.main (F := Ideal))) ⟨m, fun _ => 0, g⟩ (fun r => (∀ c : Dev Cert.OutDxReferenceIdeal.nD,
      r.2.mem ((c.tc : Thread Cert.OutDxReferenceIdeal.nD Cert.OutDxReferenceIdeal.τ).loc Cert.OutDxReferenceIdeal.main_arg0) = m ((c.tc : Thread Cert.OutDxReferenceIdeal.nD Cert.OutDxReferenceIdeal.τ).loc Cert.OutDxReferenceIdeal.main_arg0)
      ∧ r.2.mem ((c.tc : Thread Cert.OutDxReferenceIdeal.nD Cert.OutDxReferenceIdeal.τ).loc Cert.OutDxReferenceIdeal.main_arg1) = m ((c.tc : Thread Cert.OutDxReferenceIdeal.nD Cert.OutDxReferenceIdeal.τ).loc Cert.OutDxReferenceIdeal.main_arg1))
      ∧ r.2.sem = fun _ => 0)

def quiescent_GateDx [hGateDx : Cert.GateDx.Facts] : Prop :=
  ∀ (m : (ℓ : Loc Cert.GateDx.nD Cert.GateDx.τ Cert.GateDx.sig) → Buf (Elt Bits) ℓ) (g : Dev Cert.GateDx.nD → PrngReg), Pre_GateDx m →
    θ_run (Cert.GateDx.defs (F := Bits)) (onTc (τ := Cert.GateDx.τ) (Cert.GateDx.main (F := Bits))) ⟨m, fun _ => 0, g⟩ (fun r => (∀ c : Dev Cert.GateDx.nD,
      r.2.mem ((c.tc : Thread Cert.GateDx.nD Cert.GateDx.τ).loc Cert.GateDx.main_arg0) = m ((c.tc : Thread Cert.GateDx.nD Cert.GateDx.τ).loc Cert.GateDx.main_arg0)
      ∧ r.2.mem ((c.tc : Thread Cert.GateDx.nD Cert.GateDx.τ).loc Cert.GateDx.main_arg1) = m ((c.tc : Thread Cert.GateDx.nD Cert.GateDx.τ).loc Cert.GateDx.main_arg1))
      ∧ r.2.sem = fun _ => 0)

def quiescent_GateDxIdeal [hGateDxIdeal : Cert.GateDxIdeal.Facts] : Prop :=
  ∀ (m : (ℓ : Loc Cert.GateDxIdeal.nD Cert.GateDxIdeal.τ Cert.GateDxIdeal.sig) → Buf (Elt Ideal) ℓ) (g : Dev Cert.GateDxIdeal.nD → PrngReg), Pre_GateDxIdeal m →
    θ_run (Cert.GateDxIdeal.defs (F := Ideal)) (onTc (τ := Cert.GateDxIdeal.τ) (Cert.GateDxIdeal.main (F := Ideal))) ⟨m, fun _ => 0, g⟩ (fun r => (∀ c : Dev Cert.GateDxIdeal.nD,
      r.2.mem ((c.tc : Thread Cert.GateDxIdeal.nD Cert.GateDxIdeal.τ).loc Cert.GateDxIdeal.main_arg0) = m ((c.tc : Thread Cert.GateDxIdeal.nD Cert.GateDxIdeal.τ).loc Cert.GateDxIdeal.main_arg0)
      ∧ r.2.mem ((c.tc : Thread Cert.GateDxIdeal.nD Cert.GateDxIdeal.τ).loc Cert.GateDxIdeal.main_arg1) = m ((c.tc : Thread Cert.GateDxIdeal.nD Cert.GateDxIdeal.τ).loc Cert.GateDxIdeal.main_arg1))
      ∧ r.2.sem = fun _ => 0)

def quiescent_GateDxReferenceIdeal [hGateDxReferenceIdeal : Cert.GateDxReferenceIdeal.Facts] : Prop :=
  ∀ (m : (ℓ : Loc Cert.GateDxReferenceIdeal.nD Cert.GateDxReferenceIdeal.τ Cert.GateDxReferenceIdeal.sig) → Buf (Elt Ideal) ℓ) (g : Dev Cert.GateDxReferenceIdeal.nD → PrngReg), Pre_GateDxReferenceIdeal m →
    θ_run (Cert.GateDxReferenceIdeal.defs (F := Ideal)) (onTc (τ := Cert.GateDxReferenceIdeal.τ) (Cert.GateDxReferenceIdeal.main (F := Ideal))) ⟨m, fun _ => 0, g⟩ (fun r => (∀ c : Dev Cert.GateDxReferenceIdeal.nD,
      r.2.mem ((c.tc : Thread Cert.GateDxReferenceIdeal.nD Cert.GateDxReferenceIdeal.τ).loc Cert.GateDxReferenceIdeal.main_arg0) = m ((c.tc : Thread Cert.GateDxReferenceIdeal.nD Cert.GateDxReferenceIdeal.τ).loc Cert.GateDxReferenceIdeal.main_arg0)
      ∧ r.2.mem ((c.tc : Thread Cert.GateDxReferenceIdeal.nD Cert.GateDxReferenceIdeal.τ).loc Cert.GateDxReferenceIdeal.main_arg1) = m ((c.tc : Thread Cert.GateDxReferenceIdeal.nD Cert.GateDxReferenceIdeal.τ).loc Cert.GateDxReferenceIdeal.main_arg1))
      ∧ r.2.sem = fun _ => 0)

def quiescent_SwaInDw [hSwaInDw : Cert.SwaInDw.Facts] : Prop :=
  ∀ (m : (ℓ : Loc Cert.SwaInDw.nD Cert.SwaInDw.τ Cert.SwaInDw.sig) → Buf (Elt Bits) ℓ) (g : Dev Cert.SwaInDw.nD → PrngReg), Pre_SwaInDw m →
    θ_run (Cert.SwaInDw.defs (F := Bits)) (onTc (τ := Cert.SwaInDw.τ) (Cert.SwaInDw.main (F := Bits))) ⟨m, fun _ => 0, g⟩ (fun r => (∀ c : Dev Cert.SwaInDw.nD,
      r.2.mem ((c.tc : Thread Cert.SwaInDw.nD Cert.SwaInDw.τ).loc Cert.SwaInDw.main_arg0) = m ((c.tc : Thread Cert.SwaInDw.nD Cert.SwaInDw.τ).loc Cert.SwaInDw.main_arg0)
      ∧ r.2.mem ((c.tc : Thread Cert.SwaInDw.nD Cert.SwaInDw.τ).loc Cert.SwaInDw.main_arg1) = m ((c.tc : Thread Cert.SwaInDw.nD Cert.SwaInDw.τ).loc Cert.SwaInDw.main_arg1))
      ∧ r.2.sem = fun _ => 0)

def quiescent_SwaInDwIdeal [hSwaInDwIdeal : Cert.SwaInDwIdeal.Facts] : Prop :=
  ∀ (m : (ℓ : Loc Cert.SwaInDwIdeal.nD Cert.SwaInDwIdeal.τ Cert.SwaInDwIdeal.sig) → Buf (Elt Ideal) ℓ) (g : Dev Cert.SwaInDwIdeal.nD → PrngReg), Pre_SwaInDwIdeal m →
    θ_run (Cert.SwaInDwIdeal.defs (F := Ideal)) (onTc (τ := Cert.SwaInDwIdeal.τ) (Cert.SwaInDwIdeal.main (F := Ideal))) ⟨m, fun _ => 0, g⟩ (fun r => (∀ c : Dev Cert.SwaInDwIdeal.nD,
      r.2.mem ((c.tc : Thread Cert.SwaInDwIdeal.nD Cert.SwaInDwIdeal.τ).loc Cert.SwaInDwIdeal.main_arg0) = m ((c.tc : Thread Cert.SwaInDwIdeal.nD Cert.SwaInDwIdeal.τ).loc Cert.SwaInDwIdeal.main_arg0)
      ∧ r.2.mem ((c.tc : Thread Cert.SwaInDwIdeal.nD Cert.SwaInDwIdeal.τ).loc Cert.SwaInDwIdeal.main_arg1) = m ((c.tc : Thread Cert.SwaInDwIdeal.nD Cert.SwaInDwIdeal.τ).loc Cert.SwaInDwIdeal.main_arg1))
      ∧ r.2.sem = fun _ => 0)

def quiescent_SwaInDwReferenceIdeal [hSwaInDwReferenceIdeal : Cert.SwaInDwReferenceIdeal.Facts] : Prop :=
  ∀ (m : (ℓ : Loc Cert.SwaInDwReferenceIdeal.nD Cert.SwaInDwReferenceIdeal.τ Cert.SwaInDwReferenceIdeal.sig) → Buf (Elt Ideal) ℓ) (g : Dev Cert.SwaInDwReferenceIdeal.nD → PrngReg), Pre_SwaInDwReferenceIdeal m →
    θ_run (Cert.SwaInDwReferenceIdeal.defs (F := Ideal)) (onTc (τ := Cert.SwaInDwReferenceIdeal.τ) (Cert.SwaInDwReferenceIdeal.main (F := Ideal))) ⟨m, fun _ => 0, g⟩ (fun r => (∀ c : Dev Cert.SwaInDwReferenceIdeal.nD,
      r.2.mem ((c.tc : Thread Cert.SwaInDwReferenceIdeal.nD Cert.SwaInDwReferenceIdeal.τ).loc Cert.SwaInDwReferenceIdeal.main_arg0) = m ((c.tc : Thread Cert.SwaInDwReferenceIdeal.nD Cert.SwaInDwReferenceIdeal.τ).loc Cert.SwaInDwReferenceIdeal.main_arg0)
      ∧ r.2.mem ((c.tc : Thread Cert.SwaInDwReferenceIdeal.nD Cert.SwaInDwReferenceIdeal.τ).loc Cert.SwaInDwReferenceIdeal.main_arg1) = m ((c.tc : Thread Cert.SwaInDwReferenceIdeal.nD Cert.SwaInDwReferenceIdeal.τ).loc Cert.SwaInDwReferenceIdeal.main_arg1))
      ∧ r.2.sem = fun _ => 0)

def quiescent_SwaInDx [hSwaInDx : Cert.SwaInDx.Facts] : Prop :=
  ∀ (m : (ℓ : Loc Cert.SwaInDx.nD Cert.SwaInDx.τ Cert.SwaInDx.sig) → Buf (Elt Bits) ℓ) (g : Dev Cert.SwaInDx.nD → PrngReg), Pre_SwaInDx m →
    θ_run (Cert.SwaInDx.defs (F := Bits)) (onTc (τ := Cert.SwaInDx.τ) (Cert.SwaInDx.main (F := Bits))) ⟨m, fun _ => 0, g⟩ (fun r => (∀ c : Dev Cert.SwaInDx.nD,
      r.2.mem ((c.tc : Thread Cert.SwaInDx.nD Cert.SwaInDx.τ).loc Cert.SwaInDx.main_arg0) = m ((c.tc : Thread Cert.SwaInDx.nD Cert.SwaInDx.τ).loc Cert.SwaInDx.main_arg0)
      ∧ r.2.mem ((c.tc : Thread Cert.SwaInDx.nD Cert.SwaInDx.τ).loc Cert.SwaInDx.main_arg1) = m ((c.tc : Thread Cert.SwaInDx.nD Cert.SwaInDx.τ).loc Cert.SwaInDx.main_arg1))
      ∧ r.2.sem = fun _ => 0)

def quiescent_SwaInDxIdeal [hSwaInDxIdeal : Cert.SwaInDxIdeal.Facts] : Prop :=
  ∀ (m : (ℓ : Loc Cert.SwaInDxIdeal.nD Cert.SwaInDxIdeal.τ Cert.SwaInDxIdeal.sig) → Buf (Elt Ideal) ℓ) (g : Dev Cert.SwaInDxIdeal.nD → PrngReg), Pre_SwaInDxIdeal m →
    θ_run (Cert.SwaInDxIdeal.defs (F := Ideal)) (onTc (τ := Cert.SwaInDxIdeal.τ) (Cert.SwaInDxIdeal.main (F := Ideal))) ⟨m, fun _ => 0, g⟩ (fun r => (∀ c : Dev Cert.SwaInDxIdeal.nD,
      r.2.mem ((c.tc : Thread Cert.SwaInDxIdeal.nD Cert.SwaInDxIdeal.τ).loc Cert.SwaInDxIdeal.main_arg0) = m ((c.tc : Thread Cert.SwaInDxIdeal.nD Cert.SwaInDxIdeal.τ).loc Cert.SwaInDxIdeal.main_arg0)
      ∧ r.2.mem ((c.tc : Thread Cert.SwaInDxIdeal.nD Cert.SwaInDxIdeal.τ).loc Cert.SwaInDxIdeal.main_arg1) = m ((c.tc : Thread Cert.SwaInDxIdeal.nD Cert.SwaInDxIdeal.τ).loc Cert.SwaInDxIdeal.main_arg1))
      ∧ r.2.sem = fun _ => 0)

def quiescent_SwaInDxReferenceIdeal [hSwaInDxReferenceIdeal : Cert.SwaInDxReferenceIdeal.Facts] : Prop :=
  ∀ (m : (ℓ : Loc Cert.SwaInDxReferenceIdeal.nD Cert.SwaInDxReferenceIdeal.τ Cert.SwaInDxReferenceIdeal.sig) → Buf (Elt Ideal) ℓ) (g : Dev Cert.SwaInDxReferenceIdeal.nD → PrngReg), Pre_SwaInDxReferenceIdeal m →
    θ_run (Cert.SwaInDxReferenceIdeal.defs (F := Ideal)) (onTc (τ := Cert.SwaInDxReferenceIdeal.τ) (Cert.SwaInDxReferenceIdeal.main (F := Ideal))) ⟨m, fun _ => 0, g⟩ (fun r => (∀ c : Dev Cert.SwaInDxReferenceIdeal.nD,
      r.2.mem ((c.tc : Thread Cert.SwaInDxReferenceIdeal.nD Cert.SwaInDxReferenceIdeal.τ).loc Cert.SwaInDxReferenceIdeal.main_arg0) = m ((c.tc : Thread Cert.SwaInDxReferenceIdeal.nD Cert.SwaInDxReferenceIdeal.τ).loc Cert.SwaInDxReferenceIdeal.main_arg0)
      ∧ r.2.mem ((c.tc : Thread Cert.SwaInDxReferenceIdeal.nD Cert.SwaInDxReferenceIdeal.τ).loc Cert.SwaInDxReferenceIdeal.main_arg1) = m ((c.tc : Thread Cert.SwaInDxReferenceIdeal.nD Cert.SwaInDxReferenceIdeal.τ).loc Cert.SwaInDxReferenceIdeal.main_arg1))
      ∧ r.2.sem = fun _ => 0)

def quiescent_FoxIn [hFoxIn : Cert.FoxIn.Facts] : Prop :=
  ∀ (m : (ℓ : Loc Cert.FoxIn.nD Cert.FoxIn.τ Cert.FoxIn.sig) → Buf (Elt Bits) ℓ) (g : Dev Cert.FoxIn.nD → PrngReg), Pre_FoxIn m →
    θ_run (Cert.FoxIn.defs (F := Bits)) (onTc (τ := Cert.FoxIn.τ) (Cert.FoxIn.main (F := Bits))) ⟨m, fun _ => 0, g⟩ (fun r => (∀ c : Dev Cert.FoxIn.nD,
      r.2.mem ((c.tc : Thread Cert.FoxIn.nD Cert.FoxIn.τ).loc Cert.FoxIn.main_arg0) = m ((c.tc : Thread Cert.FoxIn.nD Cert.FoxIn.τ).loc Cert.FoxIn.main_arg0)
      ∧ r.2.mem ((c.tc : Thread Cert.FoxIn.nD Cert.FoxIn.τ).loc Cert.FoxIn.main_arg1) = m ((c.tc : Thread Cert.FoxIn.nD Cert.FoxIn.τ).loc Cert.FoxIn.main_arg1))
      ∧ r.2.sem = fun _ => 0)

def quiescent_FoxInIdeal [hFoxInIdeal : Cert.FoxInIdeal.Facts] : Prop :=
  ∀ (m : (ℓ : Loc Cert.FoxInIdeal.nD Cert.FoxInIdeal.τ Cert.FoxInIdeal.sig) → Buf (Elt Ideal) ℓ) (g : Dev Cert.FoxInIdeal.nD → PrngReg), Pre_FoxInIdeal m →
    θ_run (Cert.FoxInIdeal.defs (F := Ideal)) (onTc (τ := Cert.FoxInIdeal.τ) (Cert.FoxInIdeal.main (F := Ideal))) ⟨m, fun _ => 0, g⟩ (fun r => (∀ c : Dev Cert.FoxInIdeal.nD,
      r.2.mem ((c.tc : Thread Cert.FoxInIdeal.nD Cert.FoxInIdeal.τ).loc Cert.FoxInIdeal.main_arg0) = m ((c.tc : Thread Cert.FoxInIdeal.nD Cert.FoxInIdeal.τ).loc Cert.FoxInIdeal.main_arg0)
      ∧ r.2.mem ((c.tc : Thread Cert.FoxInIdeal.nD Cert.FoxInIdeal.τ).loc Cert.FoxInIdeal.main_arg1) = m ((c.tc : Thread Cert.FoxInIdeal.nD Cert.FoxInIdeal.τ).loc Cert.FoxInIdeal.main_arg1))
      ∧ r.2.sem = fun _ => 0)

def quiescent_FoxInReferenceIdeal [hFoxInReferenceIdeal : Cert.FoxInReferenceIdeal.Facts] : Prop :=
  ∀ (m : (ℓ : Loc Cert.FoxInReferenceIdeal.nD Cert.FoxInReferenceIdeal.τ Cert.FoxInReferenceIdeal.sig) → Buf (Elt Ideal) ℓ) (g : Dev Cert.FoxInReferenceIdeal.nD → PrngReg), Pre_FoxInReferenceIdeal m →
    θ_run (Cert.FoxInReferenceIdeal.defs (F := Ideal)) (onTc (τ := Cert.FoxInReferenceIdeal.τ) (Cert.FoxInReferenceIdeal.main (F := Ideal))) ⟨m, fun _ => 0, g⟩ (fun r => (∀ c : Dev Cert.FoxInReferenceIdeal.nD,
      r.2.mem ((c.tc : Thread Cert.FoxInReferenceIdeal.nD Cert.FoxInReferenceIdeal.τ).loc Cert.FoxInReferenceIdeal.main_arg0) = m ((c.tc : Thread Cert.FoxInReferenceIdeal.nD Cert.FoxInReferenceIdeal.τ).loc Cert.FoxInReferenceIdeal.main_arg0)
      ∧ r.2.mem ((c.tc : Thread Cert.FoxInReferenceIdeal.nD Cert.FoxInReferenceIdeal.τ).loc Cert.FoxInReferenceIdeal.main_arg1) = m ((c.tc : Thread Cert.FoxInReferenceIdeal.nD Cert.FoxInReferenceIdeal.τ).loc Cert.FoxInReferenceIdeal.main_arg1))
      ∧ r.2.sem = fun _ => 0)

def quiescent_MixerOut [hMixerOut : Cert.MixerOut.Facts] : Prop :=
  ∀ (m : (ℓ : Loc Cert.MixerOut.nD Cert.MixerOut.τ Cert.MixerOut.sig) → Buf (Elt Bits) ℓ) (g : Dev Cert.MixerOut.nD → PrngReg), Pre_MixerOut m →
    θ_run (Cert.MixerOut.defs (F := Bits)) (onTc (τ := Cert.MixerOut.τ) (Cert.MixerOut.main (F := Bits))) ⟨m, fun _ => 0, g⟩ (fun r => (∀ c : Dev Cert.MixerOut.nD,
      r.2.mem ((c.tc : Thread Cert.MixerOut.nD Cert.MixerOut.τ).loc Cert.MixerOut.main_arg0) = m ((c.tc : Thread Cert.MixerOut.nD Cert.MixerOut.τ).loc Cert.MixerOut.main_arg0)
      ∧ r.2.mem ((c.tc : Thread Cert.MixerOut.nD Cert.MixerOut.τ).loc Cert.MixerOut.main_arg1) = m ((c.tc : Thread Cert.MixerOut.nD Cert.MixerOut.τ).loc Cert.MixerOut.main_arg1))
      ∧ r.2.sem = fun _ => 0)

def quiescent_MixerOutIdeal [hMixerOutIdeal : Cert.MixerOutIdeal.Facts] : Prop :=
  ∀ (m : (ℓ : Loc Cert.MixerOutIdeal.nD Cert.MixerOutIdeal.τ Cert.MixerOutIdeal.sig) → Buf (Elt Ideal) ℓ) (g : Dev Cert.MixerOutIdeal.nD → PrngReg), Pre_MixerOutIdeal m →
    θ_run (Cert.MixerOutIdeal.defs (F := Ideal)) (onTc (τ := Cert.MixerOutIdeal.τ) (Cert.MixerOutIdeal.main (F := Ideal))) ⟨m, fun _ => 0, g⟩ (fun r => (∀ c : Dev Cert.MixerOutIdeal.nD,
      r.2.mem ((c.tc : Thread Cert.MixerOutIdeal.nD Cert.MixerOutIdeal.τ).loc Cert.MixerOutIdeal.main_arg0) = m ((c.tc : Thread Cert.MixerOutIdeal.nD Cert.MixerOutIdeal.τ).loc Cert.MixerOutIdeal.main_arg0)
      ∧ r.2.mem ((c.tc : Thread Cert.MixerOutIdeal.nD Cert.MixerOutIdeal.τ).loc Cert.MixerOutIdeal.main_arg1) = m ((c.tc : Thread Cert.MixerOutIdeal.nD Cert.MixerOutIdeal.τ).loc Cert.MixerOutIdeal.main_arg1))
      ∧ r.2.sem = fun _ => 0)

def quiescent_MixerOutReferenceIdeal [hMixerOutReferenceIdeal : Cert.MixerOutReferenceIdeal.Facts] : Prop :=
  ∀ (m : (ℓ : Loc Cert.MixerOutReferenceIdeal.nD Cert.MixerOutReferenceIdeal.τ Cert.MixerOutReferenceIdeal.sig) → Buf (Elt Ideal) ℓ) (g : Dev Cert.MixerOutReferenceIdeal.nD → PrngReg), Pre_MixerOutReferenceIdeal m →
    θ_run (Cert.MixerOutReferenceIdeal.defs (F := Ideal)) (onTc (τ := Cert.MixerOutReferenceIdeal.τ) (Cert.MixerOutReferenceIdeal.main (F := Ideal))) ⟨m, fun _ => 0, g⟩ (fun r => (∀ c : Dev Cert.MixerOutReferenceIdeal.nD,
      r.2.mem ((c.tc : Thread Cert.MixerOutReferenceIdeal.nD Cert.MixerOutReferenceIdeal.τ).loc Cert.MixerOutReferenceIdeal.main_arg0) = m ((c.tc : Thread Cert.MixerOutReferenceIdeal.nD Cert.MixerOutReferenceIdeal.τ).loc Cert.MixerOutReferenceIdeal.main_arg0)
      ∧ r.2.mem ((c.tc : Thread Cert.MixerOutReferenceIdeal.nD Cert.MixerOutReferenceIdeal.τ).loc Cert.MixerOutReferenceIdeal.main_arg1) = m ((c.tc : Thread Cert.MixerOutReferenceIdeal.nD Cert.MixerOutReferenceIdeal.τ).loc Cert.MixerOutReferenceIdeal.main_arg1))
      ∧ r.2.sem = fun _ => 0)

def quiescent_SsmIn [hSsmIn : Cert.SsmIn.Facts] : Prop :=
  ∀ (m : (ℓ : Loc Cert.SsmIn.nD Cert.SsmIn.τ Cert.SsmIn.sig) → Buf (Elt Bits) ℓ) (g : Dev Cert.SsmIn.nD → PrngReg), Pre_SsmIn m →
    θ_run (Cert.SsmIn.defs (F := Bits)) (onTc (τ := Cert.SsmIn.τ) (Cert.SsmIn.main (F := Bits))) ⟨m, fun _ => 0, g⟩ (fun r => (∀ c : Dev Cert.SsmIn.nD,
      r.2.mem ((c.tc : Thread Cert.SsmIn.nD Cert.SsmIn.τ).loc Cert.SsmIn.main_arg0) = m ((c.tc : Thread Cert.SsmIn.nD Cert.SsmIn.τ).loc Cert.SsmIn.main_arg0)
      ∧ r.2.mem ((c.tc : Thread Cert.SsmIn.nD Cert.SsmIn.τ).loc Cert.SsmIn.main_arg1) = m ((c.tc : Thread Cert.SsmIn.nD Cert.SsmIn.τ).loc Cert.SsmIn.main_arg1))
      ∧ r.2.sem = fun _ => 0)

def quiescent_SsmInIdeal [hSsmInIdeal : Cert.SsmInIdeal.Facts] : Prop :=
  ∀ (m : (ℓ : Loc Cert.SsmInIdeal.nD Cert.SsmInIdeal.τ Cert.SsmInIdeal.sig) → Buf (Elt Ideal) ℓ) (g : Dev Cert.SsmInIdeal.nD → PrngReg), Pre_SsmInIdeal m →
    θ_run (Cert.SsmInIdeal.defs (F := Ideal)) (onTc (τ := Cert.SsmInIdeal.τ) (Cert.SsmInIdeal.main (F := Ideal))) ⟨m, fun _ => 0, g⟩ (fun r => (∀ c : Dev Cert.SsmInIdeal.nD,
      r.2.mem ((c.tc : Thread Cert.SsmInIdeal.nD Cert.SsmInIdeal.τ).loc Cert.SsmInIdeal.main_arg0) = m ((c.tc : Thread Cert.SsmInIdeal.nD Cert.SsmInIdeal.τ).loc Cert.SsmInIdeal.main_arg0)
      ∧ r.2.mem ((c.tc : Thread Cert.SsmInIdeal.nD Cert.SsmInIdeal.τ).loc Cert.SsmInIdeal.main_arg1) = m ((c.tc : Thread Cert.SsmInIdeal.nD Cert.SsmInIdeal.τ).loc Cert.SsmInIdeal.main_arg1))
      ∧ r.2.sem = fun _ => 0)

def quiescent_SsmInReferenceIdeal [hSsmInReferenceIdeal : Cert.SsmInReferenceIdeal.Facts] : Prop :=
  ∀ (m : (ℓ : Loc Cert.SsmInReferenceIdeal.nD Cert.SsmInReferenceIdeal.τ Cert.SsmInReferenceIdeal.sig) → Buf (Elt Ideal) ℓ) (g : Dev Cert.SsmInReferenceIdeal.nD → PrngReg), Pre_SsmInReferenceIdeal m →
    θ_run (Cert.SsmInReferenceIdeal.defs (F := Ideal)) (onTc (τ := Cert.SsmInReferenceIdeal.τ) (Cert.SsmInReferenceIdeal.main (F := Ideal))) ⟨m, fun _ => 0, g⟩ (fun r => (∀ c : Dev Cert.SsmInReferenceIdeal.nD,
      r.2.mem ((c.tc : Thread Cert.SsmInReferenceIdeal.nD Cert.SsmInReferenceIdeal.τ).loc Cert.SsmInReferenceIdeal.main_arg0) = m ((c.tc : Thread Cert.SsmInReferenceIdeal.nD Cert.SsmInReferenceIdeal.τ).loc Cert.SsmInReferenceIdeal.main_arg0)
      ∧ r.2.mem ((c.tc : Thread Cert.SsmInReferenceIdeal.nD Cert.SsmInReferenceIdeal.τ).loc Cert.SsmInReferenceIdeal.main_arg1) = m ((c.tc : Thread Cert.SsmInReferenceIdeal.nD Cert.SsmInReferenceIdeal.τ).loc Cert.SsmInReferenceIdeal.main_arg1))
      ∧ r.2.sem = fun _ => 0)

def quiescent_SwaIn [hSwaIn : Cert.SwaIn.Facts] : Prop :=
  ∀ (m : (ℓ : Loc Cert.SwaIn.nD Cert.SwaIn.τ Cert.SwaIn.sig) → Buf (Elt Bits) ℓ) (g : Dev Cert.SwaIn.nD → PrngReg), Pre_SwaIn m →
    θ_run (Cert.SwaIn.defs (F := Bits)) (onTc (τ := Cert.SwaIn.τ) (Cert.SwaIn.main (F := Bits))) ⟨m, fun _ => 0, g⟩ (fun r => (∀ c : Dev Cert.SwaIn.nD,
      r.2.mem ((c.tc : Thread Cert.SwaIn.nD Cert.SwaIn.τ).loc Cert.SwaIn.main_arg0) = m ((c.tc : Thread Cert.SwaIn.nD Cert.SwaIn.τ).loc Cert.SwaIn.main_arg0)
      ∧ r.2.mem ((c.tc : Thread Cert.SwaIn.nD Cert.SwaIn.τ).loc Cert.SwaIn.main_arg1) = m ((c.tc : Thread Cert.SwaIn.nD Cert.SwaIn.τ).loc Cert.SwaIn.main_arg1))
      ∧ r.2.sem = fun _ => 0)

def quiescent_SwaInIdeal [hSwaInIdeal : Cert.SwaInIdeal.Facts] : Prop :=
  ∀ (m : (ℓ : Loc Cert.SwaInIdeal.nD Cert.SwaInIdeal.τ Cert.SwaInIdeal.sig) → Buf (Elt Ideal) ℓ) (g : Dev Cert.SwaInIdeal.nD → PrngReg), Pre_SwaInIdeal m →
    θ_run (Cert.SwaInIdeal.defs (F := Ideal)) (onTc (τ := Cert.SwaInIdeal.τ) (Cert.SwaInIdeal.main (F := Ideal))) ⟨m, fun _ => 0, g⟩ (fun r => (∀ c : Dev Cert.SwaInIdeal.nD,
      r.2.mem ((c.tc : Thread Cert.SwaInIdeal.nD Cert.SwaInIdeal.τ).loc Cert.SwaInIdeal.main_arg0) = m ((c.tc : Thread Cert.SwaInIdeal.nD Cert.SwaInIdeal.τ).loc Cert.SwaInIdeal.main_arg0)
      ∧ r.2.mem ((c.tc : Thread Cert.SwaInIdeal.nD Cert.SwaInIdeal.τ).loc Cert.SwaInIdeal.main_arg1) = m ((c.tc : Thread Cert.SwaInIdeal.nD Cert.SwaInIdeal.τ).loc Cert.SwaInIdeal.main_arg1))
      ∧ r.2.sem = fun _ => 0)

def quiescent_SwaInReferenceIdeal [hSwaInReferenceIdeal : Cert.SwaInReferenceIdeal.Facts] : Prop :=
  ∀ (m : (ℓ : Loc Cert.SwaInReferenceIdeal.nD Cert.SwaInReferenceIdeal.τ Cert.SwaInReferenceIdeal.sig) → Buf (Elt Ideal) ℓ) (g : Dev Cert.SwaInReferenceIdeal.nD → PrngReg), Pre_SwaInReferenceIdeal m →
    θ_run (Cert.SwaInReferenceIdeal.defs (F := Ideal)) (onTc (τ := Cert.SwaInReferenceIdeal.τ) (Cert.SwaInReferenceIdeal.main (F := Ideal))) ⟨m, fun _ => 0, g⟩ (fun r => (∀ c : Dev Cert.SwaInReferenceIdeal.nD,
      r.2.mem ((c.tc : Thread Cert.SwaInReferenceIdeal.nD Cert.SwaInReferenceIdeal.τ).loc Cert.SwaInReferenceIdeal.main_arg0) = m ((c.tc : Thread Cert.SwaInReferenceIdeal.nD Cert.SwaInReferenceIdeal.τ).loc Cert.SwaInReferenceIdeal.main_arg0)
      ∧ r.2.mem ((c.tc : Thread Cert.SwaInReferenceIdeal.nD Cert.SwaInReferenceIdeal.τ).loc Cert.SwaInReferenceIdeal.main_arg1) = m ((c.tc : Thread Cert.SwaInReferenceIdeal.nD Cert.SwaInReferenceIdeal.τ).loc Cert.SwaInReferenceIdeal.main_arg1))
      ∧ r.2.sem = fun _ => 0)

def quiescent_PleMixBwd [hPleMixBwd : Cert.PleMixBwd.Facts] : Prop :=
  ∀ (m : (ℓ : Loc Cert.PleMixBwd.nD Cert.PleMixBwd.τ Cert.PleMixBwd.sig) → Buf (Elt Bits) ℓ) (g : Dev Cert.PleMixBwd.nD → PrngReg), Pre_PleMixBwd m →
    θ_run (Cert.PleMixBwd.defs (F := Bits)) (onTc (τ := Cert.PleMixBwd.τ) (Cert.PleMixBwd.main (F := Bits))) ⟨m, fun _ => 0, g⟩ (fun r => (∀ c : Dev Cert.PleMixBwd.nD,
      r.2.mem ((c.tc : Thread Cert.PleMixBwd.nD Cert.PleMixBwd.τ).loc Cert.PleMixBwd.main_arg0) = m ((c.tc : Thread Cert.PleMixBwd.nD Cert.PleMixBwd.τ).loc Cert.PleMixBwd.main_arg0)
      ∧ r.2.mem ((c.tc : Thread Cert.PleMixBwd.nD Cert.PleMixBwd.τ).loc Cert.PleMixBwd.main_arg1) = m ((c.tc : Thread Cert.PleMixBwd.nD Cert.PleMixBwd.τ).loc Cert.PleMixBwd.main_arg1)
      ∧ r.2.mem ((c.tc : Thread Cert.PleMixBwd.nD Cert.PleMixBwd.τ).loc Cert.PleMixBwd.main_arg2) = m ((c.tc : Thread Cert.PleMixBwd.nD Cert.PleMixBwd.τ).loc Cert.PleMixBwd.main_arg2))
      ∧ r.2.sem = fun _ => 0)

def quiescent_PleMixBwdIdeal [hPleMixBwdIdeal : Cert.PleMixBwdIdeal.Facts] : Prop :=
  ∀ (m : (ℓ : Loc Cert.PleMixBwdIdeal.nD Cert.PleMixBwdIdeal.τ Cert.PleMixBwdIdeal.sig) → Buf (Elt Ideal) ℓ) (g : Dev Cert.PleMixBwdIdeal.nD → PrngReg), Pre_PleMixBwdIdeal m →
    θ_run (Cert.PleMixBwdIdeal.defs (F := Ideal)) (onTc (τ := Cert.PleMixBwdIdeal.τ) (Cert.PleMixBwdIdeal.main (F := Ideal))) ⟨m, fun _ => 0, g⟩ (fun r => (∀ c : Dev Cert.PleMixBwdIdeal.nD,
      r.2.mem ((c.tc : Thread Cert.PleMixBwdIdeal.nD Cert.PleMixBwdIdeal.τ).loc Cert.PleMixBwdIdeal.main_arg0) = m ((c.tc : Thread Cert.PleMixBwdIdeal.nD Cert.PleMixBwdIdeal.τ).loc Cert.PleMixBwdIdeal.main_arg0)
      ∧ r.2.mem ((c.tc : Thread Cert.PleMixBwdIdeal.nD Cert.PleMixBwdIdeal.τ).loc Cert.PleMixBwdIdeal.main_arg1) = m ((c.tc : Thread Cert.PleMixBwdIdeal.nD Cert.PleMixBwdIdeal.τ).loc Cert.PleMixBwdIdeal.main_arg1)
      ∧ r.2.mem ((c.tc : Thread Cert.PleMixBwdIdeal.nD Cert.PleMixBwdIdeal.τ).loc Cert.PleMixBwdIdeal.main_arg2) = m ((c.tc : Thread Cert.PleMixBwdIdeal.nD Cert.PleMixBwdIdeal.τ).loc Cert.PleMixBwdIdeal.main_arg2))
      ∧ r.2.sem = fun _ => 0)

def quiescent_PleMixBwdReferenceIdeal [hPleMixBwdReferenceIdeal : Cert.PleMixBwdReferenceIdeal.Facts] : Prop :=
  ∀ (m : (ℓ : Loc Cert.PleMixBwdReferenceIdeal.nD Cert.PleMixBwdReferenceIdeal.τ Cert.PleMixBwdReferenceIdeal.sig) → Buf (Elt Ideal) ℓ) (g : Dev Cert.PleMixBwdReferenceIdeal.nD → PrngReg), Pre_PleMixBwdReferenceIdeal m →
    θ_run (Cert.PleMixBwdReferenceIdeal.defs (F := Ideal)) (onTc (τ := Cert.PleMixBwdReferenceIdeal.τ) (Cert.PleMixBwdReferenceIdeal.main (F := Ideal))) ⟨m, fun _ => 0, g⟩ (fun r => (∀ c : Dev Cert.PleMixBwdReferenceIdeal.nD,
      r.2.mem ((c.tc : Thread Cert.PleMixBwdReferenceIdeal.nD Cert.PleMixBwdReferenceIdeal.τ).loc Cert.PleMixBwdReferenceIdeal.main_arg0) = m ((c.tc : Thread Cert.PleMixBwdReferenceIdeal.nD Cert.PleMixBwdReferenceIdeal.τ).loc Cert.PleMixBwdReferenceIdeal.main_arg0)
      ∧ r.2.mem ((c.tc : Thread Cert.PleMixBwdReferenceIdeal.nD Cert.PleMixBwdReferenceIdeal.τ).loc Cert.PleMixBwdReferenceIdeal.main_arg1) = m ((c.tc : Thread Cert.PleMixBwdReferenceIdeal.nD Cert.PleMixBwdReferenceIdeal.τ).loc Cert.PleMixBwdReferenceIdeal.main_arg1)
      ∧ r.2.mem ((c.tc : Thread Cert.PleMixBwdReferenceIdeal.nD Cert.PleMixBwdReferenceIdeal.τ).loc Cert.PleMixBwdReferenceIdeal.main_arg2) = m ((c.tc : Thread Cert.PleMixBwdReferenceIdeal.nD Cert.PleMixBwdReferenceIdeal.τ).loc Cert.PleMixBwdReferenceIdeal.main_arg2))
      ∧ r.2.sem = fun _ => 0)

def quiescent_PleEmbDw [hPleEmbDw : Cert.PleEmbDw.Facts] : Prop :=
  ∀ (m : (ℓ : Loc Cert.PleEmbDw.nD Cert.PleEmbDw.τ Cert.PleEmbDw.sig) → Buf (Elt Bits) ℓ) (g : Dev Cert.PleEmbDw.nD → PrngReg), Pre_PleEmbDw m →
    θ_run (Cert.PleEmbDw.defs (F := Bits)) (onTc (τ := Cert.PleEmbDw.τ) (Cert.PleEmbDw.main (F := Bits))) ⟨m, fun _ => 0, g⟩ (fun r => (∀ c : Dev Cert.PleEmbDw.nD,
      r.2.mem ((c.tc : Thread Cert.PleEmbDw.nD Cert.PleEmbDw.τ).loc Cert.PleEmbDw.main_arg0) = m ((c.tc : Thread Cert.PleEmbDw.nD Cert.PleEmbDw.τ).loc Cert.PleEmbDw.main_arg0)
      ∧ r.2.mem ((c.tc : Thread Cert.PleEmbDw.nD Cert.PleEmbDw.τ).loc Cert.PleEmbDw.main_arg1) = m ((c.tc : Thread Cert.PleEmbDw.nD Cert.PleEmbDw.τ).loc Cert.PleEmbDw.main_arg1))
      ∧ r.2.sem = fun _ => 0)

def quiescent_PleEmbDwIdeal [hPleEmbDwIdeal : Cert.PleEmbDwIdeal.Facts] : Prop :=
  ∀ (m : (ℓ : Loc Cert.PleEmbDwIdeal.nD Cert.PleEmbDwIdeal.τ Cert.PleEmbDwIdeal.sig) → Buf (Elt Ideal) ℓ) (g : Dev Cert.PleEmbDwIdeal.nD → PrngReg), Pre_PleEmbDwIdeal m →
    θ_run (Cert.PleEmbDwIdeal.defs (F := Ideal)) (onTc (τ := Cert.PleEmbDwIdeal.τ) (Cert.PleEmbDwIdeal.main (F := Ideal))) ⟨m, fun _ => 0, g⟩ (fun r => (∀ c : Dev Cert.PleEmbDwIdeal.nD,
      r.2.mem ((c.tc : Thread Cert.PleEmbDwIdeal.nD Cert.PleEmbDwIdeal.τ).loc Cert.PleEmbDwIdeal.main_arg0) = m ((c.tc : Thread Cert.PleEmbDwIdeal.nD Cert.PleEmbDwIdeal.τ).loc Cert.PleEmbDwIdeal.main_arg0)
      ∧ r.2.mem ((c.tc : Thread Cert.PleEmbDwIdeal.nD Cert.PleEmbDwIdeal.τ).loc Cert.PleEmbDwIdeal.main_arg1) = m ((c.tc : Thread Cert.PleEmbDwIdeal.nD Cert.PleEmbDwIdeal.τ).loc Cert.PleEmbDwIdeal.main_arg1))
      ∧ r.2.sem = fun _ => 0)

def quiescent_PleEmbDwReferenceIdeal [hPleEmbDwReferenceIdeal : Cert.PleEmbDwReferenceIdeal.Facts] : Prop :=
  ∀ (m : (ℓ : Loc Cert.PleEmbDwReferenceIdeal.nD Cert.PleEmbDwReferenceIdeal.τ Cert.PleEmbDwReferenceIdeal.sig) → Buf (Elt Ideal) ℓ) (g : Dev Cert.PleEmbDwReferenceIdeal.nD → PrngReg), Pre_PleEmbDwReferenceIdeal m →
    θ_run (Cert.PleEmbDwReferenceIdeal.defs (F := Ideal)) (onTc (τ := Cert.PleEmbDwReferenceIdeal.τ) (Cert.PleEmbDwReferenceIdeal.main (F := Ideal))) ⟨m, fun _ => 0, g⟩ (fun r => (∀ c : Dev Cert.PleEmbDwReferenceIdeal.nD,
      r.2.mem ((c.tc : Thread Cert.PleEmbDwReferenceIdeal.nD Cert.PleEmbDwReferenceIdeal.τ).loc Cert.PleEmbDwReferenceIdeal.main_arg0) = m ((c.tc : Thread Cert.PleEmbDwReferenceIdeal.nD Cert.PleEmbDwReferenceIdeal.τ).loc Cert.PleEmbDwReferenceIdeal.main_arg0)
      ∧ r.2.mem ((c.tc : Thread Cert.PleEmbDwReferenceIdeal.nD Cert.PleEmbDwReferenceIdeal.τ).loc Cert.PleEmbDwReferenceIdeal.main_arg1) = m ((c.tc : Thread Cert.PleEmbDwReferenceIdeal.nD Cert.PleEmbDwReferenceIdeal.τ).loc Cert.PleEmbDwReferenceIdeal.main_arg1))
      ∧ r.2.sem = fun _ => 0)

def quiescent_PleEmb [hPleEmb : Cert.PleEmb.Facts] : Prop :=
  ∀ (m : (ℓ : Loc Cert.PleEmb.nD Cert.PleEmb.τ Cert.PleEmb.sig) → Buf (Elt Bits) ℓ) (g : Dev Cert.PleEmb.nD → PrngReg), Pre_PleEmb m →
    θ_run (Cert.PleEmb.defs (F := Bits)) (onTc (τ := Cert.PleEmb.τ) (Cert.PleEmb.main (F := Bits))) ⟨m, fun _ => 0, g⟩ (fun r => (∀ c : Dev Cert.PleEmb.nD,
      r.2.mem ((c.tc : Thread Cert.PleEmb.nD Cert.PleEmb.τ).loc Cert.PleEmb.main_arg0) = m ((c.tc : Thread Cert.PleEmb.nD Cert.PleEmb.τ).loc Cert.PleEmb.main_arg0)
      ∧ r.2.mem ((c.tc : Thread Cert.PleEmb.nD Cert.PleEmb.τ).loc Cert.PleEmb.main_arg1) = m ((c.tc : Thread Cert.PleEmb.nD Cert.PleEmb.τ).loc Cert.PleEmb.main_arg1))
      ∧ r.2.sem = fun _ => 0)

def quiescent_PleEmbIdeal [hPleEmbIdeal : Cert.PleEmbIdeal.Facts] : Prop :=
  ∀ (m : (ℓ : Loc Cert.PleEmbIdeal.nD Cert.PleEmbIdeal.τ Cert.PleEmbIdeal.sig) → Buf (Elt Ideal) ℓ) (g : Dev Cert.PleEmbIdeal.nD → PrngReg), Pre_PleEmbIdeal m →
    θ_run (Cert.PleEmbIdeal.defs (F := Ideal)) (onTc (τ := Cert.PleEmbIdeal.τ) (Cert.PleEmbIdeal.main (F := Ideal))) ⟨m, fun _ => 0, g⟩ (fun r => (∀ c : Dev Cert.PleEmbIdeal.nD,
      r.2.mem ((c.tc : Thread Cert.PleEmbIdeal.nD Cert.PleEmbIdeal.τ).loc Cert.PleEmbIdeal.main_arg0) = m ((c.tc : Thread Cert.PleEmbIdeal.nD Cert.PleEmbIdeal.τ).loc Cert.PleEmbIdeal.main_arg0)
      ∧ r.2.mem ((c.tc : Thread Cert.PleEmbIdeal.nD Cert.PleEmbIdeal.τ).loc Cert.PleEmbIdeal.main_arg1) = m ((c.tc : Thread Cert.PleEmbIdeal.nD Cert.PleEmbIdeal.τ).loc Cert.PleEmbIdeal.main_arg1))
      ∧ r.2.sem = fun _ => 0)

def quiescent_PleEmbReferenceIdeal [hPleEmbReferenceIdeal : Cert.PleEmbReferenceIdeal.Facts] : Prop :=
  ∀ (m : (ℓ : Loc Cert.PleEmbReferenceIdeal.nD Cert.PleEmbReferenceIdeal.τ Cert.PleEmbReferenceIdeal.sig) → Buf (Elt Ideal) ℓ) (g : Dev Cert.PleEmbReferenceIdeal.nD → PrngReg), Pre_PleEmbReferenceIdeal m →
    θ_run (Cert.PleEmbReferenceIdeal.defs (F := Ideal)) (onTc (τ := Cert.PleEmbReferenceIdeal.τ) (Cert.PleEmbReferenceIdeal.main (F := Ideal))) ⟨m, fun _ => 0, g⟩ (fun r => (∀ c : Dev Cert.PleEmbReferenceIdeal.nD,
      r.2.mem ((c.tc : Thread Cert.PleEmbReferenceIdeal.nD Cert.PleEmbReferenceIdeal.τ).loc Cert.PleEmbReferenceIdeal.main_arg0) = m ((c.tc : Thread Cert.PleEmbReferenceIdeal.nD Cert.PleEmbReferenceIdeal.τ).loc Cert.PleEmbReferenceIdeal.main_arg0)
      ∧ r.2.mem ((c.tc : Thread Cert.PleEmbReferenceIdeal.nD Cert.PleEmbReferenceIdeal.τ).loc Cert.PleEmbReferenceIdeal.main_arg1) = m ((c.tc : Thread Cert.PleEmbReferenceIdeal.nD Cert.PleEmbReferenceIdeal.τ).loc Cert.PleEmbReferenceIdeal.main_arg1))
      ∧ r.2.sem = fun _ => 0)

def quiescent_FoxGateBwd [hFoxGateBwd : Cert.FoxGateBwd.Facts] : Prop :=
  ∀ (m : (ℓ : Loc Cert.FoxGateBwd.nD Cert.FoxGateBwd.τ Cert.FoxGateBwd.sig) → Buf (Elt Bits) ℓ) (g : Dev Cert.FoxGateBwd.nD → PrngReg), Pre_FoxGateBwd m →
    θ_run (Cert.FoxGateBwd.defs (F := Bits)) (onTc (τ := Cert.FoxGateBwd.τ) (Cert.FoxGateBwd.main (F := Bits))) ⟨m, fun _ => 0, g⟩ (fun r => (∀ c : Dev Cert.FoxGateBwd.nD,
      r.2.mem ((c.tc : Thread Cert.FoxGateBwd.nD Cert.FoxGateBwd.τ).loc Cert.FoxGateBwd.main_arg0) = m ((c.tc : Thread Cert.FoxGateBwd.nD Cert.FoxGateBwd.τ).loc Cert.FoxGateBwd.main_arg0)
      ∧ r.2.mem ((c.tc : Thread Cert.FoxGateBwd.nD Cert.FoxGateBwd.τ).loc Cert.FoxGateBwd.main_arg1) = m ((c.tc : Thread Cert.FoxGateBwd.nD Cert.FoxGateBwd.τ).loc Cert.FoxGateBwd.main_arg1)
      ∧ r.2.mem ((c.tc : Thread Cert.FoxGateBwd.nD Cert.FoxGateBwd.τ).loc Cert.FoxGateBwd.main_arg2) = m ((c.tc : Thread Cert.FoxGateBwd.nD Cert.FoxGateBwd.τ).loc Cert.FoxGateBwd.main_arg2))
      ∧ r.2.sem = fun _ => 0)

def quiescent_FoxGateBwdIdeal [hFoxGateBwdIdeal : Cert.FoxGateBwdIdeal.Facts] : Prop :=
  ∀ (m : (ℓ : Loc Cert.FoxGateBwdIdeal.nD Cert.FoxGateBwdIdeal.τ Cert.FoxGateBwdIdeal.sig) → Buf (Elt Ideal) ℓ) (g : Dev Cert.FoxGateBwdIdeal.nD → PrngReg), Pre_FoxGateBwdIdeal m →
    θ_run (Cert.FoxGateBwdIdeal.defs (F := Ideal)) (onTc (τ := Cert.FoxGateBwdIdeal.τ) (Cert.FoxGateBwdIdeal.main (F := Ideal))) ⟨m, fun _ => 0, g⟩ (fun r => (∀ c : Dev Cert.FoxGateBwdIdeal.nD,
      r.2.mem ((c.tc : Thread Cert.FoxGateBwdIdeal.nD Cert.FoxGateBwdIdeal.τ).loc Cert.FoxGateBwdIdeal.main_arg0) = m ((c.tc : Thread Cert.FoxGateBwdIdeal.nD Cert.FoxGateBwdIdeal.τ).loc Cert.FoxGateBwdIdeal.main_arg0)
      ∧ r.2.mem ((c.tc : Thread Cert.FoxGateBwdIdeal.nD Cert.FoxGateBwdIdeal.τ).loc Cert.FoxGateBwdIdeal.main_arg1) = m ((c.tc : Thread Cert.FoxGateBwdIdeal.nD Cert.FoxGateBwdIdeal.τ).loc Cert.FoxGateBwdIdeal.main_arg1)
      ∧ r.2.mem ((c.tc : Thread Cert.FoxGateBwdIdeal.nD Cert.FoxGateBwdIdeal.τ).loc Cert.FoxGateBwdIdeal.main_arg2) = m ((c.tc : Thread Cert.FoxGateBwdIdeal.nD Cert.FoxGateBwdIdeal.τ).loc Cert.FoxGateBwdIdeal.main_arg2))
      ∧ r.2.sem = fun _ => 0)

def quiescent_FoxGateBwdIdeal_pre_finite_gated [hFoxGateBwdIdeal : Cert.FoxGateBwdIdeal.Facts] [hPre_finite_gated : Cert.Pre_finite_gated.Facts] : Prop :=
  ∀ (m : (ℓ : Loc Cert.FoxGateBwdIdeal.nD Cert.FoxGateBwdIdeal.τ Cert.FoxGateBwdIdeal.sig) → Buf (Elt Ideal) ℓ) (g : Dev Cert.FoxGateBwdIdeal.nD → PrngReg), Pre_FoxGateBwdIdeal_finite_gated m →
    θ_run (Cert.FoxGateBwdIdeal.defs (F := Ideal)) (onTc (τ := Cert.FoxGateBwdIdeal.τ) (Cert.FoxGateBwdIdeal.main (F := Ideal))) ⟨m, fun _ => 0, g⟩ (fun r => (∀ c : Dev Cert.FoxGateBwdIdeal.nD,
      r.2.mem ((c.tc : Thread Cert.FoxGateBwdIdeal.nD Cert.FoxGateBwdIdeal.τ).loc Cert.FoxGateBwdIdeal.main_arg0) = m ((c.tc : Thread Cert.FoxGateBwdIdeal.nD Cert.FoxGateBwdIdeal.τ).loc Cert.FoxGateBwdIdeal.main_arg0)
      ∧ r.2.mem ((c.tc : Thread Cert.FoxGateBwdIdeal.nD Cert.FoxGateBwdIdeal.τ).loc Cert.FoxGateBwdIdeal.main_arg1) = m ((c.tc : Thread Cert.FoxGateBwdIdeal.nD Cert.FoxGateBwdIdeal.τ).loc Cert.FoxGateBwdIdeal.main_arg1)
      ∧ r.2.mem ((c.tc : Thread Cert.FoxGateBwdIdeal.nD Cert.FoxGateBwdIdeal.τ).loc Cert.FoxGateBwdIdeal.main_arg2) = m ((c.tc : Thread Cert.FoxGateBwdIdeal.nD Cert.FoxGateBwdIdeal.τ).loc Cert.FoxGateBwdIdeal.main_arg2))
      ∧ r.2.sem = fun _ => 0)

def quiescent_FoxGateBwdReferenceIdeal [hFoxGateBwdReferenceIdeal : Cert.FoxGateBwdReferenceIdeal.Facts] : Prop :=
  ∀ (m : (ℓ : Loc Cert.FoxGateBwdReferenceIdeal.nD Cert.FoxGateBwdReferenceIdeal.τ Cert.FoxGateBwdReferenceIdeal.sig) → Buf (Elt Ideal) ℓ) (g : Dev Cert.FoxGateBwdReferenceIdeal.nD → PrngReg), Pre_FoxGateBwdReferenceIdeal m →
    θ_run (Cert.FoxGateBwdReferenceIdeal.defs (F := Ideal)) (onTc (τ := Cert.FoxGateBwdReferenceIdeal.τ) (Cert.FoxGateBwdReferenceIdeal.main (F := Ideal))) ⟨m, fun _ => 0, g⟩ (fun r => (∀ c : Dev Cert.FoxGateBwdReferenceIdeal.nD,
      r.2.mem ((c.tc : Thread Cert.FoxGateBwdReferenceIdeal.nD Cert.FoxGateBwdReferenceIdeal.τ).loc Cert.FoxGateBwdReferenceIdeal.main_arg0) = m ((c.tc : Thread Cert.FoxGateBwdReferenceIdeal.nD Cert.FoxGateBwdReferenceIdeal.τ).loc Cert.FoxGateBwdReferenceIdeal.main_arg0)
      ∧ r.2.mem ((c.tc : Thread Cert.FoxGateBwdReferenceIdeal.nD Cert.FoxGateBwdReferenceIdeal.τ).loc Cert.FoxGateBwdReferenceIdeal.main_arg1) = m ((c.tc : Thread Cert.FoxGateBwdReferenceIdeal.nD Cert.FoxGateBwdReferenceIdeal.τ).loc Cert.FoxGateBwdReferenceIdeal.main_arg1)
      ∧ r.2.mem ((c.tc : Thread Cert.FoxGateBwdReferenceIdeal.nD Cert.FoxGateBwdReferenceIdeal.τ).loc Cert.FoxGateBwdReferenceIdeal.main_arg2) = m ((c.tc : Thread Cert.FoxGateBwdReferenceIdeal.nD Cert.FoxGateBwdReferenceIdeal.τ).loc Cert.FoxGateBwdReferenceIdeal.main_arg2))
      ∧ r.2.sem = fun _ => 0)

def quiescent_FoxGateBwdReferenceIdeal_pre_finite_gated [hFoxGateBwdReferenceIdeal : Cert.FoxGateBwdReferenceIdeal.Facts] [hPre_finite_gated : Cert.Pre_finite_gated.Facts] : Prop :=
  ∀ (m : (ℓ : Loc Cert.FoxGateBwdReferenceIdeal.nD Cert.FoxGateBwdReferenceIdeal.τ Cert.FoxGateBwdReferenceIdeal.sig) → Buf (Elt Ideal) ℓ) (g : Dev Cert.FoxGateBwdReferenceIdeal.nD → PrngReg), Pre_FoxGateBwdReferenceIdeal_finite_gated m →
    θ_run (Cert.FoxGateBwdReferenceIdeal.defs (F := Ideal)) (onTc (τ := Cert.FoxGateBwdReferenceIdeal.τ) (Cert.FoxGateBwdReferenceIdeal.main (F := Ideal))) ⟨m, fun _ => 0, g⟩ (fun r => (∀ c : Dev Cert.FoxGateBwdReferenceIdeal.nD,
      r.2.mem ((c.tc : Thread Cert.FoxGateBwdReferenceIdeal.nD Cert.FoxGateBwdReferenceIdeal.τ).loc Cert.FoxGateBwdReferenceIdeal.main_arg0) = m ((c.tc : Thread Cert.FoxGateBwdReferenceIdeal.nD Cert.FoxGateBwdReferenceIdeal.τ).loc Cert.FoxGateBwdReferenceIdeal.main_arg0)
      ∧ r.2.mem ((c.tc : Thread Cert.FoxGateBwdReferenceIdeal.nD Cert.FoxGateBwdReferenceIdeal.τ).loc Cert.FoxGateBwdReferenceIdeal.main_arg1) = m ((c.tc : Thread Cert.FoxGateBwdReferenceIdeal.nD Cert.FoxGateBwdReferenceIdeal.τ).loc Cert.FoxGateBwdReferenceIdeal.main_arg1)
      ∧ r.2.mem ((c.tc : Thread Cert.FoxGateBwdReferenceIdeal.nD Cert.FoxGateBwdReferenceIdeal.τ).loc Cert.FoxGateBwdReferenceIdeal.main_arg2) = m ((c.tc : Thread Cert.FoxGateBwdReferenceIdeal.nD Cert.FoxGateBwdReferenceIdeal.τ).loc Cert.FoxGateBwdReferenceIdeal.main_arg2))
      ∧ r.2.sem = fun _ => 0)

def quiescent_FoxGate [hFoxGate : Cert.FoxGate.Facts] : Prop :=
  ∀ (m : (ℓ : Loc Cert.FoxGate.nD Cert.FoxGate.τ Cert.FoxGate.sig) → Buf (Elt Bits) ℓ) (g : Dev Cert.FoxGate.nD → PrngReg), Pre_FoxGate m →
    θ_run (Cert.FoxGate.defs (F := Bits)) (onTc (τ := Cert.FoxGate.τ) (Cert.FoxGate.main (F := Bits))) ⟨m, fun _ => 0, g⟩ (fun r => (∀ c : Dev Cert.FoxGate.nD,
      r.2.mem ((c.tc : Thread Cert.FoxGate.nD Cert.FoxGate.τ).loc Cert.FoxGate.main_arg0) = m ((c.tc : Thread Cert.FoxGate.nD Cert.FoxGate.τ).loc Cert.FoxGate.main_arg0)
      ∧ r.2.mem ((c.tc : Thread Cert.FoxGate.nD Cert.FoxGate.τ).loc Cert.FoxGate.main_arg1) = m ((c.tc : Thread Cert.FoxGate.nD Cert.FoxGate.τ).loc Cert.FoxGate.main_arg1))
      ∧ r.2.sem = fun _ => 0)

def quiescent_FoxGateIdeal [hFoxGateIdeal : Cert.FoxGateIdeal.Facts] : Prop :=
  ∀ (m : (ℓ : Loc Cert.FoxGateIdeal.nD Cert.FoxGateIdeal.τ Cert.FoxGateIdeal.sig) → Buf (Elt Ideal) ℓ) (g : Dev Cert.FoxGateIdeal.nD → PrngReg), Pre_FoxGateIdeal m →
    θ_run (Cert.FoxGateIdeal.defs (F := Ideal)) (onTc (τ := Cert.FoxGateIdeal.τ) (Cert.FoxGateIdeal.main (F := Ideal))) ⟨m, fun _ => 0, g⟩ (fun r => (∀ c : Dev Cert.FoxGateIdeal.nD,
      r.2.mem ((c.tc : Thread Cert.FoxGateIdeal.nD Cert.FoxGateIdeal.τ).loc Cert.FoxGateIdeal.main_arg0) = m ((c.tc : Thread Cert.FoxGateIdeal.nD Cert.FoxGateIdeal.τ).loc Cert.FoxGateIdeal.main_arg0)
      ∧ r.2.mem ((c.tc : Thread Cert.FoxGateIdeal.nD Cert.FoxGateIdeal.τ).loc Cert.FoxGateIdeal.main_arg1) = m ((c.tc : Thread Cert.FoxGateIdeal.nD Cert.FoxGateIdeal.τ).loc Cert.FoxGateIdeal.main_arg1))
      ∧ r.2.sem = fun _ => 0)

def quiescent_FoxGateReferenceIdeal [hFoxGateReferenceIdeal : Cert.FoxGateReferenceIdeal.Facts] : Prop :=
  ∀ (m : (ℓ : Loc Cert.FoxGateReferenceIdeal.nD Cert.FoxGateReferenceIdeal.τ Cert.FoxGateReferenceIdeal.sig) → Buf (Elt Ideal) ℓ) (g : Dev Cert.FoxGateReferenceIdeal.nD → PrngReg), Pre_FoxGateReferenceIdeal m →
    θ_run (Cert.FoxGateReferenceIdeal.defs (F := Ideal)) (onTc (τ := Cert.FoxGateReferenceIdeal.τ) (Cert.FoxGateReferenceIdeal.main (F := Ideal))) ⟨m, fun _ => 0, g⟩ (fun r => (∀ c : Dev Cert.FoxGateReferenceIdeal.nD,
      r.2.mem ((c.tc : Thread Cert.FoxGateReferenceIdeal.nD Cert.FoxGateReferenceIdeal.τ).loc Cert.FoxGateReferenceIdeal.main_arg0) = m ((c.tc : Thread Cert.FoxGateReferenceIdeal.nD Cert.FoxGateReferenceIdeal.τ).loc Cert.FoxGateReferenceIdeal.main_arg0)
      ∧ r.2.mem ((c.tc : Thread Cert.FoxGateReferenceIdeal.nD Cert.FoxGateReferenceIdeal.τ).loc Cert.FoxGateReferenceIdeal.main_arg1) = m ((c.tc : Thread Cert.FoxGateReferenceIdeal.nD Cert.FoxGateReferenceIdeal.τ).loc Cert.FoxGateReferenceIdeal.main_arg1))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v70_0)) (v1 : (c : Dev Cert.KernelIdeal.nD) → Buf (Elt Ideal) ((c.tc : Thread Cert.KernelIdeal.nD Cert.KernelIdeal.τ).loc Cert.KernelIdeal.main_v70_1)) (v2 : (c : Dev Cert.KernelIdeal.nD) → Buf (Elt Ideal) ((c.tc : Thread Cert.KernelIdeal.nD Cert.KernelIdeal.τ).loc Cert.KernelIdeal.main_v70_2)) (v3 : (c : Dev Cert.KernelIdeal.nD) → Buf (Elt Ideal) ((c.tc : Thread Cert.KernelIdeal.nD Cert.KernelIdeal.τ).loc Cert.KernelIdeal.main_v70_3)) (v4 : (c : Dev Cert.KernelIdeal.nD) → Buf (Elt Ideal) ((c.tc : Thread Cert.KernelIdeal.nD Cert.KernelIdeal.τ).loc Cert.KernelIdeal.main_v70_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v70_0) = v0 c
          ∧ r.2.mem ((c.tc : Thread Cert.KernelIdeal.nD Cert.KernelIdeal.τ).loc Cert.KernelIdeal.main_v70_1) = v1 c
          ∧ r.2.mem ((c.tc : Thread Cert.KernelIdeal.nD Cert.KernelIdeal.τ).loc Cert.KernelIdeal.main_v70_2) = v2 c
          ∧ r.2.mem ((c.tc : Thread Cert.KernelIdeal.nD Cert.KernelIdeal.τ).loc Cert.KernelIdeal.main_v70_3) = v3 c
          ∧ r.2.mem ((c.tc : Thread Cert.KernelIdeal.nD Cert.KernelIdeal.τ).loc Cert.KernelIdeal.main_v70_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_v96) = v1 c
          ∧ r.2.mem ((c.tc : Thread Cert.ReferenceIdeal.nD Cert.ReferenceIdeal.τ).loc Cert.ReferenceIdeal.main_v99) = v2 c
          ∧ r.2.mem ((c.tc : Thread Cert.ReferenceIdeal.nD Cert.ReferenceIdeal.τ).loc Cert.ReferenceIdeal.main_v100) = v3 c
          ∧ r.2.mem ((c.tc : Thread Cert.ReferenceIdeal.nD Cert.ReferenceIdeal.τ).loc Cert.ReferenceIdeal.main_v103) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_InDw_InDwIdeal : Prop :=
  True

def algebraic_InDwIdeal_InDwReferenceIdeal [hInDwIdeal : Cert.InDwIdeal.Facts] [hInDwReferenceIdeal : Cert.InDwReferenceIdeal.Facts] : Prop :=
  ∀ (m : (ℓ : Loc Cert.InDwIdeal.nD Cert.InDwIdeal.τ Cert.InDwIdeal.sig) → Buf (Elt Ideal) ℓ) (g : Dev Cert.InDwIdeal.nD → PrngReg)
    (m' : (ℓ : Loc Cert.InDwReferenceIdeal.nD Cert.InDwReferenceIdeal.τ Cert.InDwReferenceIdeal.sig) → Buf (Elt Ideal) ℓ) (g' : Dev Cert.InDwReferenceIdeal.nD → PrngReg), Pre_InDwIdeal m →
    (∀ c : Dev Cert.InDwIdeal.nD,
      m' ((c.tc : Thread Cert.InDwReferenceIdeal.nD Cert.InDwReferenceIdeal.τ).loc Cert.InDwReferenceIdeal.main_arg0) = m ((c.tc : Thread Cert.InDwIdeal.nD Cert.InDwIdeal.τ).loc Cert.InDwIdeal.main_arg0)
      ∧ m' ((c.tc : Thread Cert.InDwReferenceIdeal.nD Cert.InDwReferenceIdeal.τ).loc Cert.InDwReferenceIdeal.main_arg1) = m ((c.tc : Thread Cert.InDwIdeal.nD Cert.InDwIdeal.τ).loc Cert.InDwIdeal.main_arg1)) →
    ∃ (v0 : (c : Dev Cert.InDwIdeal.nD) → Buf (Elt Ideal) ((c.tc : Thread Cert.InDwIdeal.nD Cert.InDwIdeal.τ).loc Cert.InDwIdeal.main_v0)),
      θ_run (Cert.InDwIdeal.defs (F := Ideal)) (onTc (τ := Cert.InDwIdeal.τ) (Cert.InDwIdeal.main (F := Ideal))) ⟨m, fun _ => 0, g⟩ (fun r => ∀ c : Dev Cert.InDwIdeal.nD,
          r.2.mem ((c.tc : Thread Cert.InDwIdeal.nD Cert.InDwIdeal.τ).loc Cert.InDwIdeal.main_v0) = v0 c
          ∧ r.2.mem ((c.tc : Thread Cert.InDwIdeal.nD Cert.InDwIdeal.τ).loc Cert.InDwIdeal.main_arg0) = m ((c.tc : Thread Cert.InDwIdeal.nD Cert.InDwIdeal.τ).loc Cert.InDwIdeal.main_arg0)
          ∧ r.2.mem ((c.tc : Thread Cert.InDwIdeal.nD Cert.InDwIdeal.τ).loc Cert.InDwIdeal.main_arg1) = m ((c.tc : Thread Cert.InDwIdeal.nD Cert.InDwIdeal.τ).loc Cert.InDwIdeal.main_arg1))
      ∧ θ_run (Cert.InDwReferenceIdeal.defs (F := Ideal)) (onTc (τ := Cert.InDwReferenceIdeal.τ) (Cert.InDwReferenceIdeal.main (F := Ideal))) ⟨m', fun _ => 0, g'⟩ (fun r => ∀ c : Dev Cert.InDwReferenceIdeal.nD,
          r.2.mem ((c.tc : Thread Cert.InDwReferenceIdeal.nD Cert.InDwReferenceIdeal.τ).loc Cert.InDwReferenceIdeal.main_v8) = v0 c
          ∧ r.2.mem ((c.tc : Thread Cert.InDwReferenceIdeal.nD Cert.InDwReferenceIdeal.τ).loc Cert.InDwReferenceIdeal.main_arg0) = m' ((c.tc : Thread Cert.InDwReferenceIdeal.nD Cert.InDwReferenceIdeal.τ).loc Cert.InDwReferenceIdeal.main_arg0)
          ∧ r.2.mem ((c.tc : Thread Cert.InDwReferenceIdeal.nD Cert.InDwReferenceIdeal.τ).loc Cert.InDwReferenceIdeal.main_arg1) = m' ((c.tc : Thread Cert.InDwReferenceIdeal.nD Cert.InDwReferenceIdeal.τ).loc Cert.InDwReferenceIdeal.main_arg1))

def preserves_InDx_InDxIdeal : Prop :=
  True

def algebraic_InDxIdeal_InDxReferenceIdeal [hInDxIdeal : Cert.InDxIdeal.Facts] [hInDxReferenceIdeal : Cert.InDxReferenceIdeal.Facts] : Prop :=
  ∀ (m : (ℓ : Loc Cert.InDxIdeal.nD Cert.InDxIdeal.τ Cert.InDxIdeal.sig) → Buf (Elt Ideal) ℓ) (g : Dev Cert.InDxIdeal.nD → PrngReg)
    (m' : (ℓ : Loc Cert.InDxReferenceIdeal.nD Cert.InDxReferenceIdeal.τ Cert.InDxReferenceIdeal.sig) → Buf (Elt Ideal) ℓ) (g' : Dev Cert.InDxReferenceIdeal.nD → PrngReg), Pre_InDxIdeal m →
    (∀ c : Dev Cert.InDxIdeal.nD,
      m' ((c.tc : Thread Cert.InDxReferenceIdeal.nD Cert.InDxReferenceIdeal.τ).loc Cert.InDxReferenceIdeal.main_arg0) = m ((c.tc : Thread Cert.InDxIdeal.nD Cert.InDxIdeal.τ).loc Cert.InDxIdeal.main_arg0)
      ∧ m' ((c.tc : Thread Cert.InDxReferenceIdeal.nD Cert.InDxReferenceIdeal.τ).loc Cert.InDxReferenceIdeal.main_arg1) = m ((c.tc : Thread Cert.InDxIdeal.nD Cert.InDxIdeal.τ).loc Cert.InDxIdeal.main_arg1)) →
    ∃ (v0 : (c : Dev Cert.InDxIdeal.nD) → Buf (Elt Ideal) ((c.tc : Thread Cert.InDxIdeal.nD Cert.InDxIdeal.τ).loc Cert.InDxIdeal.main_v0)),
      θ_run (Cert.InDxIdeal.defs (F := Ideal)) (onTc (τ := Cert.InDxIdeal.τ) (Cert.InDxIdeal.main (F := Ideal))) ⟨m, fun _ => 0, g⟩ (fun r => ∀ c : Dev Cert.InDxIdeal.nD,
          r.2.mem ((c.tc : Thread Cert.InDxIdeal.nD Cert.InDxIdeal.τ).loc Cert.InDxIdeal.main_v0) = v0 c
          ∧ r.2.mem ((c.tc : Thread Cert.InDxIdeal.nD Cert.InDxIdeal.τ).loc Cert.InDxIdeal.main_arg0) = m ((c.tc : Thread Cert.InDxIdeal.nD Cert.InDxIdeal.τ).loc Cert.InDxIdeal.main_arg0)
          ∧ r.2.mem ((c.tc : Thread Cert.InDxIdeal.nD Cert.InDxIdeal.τ).loc Cert.InDxIdeal.main_arg1) = m ((c.tc : Thread Cert.InDxIdeal.nD Cert.InDxIdeal.τ).loc Cert.InDxIdeal.main_arg1))
      ∧ θ_run (Cert.InDxReferenceIdeal.defs (F := Ideal)) (onTc (τ := Cert.InDxReferenceIdeal.τ) (Cert.InDxReferenceIdeal.main (F := Ideal))) ⟨m', fun _ => 0, g'⟩ (fun r => ∀ c : Dev Cert.InDxReferenceIdeal.nD,
          r.2.mem ((c.tc : Thread Cert.InDxReferenceIdeal.nD Cert.InDxReferenceIdeal.τ).loc Cert.InDxReferenceIdeal.main_v6) = v0 c
          ∧ r.2.mem ((c.tc : Thread Cert.InDxReferenceIdeal.nD Cert.InDxReferenceIdeal.τ).loc Cert.InDxReferenceIdeal.main_arg0) = m' ((c.tc : Thread Cert.InDxReferenceIdeal.nD Cert.InDxReferenceIdeal.τ).loc Cert.InDxReferenceIdeal.main_arg0)
          ∧ r.2.mem ((c.tc : Thread Cert.InDxReferenceIdeal.nD Cert.InDxReferenceIdeal.τ).loc Cert.InDxReferenceIdeal.main_arg1) = m' ((c.tc : Thread Cert.InDxReferenceIdeal.nD Cert.InDxReferenceIdeal.τ).loc Cert.InDxReferenceIdeal.main_arg1))

def preserves_OutDw_OutDwIdeal : Prop :=
  True

def algebraic_OutDwIdeal_OutDwReferenceIdeal [hOutDwIdeal : Cert.OutDwIdeal.Facts] [hOutDwReferenceIdeal : Cert.OutDwReferenceIdeal.Facts] : Prop :=
  ∀ (m : (ℓ : Loc Cert.OutDwIdeal.nD Cert.OutDwIdeal.τ Cert.OutDwIdeal.sig) → Buf (Elt Ideal) ℓ) (g : Dev Cert.OutDwIdeal.nD → PrngReg)
    (m' : (ℓ : Loc Cert.OutDwReferenceIdeal.nD Cert.OutDwReferenceIdeal.τ Cert.OutDwReferenceIdeal.sig) → Buf (Elt Ideal) ℓ) (g' : Dev Cert.OutDwReferenceIdeal.nD → PrngReg), Pre_OutDwIdeal m →
    (∀ c : Dev Cert.OutDwIdeal.nD,
      m' ((c.tc : Thread Cert.OutDwReferenceIdeal.nD Cert.OutDwReferenceIdeal.τ).loc Cert.OutDwReferenceIdeal.main_arg0) = m ((c.tc : Thread Cert.OutDwIdeal.nD Cert.OutDwIdeal.τ).loc Cert.OutDwIdeal.main_arg0)
      ∧ m' ((c.tc : Thread Cert.OutDwReferenceIdeal.nD Cert.OutDwReferenceIdeal.τ).loc Cert.OutDwReferenceIdeal.main_arg1) = m ((c.tc : Thread Cert.OutDwIdeal.nD Cert.OutDwIdeal.τ).loc Cert.OutDwIdeal.main_arg1)) →
    ∃ (v0 : (c : Dev Cert.OutDwIdeal.nD) → Buf (Elt Ideal) ((c.tc : Thread Cert.OutDwIdeal.nD Cert.OutDwIdeal.τ).loc Cert.OutDwIdeal.main_v0)),
      θ_run (Cert.OutDwIdeal.defs (F := Ideal)) (onTc (τ := Cert.OutDwIdeal.τ) (Cert.OutDwIdeal.main (F := Ideal))) ⟨m, fun _ => 0, g⟩ (fun r => ∀ c : Dev Cert.OutDwIdeal.nD,
          r.2.mem ((c.tc : Thread Cert.OutDwIdeal.nD Cert.OutDwIdeal.τ).loc Cert.OutDwIdeal.main_v0) = v0 c
          ∧ r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
          ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1))
      ∧ θ_run (Cert.OutDwReferenceIdeal.defs (F := Ideal)) (onTc (τ := Cert.OutDwReferenceIdeal.τ) (Cert.OutDwReferenceIdeal.main (F := Ideal))) ⟨m', fun _ => 0, g'⟩ (fun r => ∀ c : Dev Cert.OutDwReferenceIdeal.nD,
          r.2.mem ((c.tc : Thread Cert.OutDwReferenceIdeal.nD Cert.OutDwReferenceIdeal.τ).loc Cert.OutDwReferenceIdeal.main_v6) = v0 c
          ∧ r.2.mem ((c.tc : Thread Cert.OutDwReferenceIdeal.nD Cert.OutDwReferenceIdeal.τ).loc Cert.OutDwReferenceIdeal.main_arg0) = m' ((c.tc : Thread Cert.OutDwReferenceIdeal.nD Cert.OutDwReferenceIdeal.τ).loc Cert.OutDwReferenceIdeal.main_arg0)
          ∧ r.2.mem ((c.tc : Thread Cert.OutDwReferenceIdeal.nD Cert.OutDwReferenceIdeal.τ).loc Cert.OutDwReferenceIdeal.main_arg1) = m' ((c.tc : Thread Cert.OutDwReferenceIdeal.nD Cert.OutDwReferenceIdeal.τ).loc Cert.OutDwReferenceIdeal.main_arg1))

def preserves_SsmInDw_SsmInDwIdeal : Prop :=
  True

def algebraic_SsmInDwIdeal_SsmInDwReferenceIdeal [hSsmInDwIdeal : Cert.SsmInDwIdeal.Facts] [hSsmInDwReferenceIdeal : Cert.SsmInDwReferenceIdeal.Facts] : Prop :=
  ∀ (m : (ℓ : Loc Cert.SsmInDwIdeal.nD Cert.SsmInDwIdeal.τ Cert.SsmInDwIdeal.sig) → Buf (Elt Ideal) ℓ) (g : Dev Cert.SsmInDwIdeal.nD → PrngReg)
    (m' : (ℓ : Loc Cert.SsmInDwReferenceIdeal.nD Cert.SsmInDwReferenceIdeal.τ Cert.SsmInDwReferenceIdeal.sig) → Buf (Elt Ideal) ℓ) (g' : Dev Cert.SsmInDwReferenceIdeal.nD → PrngReg), Pre_SsmInDwIdeal m →
    (∀ c : Dev Cert.SsmInDwIdeal.nD,
      m' ((c.tc : Thread Cert.SsmInDwReferenceIdeal.nD Cert.SsmInDwReferenceIdeal.τ).loc Cert.SsmInDwReferenceIdeal.main_arg0) = m ((c.tc : Thread Cert.SsmInDwIdeal.nD Cert.SsmInDwIdeal.τ).loc Cert.SsmInDwIdeal.main_arg0)
      ∧ m' ((c.tc : Thread Cert.SsmInDwReferenceIdeal.nD Cert.SsmInDwReferenceIdeal.τ).loc Cert.SsmInDwReferenceIdeal.main_arg1) = m ((c.tc : Thread Cert.SsmInDwIdeal.nD Cert.SsmInDwIdeal.τ).loc Cert.SsmInDwIdeal.main_arg1)) →
    ∃ (v0 : (c : Dev Cert.SsmInDwIdeal.nD) → Buf (Elt Ideal) ((c.tc : Thread Cert.SsmInDwIdeal.nD Cert.SsmInDwIdeal.τ).loc Cert.SsmInDwIdeal.main_v0)),
      θ_run (Cert.SsmInDwIdeal.defs (F := Ideal)) (onTc (τ := Cert.SsmInDwIdeal.τ) (Cert.SsmInDwIdeal.main (F := Ideal))) ⟨m, fun _ => 0, g⟩ (fun r => ∀ c : Dev Cert.SsmInDwIdeal.nD,
          r.2.mem ((c.tc : Thread Cert.SsmInDwIdeal.nD Cert.SsmInDwIdeal.τ).loc Cert.SsmInDwIdeal.main_v0) = v0 c
          ∧ r.2.mem ((c.tc : Thread Cert.SsmInDwIdeal.nD Cert.SsmInDwIdeal.τ).loc Cert.SsmInDwIdeal.main_arg0) = m ((c.tc : Thread Cert.SsmInDwIdeal.nD Cert.SsmInDwIdeal.τ).loc Cert.SsmInDwIdeal.main_arg0)
          ∧ r.2.mem ((c.tc : Thread Cert.SsmInDwIdeal.nD Cert.SsmInDwIdeal.τ).loc Cert.SsmInDwIdeal.main_arg1) = m ((c.tc : Thread Cert.SsmInDwIdeal.nD Cert.SsmInDwIdeal.τ).loc Cert.SsmInDwIdeal.main_arg1))
      ∧ θ_run (Cert.SsmInDwReferenceIdeal.defs (F := Ideal)) (onTc (τ := Cert.SsmInDwReferenceIdeal.τ) (Cert.SsmInDwReferenceIdeal.main (F := Ideal))) ⟨m', fun _ => 0, g'⟩ (fun r => ∀ c : Dev Cert.SsmInDwReferenceIdeal.nD,
          r.2.mem ((c.tc : Thread Cert.SsmInDwReferenceIdeal.nD Cert.SsmInDwReferenceIdeal.τ).loc Cert.SsmInDwReferenceIdeal.main_v8) = v0 c
          ∧ r.2.mem ((c.tc : Thread Cert.SsmInDwReferenceIdeal.nD Cert.SsmInDwReferenceIdeal.τ).loc Cert.SsmInDwReferenceIdeal.main_arg0) = m' ((c.tc : Thread Cert.SsmInDwReferenceIdeal.nD Cert.SsmInDwReferenceIdeal.τ).loc Cert.SsmInDwReferenceIdeal.main_arg0)
          ∧ r.2.mem ((c.tc : Thread Cert.SsmInDwReferenceIdeal.nD Cert.SsmInDwReferenceIdeal.τ).loc Cert.SsmInDwReferenceIdeal.main_arg1) = m' ((c.tc : Thread Cert.SsmInDwReferenceIdeal.nD Cert.SsmInDwReferenceIdeal.τ).loc Cert.SsmInDwReferenceIdeal.main_arg1))

def preserves_SsmInDx_SsmInDxIdeal : Prop :=
  True

def algebraic_SsmInDxIdeal_SsmInDxReferenceIdeal [hSsmInDxIdeal : Cert.SsmInDxIdeal.Facts] [hSsmInDxReferenceIdeal : Cert.SsmInDxReferenceIdeal.Facts] : Prop :=
  ∀ (m : (ℓ : Loc Cert.SsmInDxIdeal.nD Cert.SsmInDxIdeal.τ Cert.SsmInDxIdeal.sig) → Buf (Elt Ideal) ℓ) (g : Dev Cert.SsmInDxIdeal.nD → PrngReg)
    (m' : (ℓ : Loc Cert.SsmInDxReferenceIdeal.nD Cert.SsmInDxReferenceIdeal.τ Cert.SsmInDxReferenceIdeal.sig) → Buf (Elt Ideal) ℓ) (g' : Dev Cert.SsmInDxReferenceIdeal.nD → PrngReg), Pre_SsmInDxIdeal m →
    (∀ c : Dev Cert.SsmInDxIdeal.nD,
      m' ((c.tc : Thread Cert.SsmInDxReferenceIdeal.nD Cert.SsmInDxReferenceIdeal.τ).loc Cert.SsmInDxReferenceIdeal.main_arg0) = m ((c.tc : Thread Cert.SsmInDxIdeal.nD Cert.SsmInDxIdeal.τ).loc Cert.SsmInDxIdeal.main_arg0)
      ∧ m' ((c.tc : Thread Cert.SsmInDxReferenceIdeal.nD Cert.SsmInDxReferenceIdeal.τ).loc Cert.SsmInDxReferenceIdeal.main_arg1) = m ((c.tc : Thread Cert.SsmInDxIdeal.nD Cert.SsmInDxIdeal.τ).loc Cert.SsmInDxIdeal.main_arg1)) →
    ∃ (v0 : (c : Dev Cert.SsmInDxIdeal.nD) → Buf (Elt Ideal) ((c.tc : Thread Cert.SsmInDxIdeal.nD Cert.SsmInDxIdeal.τ).loc Cert.SsmInDxIdeal.main_v0)),
      θ_run (Cert.SsmInDxIdeal.defs (F := Ideal)) (onTc (τ := Cert.SsmInDxIdeal.τ) (Cert.SsmInDxIdeal.main (F := Ideal))) ⟨m, fun _ => 0, g⟩ (fun r => ∀ c : Dev Cert.SsmInDxIdeal.nD,
          r.2.mem ((c.tc : Thread Cert.SsmInDxIdeal.nD Cert.SsmInDxIdeal.τ).loc Cert.SsmInDxIdeal.main_v0) = v0 c
          ∧ r.2.mem ((c.tc : Thread Cert.SsmInDxIdeal.nD Cert.SsmInDxIdeal.τ).loc Cert.SsmInDxIdeal.main_arg0) = m ((c.tc : Thread Cert.SsmInDxIdeal.nD Cert.SsmInDxIdeal.τ).loc Cert.SsmInDxIdeal.main_arg0)
          ∧ r.2.mem ((c.tc : Thread Cert.SsmInDxIdeal.nD Cert.SsmInDxIdeal.τ).loc Cert.SsmInDxIdeal.main_arg1) = m ((c.tc : Thread Cert.SsmInDxIdeal.nD Cert.SsmInDxIdeal.τ).loc Cert.SsmInDxIdeal.main_arg1))
      ∧ θ_run (Cert.SsmInDxReferenceIdeal.defs (F := Ideal)) (onTc (τ := Cert.SsmInDxReferenceIdeal.τ) (Cert.SsmInDxReferenceIdeal.main (F := Ideal))) ⟨m', fun _ => 0, g'⟩ (fun r => ∀ c : Dev Cert.SsmInDxReferenceIdeal.nD,
          r.2.mem ((c.tc : Thread Cert.SsmInDxReferenceIdeal.nD Cert.SsmInDxReferenceIdeal.τ).loc Cert.SsmInDxReferenceIdeal.main_v6) = v0 c
          ∧ r.2.mem ((c.tc : Thread Cert.SsmInDxReferenceIdeal.nD Cert.SsmInDxReferenceIdeal.τ).loc Cert.SsmInDxReferenceIdeal.main_arg0) = m' ((c.tc : Thread Cert.SsmInDxReferenceIdeal.nD Cert.SsmInDxReferenceIdeal.τ).loc Cert.SsmInDxReferenceIdeal.main_arg0)
          ∧ r.2.mem ((c.tc : Thread Cert.SsmInDxReferenceIdeal.nD Cert.SsmInDxReferenceIdeal.τ).loc Cert.SsmInDxReferenceIdeal.main_arg1) = m' ((c.tc : Thread Cert.SsmInDxReferenceIdeal.nD Cert.SsmInDxReferenceIdeal.τ).loc Cert.SsmInDxReferenceIdeal.main_arg1))

def preserves_OutDx_OutDxIdeal : Prop :=
  True

def algebraic_OutDxIdeal_OutDxReferenceIdeal [hOutDxIdeal : Cert.OutDxIdeal.Facts] [hOutDxReferenceIdeal : Cert.OutDxReferenceIdeal.Facts] : Prop :=
  ∀ (m : (ℓ : Loc Cert.OutDxIdeal.nD Cert.OutDxIdeal.τ Cert.OutDxIdeal.sig) → Buf (Elt Ideal) ℓ) (g : Dev Cert.OutDxIdeal.nD → PrngReg)
    (m' : (ℓ : Loc Cert.OutDxReferenceIdeal.nD Cert.OutDxReferenceIdeal.τ Cert.OutDxReferenceIdeal.sig) → Buf (Elt Ideal) ℓ) (g' : Dev Cert.OutDxReferenceIdeal.nD → PrngReg), Pre_OutDxIdeal m →
    (∀ c : Dev Cert.OutDxIdeal.nD,
      m' ((c.tc : Thread Cert.OutDxReferenceIdeal.nD Cert.OutDxReferenceIdeal.τ).loc Cert.OutDxReferenceIdeal.main_arg0) = m ((c.tc : Thread Cert.OutDxIdeal.nD Cert.OutDxIdeal.τ).loc Cert.OutDxIdeal.main_arg0)
      ∧ m' ((c.tc : Thread Cert.OutDxReferenceIdeal.nD Cert.OutDxReferenceIdeal.τ).loc Cert.OutDxReferenceIdeal.main_arg1) = m ((c.tc : Thread Cert.OutDxIdeal.nD Cert.OutDxIdeal.τ).loc Cert.OutDxIdeal.main_arg1)) →
    ∃ (v0 : (c : Dev Cert.OutDxIdeal.nD) → Buf (Elt Ideal) ((c.tc : Thread Cert.OutDxIdeal.nD Cert.OutDxIdeal.τ).loc Cert.OutDxIdeal.main_v0)),
      θ_run (Cert.OutDxIdeal.defs (F := Ideal)) (onTc (τ := Cert.OutDxIdeal.τ) (Cert.OutDxIdeal.main (F := Ideal))) ⟨m, fun _ => 0, g⟩ (fun r => ∀ c : Dev Cert.OutDxIdeal.nD,
          r.2.mem ((c.tc : Thread Cert.OutDxIdeal.nD Cert.OutDxIdeal.τ).loc Cert.OutDxIdeal.main_v0) = v0 c
          ∧ r.2.mem ((c.tc : Thread Cert.OutDxIdeal.nD Cert.OutDxIdeal.τ).loc Cert.OutDxIdeal.main_arg0) = m ((c.tc : Thread Cert.OutDxIdeal.nD Cert.OutDxIdeal.τ).loc Cert.OutDxIdeal.main_arg0)
          ∧ r.2.mem ((c.tc : Thread Cert.OutDxIdeal.nD Cert.OutDxIdeal.τ).loc Cert.OutDxIdeal.main_arg1) = m ((c.tc : Thread Cert.OutDxIdeal.nD Cert.OutDxIdeal.τ).loc Cert.OutDxIdeal.main_arg1))
      ∧ θ_run (Cert.OutDxReferenceIdeal.defs (F := Ideal)) (onTc (τ := Cert.OutDxReferenceIdeal.τ) (Cert.OutDxReferenceIdeal.main (F := Ideal))) ⟨m', fun _ => 0, g'⟩ (fun r => ∀ c : Dev Cert.OutDxReferenceIdeal.nD,
          r.2.mem ((c.tc : Thread Cert.OutDxReferenceIdeal.nD Cert.OutDxReferenceIdeal.τ).loc Cert.OutDxReferenceIdeal.main_v5) = v0 c
          ∧ r.2.mem ((c.tc : Thread Cert.OutDxReferenceIdeal.nD Cert.OutDxReferenceIdeal.τ).loc Cert.OutDxReferenceIdeal.main_arg0) = m' ((c.tc : Thread Cert.OutDxReferenceIdeal.nD Cert.OutDxReferenceIdeal.τ).loc Cert.OutDxReferenceIdeal.main_arg0)
          ∧ r.2.mem ((c.tc : Thread Cert.OutDxReferenceIdeal.nD Cert.OutDxReferenceIdeal.τ).loc Cert.OutDxReferenceIdeal.main_arg1) = m' ((c.tc : Thread Cert.OutDxReferenceIdeal.nD Cert.OutDxReferenceIdeal.τ).loc Cert.OutDxReferenceIdeal.main_arg1))

def preserves_GateDx_GateDxIdeal : Prop :=
  True

def algebraic_GateDxIdeal_GateDxReferenceIdeal [hGateDxIdeal : Cert.GateDxIdeal.Facts] [hGateDxReferenceIdeal : Cert.GateDxReferenceIdeal.Facts] : Prop :=
  ∀ (m : (ℓ : Loc Cert.GateDxIdeal.nD Cert.GateDxIdeal.τ Cert.GateDxIdeal.sig) → Buf (Elt Ideal) ℓ) (g : Dev Cert.GateDxIdeal.nD → PrngReg)
    (m' : (ℓ : Loc Cert.GateDxReferenceIdeal.nD Cert.GateDxReferenceIdeal.τ Cert.GateDxReferenceIdeal.sig) → Buf (Elt Ideal) ℓ) (g' : Dev Cert.GateDxReferenceIdeal.nD → PrngReg), Pre_GateDxIdeal m →
    (∀ c : Dev Cert.GateDxIdeal.nD,
      m' ((c.tc : Thread Cert.GateDxReferenceIdeal.nD Cert.GateDxReferenceIdeal.τ).loc Cert.GateDxReferenceIdeal.main_arg0) = m ((c.tc : Thread Cert.GateDxIdeal.nD Cert.GateDxIdeal.τ).loc Cert.GateDxIdeal.main_arg0)
      ∧ m' ((c.tc : Thread Cert.GateDxReferenceIdeal.nD Cert.GateDxReferenceIdeal.τ).loc Cert.GateDxReferenceIdeal.main_arg1) = m ((c.tc : Thread Cert.GateDxIdeal.nD Cert.GateDxIdeal.τ).loc Cert.GateDxIdeal.main_arg1)) →
    ∃ (v0 : (c : Dev Cert.GateDxIdeal.nD) → Buf (Elt Ideal) ((c.tc : Thread Cert.GateDxIdeal.nD Cert.GateDxIdeal.τ).loc Cert.GateDxIdeal.main_v0)),
      θ_run (Cert.GateDxIdeal.defs (F := Ideal)) (onTc (τ := Cert.GateDxIdeal.τ) (Cert.GateDxIdeal.main (F := Ideal))) ⟨m, fun _ => 0, g⟩ (fun r => ∀ c : Dev Cert.GateDxIdeal.nD,
          r.2.mem ((c.tc : Thread Cert.GateDxIdeal.nD Cert.GateDxIdeal.τ).loc Cert.GateDxIdeal.main_v0) = v0 c
          ∧ r.2.mem ((c.tc : Thread Cert.GateDxIdeal.nD Cert.GateDxIdeal.τ).loc Cert.GateDxIdeal.main_arg0) = m ((c.tc : Thread Cert.GateDxIdeal.nD Cert.GateDxIdeal.τ).loc Cert.GateDxIdeal.main_arg0)
          ∧ r.2.mem ((c.tc : Thread Cert.GateDxIdeal.nD Cert.GateDxIdeal.τ).loc Cert.GateDxIdeal.main_arg1) = m ((c.tc : Thread Cert.GateDxIdeal.nD Cert.GateDxIdeal.τ).loc Cert.GateDxIdeal.main_arg1))
      ∧ θ_run (Cert.GateDxReferenceIdeal.defs (F := Ideal)) (onTc (τ := Cert.GateDxReferenceIdeal.τ) (Cert.GateDxReferenceIdeal.main (F := Ideal))) ⟨m', fun _ => 0, g'⟩ (fun r => ∀ c : Dev Cert.GateDxReferenceIdeal.nD,
          r.2.mem ((c.tc : Thread Cert.GateDxReferenceIdeal.nD Cert.GateDxReferenceIdeal.τ).loc Cert.GateDxReferenceIdeal.main_v4) = v0 c
          ∧ r.2.mem ((c.tc : Thread Cert.GateDxReferenceIdeal.nD Cert.GateDxReferenceIdeal.τ).loc Cert.GateDxReferenceIdeal.main_arg0) = m' ((c.tc : Thread Cert.GateDxReferenceIdeal.nD Cert.GateDxReferenceIdeal.τ).loc Cert.GateDxReferenceIdeal.main_arg0)
          ∧ r.2.mem ((c.tc : Thread Cert.GateDxReferenceIdeal.nD Cert.GateDxReferenceIdeal.τ).loc Cert.GateDxReferenceIdeal.main_arg1) = m' ((c.tc : Thread Cert.GateDxReferenceIdeal.nD Cert.GateDxReferenceIdeal.τ).loc Cert.GateDxReferenceIdeal.main_arg1))

def preserves_SwaInDw_SwaInDwIdeal : Prop :=
  True

def algebraic_SwaInDwIdeal_SwaInDwReferenceIdeal [hSwaInDwIdeal : Cert.SwaInDwIdeal.Facts] [hSwaInDwReferenceIdeal : Cert.SwaInDwReferenceIdeal.Facts] : Prop :=
  ∀ (m : (ℓ : Loc Cert.SwaInDwIdeal.nD Cert.SwaInDwIdeal.τ Cert.SwaInDwIdeal.sig) → Buf (Elt Ideal) ℓ) (g : Dev Cert.SwaInDwIdeal.nD → PrngReg)
    (m' : (ℓ : Loc Cert.SwaInDwReferenceIdeal.nD Cert.SwaInDwReferenceIdeal.τ Cert.SwaInDwReferenceIdeal.sig) → Buf (Elt Ideal) ℓ) (g' : Dev Cert.SwaInDwReferenceIdeal.nD → PrngReg), Pre_SwaInDwIdeal m →
    (∀ c : Dev Cert.SwaInDwIdeal.nD,
      m' ((c.tc : Thread Cert.SwaInDwReferenceIdeal.nD Cert.SwaInDwReferenceIdeal.τ).loc Cert.SwaInDwReferenceIdeal.main_arg0) = m ((c.tc : Thread Cert.SwaInDwIdeal.nD Cert.SwaInDwIdeal.τ).loc Cert.SwaInDwIdeal.main_arg0)
      ∧ m' ((c.tc : Thread Cert.SwaInDwReferenceIdeal.nD Cert.SwaInDwReferenceIdeal.τ).loc Cert.SwaInDwReferenceIdeal.main_arg1) = m ((c.tc : Thread Cert.SwaInDwIdeal.nD Cert.SwaInDwIdeal.τ).loc Cert.SwaInDwIdeal.main_arg1)) →
    ∃ (v0 : (c : Dev Cert.SwaInDwIdeal.nD) → Buf (Elt Ideal) ((c.tc : Thread Cert.SwaInDwIdeal.nD Cert.SwaInDwIdeal.τ).loc Cert.SwaInDwIdeal.main_v0)),
      θ_run (Cert.SwaInDwIdeal.defs (F := Ideal)) (onTc (τ := Cert.SwaInDwIdeal.τ) (Cert.SwaInDwIdeal.main (F := Ideal))) ⟨m, fun _ => 0, g⟩ (fun r => ∀ c : Dev Cert.SwaInDwIdeal.nD,
          r.2.mem ((c.tc : Thread Cert.SwaInDwIdeal.nD Cert.SwaInDwIdeal.τ).loc Cert.SwaInDwIdeal.main_v0) = v0 c
          ∧ r.2.mem ((c.tc : Thread Cert.SwaInDwIdeal.nD Cert.SwaInDwIdeal.τ).loc Cert.SwaInDwIdeal.main_arg0) = m ((c.tc : Thread Cert.SwaInDwIdeal.nD Cert.SwaInDwIdeal.τ).loc Cert.SwaInDwIdeal.main_arg0)
          ∧ r.2.mem ((c.tc : Thread Cert.SwaInDwIdeal.nD Cert.SwaInDwIdeal.τ).loc Cert.SwaInDwIdeal.main_arg1) = m ((c.tc : Thread Cert.SwaInDwIdeal.nD Cert.SwaInDwIdeal.τ).loc Cert.SwaInDwIdeal.main_arg1))
      ∧ θ_run (Cert.SwaInDwReferenceIdeal.defs (F := Ideal)) (onTc (τ := Cert.SwaInDwReferenceIdeal.τ) (Cert.SwaInDwReferenceIdeal.main (F := Ideal))) ⟨m', fun _ => 0, g'⟩ (fun r => ∀ c : Dev Cert.SwaInDwReferenceIdeal.nD,
          r.2.mem ((c.tc : Thread Cert.SwaInDwReferenceIdeal.nD Cert.SwaInDwReferenceIdeal.τ).loc Cert.SwaInDwReferenceIdeal.main_v8) = v0 c
          ∧ r.2.mem ((c.tc : Thread Cert.SwaInDwReferenceIdeal.nD Cert.SwaInDwReferenceIdeal.τ).loc Cert.SwaInDwReferenceIdeal.main_arg0) = m' ((c.tc : Thread Cert.SwaInDwReferenceIdeal.nD Cert.SwaInDwReferenceIdeal.τ).loc Cert.SwaInDwReferenceIdeal.main_arg0)
          ∧ r.2.mem ((c.tc : Thread Cert.SwaInDwReferenceIdeal.nD Cert.SwaInDwReferenceIdeal.τ).loc Cert.SwaInDwReferenceIdeal.main_arg1) = m' ((c.tc : Thread Cert.SwaInDwReferenceIdeal.nD Cert.SwaInDwReferenceIdeal.τ).loc Cert.SwaInDwReferenceIdeal.main_arg1))

def preserves_SwaInDx_SwaInDxIdeal : Prop :=
  True

def algebraic_SwaInDxIdeal_SwaInDxReferenceIdeal [hSwaInDxIdeal : Cert.SwaInDxIdeal.Facts] [hSwaInDxReferenceIdeal : Cert.SwaInDxReferenceIdeal.Facts] : Prop :=
  ∀ (m : (ℓ : Loc Cert.SwaInDxIdeal.nD Cert.SwaInDxIdeal.τ Cert.SwaInDxIdeal.sig) → Buf (Elt Ideal) ℓ) (g : Dev Cert.SwaInDxIdeal.nD → PrngReg)
    (m' : (ℓ : Loc Cert.SwaInDxReferenceIdeal.nD Cert.SwaInDxReferenceIdeal.τ Cert.SwaInDxReferenceIdeal.sig) → Buf (Elt Ideal) ℓ) (g' : Dev Cert.SwaInDxReferenceIdeal.nD → PrngReg), Pre_SwaInDxIdeal m →
    (∀ c : Dev Cert.SwaInDxIdeal.nD,
      m' ((c.tc : Thread Cert.SwaInDxReferenceIdeal.nD Cert.SwaInDxReferenceIdeal.τ).loc Cert.SwaInDxReferenceIdeal.main_arg0) = m ((c.tc : Thread Cert.SwaInDxIdeal.nD Cert.SwaInDxIdeal.τ).loc Cert.SwaInDxIdeal.main_arg0)
      ∧ m' ((c.tc : Thread Cert.SwaInDxReferenceIdeal.nD Cert.SwaInDxReferenceIdeal.τ).loc Cert.SwaInDxReferenceIdeal.main_arg1) = m ((c.tc : Thread Cert.SwaInDxIdeal.nD Cert.SwaInDxIdeal.τ).loc Cert.SwaInDxIdeal.main_arg1)) →
    ∃ (v0 : (c : Dev Cert.SwaInDxIdeal.nD) → Buf (Elt Ideal) ((c.tc : Thread Cert.SwaInDxIdeal.nD Cert.SwaInDxIdeal.τ).loc Cert.SwaInDxIdeal.main_v0)),
      θ_run (Cert.SwaInDxIdeal.defs (F := Ideal)) (onTc (τ := Cert.SwaInDxIdeal.τ) (Cert.SwaInDxIdeal.main (F := Ideal))) ⟨m, fun _ => 0, g⟩ (fun r => ∀ c : Dev Cert.SwaInDxIdeal.nD,
          r.2.mem ((c.tc : Thread Cert.SwaInDxIdeal.nD Cert.SwaInDxIdeal.τ).loc Cert.SwaInDxIdeal.main_v0) = v0 c
          ∧ r.2.mem ((c.tc : Thread Cert.SwaInDxIdeal.nD Cert.SwaInDxIdeal.τ).loc Cert.SwaInDxIdeal.main_arg0) = m ((c.tc : Thread Cert.SwaInDxIdeal.nD Cert.SwaInDxIdeal.τ).loc Cert.SwaInDxIdeal.main_arg0)
          ∧ r.2.mem ((c.tc : Thread Cert.SwaInDxIdeal.nD Cert.SwaInDxIdeal.τ).loc Cert.SwaInDxIdeal.main_arg1) = m ((c.tc : Thread Cert.SwaInDxIdeal.nD Cert.SwaInDxIdeal.τ).loc Cert.SwaInDxIdeal.main_arg1))
      ∧ θ_run (Cert.SwaInDxReferenceIdeal.defs (F := Ideal)) (onTc (τ := Cert.SwaInDxReferenceIdeal.τ) (Cert.SwaInDxReferenceIdeal.main (F := Ideal))) ⟨m', fun _ => 0, g'⟩ (fun r => ∀ c : Dev Cert.SwaInDxReferenceIdeal.nD,
          r.2.mem ((c.tc : Thread Cert.SwaInDxReferenceIdeal.nD Cert.SwaInDxReferenceIdeal.τ).loc Cert.SwaInDxReferenceIdeal.main_v6) = v0 c
          ∧ r.2.mem ((c.tc : Thread Cert.SwaInDxReferenceIdeal.nD Cert.SwaInDxReferenceIdeal.τ).loc Cert.SwaInDxReferenceIdeal.main_arg0) = m' ((c.tc : Thread Cert.SwaInDxReferenceIdeal.nD Cert.SwaInDxReferenceIdeal.τ).loc Cert.SwaInDxReferenceIdeal.main_arg0)
          ∧ r.2.mem ((c.tc : Thread Cert.SwaInDxReferenceIdeal.nD Cert.SwaInDxReferenceIdeal.τ).loc Cert.SwaInDxReferenceIdeal.main_arg1) = m' ((c.tc : Thread Cert.SwaInDxReferenceIdeal.nD Cert.SwaInDxReferenceIdeal.τ).loc Cert.SwaInDxReferenceIdeal.main_arg1))

def preserves_FoxIn_FoxInIdeal : Prop :=
  True

def algebraic_FoxInIdeal_FoxInReferenceIdeal [hFoxInIdeal : Cert.FoxInIdeal.Facts] [hFoxInReferenceIdeal : Cert.FoxInReferenceIdeal.Facts] : Prop :=
  ∀ (m : (ℓ : Loc Cert.FoxInIdeal.nD Cert.FoxInIdeal.τ Cert.FoxInIdeal.sig) → Buf (Elt Ideal) ℓ) (g : Dev Cert.FoxInIdeal.nD → PrngReg)
    (m' : (ℓ : Loc Cert.FoxInReferenceIdeal.nD Cert.FoxInReferenceIdeal.τ Cert.FoxInReferenceIdeal.sig) → Buf (Elt Ideal) ℓ) (g' : Dev Cert.FoxInReferenceIdeal.nD → PrngReg), Pre_FoxInIdeal m →
    (∀ c : Dev Cert.FoxInIdeal.nD,
      m' ((c.tc : Thread Cert.FoxInReferenceIdeal.nD Cert.FoxInReferenceIdeal.τ).loc Cert.FoxInReferenceIdeal.main_arg0) = m ((c.tc : Thread Cert.FoxInIdeal.nD Cert.FoxInIdeal.τ).loc Cert.FoxInIdeal.main_arg0)
      ∧ m' ((c.tc : Thread Cert.FoxInReferenceIdeal.nD Cert.FoxInReferenceIdeal.τ).loc Cert.FoxInReferenceIdeal.main_arg1) = m ((c.tc : Thread Cert.FoxInIdeal.nD Cert.FoxInIdeal.τ).loc Cert.FoxInIdeal.main_arg1)) →
    ∃ (v0 : (c : Dev Cert.FoxInIdeal.nD) → Buf (Elt Ideal) ((c.tc : Thread Cert.FoxInIdeal.nD Cert.FoxInIdeal.τ).loc Cert.FoxInIdeal.main_v0)),
      θ_run (Cert.FoxInIdeal.defs (F := Ideal)) (onTc (τ := Cert.FoxInIdeal.τ) (Cert.FoxInIdeal.main (F := Ideal))) ⟨m, fun _ => 0, g⟩ (fun r => ∀ c : Dev Cert.FoxInIdeal.nD,
          r.2.mem ((c.tc : Thread Cert.FoxInIdeal.nD Cert.FoxInIdeal.τ).loc Cert.FoxInIdeal.main_v0) = v0 c
          ∧ r.2.mem ((c.tc : Thread Cert.FoxInIdeal.nD Cert.FoxInIdeal.τ).loc Cert.FoxInIdeal.main_arg0) = m ((c.tc : Thread Cert.FoxInIdeal.nD Cert.FoxInIdeal.τ).loc Cert.FoxInIdeal.main_arg0)
          ∧ r.2.mem ((c.tc : Thread Cert.FoxInIdeal.nD Cert.FoxInIdeal.τ).loc Cert.FoxInIdeal.main_arg1) = m ((c.tc : Thread Cert.FoxInIdeal.nD Cert.FoxInIdeal.τ).loc Cert.FoxInIdeal.main_arg1))
      ∧ θ_run (Cert.FoxInReferenceIdeal.defs (F := Ideal)) (onTc (τ := Cert.FoxInReferenceIdeal.τ) (Cert.FoxInReferenceIdeal.main (F := Ideal))) ⟨m', fun _ => 0, g'⟩ (fun r => ∀ c : Dev Cert.FoxInReferenceIdeal.nD,
          r.2.mem ((c.tc : Thread Cert.FoxInReferenceIdeal.nD Cert.FoxInReferenceIdeal.τ).loc Cert.FoxInReferenceIdeal.main_v5) = v0 c
          ∧ r.2.mem ((c.tc : Thread Cert.FoxInReferenceIdeal.nD Cert.FoxInReferenceIdeal.τ).loc Cert.FoxInReferenceIdeal.main_arg0) = m' ((c.tc : Thread Cert.FoxInReferenceIdeal.nD Cert.FoxInReferenceIdeal.τ).loc Cert.FoxInReferenceIdeal.main_arg0)
          ∧ r.2.mem ((c.tc : Thread Cert.FoxInReferenceIdeal.nD Cert.FoxInReferenceIdeal.τ).loc Cert.FoxInReferenceIdeal.main_arg1) = m' ((c.tc : Thread Cert.FoxInReferenceIdeal.nD Cert.FoxInReferenceIdeal.τ).loc Cert.FoxInReferenceIdeal.main_arg1))

def preserves_MixerOut_MixerOutIdeal : Prop :=
  True

def algebraic_MixerOutIdeal_MixerOutReferenceIdeal [hMixerOutIdeal : Cert.MixerOutIdeal.Facts] [hMixerOutReferenceIdeal : Cert.MixerOutReferenceIdeal.Facts] : Prop :=
  ∀ (m : (ℓ : Loc Cert.MixerOutIdeal.nD Cert.MixerOutIdeal.τ Cert.MixerOutIdeal.sig) → Buf (Elt Ideal) ℓ) (g : Dev Cert.MixerOutIdeal.nD → PrngReg)
    (m' : (ℓ : Loc Cert.MixerOutReferenceIdeal.nD Cert.MixerOutReferenceIdeal.τ Cert.MixerOutReferenceIdeal.sig) → Buf (Elt Ideal) ℓ) (g' : Dev Cert.MixerOutReferenceIdeal.nD → PrngReg), Pre_MixerOutIdeal m →
    (∀ c : Dev Cert.MixerOutIdeal.nD,
      m' ((c.tc : Thread Cert.MixerOutReferenceIdeal.nD Cert.MixerOutReferenceIdeal.τ).loc Cert.MixerOutReferenceIdeal.main_arg0) = m ((c.tc : Thread Cert.MixerOutIdeal.nD Cert.MixerOutIdeal.τ).loc Cert.MixerOutIdeal.main_arg0)
      ∧ m' ((c.tc : Thread Cert.MixerOutReferenceIdeal.nD Cert.MixerOutReferenceIdeal.τ).loc Cert.MixerOutReferenceIdeal.main_arg1) = m ((c.tc : Thread Cert.MixerOutIdeal.nD Cert.MixerOutIdeal.τ).loc Cert.MixerOutIdeal.main_arg1)) →
    ∃ (v0 : (c : Dev Cert.MixerOutIdeal.nD) → Buf (Elt Ideal) ((c.tc : Thread Cert.MixerOutIdeal.nD Cert.MixerOutIdeal.τ).loc Cert.MixerOutIdeal.main_v0)),
      θ_run (Cert.MixerOutIdeal.defs (F := Ideal)) (onTc (τ := Cert.MixerOutIdeal.τ) (Cert.MixerOutIdeal.main (F := Ideal))) ⟨m, fun _ => 0, g⟩ (fun r => ∀ c : Dev Cert.MixerOutIdeal.nD,
          r.2.mem ((c.tc : Thread Cert.MixerOutIdeal.nD Cert.MixerOutIdeal.τ).loc Cert.MixerOutIdeal.main_v0) = v0 c
          ∧ r.2.mem ((c.tc : Thread Cert.MixerOutIdeal.nD Cert.MixerOutIdeal.τ).loc Cert.MixerOutIdeal.main_arg0) = m ((c.tc : Thread Cert.MixerOutIdeal.nD Cert.MixerOutIdeal.τ).loc Cert.MixerOutIdeal.main_arg0)
          ∧ r.2.mem ((c.tc : Thread Cert.MixerOutIdeal.nD Cert.MixerOutIdeal.τ).loc Cert.MixerOutIdeal.main_arg1) = m ((c.tc : Thread Cert.MixerOutIdeal.nD Cert.MixerOutIdeal.τ).loc Cert.MixerOutIdeal.main_arg1))
      ∧ θ_run (Cert.MixerOutReferenceIdeal.defs (F := Ideal)) (onTc (τ := Cert.MixerOutReferenceIdeal.τ) (Cert.MixerOutReferenceIdeal.main (F := Ideal))) ⟨m', fun _ => 0, g'⟩ (fun r => ∀ c : Dev Cert.MixerOutReferenceIdeal.nD,
          r.2.mem ((c.tc : Thread Cert.MixerOutReferenceIdeal.nD Cert.MixerOutReferenceIdeal.τ).loc Cert.MixerOutReferenceIdeal.main_v2) = v0 c
          ∧ r.2.mem ((c.tc : Thread Cert.MixerOutReferenceIdeal.nD Cert.MixerOutReferenceIdeal.τ).loc Cert.MixerOutReferenceIdeal.main_arg0) = m' ((c.tc : Thread Cert.MixerOutReferenceIdeal.nD Cert.MixerOutReferenceIdeal.τ).loc Cert.MixerOutReferenceIdeal.main_arg0)
          ∧ r.2.mem ((c.tc : Thread Cert.MixerOutReferenceIdeal.nD Cert.MixerOutReferenceIdeal.τ).loc Cert.MixerOutReferenceIdeal.main_arg1) = m' ((c.tc : Thread Cert.MixerOutReferenceIdeal.nD Cert.MixerOutReferenceIdeal.τ).loc Cert.MixerOutReferenceIdeal.main_arg1))

def preserves_SsmIn_SsmInIdeal : Prop :=
  True

def algebraic_SsmInIdeal_SsmInReferenceIdeal [hSsmInIdeal : Cert.SsmInIdeal.Facts] [hSsmInReferenceIdeal : Cert.SsmInReferenceIdeal.Facts] : Prop :=
  ∀ (m : (ℓ : Loc Cert.SsmInIdeal.nD Cert.SsmInIdeal.τ Cert.SsmInIdeal.sig) → Buf (Elt Ideal) ℓ) (g : Dev Cert.SsmInIdeal.nD → PrngReg)
    (m' : (ℓ : Loc Cert.SsmInReferenceIdeal.nD Cert.SsmInReferenceIdeal.τ Cert.SsmInReferenceIdeal.sig) → Buf (Elt Ideal) ℓ) (g' : Dev Cert.SsmInReferenceIdeal.nD → PrngReg), Pre_SsmInIdeal m →
    (∀ c : Dev Cert.SsmInIdeal.nD,
      m' ((c.tc : Thread Cert.SsmInReferenceIdeal.nD Cert.SsmInReferenceIdeal.τ).loc Cert.SsmInReferenceIdeal.main_arg0) = m ((c.tc : Thread Cert.SsmInIdeal.nD Cert.SsmInIdeal.τ).loc Cert.SsmInIdeal.main_arg0)
      ∧ m' ((c.tc : Thread Cert.SsmInReferenceIdeal.nD Cert.SsmInReferenceIdeal.τ).loc Cert.SsmInReferenceIdeal.main_arg1) = m ((c.tc : Thread Cert.SsmInIdeal.nD Cert.SsmInIdeal.τ).loc Cert.SsmInIdeal.main_arg1)) →
    ∃ (v0 : (c : Dev Cert.SsmInIdeal.nD) → Buf (Elt Ideal) ((c.tc : Thread Cert.SsmInIdeal.nD Cert.SsmInIdeal.τ).loc Cert.SsmInIdeal.main_v0)),
      θ_run (Cert.SsmInIdeal.defs (F := Ideal)) (onTc (τ := Cert.SsmInIdeal.τ) (Cert.SsmInIdeal.main (F := Ideal))) ⟨m, fun _ => 0, g⟩ (fun r => ∀ c : Dev Cert.SsmInIdeal.nD,
          r.2.mem ((c.tc : Thread Cert.SsmInIdeal.nD Cert.SsmInIdeal.τ).loc Cert.SsmInIdeal.main_v0) = v0 c
          ∧ r.2.mem ((c.tc : Thread Cert.SsmInIdeal.nD Cert.SsmInIdeal.τ).loc Cert.SsmInIdeal.main_arg0) = m ((c.tc : Thread Cert.SsmInIdeal.nD Cert.SsmInIdeal.τ).loc Cert.SsmInIdeal.main_arg0)
          ∧ r.2.mem ((c.tc : Thread Cert.SsmInIdeal.nD Cert.SsmInIdeal.τ).loc Cert.SsmInIdeal.main_arg1) = m ((c.tc : Thread Cert.SsmInIdeal.nD Cert.SsmInIdeal.τ).loc Cert.SsmInIdeal.main_arg1))
      ∧ θ_run (Cert.SsmInReferenceIdeal.defs (F := Ideal)) (onTc (τ := Cert.SsmInReferenceIdeal.τ) (Cert.SsmInReferenceIdeal.main (F := Ideal))) ⟨m', fun _ => 0, g'⟩ (fun r => ∀ c : Dev Cert.SsmInReferenceIdeal.nD,
          r.2.mem ((c.tc : Thread Cert.SsmInReferenceIdeal.nD Cert.SsmInReferenceIdeal.τ).loc Cert.SsmInReferenceIdeal.main_v4) = v0 c
          ∧ r.2.mem ((c.tc : Thread Cert.SsmInReferenceIdeal.nD Cert.SsmInReferenceIdeal.τ).loc Cert.SsmInReferenceIdeal.main_arg0) = m' ((c.tc : Thread Cert.SsmInReferenceIdeal.nD Cert.SsmInReferenceIdeal.τ).loc Cert.SsmInReferenceIdeal.main_arg0)
          ∧ r.2.mem ((c.tc : Thread Cert.SsmInReferenceIdeal.nD Cert.SsmInReferenceIdeal.τ).loc Cert.SsmInReferenceIdeal.main_arg1) = m' ((c.tc : Thread Cert.SsmInReferenceIdeal.nD Cert.SsmInReferenceIdeal.τ).loc Cert.SsmInReferenceIdeal.main_arg1))

def preserves_SwaIn_SwaInIdeal : Prop :=
  True

def algebraic_SwaInIdeal_SwaInReferenceIdeal [hSwaInIdeal : Cert.SwaInIdeal.Facts] [hSwaInReferenceIdeal : Cert.SwaInReferenceIdeal.Facts] : Prop :=
  ∀ (m : (ℓ : Loc Cert.SwaInIdeal.nD Cert.SwaInIdeal.τ Cert.SwaInIdeal.sig) → Buf (Elt Ideal) ℓ) (g : Dev Cert.SwaInIdeal.nD → PrngReg)
    (m' : (ℓ : Loc Cert.SwaInReferenceIdeal.nD Cert.SwaInReferenceIdeal.τ Cert.SwaInReferenceIdeal.sig) → Buf (Elt Ideal) ℓ) (g' : Dev Cert.SwaInReferenceIdeal.nD → PrngReg), Pre_SwaInIdeal m →
    (∀ c : Dev Cert.SwaInIdeal.nD,
      m' ((c.tc : Thread Cert.SwaInReferenceIdeal.nD Cert.SwaInReferenceIdeal.τ).loc Cert.SwaInReferenceIdeal.main_arg0) = m ((c.tc : Thread Cert.SwaInIdeal.nD Cert.SwaInIdeal.τ).loc Cert.SwaInIdeal.main_arg0)
      ∧ m' ((c.tc : Thread Cert.SwaInReferenceIdeal.nD Cert.SwaInReferenceIdeal.τ).loc Cert.SwaInReferenceIdeal.main_arg1) = m ((c.tc : Thread Cert.SwaInIdeal.nD Cert.SwaInIdeal.τ).loc Cert.SwaInIdeal.main_arg1)) →
    ∃ (v0 : (c : Dev Cert.SwaInIdeal.nD) → Buf (Elt Ideal) ((c.tc : Thread Cert.SwaInIdeal.nD Cert.SwaInIdeal.τ).loc Cert.SwaInIdeal.main_v0)),
      θ_run (Cert.SwaInIdeal.defs (F := Ideal)) (onTc (τ := Cert.SwaInIdeal.τ) (Cert.SwaInIdeal.main (F := Ideal))) ⟨m, fun _ => 0, g⟩ (fun r => ∀ c : Dev Cert.SwaInIdeal.nD,
          r.2.mem ((c.tc : Thread Cert.SwaInIdeal.nD Cert.SwaInIdeal.τ).loc Cert.SwaInIdeal.main_v0) = v0 c
          ∧ r.2.mem ((c.tc : Thread Cert.SwaInIdeal.nD Cert.SwaInIdeal.τ).loc Cert.SwaInIdeal.main_arg0) = m ((c.tc : Thread Cert.SwaInIdeal.nD Cert.SwaInIdeal.τ).loc Cert.SwaInIdeal.main_arg0)
          ∧ r.2.mem ((c.tc : Thread Cert.SwaInIdeal.nD Cert.SwaInIdeal.τ).loc Cert.SwaInIdeal.main_arg1) = m ((c.tc : Thread Cert.SwaInIdeal.nD Cert.SwaInIdeal.τ).loc Cert.SwaInIdeal.main_arg1))
      ∧ θ_run (Cert.SwaInReferenceIdeal.defs (F := Ideal)) (onTc (τ := Cert.SwaInReferenceIdeal.τ) (Cert.SwaInReferenceIdeal.main (F := Ideal))) ⟨m', fun _ => 0, g'⟩ (fun r => ∀ c : Dev Cert.SwaInReferenceIdeal.nD,
          r.2.mem ((c.tc : Thread Cert.SwaInReferenceIdeal.nD Cert.SwaInReferenceIdeal.τ).loc Cert.SwaInReferenceIdeal.main_v5) = v0 c
          ∧ r.2.mem ((c.tc : Thread Cert.SwaInReferenceIdeal.nD Cert.SwaInReferenceIdeal.τ).loc Cert.SwaInReferenceIdeal.main_arg0) = m' ((c.tc : Thread Cert.SwaInReferenceIdeal.nD Cert.SwaInReferenceIdeal.τ).loc Cert.SwaInReferenceIdeal.main_arg0)
          ∧ r.2.mem ((c.tc : Thread Cert.SwaInReferenceIdeal.nD Cert.SwaInReferenceIdeal.τ).loc Cert.SwaInReferenceIdeal.main_arg1) = m' ((c.tc : Thread Cert.SwaInReferenceIdeal.nD Cert.SwaInReferenceIdeal.τ).loc Cert.SwaInReferenceIdeal.main_arg1))

def preserves_PleMixBwd_PleMixBwdIdeal : Prop :=
  True

def algebraic_PleMixBwdIdeal_PleMixBwdReferenceIdeal [hPleMixBwdIdeal : Cert.PleMixBwdIdeal.Facts] [hPleMixBwdReferenceIdeal : Cert.PleMixBwdReferenceIdeal.Facts] : Prop :=
  ∀ (m : (ℓ : Loc Cert.PleMixBwdIdeal.nD Cert.PleMixBwdIdeal.τ Cert.PleMixBwdIdeal.sig) → Buf (Elt Ideal) ℓ) (g : Dev Cert.PleMixBwdIdeal.nD → PrngReg)
    (m' : (ℓ : Loc Cert.PleMixBwdReferenceIdeal.nD Cert.PleMixBwdReferenceIdeal.τ Cert.PleMixBwdReferenceIdeal.sig) → Buf (Elt Ideal) ℓ) (g' : Dev Cert.PleMixBwdReferenceIdeal.nD → PrngReg), Pre_PleMixBwdIdeal m →
    (∀ c : Dev Cert.PleMixBwdIdeal.nD,
      m' ((c.tc : Thread Cert.PleMixBwdReferenceIdeal.nD Cert.PleMixBwdReferenceIdeal.τ).loc Cert.PleMixBwdReferenceIdeal.main_arg0) = m ((c.tc : Thread Cert.PleMixBwdIdeal.nD Cert.PleMixBwdIdeal.τ).loc Cert.PleMixBwdIdeal.main_arg0)
      ∧ m' ((c.tc : Thread Cert.PleMixBwdReferenceIdeal.nD Cert.PleMixBwdReferenceIdeal.τ).loc Cert.PleMixBwdReferenceIdeal.main_arg1) = m ((c.tc : Thread Cert.PleMixBwdIdeal.nD Cert.PleMixBwdIdeal.τ).loc Cert.PleMixBwdIdeal.main_arg1)
      ∧ m' ((c.tc : Thread Cert.PleMixBwdReferenceIdeal.nD Cert.PleMixBwdReferenceIdeal.τ).loc Cert.PleMixBwdReferenceIdeal.main_arg2) = m ((c.tc : Thread Cert.PleMixBwdIdeal.nD Cert.PleMixBwdIdeal.τ).loc Cert.PleMixBwdIdeal.main_arg2)) →
    ∃ (v0 : (c : Dev Cert.PleMixBwdIdeal.nD) → Buf (Elt Ideal) ((c.tc : Thread Cert.PleMixBwdIdeal.nD Cert.PleMixBwdIdeal.τ).loc Cert.PleMixBwdIdeal.main_v0_0)) (v1 : (c : Dev Cert.PleMixBwdIdeal.nD) → Buf (Elt Ideal) ((c.tc : Thread Cert.PleMixBwdIdeal.nD Cert.PleMixBwdIdeal.τ).loc Cert.PleMixBwdIdeal.main_v0_1)),
      θ_run (Cert.PleMixBwdIdeal.defs (F := Ideal)) (onTc (τ := Cert.PleMixBwdIdeal.τ) (Cert.PleMixBwdIdeal.main (F := Ideal))) ⟨m, fun _ => 0, g⟩ (fun r => ∀ c : Dev Cert.PleMixBwdIdeal.nD,
          r.2.mem ((c.tc : Thread Cert.PleMixBwdIdeal.nD Cert.PleMixBwdIdeal.τ).loc Cert.PleMixBwdIdeal.main_v0_0) = v0 c
          ∧ r.2.mem ((c.tc : Thread Cert.PleMixBwdIdeal.nD Cert.PleMixBwdIdeal.τ).loc Cert.PleMixBwdIdeal.main_v0_1) = v1 c
          ∧ r.2.mem ((c.tc : Thread Cert.PleMixBwdIdeal.nD Cert.PleMixBwdIdeal.τ).loc Cert.PleMixBwdIdeal.main_arg0) = m ((c.tc : Thread Cert.PleMixBwdIdeal.nD Cert.PleMixBwdIdeal.τ).loc Cert.PleMixBwdIdeal.main_arg0)
          ∧ r.2.mem ((c.tc : Thread Cert.PleMixBwdIdeal.nD Cert.PleMixBwdIdeal.τ).loc Cert.PleMixBwdIdeal.main_arg1) = m ((c.tc : Thread Cert.PleMixBwdIdeal.nD Cert.PleMixBwdIdeal.τ).loc Cert.PleMixBwdIdeal.main_arg1)
          ∧ r.2.mem ((c.tc : Thread Cert.PleMixBwdIdeal.nD Cert.PleMixBwdIdeal.τ).loc Cert.PleMixBwdIdeal.main_arg2) = m ((c.tc : Thread Cert.PleMixBwdIdeal.nD Cert.PleMixBwdIdeal.τ).loc Cert.PleMixBwdIdeal.main_arg2))
      ∧ θ_run (Cert.PleMixBwdReferenceIdeal.defs (F := Ideal)) (onTc (τ := Cert.PleMixBwdReferenceIdeal.τ) (Cert.PleMixBwdReferenceIdeal.main (F := Ideal))) ⟨m', fun _ => 0, g'⟩ (fun r => ∀ c : Dev Cert.PleMixBwdReferenceIdeal.nD,
          r.2.mem ((c.tc : Thread Cert.PleMixBwdReferenceIdeal.nD Cert.PleMixBwdReferenceIdeal.τ).loc Cert.PleMixBwdReferenceIdeal.main_v13) = v0 c
          ∧ r.2.mem ((c.tc : Thread Cert.PleMixBwdReferenceIdeal.nD Cert.PleMixBwdReferenceIdeal.τ).loc Cert.PleMixBwdReferenceIdeal.main_v14) = v1 c
          ∧ r.2.mem ((c.tc : Thread Cert.PleMixBwdReferenceIdeal.nD Cert.PleMixBwdReferenceIdeal.τ).loc Cert.PleMixBwdReferenceIdeal.main_arg0) = m' ((c.tc : Thread Cert.PleMixBwdReferenceIdeal.nD Cert.PleMixBwdReferenceIdeal.τ).loc Cert.PleMixBwdReferenceIdeal.main_arg0)
          ∧ r.2.mem ((c.tc : Thread Cert.PleMixBwdReferenceIdeal.nD Cert.PleMixBwdReferenceIdeal.τ).loc Cert.PleMixBwdReferenceIdeal.main_arg1) = m' ((c.tc : Thread Cert.PleMixBwdReferenceIdeal.nD Cert.PleMixBwdReferenceIdeal.τ).loc Cert.PleMixBwdReferenceIdeal.main_arg1)
          ∧ r.2.mem ((c.tc : Thread Cert.PleMixBwdReferenceIdeal.nD Cert.PleMixBwdReferenceIdeal.τ).loc Cert.PleMixBwdReferenceIdeal.main_arg2) = m' ((c.tc : Thread Cert.PleMixBwdReferenceIdeal.nD Cert.PleMixBwdReferenceIdeal.τ).loc Cert.PleMixBwdReferenceIdeal.main_arg2))

def preserves_PleEmbDw_PleEmbDwIdeal : Prop :=
  True

def algebraic_PleEmbDwIdeal_PleEmbDwReferenceIdeal [hPleEmbDwIdeal : Cert.PleEmbDwIdeal.Facts] [hPleEmbDwReferenceIdeal : Cert.PleEmbDwReferenceIdeal.Facts] : Prop :=
  ∀ (m : (ℓ : Loc Cert.PleEmbDwIdeal.nD Cert.PleEmbDwIdeal.τ Cert.PleEmbDwIdeal.sig) → Buf (Elt Ideal) ℓ) (g : Dev Cert.PleEmbDwIdeal.nD → PrngReg)
    (m' : (ℓ : Loc Cert.PleEmbDwReferenceIdeal.nD Cert.PleEmbDwReferenceIdeal.τ Cert.PleEmbDwReferenceIdeal.sig) → Buf (Elt Ideal) ℓ) (g' : Dev Cert.PleEmbDwReferenceIdeal.nD → PrngReg), Pre_PleEmbDwIdeal m →
    (∀ c : Dev Cert.PleEmbDwIdeal.nD,
      m' ((c.tc : Thread Cert.PleEmbDwReferenceIdeal.nD Cert.PleEmbDwReferenceIdeal.τ).loc Cert.PleEmbDwReferenceIdeal.main_arg0) = m ((c.tc : Thread Cert.PleEmbDwIdeal.nD Cert.PleEmbDwIdeal.τ).loc Cert.PleEmbDwIdeal.main_arg0)
      ∧ m' ((c.tc : Thread Cert.PleEmbDwReferenceIdeal.nD Cert.PleEmbDwReferenceIdeal.τ).loc Cert.PleEmbDwReferenceIdeal.main_arg1) = m ((c.tc : Thread Cert.PleEmbDwIdeal.nD Cert.PleEmbDwIdeal.τ).loc Cert.PleEmbDwIdeal.main_arg1)) →
    ∃ (v0 : (c : Dev Cert.PleEmbDwIdeal.nD) → Buf (Elt Ideal) ((c.tc : Thread Cert.PleEmbDwIdeal.nD Cert.PleEmbDwIdeal.τ).loc Cert.PleEmbDwIdeal.main_v0)),
      θ_run (Cert.PleEmbDwIdeal.defs (F := Ideal)) (onTc (τ := Cert.PleEmbDwIdeal.τ) (Cert.PleEmbDwIdeal.main (F := Ideal))) ⟨m, fun _ => 0, g⟩ (fun r => ∀ c : Dev Cert.PleEmbDwIdeal.nD,
          r.2.mem ((c.tc : Thread Cert.PleEmbDwIdeal.nD Cert.PleEmbDwIdeal.τ).loc Cert.PleEmbDwIdeal.main_v0) = v0 c
          ∧ r.2.mem ((c.tc : Thread Cert.PleEmbDwIdeal.nD Cert.PleEmbDwIdeal.τ).loc Cert.PleEmbDwIdeal.main_arg0) = m ((c.tc : Thread Cert.PleEmbDwIdeal.nD Cert.PleEmbDwIdeal.τ).loc Cert.PleEmbDwIdeal.main_arg0)
          ∧ r.2.mem ((c.tc : Thread Cert.PleEmbDwIdeal.nD Cert.PleEmbDwIdeal.τ).loc Cert.PleEmbDwIdeal.main_arg1) = m ((c.tc : Thread Cert.PleEmbDwIdeal.nD Cert.PleEmbDwIdeal.τ).loc Cert.PleEmbDwIdeal.main_arg1))
      ∧ θ_run (Cert.PleEmbDwReferenceIdeal.defs (F := Ideal)) (onTc (τ := Cert.PleEmbDwReferenceIdeal.τ) (Cert.PleEmbDwReferenceIdeal.main (F := Ideal))) ⟨m', fun _ => 0, g'⟩ (fun r => ∀ c : Dev Cert.PleEmbDwReferenceIdeal.nD,
          r.2.mem ((c.tc : Thread Cert.PleEmbDwReferenceIdeal.nD Cert.PleEmbDwReferenceIdeal.τ).loc Cert.PleEmbDwReferenceIdeal.main_v8) = v0 c
          ∧ r.2.mem ((c.tc : Thread Cert.PleEmbDwReferenceIdeal.nD Cert.PleEmbDwReferenceIdeal.τ).loc Cert.PleEmbDwReferenceIdeal.main_arg0) = m' ((c.tc : Thread Cert.PleEmbDwReferenceIdeal.nD Cert.PleEmbDwReferenceIdeal.τ).loc Cert.PleEmbDwReferenceIdeal.main_arg0)
          ∧ r.2.mem ((c.tc : Thread Cert.PleEmbDwReferenceIdeal.nD Cert.PleEmbDwReferenceIdeal.τ).loc Cert.PleEmbDwReferenceIdeal.main_arg1) = m' ((c.tc : Thread Cert.PleEmbDwReferenceIdeal.nD Cert.PleEmbDwReferenceIdeal.τ).loc Cert.PleEmbDwReferenceIdeal.main_arg1))

def preserves_PleEmb_PleEmbIdeal : Prop :=
  True

def algebraic_PleEmbIdeal_PleEmbReferenceIdeal [hPleEmbIdeal : Cert.PleEmbIdeal.Facts] [hPleEmbReferenceIdeal : Cert.PleEmbReferenceIdeal.Facts] : Prop :=
  ∀ (m : (ℓ : Loc Cert.PleEmbIdeal.nD Cert.PleEmbIdeal.τ Cert.PleEmbIdeal.sig) → Buf (Elt Ideal) ℓ) (g : Dev Cert.PleEmbIdeal.nD → PrngReg)
    (m' : (ℓ : Loc Cert.PleEmbReferenceIdeal.nD Cert.PleEmbReferenceIdeal.τ Cert.PleEmbReferenceIdeal.sig) → Buf (Elt Ideal) ℓ) (g' : Dev Cert.PleEmbReferenceIdeal.nD → PrngReg), Pre_PleEmbIdeal m →
    (∀ c : Dev Cert.PleEmbIdeal.nD,
      m' ((c.tc : Thread Cert.PleEmbReferenceIdeal.nD Cert.PleEmbReferenceIdeal.τ).loc Cert.PleEmbReferenceIdeal.main_arg0) = m ((c.tc : Thread Cert.PleEmbIdeal.nD Cert.PleEmbIdeal.τ).loc Cert.PleEmbIdeal.main_arg0)
      ∧ m' ((c.tc : Thread Cert.PleEmbReferenceIdeal.nD Cert.PleEmbReferenceIdeal.τ).loc Cert.PleEmbReferenceIdeal.main_arg1) = m ((c.tc : Thread Cert.PleEmbIdeal.nD Cert.PleEmbIdeal.τ).loc Cert.PleEmbIdeal.main_arg1)) →
    ∃ (v0 : (c : Dev Cert.PleEmbIdeal.nD) → Buf (Elt Ideal) ((c.tc : Thread Cert.PleEmbIdeal.nD Cert.PleEmbIdeal.τ).loc Cert.PleEmbIdeal.main_v0)),
      θ_run (Cert.PleEmbIdeal.defs (F := Ideal)) (onTc (τ := Cert.PleEmbIdeal.τ) (Cert.PleEmbIdeal.main (F := Ideal))) ⟨m, fun _ => 0, g⟩ (fun r => ∀ c : Dev Cert.PleEmbIdeal.nD,
          r.2.mem ((c.tc : Thread Cert.PleEmbIdeal.nD Cert.PleEmbIdeal.τ).loc Cert.PleEmbIdeal.main_v0) = v0 c
          ∧ r.2.mem ((c.tc : Thread Cert.PleEmbIdeal.nD Cert.PleEmbIdeal.τ).loc Cert.PleEmbIdeal.main_arg0) = m ((c.tc : Thread Cert.PleEmbIdeal.nD Cert.PleEmbIdeal.τ).loc Cert.PleEmbIdeal.main_arg0)
          ∧ r.2.mem ((c.tc : Thread Cert.PleEmbIdeal.nD Cert.PleEmbIdeal.τ).loc Cert.PleEmbIdeal.main_arg1) = m ((c.tc : Thread Cert.PleEmbIdeal.nD Cert.PleEmbIdeal.τ).loc Cert.PleEmbIdeal.main_arg1))
      ∧ θ_run (Cert.PleEmbReferenceIdeal.defs (F := Ideal)) (onTc (τ := Cert.PleEmbReferenceIdeal.τ) (Cert.PleEmbReferenceIdeal.main (F := Ideal))) ⟨m', fun _ => 0, g'⟩ (fun r => ∀ c : Dev Cert.PleEmbReferenceIdeal.nD,
          r.2.mem ((c.tc : Thread Cert.PleEmbReferenceIdeal.nD Cert.PleEmbReferenceIdeal.τ).loc Cert.PleEmbReferenceIdeal.main_v4) = v0 c
          ∧ r.2.mem ((c.tc : Thread Cert.PleEmbReferenceIdeal.nD Cert.PleEmbReferenceIdeal.τ).loc Cert.PleEmbReferenceIdeal.main_arg0) = m' ((c.tc : Thread Cert.PleEmbReferenceIdeal.nD Cert.PleEmbReferenceIdeal.τ).loc Cert.PleEmbReferenceIdeal.main_arg0)
          ∧ r.2.mem ((c.tc : Thread Cert.PleEmbReferenceIdeal.nD Cert.PleEmbReferenceIdeal.τ).loc Cert.PleEmbReferenceIdeal.main_arg1) = m' ((c.tc : Thread Cert.PleEmbReferenceIdeal.nD Cert.PleEmbReferenceIdeal.τ).loc Cert.PleEmbReferenceIdeal.main_arg1))

def preserves_FoxGateBwd_FoxGateBwdIdeal : Prop :=
  True

def algebraic_FoxGateBwdIdeal_FoxGateBwdReferenceIdeal_pre_finite_gated [hFoxGateBwdIdeal : Cert.FoxGateBwdIdeal.Facts] [hFoxGateBwdReferenceIdeal : Cert.FoxGateBwdReferenceIdeal.Facts] [hPre_finite_gated : Cert.Pre_finite_gated.Facts] : Prop :=
  ∀ (m : (ℓ : Loc Cert.FoxGateBwdIdeal.nD Cert.FoxGateBwdIdeal.τ Cert.FoxGateBwdIdeal.sig) → Buf (Elt Ideal) ℓ) (g : Dev Cert.FoxGateBwdIdeal.nD → PrngReg)
    (m' : (ℓ : Loc Cert.FoxGateBwdReferenceIdeal.nD Cert.FoxGateBwdReferenceIdeal.τ Cert.FoxGateBwdReferenceIdeal.sig) → Buf (Elt Ideal) ℓ) (g' : Dev Cert.FoxGateBwdReferenceIdeal.nD → PrngReg), Pre_FoxGateBwdIdeal_finite_gated m →
    (∀ c : Dev Cert.FoxGateBwdIdeal.nD,
      m' ((c.tc : Thread Cert.FoxGateBwdReferenceIdeal.nD Cert.FoxGateBwdReferenceIdeal.τ).loc Cert.FoxGateBwdReferenceIdeal.main_arg0) = m ((c.tc : Thread Cert.FoxGateBwdIdeal.nD Cert.FoxGateBwdIdeal.τ).loc Cert.FoxGateBwdIdeal.main_arg0)
      ∧ m' ((c.tc : Thread Cert.FoxGateBwdReferenceIdeal.nD Cert.FoxGateBwdReferenceIdeal.τ).loc Cert.FoxGateBwdReferenceIdeal.main_arg1) = m ((c.tc : Thread Cert.FoxGateBwdIdeal.nD Cert.FoxGateBwdIdeal.τ).loc Cert.FoxGateBwdIdeal.main_arg1)
      ∧ m' ((c.tc : Thread Cert.FoxGateBwdReferenceIdeal.nD Cert.FoxGateBwdReferenceIdeal.τ).loc Cert.FoxGateBwdReferenceIdeal.main_arg2) = m ((c.tc : Thread Cert.FoxGateBwdIdeal.nD Cert.FoxGateBwdIdeal.τ).loc Cert.FoxGateBwdIdeal.main_arg2)) →
    ∃ (v0 : (c : Dev Cert.FoxGateBwdIdeal.nD) → Buf (Elt Ideal) ((c.tc : Thread Cert.FoxGateBwdIdeal.nD Cert.FoxGateBwdIdeal.τ).loc Cert.FoxGateBwdIdeal.main_v0_0)) (v1 : (c : Dev Cert.FoxGateBwdIdeal.nD) → Buf (Elt Ideal) ((c.tc : Thread Cert.FoxGateBwdIdeal.nD Cert.FoxGateBwdIdeal.τ).loc Cert.FoxGateBwdIdeal.main_v0_1)),
      θ_run (Cert.FoxGateBwdIdeal.defs (F := Ideal)) (onTc (τ := Cert.FoxGateBwdIdeal.τ) (Cert.FoxGateBwdIdeal.main (F := Ideal))) ⟨m, fun _ => 0, g⟩ (fun r => ∀ c : Dev Cert.FoxGateBwdIdeal.nD,
          r.2.mem ((c.tc : Thread Cert.FoxGateBwdIdeal.nD Cert.FoxGateBwdIdeal.τ).loc Cert.FoxGateBwdIdeal.main_v0_0) = v0 c
          ∧ r.2.mem ((c.tc : Thread Cert.FoxGateBwdIdeal.nD Cert.FoxGateBwdIdeal.τ).loc Cert.FoxGateBwdIdeal.main_v0_1) = v1 c
          ∧ r.2.mem ((c.tc : Thread Cert.FoxGateBwdIdeal.nD Cert.FoxGateBwdIdeal.τ).loc Cert.FoxGateBwdIdeal.main_arg0) = m ((c.tc : Thread Cert.FoxGateBwdIdeal.nD Cert.FoxGateBwdIdeal.τ).loc Cert.FoxGateBwdIdeal.main_arg0)
          ∧ r.2.mem ((c.tc : Thread Cert.FoxGateBwdIdeal.nD Cert.FoxGateBwdIdeal.τ).loc Cert.FoxGateBwdIdeal.main_arg1) = m ((c.tc : Thread Cert.FoxGateBwdIdeal.nD Cert.FoxGateBwdIdeal.τ).loc Cert.FoxGateBwdIdeal.main_arg1)
          ∧ r.2.mem ((c.tc : Thread Cert.FoxGateBwdIdeal.nD Cert.FoxGateBwdIdeal.τ).loc Cert.FoxGateBwdIdeal.main_arg2) = m ((c.tc : Thread Cert.FoxGateBwdIdeal.nD Cert.FoxGateBwdIdeal.τ).loc Cert.FoxGateBwdIdeal.main_arg2))
      ∧ θ_run (Cert.FoxGateBwdReferenceIdeal.defs (F := Ideal)) (onTc (τ := Cert.FoxGateBwdReferenceIdeal.τ) (Cert.FoxGateBwdReferenceIdeal.main (F := Ideal))) ⟨m', fun _ => 0, g'⟩ (fun r => ∀ c : Dev Cert.FoxGateBwdReferenceIdeal.nD,
          r.2.mem ((c.tc : Thread Cert.FoxGateBwdReferenceIdeal.nD Cert.FoxGateBwdReferenceIdeal.τ).loc Cert.FoxGateBwdReferenceIdeal.main_v12) = v0 c
          ∧ r.2.mem ((c.tc : Thread Cert.FoxGateBwdReferenceIdeal.nD Cert.FoxGateBwdReferenceIdeal.τ).loc Cert.FoxGateBwdReferenceIdeal.main_v13) = v1 c
          ∧ r.2.mem ((c.tc : Thread Cert.FoxGateBwdReferenceIdeal.nD Cert.FoxGateBwdReferenceIdeal.τ).loc Cert.FoxGateBwdReferenceIdeal.main_arg0) = m' ((c.tc : Thread Cert.FoxGateBwdReferenceIdeal.nD Cert.FoxGateBwdReferenceIdeal.τ).loc Cert.FoxGateBwdReferenceIdeal.main_arg0)
          ∧ r.2.mem ((c.tc : Thread Cert.FoxGateBwdReferenceIdeal.nD Cert.FoxGateBwdReferenceIdeal.τ).loc Cert.FoxGateBwdReferenceIdeal.main_arg1) = m' ((c.tc : Thread Cert.FoxGateBwdReferenceIdeal.nD Cert.FoxGateBwdReferenceIdeal.τ).loc Cert.FoxGateBwdReferenceIdeal.main_arg1)
          ∧ r.2.mem ((c.tc : Thread Cert.FoxGateBwdReferenceIdeal.nD Cert.FoxGateBwdReferenceIdeal.τ).loc Cert.FoxGateBwdReferenceIdeal.main_arg2) = m' ((c.tc : Thread Cert.FoxGateBwdReferenceIdeal.nD Cert.FoxGateBwdReferenceIdeal.τ).loc Cert.FoxGateBwdReferenceIdeal.main_arg2))

def preserves_FoxGate_FoxGateIdeal : Prop :=
  True

def algebraic_FoxGateIdeal_FoxGateReferenceIdeal [hFoxGateIdeal : Cert.FoxGateIdeal.Facts] [hFoxGateReferenceIdeal : Cert.FoxGateReferenceIdeal.Facts] : Prop :=
  ∀ (m : (ℓ : Loc Cert.FoxGateIdeal.nD Cert.FoxGateIdeal.τ Cert.FoxGateIdeal.sig) → Buf (Elt Ideal) ℓ) (g : Dev Cert.FoxGateIdeal.nD → PrngReg)
    (m' : (ℓ : Loc Cert.FoxGateReferenceIdeal.nD Cert.FoxGateReferenceIdeal.τ Cert.FoxGateReferenceIdeal.sig) → Buf (Elt Ideal) ℓ) (g' : Dev Cert.FoxGateReferenceIdeal.nD → PrngReg), Pre_FoxGateIdeal m →
    (∀ c : Dev Cert.FoxGateIdeal.nD,
      m' ((c.tc : Thread Cert.FoxGateReferenceIdeal.nD Cert.FoxGateReferenceIdeal.τ).loc Cert.FoxGateReferenceIdeal.main_arg0) = m ((c.tc : Thread Cert.FoxGateIdeal.nD Cert.FoxGateIdeal.τ).loc Cert.FoxGateIdeal.main_arg0)
      ∧ m' ((c.tc : Thread Cert.FoxGateReferenceIdeal.nD Cert.FoxGateReferenceIdeal.τ).loc Cert.FoxGateReferenceIdeal.main_arg1) = m ((c.tc : Thread Cert.FoxGateIdeal.nD Cert.FoxGateIdeal.τ).loc Cert.FoxGateIdeal.main_arg1)) →
    ∃ (v0 : (c : Dev Cert.FoxGateIdeal.nD) → Buf (Elt Ideal) ((c.tc : Thread Cert.FoxGateIdeal.nD Cert.FoxGateIdeal.τ).loc Cert.FoxGateIdeal.main_v0)),
      θ_run (Cert.FoxGateIdeal.defs (F := Ideal)) (onTc (τ := Cert.FoxGateIdeal.τ) (Cert.FoxGateIdeal.main (F := Ideal))) ⟨m, fun _ => 0, g⟩ (fun r => ∀ c : Dev Cert.FoxGateIdeal.nD,
          r.2.mem ((c.tc : Thread Cert.FoxGateIdeal.nD Cert.FoxGateIdeal.τ).loc Cert.FoxGateIdeal.main_v0) = v0 c
          ∧ r.2.mem ((c.tc : Thread Cert.FoxGateIdeal.nD Cert.FoxGateIdeal.τ).loc Cert.FoxGateIdeal.main_arg0) = m ((c.tc : Thread Cert.FoxGateIdeal.nD Cert.FoxGateIdeal.τ).loc Cert.FoxGateIdeal.main_arg0)
          ∧ r.2.mem ((c.tc : Thread Cert.FoxGateIdeal.nD Cert.FoxGateIdeal.τ).loc Cert.FoxGateIdeal.main_arg1) = m ((c.tc : Thread Cert.FoxGateIdeal.nD Cert.FoxGateIdeal.τ).loc Cert.FoxGateIdeal.main_arg1))
      ∧ θ_run (Cert.FoxGateReferenceIdeal.defs (F := Ideal)) (onTc (τ := Cert.FoxGateReferenceIdeal.τ) (Cert.FoxGateReferenceIdeal.main (F := Ideal))) ⟨m', fun _ => 0, g'⟩ (fun r => ∀ c : Dev Cert.FoxGateReferenceIdeal.nD,
          r.2.mem ((c.tc : Thread Cert.FoxGateReferenceIdeal.nD Cert.FoxGateReferenceIdeal.τ).loc Cert.FoxGateReferenceIdeal.main_v8) = v0 c
          ∧ r.2.mem ((c.tc : Thread Cert.FoxGateReferenceIdeal.nD Cert.FoxGateReferenceIdeal.τ).loc Cert.FoxGateReferenceIdeal.main_arg0) = m' ((c.tc : Thread Cert.FoxGateReferenceIdeal.nD Cert.FoxGateReferenceIdeal.τ).loc Cert.FoxGateReferenceIdeal.main_arg0)
          ∧ r.2.mem ((c.tc : Thread Cert.FoxGateReferenceIdeal.nD Cert.FoxGateReferenceIdeal.τ).loc Cert.FoxGateReferenceIdeal.main_arg1) = m' ((c.tc : Thread Cert.FoxGateReferenceIdeal.nD Cert.FoxGateReferenceIdeal.τ).loc Cert.FoxGateReferenceIdeal.main_arg1))

def Claim : Prop :=
  ∃ (hKernel : Cert.Kernel.Facts) (hKernelIdeal : Cert.KernelIdeal.Facts) (hReferenceIdeal : Cert.ReferenceIdeal.Facts) (hInDw : Cert.InDw.Facts) (hInDwIdeal : Cert.InDwIdeal.Facts) (hInDwReferenceIdeal : Cert.InDwReferenceIdeal.Facts) (hInDx : Cert.InDx.Facts) (hInDxIdeal : Cert.InDxIdeal.Facts) (hInDxReferenceIdeal : Cert.InDxReferenceIdeal.Facts) (hOutDw : Cert.OutDw.Facts) (hOutDwIdeal : Cert.OutDwIdeal.Facts) (hOutDwReferenceIdeal : Cert.OutDwReferenceIdeal.Facts) (hSsmInDw : Cert.SsmInDw.Facts) (hSsmInDwIdeal : Cert.SsmInDwIdeal.Facts) (hSsmInDwReferenceIdeal : Cert.SsmInDwReferenceIdeal.Facts) (hSsmInDx : Cert.SsmInDx.Facts) (hSsmInDxIdeal : Cert.SsmInDxIdeal.Facts) (hSsmInDxReferenceIdeal : Cert.SsmInDxReferenceIdeal.Facts) (hOutDx : Cert.OutDx.Facts) (hOutDxIdeal : Cert.OutDxIdeal.Facts) (hOutDxReferenceIdeal : Cert.OutDxReferenceIdeal.Facts) (hGateDx : Cert.GateDx.Facts) (hGateDxIdeal : Cert.GateDxIdeal.Facts) (hGateDxReferenceIdeal : Cert.GateDxReferenceIdeal.Facts) (hSwaInDw : Cert.SwaInDw.Facts) (hSwaInDwIdeal : Cert.SwaInDwIdeal.Facts) (hSwaInDwReferenceIdeal : Cert.SwaInDwReferenceIdeal.Facts) (hSwaInDx : Cert.SwaInDx.Facts) (hSwaInDxIdeal : Cert.SwaInDxIdeal.Facts) (hSwaInDxReferenceIdeal : Cert.SwaInDxReferenceIdeal.Facts) (hFoxIn : Cert.FoxIn.Facts) (hFoxInIdeal : Cert.FoxInIdeal.Facts) (hFoxInReferenceIdeal : Cert.FoxInReferenceIdeal.Facts) (hMixerOut : Cert.MixerOut.Facts) (hMixerOutIdeal : Cert.MixerOutIdeal.Facts) (hMixerOutReferenceIdeal : Cert.MixerOutReferenceIdeal.Facts) (hSsmIn : Cert.SsmIn.Facts) (hSsmInIdeal : Cert.SsmInIdeal.Facts) (hSsmInReferenceIdeal : Cert.SsmInReferenceIdeal.Facts) (hSwaIn : Cert.SwaIn.Facts) (hSwaInIdeal : Cert.SwaInIdeal.Facts) (hSwaInReferenceIdeal : Cert.SwaInReferenceIdeal.Facts) (hPleMixBwd : Cert.PleMixBwd.Facts) (hPleMixBwdIdeal : Cert.PleMixBwdIdeal.Facts) (hPleMixBwdReferenceIdeal : Cert.PleMixBwdReferenceIdeal.Facts) (hPleEmbDw : Cert.PleEmbDw.Facts) (hPleEmbDwIdeal : Cert.PleEmbDwIdeal.Facts) (hPleEmbDwReferenceIdeal : Cert.PleEmbDwReferenceIdeal.Facts) (hPleEmb : Cert.PleEmb.Facts) (hPleEmbIdeal : Cert.PleEmbIdeal.Facts) (hPleEmbReferenceIdeal : Cert.PleEmbReferenceIdeal.Facts) (hFoxGateBwd : Cert.FoxGateBwd.Facts) (hFoxGateBwdIdeal : Cert.FoxGateBwdIdeal.Facts) (hFoxGateBwdReferenceIdeal : Cert.FoxGateBwdReferenceIdeal.Facts) (hFoxGate : Cert.FoxGate.Facts) (hFoxGateIdeal : Cert.FoxGateIdeal.Facts) (hFoxGateReferenceIdeal : Cert.FoxGateReferenceIdeal.Facts) (hPre_finite : Cert.Pre_finite.Facts) (hPre_finite_gated : Cert.Pre_finite_gated.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_InDw (hInDw := hInDw)
    ∧ quiescent_InDwIdeal (hInDwIdeal := hInDwIdeal)
    ∧ quiescent_InDwReferenceIdeal (hInDwReferenceIdeal := hInDwReferenceIdeal)
    ∧ quiescent_InDx (hInDx := hInDx)
    ∧ quiescent_InDxIdeal (hInDxIdeal := hInDxIdeal)
    ∧ quiescent_InDxReferenceIdeal (hInDxReferenceIdeal := hInDxReferenceIdeal)
    ∧ quiescent_OutDw (hOutDw := hOutDw)
    ∧ quiescent_OutDwIdeal (hOutDwIdeal := hOutDwIdeal)
    ∧ quiescent_OutDwReferenceIdeal (hOutDwReferenceIdeal := hOutDwReferenceIdeal)
    ∧ quiescent_SsmInDw (hSsmInDw := hSsmInDw)
    ∧ quiescent_SsmInDwIdeal (hSsmInDwIdeal := hSsmInDwIdeal)
    ∧ quiescent_SsmInDwReferenceIdeal (hSsmInDwReferenceIdeal := hSsmInDwReferenceIdeal)
    ∧ quiescent_SsmInDx (hSsmInDx := hSsmInDx)
    ∧ quiescent_SsmInDxIdeal (hSsmInDxIdeal := hSsmInDxIdeal)
    ∧ quiescent_SsmInDxReferenceIdeal (hSsmInDxReferenceIdeal := hSsmInDxReferenceIdeal)
    ∧ quiescent_OutDx (hOutDx := hOutDx)
    ∧ quiescent_OutDxIdeal (hOutDxIdeal := hOutDxIdeal)
    ∧ quiescent_OutDxReferenceIdeal (hOutDxReferenceIdeal := hOutDxReferenceIdeal)
    ∧ quiescent_GateDx (hGateDx := hGateDx)
    ∧ quiescent_GateDxIdeal (hGateDxIdeal := hGateDxIdeal)
    ∧ quiescent_GateDxReferenceIdeal (hGateDxReferenceIdeal := hGateDxReferenceIdeal)
    ∧ quiescent_SwaInDw (hSwaInDw := hSwaInDw)
    ∧ quiescent_SwaInDwIdeal (hSwaInDwIdeal := hSwaInDwIdeal)
    ∧ quiescent_SwaInDwReferenceIdeal (hSwaInDwReferenceIdeal := hSwaInDwReferenceIdeal)
    ∧ quiescent_SwaInDx (hSwaInDx := hSwaInDx)
    ∧ quiescent_SwaInDxIdeal (hSwaInDxIdeal := hSwaInDxIdeal)
    ∧ quiescent_SwaInDxReferenceIdeal (hSwaInDxReferenceIdeal := hSwaInDxReferenceIdeal)
    ∧ quiescent_FoxIn (hFoxIn := hFoxIn)
    ∧ quiescent_FoxInIdeal (hFoxInIdeal := hFoxInIdeal)
    ∧ quiescent_FoxInReferenceIdeal (hFoxInReferenceIdeal := hFoxInReferenceIdeal)
    ∧ quiescent_MixerOut (hMixerOut := hMixerOut)
    ∧ quiescent_MixerOutIdeal (hMixerOutIdeal := hMixerOutIdeal)
    ∧ quiescent_MixerOutReferenceIdeal (hMixerOutReferenceIdeal := hMixerOutReferenceIdeal)
    ∧ quiescent_SsmIn (hSsmIn := hSsmIn)
    ∧ quiescent_SsmInIdeal (hSsmInIdeal := hSsmInIdeal)
    ∧ quiescent_SsmInReferenceIdeal (hSsmInReferenceIdeal := hSsmInReferenceIdeal)
    ∧ quiescent_SwaIn (hSwaIn := hSwaIn)
    ∧ quiescent_SwaInIdeal (hSwaInIdeal := hSwaInIdeal)
    ∧ quiescent_SwaInReferenceIdeal (hSwaInReferenceIdeal := hSwaInReferenceIdeal)
    ∧ quiescent_PleMixBwd (hPleMixBwd := hPleMixBwd)
    ∧ quiescent_PleMixBwdIdeal (hPleMixBwdIdeal := hPleMixBwdIdeal)
    ∧ quiescent_PleMixBwdReferenceIdeal (hPleMixBwdReferenceIdeal := hPleMixBwdReferenceIdeal)
    ∧ quiescent_PleEmbDw (hPleEmbDw := hPleEmbDw)
    ∧ quiescent_PleEmbDwIdeal (hPleEmbDwIdeal := hPleEmbDwIdeal)
    ∧ quiescent_PleEmbDwReferenceIdeal (hPleEmbDwReferenceIdeal := hPleEmbDwReferenceIdeal)
    ∧ quiescent_PleEmb (hPleEmb := hPleEmb)
    ∧ quiescent_PleEmbIdeal (hPleEmbIdeal := hPleEmbIdeal)
    ∧ quiescent_PleEmbReferenceIdeal (hPleEmbReferenceIdeal := hPleEmbReferenceIdeal)
    ∧ quiescent_FoxGateBwd (hFoxGateBwd := hFoxGateBwd)
    ∧ quiescent_FoxGateBwdIdeal (hFoxGateBwdIdeal := hFoxGateBwdIdeal)
    ∧ quiescent_FoxGateBwdIdeal_pre_finite_gated (hFoxGateBwdIdeal := hFoxGateBwdIdeal) (hPre_finite_gated := hPre_finite_gated)
    ∧ quiescent_FoxGateBwdReferenceIdeal (hFoxGateBwdReferenceIdeal := hFoxGateBwdReferenceIdeal)
    ∧ quiescent_FoxGateBwdReferenceIdeal_pre_finite_gated (hFoxGateBwdReferenceIdeal := hFoxGateBwdReferenceIdeal) (hPre_finite_gated := hPre_finite_gated)
    ∧ quiescent_FoxGate (hFoxGate := hFoxGate)
    ∧ quiescent_FoxGateIdeal (hFoxGateIdeal := hFoxGateIdeal)
    ∧ quiescent_FoxGateReferenceIdeal (hFoxGateReferenceIdeal := hFoxGateReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_InDw_InDwIdeal
    ∧ algebraic_InDwIdeal_InDwReferenceIdeal (hInDwIdeal := hInDwIdeal) (hInDwReferenceIdeal := hInDwReferenceIdeal)
    ∧ preserves_InDx_InDxIdeal
    ∧ algebraic_InDxIdeal_InDxReferenceIdeal (hInDxIdeal := hInDxIdeal) (hInDxReferenceIdeal := hInDxReferenceIdeal)
    ∧ preserves_OutDw_OutDwIdeal
    ∧ algebraic_OutDwIdeal_OutDwReferenceIdeal (hOutDwIdeal := hOutDwIdeal) (hOutDwReferenceIdeal := hOutDwReferenceIdeal)
    ∧ preserves_SsmInDw_SsmInDwIdeal
    ∧ algebraic_SsmInDwIdeal_SsmInDwReferenceIdeal (hSsmInDwIdeal := hSsmInDwIdeal) (hSsmInDwReferenceIdeal := hSsmInDwReferenceIdeal)
    ∧ preserves_SsmInDx_SsmInDxIdeal
    ∧ algebraic_SsmInDxIdeal_SsmInDxReferenceIdeal (hSsmInDxIdeal := hSsmInDxIdeal) (hSsmInDxReferenceIdeal := hSsmInDxReferenceIdeal)
    ∧ preserves_OutDx_OutDxIdeal
    ∧ algebraic_OutDxIdeal_OutDxReferenceIdeal (hOutDxIdeal := hOutDxIdeal) (hOutDxReferenceIdeal := hOutDxReferenceIdeal)
    ∧ preserves_GateDx_GateDxIdeal
    ∧ algebraic_GateDxIdeal_GateDxReferenceIdeal (hGateDxIdeal := hGateDxIdeal) (hGateDxReferenceIdeal := hGateDxReferenceIdeal)
    ∧ preserves_SwaInDw_SwaInDwIdeal
    ∧ algebraic_SwaInDwIdeal_SwaInDwReferenceIdeal (hSwaInDwIdeal := hSwaInDwIdeal) (hSwaInDwReferenceIdeal := hSwaInDwReferenceIdeal)
    ∧ preserves_SwaInDx_SwaInDxIdeal
    ∧ algebraic_SwaInDxIdeal_SwaInDxReferenceIdeal (hSwaInDxIdeal := hSwaInDxIdeal) (hSwaInDxReferenceIdeal := hSwaInDxReferenceIdeal)
    ∧ preserves_FoxIn_FoxInIdeal
    ∧ algebraic_FoxInIdeal_FoxInReferenceIdeal (hFoxInIdeal := hFoxInIdeal) (hFoxInReferenceIdeal := hFoxInReferenceIdeal)
    ∧ preserves_MixerOut_MixerOutIdeal
    ∧ algebraic_MixerOutIdeal_MixerOutReferenceIdeal (hMixerOutIdeal := hMixerOutIdeal) (hMixerOutReferenceIdeal := hMixerOutReferenceIdeal)
    ∧ preserves_SsmIn_SsmInIdeal
    ∧ algebraic_SsmInIdeal_SsmInReferenceIdeal (hSsmInIdeal := hSsmInIdeal) (hSsmInReferenceIdeal := hSsmInReferenceIdeal)
    ∧ preserves_SwaIn_SwaInIdeal
    ∧ algebraic_SwaInIdeal_SwaInReferenceIdeal (hSwaInIdeal := hSwaInIdeal) (hSwaInReferenceIdeal := hSwaInReferenceIdeal)
    ∧ preserves_PleMixBwd_PleMixBwdIdeal
    ∧ algebraic_PleMixBwdIdeal_PleMixBwdReferenceIdeal (hPleMixBwdIdeal := hPleMixBwdIdeal) (hPleMixBwdReferenceIdeal := hPleMixBwdReferenceIdeal)
    ∧ preserves_PleEmbDw_PleEmbDwIdeal
    ∧ algebraic_PleEmbDwIdeal_PleEmbDwReferenceIdeal (hPleEmbDwIdeal := hPleEmbDwIdeal) (hPleEmbDwReferenceIdeal := hPleEmbDwReferenceIdeal)
    ∧ preserves_PleEmb_PleEmbIdeal
    ∧ algebraic_PleEmbIdeal_PleEmbReferenceIdeal (hPleEmbIdeal := hPleEmbIdeal) (hPleEmbReferenceIdeal := hPleEmbReferenceIdeal)
    ∧ preserves_FoxGateBwd_FoxGateBwdIdeal
    ∧ algebraic_FoxGateBwdIdeal_FoxGateBwdReferenceIdeal_pre_finite_gated (hFoxGateBwdIdeal := hFoxGateBwdIdeal) (hFoxGateBwdReferenceIdeal := hFoxGateBwdReferenceIdeal) (hPre_finite_gated := hPre_finite_gated)
    ∧ preserves_FoxGate_FoxGateIdeal
    ∧ algebraic_FoxGateIdeal_FoxGateReferenceIdeal (hFoxGateIdeal := hFoxGateIdeal) (hFoxGateReferenceIdeal := hFoxGateReferenceIdeal)
-- ==== Pre_finite.lean ====
abbrev S4096x8192 : Shape := ⟨2, ![4096, 8192]⟩
abbrev S4096x128 : Shape := ⟨2, ![4096, 128]⟩
abbrev S4096x2048 : Shape := ⟨2, ![4096, 2048]⟩
abbrev S4096x6144 : Shape := ⟨2, ![4096, 6144]⟩
abbrev S_ : Shape := ⟨0, ![]⟩
abbrev S4096x32 : Shape := ⟨2, ![4096, 32]⟩

class Facts : Prop where
  slices_S4096x8192_S4096x6144_0_0 : S4096x8192.Slices ![0, 0] S4096x6144
  bitsLt_bf16_f32 : FTy.bits .bf16 < FTy.bits .f32
  bcast_S_S4096x6144 : S_.BroadcastsInDim S4096x6144 (![] : Fin 0 → Fin S4096x6144.rank)
  slices_S4096x128_S4096x32_0_0 : S4096x128.Slices ![0, 0] S4096x32
  bcast_S_S4096x32 : S_.BroadcastsInDim S4096x32 (![] : Fin 0 → Fin S4096x32.rank)
  bcast_S_S4096x2048 : S_.BroadcastsInDim S4096x2048 (![] : Fin 0 → Fin S4096x2048.rank)

variable [Facts]

def fn {F : FTy → Type} [FloatOps F] (main_arg0 : FVec F S4096x8192 .bf16) (main_arg1 : FVec F S4096x128 .f32) (main_arg2 : FVec F S4096x2048 .bf16) : IVec S4096x6144 1 × IVec S4096x32 1 × IVec S4096x2048 1 :=
  let main_v0 : FVec F S4096x6144 .bf16 := (extractStridedSlice S4096x6144 ![0, 0] · slices_S4096x8192_S4096x6144_0_0) main_arg0
  let main_v1 : FVec F S4096x6144 .f32 := (extf .f32 · bitsLt_bf16_f32) main_v0
  let main_v2 : FVec F S4096x6144 .f32 := Host.absf main_v1
  let main_cst : FVec F S_ .f32 := constant S_ .f32 0x7F800000#32
  let main_v3 : FVec F S4096x6144 .f32 := broadcastInDim S4096x6144 ![] bcast_S_S4096x6144 main_cst
  let main_v4 : IVec S4096x6144 1 := cmpf .olt main_v2 main_v3
  let main_v5 : FVec F S4096x32 .f32 := (extractStridedSlice S4096x32 ![0, 0] · slices_S4096x128_S4096x32_0_0) main_arg1
  let main_v6 : FVec F S4096x32 .f32 := Host.absf main_v5
  let main_cst_0 : FVec F S_ .f32 := constant S_ .f32 0x7F800000#32
  let main_v7 : FVec F S4096x32 .f32 := broadcastInDim S4096x32 ![] bcast_S_S4096x32 main_cst_0
  let main_v8 : IVec S4096x32 1 := cmpf .olt main_v6 main_v7
  let main_v9 : FVec F S4096x2048 .f32 := (extf .f32 · bitsLt_bf16_f32) main_arg2
  let main_v10 : FVec F S4096x2048 .f32 := Host.absf main_v9
  let main_cst_1 : FVec F S_ .f32 := constant S_ .f32 0x7F800000#32
  let main_v11 : FVec F S4096x2048 .f32 := broadcastInDim S4096x2048 ![] bcast_S_S4096x2048 main_cst_1
  let main_v12 : IVec S4096x2048 1 := cmpf .olt main_v10 main_v11
  (main_v4, main_v8, main_v12)
-- ==== Pre_finite_gated.lean ====
abbrev S4096x2048 : Shape := ⟨2, ![4096, 2048]⟩
abbrev S4096x8192 : Shape := ⟨2, ![4096, 8192]⟩
abbrev S_ : Shape := ⟨0, ![]⟩

class Facts : Prop where
  bitsLt_bf16_f32 : FTy.bits .bf16 < FTy.bits .f32
  bcast_S_S4096x2048 : S_.BroadcastsInDim S4096x2048 (![] : Fin 0 → Fin S4096x2048.rank)

variable [Facts]

def fn {F : FTy → Type} [FloatOps F] (main_arg0 : FVec F S4096x2048 .bf16) (main_arg1 : FVec F S4096x2048 .bf16) (main_arg2 : FVec F S4096x8192 .bf16) : IVec S4096x2048 1 × IVec S4096x2048 1 :=
  let main_v0 : FVec F S4096x2048 .f32 := (extf .f32 · bitsLt_bf16_f32) main_arg0
  let main_v1 : FVec F S4096x2048 .f32 := Host.absf main_v0
  let main_cst : FVec F S_ .f32 := constant S_ .f32 0x7F800000#32
  let main_v2 : FVec F S4096x2048 .f32 := broadcastInDim S4096x2048 ![] bcast_S_S4096x2048 main_cst
  let main_v3 : IVec S4096x2048 1 := cmpf .olt main_v1 main_v2
  let main_v4 : FVec F S4096x2048 .f32 := (extf .f32 · bitsLt_bf16_f32) main_arg1
  let main_v5 : FVec F S4096x2048 .f32 := Host.absf main_v4
  let main_cst_0 : FVec F S_ .f32 := constant S_ .f32 0x7F800000#32
  let main_v6 : FVec F S4096x2048 .f32 := broadcastInDim S4096x2048 ![] bcast_S_S4096x2048 main_cst_0
  let main_v7 : IVec S4096x2048 1 := cmpf .olt main_v5 main_v6
  (main_v3, main_v7)
-- ==== Kernel.lean ====
abbrev S4096x8192 : Shape := ⟨2, ![4096, 8192]⟩
abbrev S4096x128 : Shape := ⟨2, ![4096, 128]⟩
abbrev S4096x2048 : Shape := ⟨2, ![4096, 2048]⟩
abbrev S4096x32x64 : Shape := ⟨3, ![4096, 32, 64]⟩
abbrev S32x4096x64 : Shape := ⟨3, ![32, 4096, 64]⟩
abbrev S_ : Shape := ⟨0, ![]⟩
abbrev S32x4096x1 : Shape := ⟨3, ![32, 4096, 1]⟩
abbrev S32x4096x62 : Shape := ⟨3, ![32, 4096, 62]⟩
abbrev S32x4096x128 : Shape := ⟨3, ![32, 4096, 128]⟩
abbrev S4096x32 : Shape := ⟨2, ![4096, 32]⟩
abbrev S32x4096 : Shape := ⟨2, ![32, 4096]⟩
abbrev S32x128x4096 : Shape := ⟨3, ![32, 128, 4096]⟩
abbrev S32x64x4096 : Shape := ⟨3, ![32, 64, 4096]⟩
abbrev S32x1x4096 : Shape := ⟨3, ![32, 1, 4096]⟩
abbrev S32x4096x4096 : Shape := ⟨3, ![32, 4096, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S1x4096x4096 : Shape := ⟨3, ![1, 4096, 4096]⟩
abbrev S1x1024x128 : Shape := ⟨3, ![1, 1024, 128]⟩
abbrev S1x128x1024 : Shape := ⟨3, ![1, 128, 1024]⟩
abbrev S1x1024x64 : Shape := ⟨3, ![1, 1024, 64]⟩
abbrev S1x1x1024 : Shape := ⟨3, ![1, 1, 1024]⟩
abbrev S1x64x1024 : Shape := ⟨3, ![1, 64, 1024]⟩
abbrev S1x64x4096 : Shape := ⟨3, ![1, 64, 4096]⟩
abbrev S1x1x4096 : Shape := ⟨3, ![1, 1, 4096]⟩
abbrev S128x4096 : Shape := ⟨2, ![128, 4096]⟩
abbrev S128x1024 : Shape := ⟨2, ![128, 1024]⟩
abbrev S64x1024 : Shape := ⟨2, ![64, 1024]⟩
abbrev S1024x128 : Shape := ⟨2, ![1024, 128]⟩
abbrev S1x1024 : Shape := ⟨2, ![1, 1024]⟩
abbrev S1024x1024 : Shape := ⟨2, ![1024, 1024]⟩
abbrev S1024 : Shape := ⟨1, ![1024]⟩
abbrev S1024x64 : Shape := ⟨2, ![1024, 64]⟩
abbrev S64x4096 : Shape := ⟨2, ![64, 4096]⟩

abbrev nBuf : Space → Nat
  | .hbm => 89
  | .vmem => 33
  | .smem => 0
  | _ => 0

abbrev bufTy : (tb : Table) → Fin (tcTables nBuf tb) → BufTy
  | .hbm, ⟨0, _⟩ => ⟨S4096x8192, .bf16⟩
  | .hbm, ⟨1, _⟩ => ⟨S4096x128, .f32⟩
  | .hbm, ⟨2, _⟩ => ⟨S4096x2048, .bf16⟩
  | .hbm, ⟨3, _⟩ => ⟨S4096x2048, .bf16⟩
  | .hbm, ⟨4, _⟩ => ⟨S4096x32x64, .bf16⟩
  | .hbm, ⟨5, _⟩ => ⟨S32x4096x64, .bf16⟩
  | .hbm, ⟨6, _⟩ => ⟨S_, .bf16⟩
  | .hbm, ⟨7, _⟩ => ⟨S32x4096x64, .bf16⟩
  | .hbm, ⟨8, _⟩ => ⟨S32x4096x64, .bf16⟩
  | .hbm, ⟨9, _⟩ => ⟨S4096x2048, .bf16⟩
  | .hbm, ⟨10, _⟩ => ⟨S4096x32x64, .bf16⟩
  | .hbm, ⟨11, _⟩ => ⟨S32x4096x64, .bf16⟩
  | .hbm, ⟨12, _⟩ => ⟨S4096x2048, .bf16⟩
  | .hbm, ⟨13, _⟩ => ⟨S4096x32x64, .bf16⟩
  | .hbm, ⟨14, _⟩ => ⟨S32x4096x64, .bf16⟩
  | .hbm, ⟨15, _⟩ => ⟨S_, .bf16⟩
  | .hbm, ⟨16, _⟩ => ⟨S32x4096x1, .bf16⟩
  | .hbm, ⟨17, _⟩ => ⟨S_, .bf16⟩
  | .hbm, ⟨18, _⟩ => ⟨S32x4096x1, .bf16⟩
  | .hbm, ⟨19, _⟩ => ⟨S_, .bf16⟩
  | .hbm, ⟨20, _⟩ => ⟨S32x4096x62, .bf16⟩
  | .hbm, ⟨21, _⟩ => ⟨S32x4096x1, .bf16⟩
  | .hbm, ⟨22, _⟩ => ⟨S32x4096x128, .bf16⟩
  | .hbm, ⟨23, _⟩ => ⟨S32x4096x128, .bf16⟩
  | .hbm, ⟨24, _⟩ => ⟨S4096x32, .f32⟩
  | .hbm, ⟨25, _⟩ => ⟨S32x4096, .f32⟩
  | .hbm, ⟨26, _⟩ => ⟨S32x128x4096, .bf16⟩
  | .hbm, ⟨27, _⟩ => ⟨S32x128x4096, .bf16⟩
  | .hbm, ⟨28, _⟩ => ⟨S32x64x4096, .bf16⟩
  | .hbm, ⟨29, _⟩ => ⟨S32x1x4096, .f32⟩
  | .hbm, ⟨30, _⟩ => ⟨S32x4096x1, .f32⟩
  | .hbm, ⟨31, _⟩ => ⟨S32x4096x128, .f32⟩
  | .hbm, ⟨32, _⟩ => ⟨S4096x2048, .bf16⟩
  | .hbm, ⟨33, _⟩ => ⟨S4096x2048, .bf16⟩
  | .hbm, ⟨34, _⟩ => ⟨S4096x2048, .bf16⟩
  | .hbm, ⟨35, _⟩ => ⟨S4096x2048, .bf16⟩
  | .hbm, ⟨36, _⟩ => ⟨S4096x2048, .f32⟩
  | .hbm, ⟨37, _⟩ => ⟨S4096x32x64, .f32⟩
  | .hbm, ⟨38, _⟩ => ⟨S4096x2048, .f32⟩
  | .hbm, ⟨39, _⟩ => ⟨S4096x32x64, .f32⟩
  | .hbm, ⟨40, _⟩ => ⟨S4096x2048, .f32⟩
  | .hbm, ⟨41, _⟩ => ⟨S4096x32x64, .f32⟩
  | .hbm, ⟨42, _⟩ => ⟨S4096x32, .f32⟩
  | .hbm, ⟨43, _⟩ => ⟨S32x4096, .f32⟩
  | .hbm, ⟨44, _⟩ => ⟨S32x4096x4096, .f32⟩
  | .hbm, ⟨45, _⟩ => ⟨S_, .f32⟩
  | .hbm, ⟨46, _⟩ => ⟨S32x4096x4096, .f32⟩
  | .hbm, ⟨47, _⟩ => ⟨S32x4096x4096, .f32⟩
  | .hbm, ⟨48, _⟩ => ⟨S32x4096x1, .f32⟩
  | .hbm, ⟨49, _⟩ => ⟨S32x4096x4096, .f32⟩
  | .hbm, ⟨50, _⟩ => ⟨S32x4096x4096, .f32⟩
  | .hbm, ⟨51, _⟩ => ⟨S32x1x4096, .f32⟩
  | .hbm, ⟨52, _⟩ => ⟨S32x4096x4096, .f32⟩
  | .hbm, ⟨53, _⟩ => ⟨S32x4096x4096, .f32⟩
  | .hbm, ⟨54, _⟩ => ⟨S4096, .i32⟩
  | .hbm, ⟨55, _⟩ => ⟨S1x4096, .i32⟩
  | .hbm, ⟨56, _⟩ => ⟨S4096x1, .i32⟩
  | .hbm, ⟨57, _⟩ => ⟨S4096x4096, .i32⟩
  | .hbm, ⟨58, _⟩ => ⟨S4096x4096, .i32⟩
  | .hbm, ⟨59, _⟩ => ⟨S4096x4096, .i1⟩
  | .hbm, ⟨60, _⟩ => ⟨S1x4096x4096, .i1⟩
  | .hbm, ⟨61, _⟩ => ⟨S_, .f32⟩
  | .hbm, ⟨62, _⟩ => ⟨S_, .f32⟩
  | .hbm, ⟨63, _⟩ => ⟨S32x4096x4096, .i1⟩
  | .hbm, ⟨64, _⟩ => ⟨S32x4096x4096, .f32⟩
  | .hbm, ⟨65, _⟩ => ⟨S32x4096x4096, .f32⟩
  | .hbm, ⟨66, _⟩ => ⟨S_, .f32⟩
  | .hbm, ⟨67, _⟩ => ⟨S32x4096, .f32⟩
  | .hbm, ⟨68, _⟩ => ⟨S32x4096x1, .f32⟩
  | .hbm, ⟨69, _⟩ => ⟨S32x4096x4096, .f32⟩
  | .hbm, ⟨70, _⟩ => ⟨S32x4096x4096, .f32⟩
  | .hbm, ⟨71, _⟩ => ⟨S32x4096x4096, .f32⟩
  | .hbm, ⟨72, _⟩ => ⟨S_, .f32⟩
  | .hbm, ⟨73, _⟩ => ⟨S32x4096, .f32⟩
  | .hbm, ⟨74, _⟩ => ⟨S32x4096x1, .f32⟩
  | .hbm, ⟨75, _⟩ => ⟨S32x4096x4096, .f32⟩
  | .hbm, ⟨76, _⟩ => ⟨S32x4096x4096, .f32⟩
  | .hbm, ⟨77, _⟩ => ⟨S32x64x4096, .f32⟩
  | .hbm, ⟨78, _⟩ => ⟨S32x64x4096, .bf16⟩
  | .hbm, ⟨79, _⟩ => ⟨S32x4096x1, .f32⟩
  | .hbm, ⟨80, _⟩ => ⟨S32x4096x1, .f32⟩
  | .hbm, ⟨81, _⟩ => ⟨S32x1x4096, .f32⟩
  | .hbm, ⟨82, _⟩ => ⟨S4096x32x64, .bf16⟩
  | .hbm, ⟨83, _⟩ => ⟨S32x64x4096, .bf16⟩
  | .hbm, ⟨84, _⟩ => ⟨S32x64x4096, .bf16⟩
  | .hbm, ⟨85, _⟩ => ⟨S32x1x4096, .f32⟩
  | .hbm, ⟨86, _⟩ => ⟨S32x64x4096, .bf16⟩
  | .hbm, ⟨87, _⟩ => ⟨S32x1x4096, .f32⟩
  | .hbm, ⟨88, _⟩ => ⟨S32x64x4096, .bf16⟩
  | .local _ .vmem, ⟨0, _⟩ => ⟨S1x1024x128, .bf16⟩
  | .local _ .vmem, ⟨1, _⟩ => ⟨S1x1024x128, .bf16⟩
  | .local _ .vmem, ⟨2, _⟩ => ⟨S1x1024x128, .bf16⟩
  | .local _ .vmem, ⟨3, _⟩ => ⟨S1x1024x128, .bf16⟩
  | .local _ .vmem, ⟨4, _⟩ => ⟨S1x128x1024, .bf16⟩
  | .local _ .vmem, ⟨5, _⟩ => ⟨S1x128x1024, .bf16⟩
  | .local _ .vmem, ⟨6, _⟩ => ⟨S1x128x1024, .bf16⟩
  | .local _ .vmem, ⟨7, _⟩ => ⟨S1x128x1024, .bf16⟩
  | .local _ .vmem, ⟨8, _⟩ => ⟨S1x1024x64, .bf16⟩
  | .local _ .vmem, ⟨9, _⟩ => ⟨S1x1024x64, .bf16⟩
  | .local _ .vmem, ⟨10, _⟩ => ⟨S1x1x1024, .f32⟩
  | .local _ .vmem, ⟨11, _⟩ => ⟨S1x1x1024, .f32⟩
  | .local _ .vmem, ⟨12, _⟩ => ⟨S1x1024x128, .f32⟩
  | .local _ .vmem, ⟨13, _⟩ => ⟨S1x1024x128, .f32⟩
  | .local _ .vmem, ⟨14, _⟩ => ⟨S1x64x1024, .bf16⟩
  | .local _ .vmem, ⟨15, _⟩ => ⟨S1x64x1024, .bf16⟩
  | .local _ .vmem, ⟨16, _⟩ => ⟨S1x64x1024, .bf16⟩
  | .local _ .vmem, ⟨17, _⟩ => ⟨S1x64x1024, .bf16⟩
  | .local _ .vmem, ⟨18, _⟩ => ⟨S1x1x1024, .f32⟩
  | .local _ .vmem, ⟨19, _⟩ => ⟨S1x1x1024, .f32⟩
  | .local _ .vmem, ⟨20, _⟩ => ⟨S1x64x4096, .bf16⟩
  | .local _ .vmem, ⟨21, _⟩ => ⟨S1x64x4096, .bf16⟩
  | .local _ .vmem, ⟨22, _⟩ => ⟨S1x1x4096, .f32⟩
  | .local _ .vmem, ⟨23, _⟩ => ⟨S1x1x4096, .f32⟩
  | .local _ .vmem, ⟨24, _⟩ => ⟨S1x64x1024, .bf16⟩
  | .local _ .vmem, ⟨25, _⟩ => ⟨S1x64x1024, .bf16⟩
  | .local _ .vmem, ⟨26, _⟩ => ⟨S1x1x1024, .f32⟩
  | .local _ .vmem, ⟨27, _⟩ => ⟨S1x1x1024, .f32⟩
  | .local _ .vmem, ⟨28, _⟩ => ⟨S1x64x1024, .bf16⟩
  | .local _ .vmem, ⟨29, _⟩ => ⟨S1x64x1024, .bf16⟩
  | .local _ .vmem, ⟨30, _⟩ => ⟨S128x4096, .f32⟩
  | .local _ .vmem, ⟨31, _⟩ => ⟨S128x1024, .f32⟩
  | .local _ .vmem, ⟨32, _⟩ => ⟨S64x1024, .f32⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_cst_3 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_cst_4 : Ref sig .tc := ⟨.hbm, 61, rfl⟩
abbrev main_call0_v0 : Ref sig .tc := ⟨.hbm, 62, rfl⟩
abbrev main_call0_v1 : Ref sig .tc := ⟨.hbm, 63, rfl⟩
abbrev main_call0_v2 : Ref sig .tc := ⟨.hbm, 64, rfl⟩
abbrev main_v53 : Ref sig .tc := ⟨.hbm, 65, rfl⟩
abbrev main_cst_5 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_cst_6 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70_0 : Ref sig .tc := ⟨.hbm, 84, rfl⟩
abbrev main_v70_1 : Ref sig .tc := ⟨.hbm, 85, rfl⟩
abbrev main_v70_2 : Ref sig .tc := ⟨.hbm, 86, rfl⟩
abbrev main_v70_3 : Ref sig .tc := ⟨.hbm, 87, rfl⟩
abbrev main_v70_4 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_scratch0 : Ref sig .tc := ⟨.vmem, 30, rfl⟩
abbrev cc0_scratch1 : Ref sig .tc := ⟨.vmem, 31, rfl⟩
abbrev cc0_scratch2 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29

abbrev nD : Nat := 1
abbrev τ : Topo := Topo.v7x

variable {F : FTy → Type} [FloatOps F]

abbrev grid0 : Pipeline.Grid := ⟨3, ![32, 4, 4], ![false, false, false]⟩

def k0_cond3 (i : grid0.Coords) : BitVec 1 :=
  let arg1 : BitVec 32 := BitVec.ofNat 32 (i 1).val
  let arg2 : BitVec 32 := BitVec.ofNat 32 (i 2).val
  let v8 : BitVec 1 := Scalar.cmpi .slt arg1 arg2
  let v9 : BitVec 32 := Scalar.extui v8
  let c0_i32_4 : BitVec 32 := 0#32
  let v10 : BitVec 1 := Scalar.cmpi .ne v9 c0_i32_4
  v10

def k0_mult1 (i : grid0.Coords) : BitVec 32 :=
  let arg2 : BitVec 32 := BitVec.ofNat 32 (i 2).val
  let c1024_i32 : BitVec 32 := 1024#32
  let v71 : BitVec 32 := Scalar.muli arg2 c1024_i32
  v71
def k0_off1 (i : grid0.Coords) : Fin 2 → Nat :=
  let c0_48 : Index := 0#32
  let arg2 : BitVec 32 := BitVec.ofNat 32 (i 2).val
  let c1024_i32 : BitVec 32 := 1024#32
  let v71 : BitVec 32 := Scalar.muli arg2 c1024_i32
  let v72 : BitVec 32 := v71
  let v73 : Index := Scalar.indexCast v72
  ![0, v73.toNat]
def k0_cond4 (i : grid0.Coords) : BitVec 1 :=
  let arg1 : BitVec 32 := BitVec.ofNat 32 (i 1).val
  let arg2 : BitVec 32 := BitVec.ofNat 32 (i 2).val
  let v11 : BitVec 1 := Scalar.cmpi .eq arg1 arg2
  let v12 : BitVec 32 := Scalar.extui v11
  let c0_i32_5 : BitVec 32 := 0#32
  let v13 : BitVec 1 := Scalar.cmpi .ne v12 c0_i32_5
  v13

def k0_mult2 (i : grid0.Coords) : BitVec 32 :=
  let arg2 : BitVec 32 := BitVec.ofNat 32 (i 2).val
  let c1024_i32 : BitVec 32 := 1024#32
  let v76 : BitVec 32 := Scalar.muli arg2 c1024_i32
  v76
def k0_off2 (i : grid0.Coords) : Fin 2 → Nat :=
  let c0_49 : Index := 0#32
  let arg2 : BitVec 32 := BitVec.ofNat 32 (i 2).val
  let c1024_i32 : BitVec 32 := 1024#32
  let v76 : BitVec 32 := Scalar.muli arg2 c1024_i32
  let v77 : BitVec 32 := v76
  let v78 : Index := Scalar.indexCast v77
  ![0, v78.toNat]
def k0_cond6 (i : grid0.Coords) : BitVec 1 :=
  let arg1 : BitVec 32 := BitVec.ofNat 32 (i 1).val
  let c3_i32_7 : BitVec 32 := 3#32
  let v17 : BitVec 1 := Scalar.cmpi .eq arg1 c3_i32_7
  let arg2 : BitVec 32 := BitVec.ofNat 32 (i 2).val
  let c3_i32_8 : BitVec 32 := 3#32
  let v18 : BitVec 1 := Scalar.cmpi .eq arg2 c3_i32_8
  let v19 : BitVec 1 := Scalar.andi v17 v18
  let v20 : BitVec 32 := Scalar.extui v19
  let c0_i32_9 : BitVec 32 := 0#32
  let v21 : BitVec 1 := Scalar.cmpi .ne v20 c0_i32_9
  v21

def k0_cond5 (i : grid0.Coords) : BitVec 1 :=
  let arg2 : BitVec 32 := BitVec.ofNat 32 (i 2).val
  let c3_i32 : BitVec 32 := 3#32
  let v14 : BitVec 1 := Scalar.cmpi .eq arg2 c3_i32
  let v15 : BitVec 32 := Scalar.extui v14
  let c0_i32_6 : BitVec 32 := 0#32
  let v16 : BitVec 1 := Scalar.cmpi .ne v15 c0_i32_6
  v16

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.maxsi arg2 arg1
  let c0_i32 : BitVec 32 := 0#32
  let c0_i32_0 : BitVec 32 := 0#32
  ![arg0.toNat, v0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.maxsi arg2 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.maxsi arg2 arg1
  let c0_i32 : BitVec 32 := 0#32
  let c0_i32_0 : BitVec 32 := 0#32
  ![arg0.toNat, c0_i32.toNat, v0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.maxsi arg2 arg1
  let c0_i32 : BitVec 32 := 0#32
  let c0_i32_0 : BitVec 32 := 0#32
  ![arg0.toNat, c0_i32.toNat, v0.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.maxsi arg2 arg1
  let c0_i32 : BitVec 32 := 0#32
  let c0_i32_0 : BitVec 32 := 0#32
  ![arg0.toNat, c0_i32.toNat, v0.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.maxsi arg2 arg1
  let c0_i32 : BitVec 32 := 0#32
  let c0_i32_0 : BitVec 32 := 0#32
  ![arg0.toNat, c0_i32.toNat, v0.toNat]

def cc0_transform_10 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_13 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_14 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S1x1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x128x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x128x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1024x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S1x64x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x64x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S1x1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]

abbrev stage0_10 : Fin 2 → Memref sig .tc .vmem S1x64x4096 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false, false]

abbrev stage0_11 : Fin 2 → Memref sig .tc .vmem S1x1x4096 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false, false]

abbrev stage0_12 : Fin 2 → Memref sig .tc .vmem S1x64x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true, false]

abbrev stage0_13 : Fin 2 → Memref sig .tc .vmem S1x1x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true, false]

abbrev stage0_14 : Fin 2 → Memref sig .tc .vmem S1x64x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true, false]
-- ==== KernelIdeal.lean ====
variable {F : FTy → Type} [FloatOps F] [Named F]
def κ : String → Option EReal := fun
  | "mask" => some ⊥
  | _ => none
-- ==== ReferenceIdeal.lean ====
abbrev S4096x8192 : Shape := ⟨2, ![4096, 8192]⟩
abbrev S4096x128 : Shape := ⟨2, ![4096, 128]⟩
abbrev S4096x2048 : Shape := ⟨2, ![4096, 2048]⟩
abbrev S4096x32 : Shape := ⟨2, ![4096, 32]⟩
abbrev S32x4096 : Shape := ⟨2, ![32, 4096]⟩
abbrev S4096x32x64 : Shape := ⟨3, ![4096, 32, 64]⟩
abbrev S32x4096x4096 : Shape := ⟨3, ![32, 4096, 4096]⟩
abbrev S_ : Shape := ⟨0, ![]⟩
abbrev S32x4096x1 : Shape := ⟨3, ![32, 4096, 1]⟩
abbrev S32x1x4096 : Shape := ⟨3, ![32, 1, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S1x4096x4096 : Shape := ⟨3, ![1, 4096, 4096]⟩
abbrev S32x64x4096 : Shape := ⟨3, ![32, 64, 4096]⟩
abbrev S32x4096x64 : Shape := ⟨3, ![32, 4096, 64]⟩

abbrev nBuf : Space → Nat
  | .hbm => 133
  | .vmem => 0
  | .smem => 0
  | _ => 0

abbrev hbmTy0_0 (i : Nat) : BufTy := match i % 128 with
  | 0 => ⟨S4096x8192, .bf16⟩
  | 1 => ⟨S4096x128, .f32⟩
  | 2 => ⟨S4096x2048, .bf16⟩
  | 3 => ⟨S4096x8192, .f32⟩
  | 4 => ⟨S4096x2048, .f32⟩
  | 5 => ⟨S4096x2048, .f32⟩
  | 6 => ⟨S4096x2048, .f32⟩
  | 7 => ⟨S4096x2048, .f32⟩
  | 8 => ⟨S4096x32, .f32⟩
  | 9 => ⟨S32x4096, .f32⟩
  | 10 => ⟨S4096x32x64, .f32⟩
  | 11 => ⟨S4096x32x64, .f32⟩
  | 12 => ⟨S4096x32x64, .f32⟩
  | 13 => ⟨S32x4096x4096, .f32⟩
  | 14 => ⟨S_, .f32⟩
  | 15 => ⟨S32x4096x4096, .f32⟩
  | 16 => ⟨S32x4096x4096, .f32⟩
  | 17 => ⟨S32x4096x1, .f32⟩
  | 18 => ⟨S32x4096x4096, .f32⟩
  | 19 => ⟨S32x4096x4096, .f32⟩
  | 20 => ⟨S32x1x4096, .f32⟩
  | 21 => ⟨S32x4096x4096, .f32⟩
  | 22 => ⟨S32x4096x4096, .f32⟩
  | 23 => ⟨S4096, .i32⟩
  | 24 => ⟨S1x4096, .i32⟩
  | 25 => ⟨S4096x1, .i32⟩
  | 26 => ⟨S4096x4096, .i32⟩
  | 27 => ⟨S4096x4096, .i32⟩
  | 28 => ⟨S4096x4096, .i1⟩
  | 29 => ⟨S1x4096x4096, .i1⟩
  | 30 => ⟨S_, .f32⟩
  | 31 => ⟨S_, .f32⟩
  | 32 => ⟨S32x4096x4096, .i1⟩
  | 33 => ⟨S32x4096x4096, .f32⟩
  | 34 => ⟨S32x4096x4096, .f32⟩
  | 35 => ⟨S_, .f32⟩
  | 36 => ⟨S32x4096x4096, .f32⟩
  | 37 => ⟨S_, .f32⟩
  | 38 => ⟨S32x4096, .f32⟩
  | 39 => ⟨S32x4096x1, .f32⟩
  | 40 => ⟨S32x4096x4096, .f32⟩
  | 41 => ⟨S32x4096x4096, .i1⟩
  | 42 => ⟨S32x4096x4096, .f32⟩
  | 43 => ⟨S_, .f32⟩
  | 44 => ⟨S32x4096, .f32⟩
  | 45 => ⟨S_, .f32⟩
  | 46 => ⟨S32x4096, .f32⟩
  | 47 => ⟨S32x4096, .f32⟩
  | 48 => ⟨S_, .f32⟩
  | 49 => ⟨S32x4096, .f32⟩
  | 50 => ⟨S32x4096, .i1⟩
  | 51 => ⟨S_, .f32⟩
  | 52 => ⟨S32x4096, .f32⟩
  | 53 => ⟨S32x4096, .i1⟩
  | 54 => ⟨S_, .f32⟩
  | 55 => ⟨S32x4096, .f32⟩
  | 56 => ⟨S_, .f32⟩
  | 57 => ⟨S32x4096, .f32⟩
  | 58 => ⟨S_, .f32⟩
  | 59 => ⟨S32x4096, .f32⟩
  | 60 => ⟨S32x4096, .f32⟩
  | 61 => ⟨S32x4096, .f32⟩
  | 62 => ⟨S32x4096x1, .f32⟩
  | 63 => ⟨S32x4096x4096, .f32⟩
  | 64 => ⟨S32x4096x4096, .f32⟩
  | 65 => ⟨S32x4096x4096, .f32⟩
  | 66 => ⟨S_, .f32⟩
  | 67 => ⟨S32x4096, .f32⟩
  | 68 => ⟨S32x4096x1, .f32⟩
  | 69 => ⟨S32x4096x4096, .f32⟩
  | 70 => ⟨S32x4096x4096, .f32⟩
  | 71 => ⟨S32x4096x1, .f32⟩
  | 72 => ⟨S_, .f32⟩
  | 73 => ⟨S32x4096x1, .f32⟩
  | 74 => ⟨S32x4096x1, .f32⟩
  | 75 => ⟨S32x64x4096, .f32⟩
  | 76 => ⟨S4096x32x64, .f32⟩
  | 77 => ⟨S4096x2048, .f32⟩
  | 78 => ⟨S4096x2048, .f32⟩
  | 79 => ⟨S4096x32x64, .f32⟩
  | 80 => ⟨S32x64x4096, .f32⟩
  | 81 => ⟨S32x4096x4096, .f32⟩
  | 82 => ⟨S32x64x4096, .f32⟩
  | 83 => ⟨S4096x32x64, .f32⟩
  | 84 => ⟨S32x4096x4096, .f32⟩
  | 85 => ⟨S32x4096x4096, .f32⟩
  | 86 => ⟨S32x4096x4096, .f32⟩
  | 87 => ⟨S_, .f32⟩
  | 88 => ⟨S32x4096, .f32⟩
  | 89 => ⟨S32x4096x1, .f32⟩
  | 90 => ⟨S32x4096x1, .f32⟩
  | 91 => ⟨S32x4096x4096, .f32⟩
  | 92 => ⟨S32x4096x4096, .f32⟩
  | 93 => ⟨S_, .f32⟩
  | 94 => ⟨S32x4096, .f32⟩
  | 95 => ⟨S32x4096x4096, .f32⟩
  | 96 => ⟨S32x4096x4096, .f32⟩
  | 97 => ⟨S32x4096x4096, .f32⟩
  | 98 => ⟨S_, .f32⟩
  | 99 => ⟨S32x4096x4096, .f32⟩
  | 100 => ⟨S32x4096x4096, .f32⟩
  | 101 => ⟨S32x4096x4096, .f32⟩
  | 102 => ⟨S_, .f32⟩
  | 103 => ⟨S32x4096, .f32⟩
  | 104 => ⟨S32x1x4096, .f32⟩
  | 105 => ⟨S_, .f32⟩
  | 106 => ⟨S32x4096, .f32⟩
  | 107 => ⟨S_, .f32⟩
  | 108 => ⟨S32x4096, .f32⟩
  | 109 => ⟨S32x4096x1, .f32⟩
  | 110 => ⟨S_, .f32⟩
  | 111 => ⟨S32x4096, .f32⟩
  | 112 => ⟨S_, .f32⟩
  | 113 => ⟨S32x4096x4096, .f32⟩
  | 114 => ⟨S32x4096x4096, .f32⟩
  | 115 => ⟨S32x4096x64, .f32⟩
  | 116 => ⟨S4096x32x64, .f32⟩
  | 117 => ⟨S32x4096x64, .f32⟩
  | 118 => ⟨S4096x32x64, .f32⟩
  | 119 => ⟨S4096x2048, .f32⟩
  | 120 => ⟨S4096x2048, .f32⟩
  | 121 => ⟨S4096x2048, .f32⟩
  | 122 => ⟨S4096x32x64, .f32⟩
  | 123 => ⟨S32x64x4096, .f32⟩
  | 124 => ⟨S32x64x4096, .bf16⟩
  | 125 => ⟨S32x1x4096, .f32⟩
  | 126 => ⟨S4096x32x64, .f32⟩
  | 127 => ⟨S32x64x4096, .f32⟩
  | _ => ⟨S4096x8192, .bf16⟩

abbrev hbmTy0_1 (i : Nat) : BufTy := match i % 128 with
  | 0 => ⟨S32x64x4096, .bf16⟩
  | 1 => ⟨S32x1x4096, .f32⟩
  | 2 => ⟨S4096x32x64, .f32⟩
  | 3 => ⟨S32x64x4096, .f32⟩
  | 4 => ⟨S32x64x4096, .bf16⟩
  | _ => ⟨S4096x8192, .bf16⟩

abbrev hbmTy (i : Nat) : BufTy := match i / 128 with
  | 0 => hbmTy0_0 i
  | 1 => hbmTy0_1 i
  | _ => ⟨S4096x8192, .bf16⟩

abbrev bufTy : (tb : Table) → Fin (tcTables nBuf tb) → BufTy
  | .hbm, ⟨i, _⟩ => hbmTy i
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_cst_0 : Ref sig .tc := ⟨.hbm, 30, rfl⟩
abbrev main_call0_v0 : Ref sig .tc := ⟨.hbm, 31, rfl⟩
abbrev main_v26_1 : Ref sig .tc := ⟨.hbm, 32, rfl⟩
abbrev main_call0_v2 : Ref sig .tc := ⟨.hbm, 33, rfl⟩
abbrev main_v26_0 : Ref sig .tc := ⟨.hbm, 34, rfl⟩
abbrev main_call0_cst : Ref sig .tc := ⟨.hbm, 35, rfl⟩
abbrev main_v26_2 : Ref sig .tc := ⟨.hbm, 36, rfl⟩
abbrev main_cst_1 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_2 : Ref sig .tc := ⟨.hbm, 43, rfl⟩
abbrev main_v32 : Ref sig .tc := ⟨.hbm, 44, rfl⟩
abbrev main_cst_3 : Ref sig .tc := ⟨.hbm, 45, rfl⟩
abbrev main_v33 : Ref sig .tc := ⟨.hbm, 46, rfl⟩
abbrev main_v34 : Ref sig .tc := ⟨.hbm, 47, rfl⟩
abbrev main_cst_4 : Ref sig .tc := ⟨.hbm, 48, rfl⟩
abbrev main_v35 : Ref sig .tc := ⟨.hbm, 49, rfl⟩
abbrev main_v36 : Ref sig .tc := ⟨.hbm, 50, rfl⟩
abbrev main_cst_5 : Ref sig .tc := ⟨.hbm, 51, rfl⟩
abbrev main_v37 : Ref sig .tc := ⟨.hbm, 52, rfl⟩
abbrev main_v38 : Ref sig .tc := ⟨.hbm, 53, rfl⟩
abbrev main_cst_6 : Ref sig .tc := ⟨.hbm, 54, rfl⟩
abbrev main_v39 : Ref sig .tc := ⟨.hbm, 55, rfl⟩
abbrev main_cst_7 : Ref sig .tc := ⟨.hbm, 56, rfl⟩
abbrev main_v40 : Ref sig .tc := ⟨.hbm, 57, rfl⟩
abbrev main_cst_8 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_cst_9 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_cst_10 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_cst_11 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_cst_12 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_call1_cst : Ref sig .tc := ⟨.hbm, 98, rfl⟩
abbrev main_call1_v0 : Ref sig .tc := ⟨.hbm, 99, rfl⟩
abbrev main_v76 : Ref sig .tc := ⟨.hbm, 100, rfl⟩
abbrev main_v77 : Ref sig .tc := ⟨.hbm, 101, rfl⟩
abbrev main_cst_13 : Ref sig .tc := ⟨.hbm, 102, rfl⟩
abbrev main_v78 : Ref sig .tc := ⟨.hbm, 103, rfl⟩
abbrev main_v79 : Ref sig .tc := ⟨.hbm, 104, rfl⟩
abbrev main_cst_14 : Ref sig .tc := ⟨.hbm, 105, rfl⟩
abbrev main_v80 : Ref sig .tc := ⟨.hbm, 106, rfl⟩
abbrev main_cst_15 : Ref sig .tc := ⟨.hbm, 107, rfl⟩
abbrev main_v81 : Ref sig .tc := ⟨.hbm, 108, rfl⟩
abbrev main_v82 : Ref sig .tc := ⟨.hbm, 109, rfl⟩
abbrev main_cst_16 : Ref sig .tc := ⟨.hbm, 110, rfl⟩
abbrev main_v83 : Ref sig .tc := ⟨.hbm, 111, rfl⟩
abbrev main_cst_17 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩

abbrev nD : Nat := 1
abbrev τ : Topo := Topo.v7x

variable {F : FTy → Type} [FloatOps F]
-- ==== InDw.lean ====
abbrev S4096x2048 : Shape := ⟨2, ![4096, 2048]⟩
abbrev S4096x8192 : Shape := ⟨2, ![4096, 8192]⟩
abbrev S4x2048x2048 : Shape := ⟨3, ![4, 2048, 2048]⟩
abbrev S4096x1024 : Shape := ⟨2, ![4096, 1024]⟩
abbrev S1x1024x1024 : Shape := ⟨3, ![1, 1024, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4096x8192, .bf16⟩
  | .hbm, ⟨2, _⟩ => ⟨S4x2048x2048, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1x1024x1024, .bf16⟩
  | .local _ .vmem, ⟨5, _⟩ => ⟨S1x1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c2_i32_0 : BitVec 32 := 2#32
  let v1 : BitVec 32 := Scalar.remsi arg1 c2_i32_0
  let c0_i32 : BitVec 32 := 0#32
  ![v0.toNat, arg0.toNat, v1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InDwReferenceIdeal.lean ====
abbrev S4096x2048 : Shape := ⟨2, ![4096, 2048]⟩
abbrev S4096x8192 : Shape := ⟨2, ![4096, 8192]⟩
abbrev S_ : Shape := ⟨0, ![]⟩
abbrev S2048x8192 : Shape := ⟨2, ![2048, 8192]⟩
abbrev S8192x2048 : Shape := ⟨2, ![8192, 2048]⟩
abbrev S2048x4x2048 : Shape := ⟨3, ![2048, 4, 2048]⟩
abbrev S4x2048x2048 : Shape := ⟨3, ![4, 2048, 2048]⟩

abbrev nBuf : Space → Nat
  | .hbm => 12
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x8192, .bf16⟩
  | .hbm, ⟨2, _⟩ => ⟨S4096x2048, .f32⟩
  | .hbm, ⟨3, _⟩ => ⟨S4096x8192, .f32⟩
  | .hbm, ⟨4, _⟩ => ⟨S_, .f32⟩
  | .hbm, ⟨5, _⟩ => ⟨S2048x8192, .f32⟩
  | .hbm, ⟨6, _⟩ => ⟨S4096x8192, .f32⟩
  | .hbm, ⟨7, _⟩ => ⟨S8192x2048, .f32⟩
  | .hbm, ⟨8, _⟩ => ⟨S2048x8192, .f32⟩
  | .hbm, ⟨9, _⟩ => ⟨S2048x8192, .bf16⟩
  | .hbm, ⟨10, _⟩ => ⟨S2048x4x2048, .bf16⟩
  | .hbm, ⟨11, _⟩ => ⟨S4x2048x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== InDx.lean ====
abbrev S4096x8192 : Shape := ⟨2, ![4096, 8192]⟩
abbrev S4x2048x2048 : Shape := ⟨3, ![4, 2048, 2048]⟩
abbrev S4096x2048 : Shape := ⟨2, ![4096, 2048]⟩
abbrev S1024x2048 : Shape := ⟨2, ![1024, 2048]⟩
abbrev S1x1024x2048 : Shape := ⟨3, ![1, 1024, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x8192, .bf16⟩
  | .hbm, ⟨1, _⟩ => ⟨S4x2048x2048, .bf16⟩
  | .hbm, ⟨2, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c1_i32_0 : BitVec 32 := 1#32
  let v1 : BitVec 32 := Scalar.remsi arg2 c1_i32_0
  let c0_i32 : BitVec 32 := 0#32
  ![v0.toNat, arg1.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InDxReferenceIdeal.lean ====
abbrev S4096x8192 : Shape := ⟨2, ![4096, 8192]⟩
abbrev S4x2048x2048 : Shape := ⟨3, ![4, 2048, 2048]⟩
abbrev S2048x4x2048 : Shape := ⟨3, ![2048, 4, 2048]⟩
abbrev S2048x8192 : Shape := ⟨2, ![2048, 8192]⟩
abbrev S_ : Shape := ⟨0, ![]⟩
abbrev S4096x2048 : Shape := ⟨2, ![4096, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x8192, .bf16⟩
  | .hbm, ⟨1, _⟩ => ⟨S4x2048x2048, .bf16⟩
  | .hbm, ⟨2, _⟩ => ⟨S4096x8192, .f32⟩
  | .hbm, ⟨3, _⟩ => ⟨S4x2048x2048, .f32⟩
  | .hbm, ⟨4, _⟩ => ⟨S2048x4x2048, .f32⟩
  | .hbm, ⟨5, _⟩ => ⟨S2048x8192, .f32⟩
  | .hbm, ⟨6, _⟩ => ⟨S_, .f32⟩
  | .hbm, ⟨7, _⟩ => ⟨S4096x2048, .f32⟩
  | .hbm, ⟨8, _⟩ => ⟨S4096x8192, .f32⟩
  | .hbm, ⟨9, _⟩ => ⟨S4096x2048, .f32⟩
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== OutDw.lean ====
abbrev S4096x2048 : Shape := ⟨2, ![4096, 2048]⟩
abbrev S2048x2048 : Shape := ⟨2, ![2048, 2048]⟩
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S2048x2048, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutDwReferenceIdeal.lean ====
abbrev S4096x2048 : Shape := ⟨2, ![4096, 2048]⟩
abbrev S_ : Shape := ⟨0, ![]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S4096x2048, .f32⟩
  | .hbm, ⟨3, _⟩ => ⟨S4096x2048, .f32⟩
  | .hbm, ⟨4, _⟩ => ⟨S_, .f32⟩
  | .hbm, ⟨5, _⟩ => ⟨S2048x2048, .f32⟩
  | .hbm, ⟨6, _⟩ => ⟨S4096x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== SsmInDw.lean ====
abbrev S4096x2048 : Shape := ⟨2, ![4096, 2048]⟩
abbrev S4096x4096 : Shape := ⟨2, ![4096, 4096]⟩
abbrev S4x2048x1024 : Shape := ⟨3, ![4, 2048, 1024]⟩
abbrev S4096x1024 : Shape := ⟨2, ![4096, 1024]⟩
abbrev S1x1024x1024 : Shape := ⟨3, ![1, 1024, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4096x4096, .bf16⟩
  | .hbm, ⟨2, _⟩ => ⟨S4x2048x1024, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1x1024x1024, .bf16⟩
  | .local _ .vmem, ⟨5, _⟩ => ⟨S1x1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c1_i32_0 : BitVec 32 := 1#32
  let v1 : BitVec 32 := Scalar.remsi arg1 c1_i32_0
  let c0_i32 : BitVec 32 := 0#32
  ![v0.toNat, arg0.toNat, v1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SsmInDwReferenceIdeal.lean ====
abbrev S4096x2048 : Shape := ⟨2, ![4096, 2048]⟩
abbrev S4096x4096 : Shape := ⟨2, ![4096, 4096]⟩
abbrev S_ : Shape := ⟨0, ![]⟩
abbrev S2048x4096 : Shape := ⟨2, ![2048, 4096]⟩
abbrev S2048x4x1024 : Shape := ⟨3, ![2048, 4, 1024]⟩
abbrev S4x2048x1024 : Shape := ⟨3, ![4, 2048, 1024]⟩

abbrev nBuf : Space → Nat
  | .hbm => 12
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x4096, .bf16⟩
  | .hbm, ⟨2, _⟩ => ⟨S4096x2048, .f32⟩
  | .hbm, ⟨3, _⟩ => ⟨S4096x4096, .f32⟩
  | .hbm, ⟨4, _⟩ => ⟨S_, .f32⟩
  | .hbm, ⟨5, _⟩ => ⟨S2048x4096, .f32⟩
  | .hbm, ⟨6, _⟩ => ⟨S4096x4096, .f32⟩
  | .hbm, ⟨7, _⟩ => ⟨S4096x2048, .f32⟩
  | .hbm, ⟨8, _⟩ => ⟨S2048x4096, .f32⟩
  | .hbm, ⟨9, _⟩ => ⟨S2048x4096, .bf16⟩
  | .hbm, ⟨10, _⟩ => ⟨S2048x4x1024, .bf16⟩
  | .hbm, ⟨11, _⟩ => ⟨S4x2048x1024, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== SsmInDx.lean ====
abbrev S4096x4096 : Shape := ⟨2, ![4096, 4096]⟩
abbrev S4x2048x1024 : Shape := ⟨3, ![4, 2048, 1024]⟩
abbrev S4096x2048 : Shape := ⟨2, ![4096, 2048]⟩
abbrev S1024x1024 : Shape := ⟨2, ![1024, 1024]⟩
abbrev S1x1024x1024 : Shape := ⟨3, ![1, 1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x4096, .bf16⟩
  | .hbm, ⟨1, _⟩ => ⟨S4x2048x1024, .bf16⟩
  | .hbm, ⟨2, _⟩ => ⟨S4096x2048, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c1_i32_0 : BitVec 32 := 1#32
  let v1 : BitVec 32 := Scalar.remsi arg2 c1_i32_0
  let c0_i32 : BitVec 32 := 0#32
  ![v0.toNat, arg1.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SsmInDxReferenceIdeal.lean ====
abbrev S4096x4096 : Shape := ⟨2, ![4096, 4096]⟩
abbrev S4x2048x1024 : Shape := ⟨3, ![4, 2048, 1024]⟩
abbrev S2048x4x1024 : Shape := ⟨3, ![2048, 4, 1024]⟩
abbrev S2048x4096 : Shape := ⟨2, ![2048, 4096]⟩
abbrev S_ : Shape := ⟨0, ![]⟩
abbrev S4096x2048 : Shape := ⟨2, ![4096, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4x2048x1024, .bf16⟩
  | .hbm, ⟨2, _⟩ => ⟨S4096x4096, .f32⟩
  | .hbm, ⟨3, _⟩ => ⟨S4x2048x1024, .f32⟩
  | .hbm, ⟨4, _⟩ => ⟨S2048x4x1024, .f32⟩
  | .hbm, ⟨5, _⟩ => ⟨S2048x4096, .f32⟩
  | .hbm, ⟨6, _⟩ => ⟨S_, .f32⟩
  | .hbm, ⟨7, _⟩ => ⟨S4096x2048, .f32⟩
  | .hbm, ⟨8, _⟩ => ⟨S4096x4096, .f32⟩
  | .hbm, ⟨9, _⟩ => ⟨S4096x2048, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== OutDx.lean ====
abbrev S4096x2048 : Shape := ⟨2, ![4096, 2048]⟩
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutDxReferenceIdeal.lean ====
abbrev S4096x2048 : Shape := ⟨2, ![4096, 2048]⟩
abbrev S2048x2048 : Shape := ⟨2, ![2048, 2048]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S2048x2048, .f32⟩
  | .hbm, ⟨4, _⟩ => ⟨S_, .f32⟩
  | .hbm, ⟨5, _⟩ => ⟨S4096x2048, .f32⟩
  | .hbm, ⟨6, _⟩ => ⟨S4096x2048, .f32⟩
  | .hbm, ⟨7, _⟩ => ⟨S4096x2048, .f32⟩
  | .hbm, ⟨8, _⟩ => ⟨S4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== GateDx.lean ====
abbrev S4096x2048 : Shape := ⟨2, ![4096, 2048]⟩
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GateDxReferenceIdeal.lean ====
abbrev S4096x2048 : Shape := ⟨2, ![4096, 2048]⟩
abbrev S2048x2048 : Shape := ⟨2, ![2048, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S2048x2048, .f32⟩
  | .hbm, ⟨4, _⟩ => ⟨S_, .f32⟩
  | .hbm, ⟨5, _⟩ => ⟨S4096x2048, .f32⟩
  | .hbm, ⟨6, _⟩ => ⟨S4096x2048, .f32⟩
  | .hbm, ⟨7, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== SwaInDw.lean ====
abbrev S4096x2048 : Shape := ⟨2, ![4096, 2048]⟩
abbrev S4096x4608 : Shape := ⟨2, ![4096, 4608]⟩
abbrev S4x2048x1152 : Shape := ⟨3, ![4, 2048, 1152]⟩
abbrev S4096x1024 : Shape := ⟨2, ![4096, 1024]⟩
abbrev S4096x1152 : Shape := ⟨2, ![4096, 1152]⟩
abbrev S1x1024x1152 : Shape := ⟨3, ![1, 1024, 1152]⟩
abbrev S1024x1152 : Shape := ⟨2, ![1024, 1152]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4096x4608, .bf16⟩
  | .hbm, ⟨2, _⟩ => ⟨S4x2048x1152, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1152, .bf16⟩
  | .local _ .vmem, ⟨3, _⟩ => ⟨S4096x1152, .bf16⟩
  | .local _ .vmem, ⟨4, _⟩ => ⟨S1x1024x1152, .bf16⟩
  | .local _ .vmem, ⟨5, _⟩ => ⟨S1x1024x1152, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c1_i32_0 : BitVec 32 := 1#32
  let v1 : BitVec 32 := Scalar.remsi arg1 c1_i32_0
  let c0_i32 : BitVec 32 := 0#32
  ![v0.toNat, arg0.toNat, v1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1152 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SwaInDwReferenceIdeal.lean ====
abbrev S4096x2048 : Shape := ⟨2, ![4096, 2048]⟩
abbrev S4096x4608 : Shape := ⟨2, ![4096, 4608]⟩
abbrev S_ : Shape := ⟨0, ![]⟩
abbrev S2048x4608 : Shape := ⟨2, ![2048, 4608]⟩
abbrev S4608x2048 : Shape := ⟨2, ![4608, 2048]⟩
abbrev S2048x4x1152 : Shape := ⟨3, ![2048, 4, 1152]⟩
abbrev S4x2048x1152 : Shape := ⟨3, ![4, 2048, 1152]⟩

abbrev nBuf : Space → Nat
  | .hbm => 12
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x4608, .bf16⟩
  | .hbm, ⟨2, _⟩ => ⟨S4096x2048, .f32⟩
  | .hbm, ⟨3, _⟩ => ⟨S4096x4608, .f32⟩
  | .hbm, ⟨4, _⟩ => ⟨S_, .f32⟩
  | .hbm, ⟨5, _⟩ => ⟨S2048x4608, .f32⟩
  | .hbm, ⟨6, _⟩ => ⟨S4096x4608, .f32⟩
  | .hbm, ⟨7, _⟩ => ⟨S4608x2048, .f32⟩
  | .hbm, ⟨8, _⟩ => ⟨S2048x4608, .f32⟩
  | .hbm, ⟨9, _⟩ => ⟨S2048x4608, .bf16⟩
  | .hbm, ⟨10, _⟩ => ⟨S2048x4x1152, .bf16⟩
  | .hbm, ⟨11, _⟩ => ⟨S4x2048x1152, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== SwaInDx.lean ====
abbrev S4096x4608 : Shape := ⟨2, ![4096, 4608]⟩
abbrev S4x2048x1152 : Shape := ⟨3, ![4, 2048, 1152]⟩
abbrev S4096x2048 : Shape := ⟨2, ![4096, 2048]⟩
abbrev S1024x1152 : Shape := ⟨2, ![1024, 1152]⟩
abbrev S1x1024x1152 : Shape := ⟨3, ![1, 1024, 1152]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x4608, .bf16⟩
  | .hbm, ⟨1, _⟩ => ⟨S4x2048x1152, .bf16⟩
  | .hbm, ⟨2, _⟩ => ⟨S4096x2048, .f32⟩
  | .local _ .vmem, ⟨0, _⟩ => ⟨S1024x1152, .bf16⟩
  | .local _ .vmem, ⟨1, _⟩ => ⟨S1024x1152, .bf16⟩
  | .local _ .vmem, ⟨2, _⟩ => ⟨S1x1024x1152, .bf16⟩
  | .local _ .vmem, ⟨3, _⟩ => ⟨S1x1024x1152, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x4608, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c1_i32_0 : BitVec 32 := 1#32
  let v1 : BitVec 32 := Scalar.remsi arg2 c1_i32_0
  let c0_i32 : BitVec 32 := 0#32
  ![v0.toNat, arg1.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1152 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SwaInDxReferenceIdeal.lean ====
abbrev S4096x4608 : Shape := ⟨2, ![4096, 4608]⟩
abbrev S4x2048x1152 : Shape := ⟨3, ![4, 2048, 1152]⟩
abbrev S2048x4x1152 : Shape := ⟨3, ![2048, 4, 1152]⟩
abbrev S2048x4608 : Shape := ⟨2, ![2048, 4608]⟩
abbrev S_ : Shape := ⟨0, ![]⟩
abbrev S4096x2048 : Shape := ⟨2, ![4096, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x4608, .bf16⟩
  | .hbm, ⟨1, _⟩ => ⟨S4x2048x1152, .bf16⟩
  | .hbm, ⟨2, _⟩ => ⟨S4096x4608, .f32⟩
  | .hbm, ⟨3, _⟩ => ⟨S4x2048x1152, .f32⟩
  | .hbm, ⟨4, _⟩ => ⟨S2048x4x1152, .f32⟩
  | .hbm, ⟨5, _⟩ => ⟨S2048x4608, .f32⟩
  | .hbm, ⟨6, _⟩ => ⟨S_, .f32⟩
  | .hbm, ⟨7, _⟩ => ⟨S4096x2048, .f32⟩
  | .hbm, ⟨8, _⟩ => ⟨S4096x4608, .f32⟩
  | .hbm, ⟨9, _⟩ => ⟨S4096x2048, .f32⟩
  | _, _ => ⟨S4096x4608, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== FoxIn.lean ====
abbrev S4096x2048 : Shape := ⟨2, ![4096, 2048]⟩
abbrev S4x2048x2048 : Shape := ⟨3, ![4, 2048, 2048]⟩
abbrev S4096x8192 : Shape := ⟨2, ![4096, 8192]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4x2048x2048, .bf16⟩
  | .hbm, ⟨2, _⟩ => ⟨S4096x8192, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1024x1024, .bf16⟩
  | .local _ .vmem, ⟨5, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c2_i32_0 : BitVec 32 := 2#32
  let v1 : BitVec 32 := Scalar.remsi arg1 c2_i32_0
  let c0_i32 : BitVec 32 := 0#32
  ![v0.toNat, arg2.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FoxInReferenceIdeal.lean ====
abbrev S4096x2048 : Shape := ⟨2, ![4096, 2048]⟩
abbrev S4x2048x2048 : Shape := ⟨3, ![4, 2048, 2048]⟩
abbrev S2048x4x2048 : Shape := ⟨3, ![2048, 4, 2048]⟩
abbrev S2048x8192 : Shape := ⟨2, ![2048, 8192]⟩
abbrev S4096x8192 : Shape := ⟨2, ![4096, 8192]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4x2048x2048, .bf16⟩
  | .hbm, ⟨2, _⟩ => ⟨S4096x2048, .f32⟩
  | .hbm, ⟨3, _⟩ => ⟨S4x2048x2048, .f32⟩
  | .hbm, ⟨4, _⟩ => ⟨S2048x4x2048, .f32⟩
  | .hbm, ⟨5, _⟩ => ⟨S2048x8192, .f32⟩
  | .hbm, ⟨6, _⟩ => ⟨S4096x8192, .f32⟩
  | .hbm, ⟨7, _⟩ => ⟨S4096x8192, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== MixerOut.lean ====
abbrev S4096x2048 : Shape := ⟨2, ![4096, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixerOutReferenceIdeal.lean ====
abbrev S4096x2048 : Shape := ⟨2, ![4096, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S2048x2048, .f32⟩
  | .hbm, ⟨4, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== SsmIn.lean ====
abbrev S4096x2048 : Shape := ⟨2, ![4096, 2048]⟩
abbrev S4x2048x1024 : Shape := ⟨3, ![4, 2048, 1024]⟩
abbrev S4096x4096 : Shape := ⟨2, ![4096, 4096]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4x2048x1024, .bf16⟩
  | .hbm, ⟨2, _⟩ => ⟨S4096x4096, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1024x1024, .f32⟩
  | .local _ .vmem, ⟨5, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c1_i32_0 : BitVec 32 := 1#32
  let v1 : BitVec 32 := Scalar.remsi arg1 c1_i32_0
  let c0_i32 : BitVec 32 := 0#32
  ![v0.toNat, arg2.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SsmInReferenceIdeal.lean ====
abbrev S4096x2048 : Shape := ⟨2, ![4096, 2048]⟩
abbrev S4x2048x1024 : Shape := ⟨3, ![4, 2048, 1024]⟩
abbrev S2048x4x1024 : Shape := ⟨3, ![2048, 4, 1024]⟩
abbrev S2048x4096 : Shape := ⟨2, ![2048, 4096]⟩
abbrev S4096x4096 : Shape := ⟨2, ![4096, 4096]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4x2048x1024, .bf16⟩
  | .hbm, ⟨2, _⟩ => ⟨S4096x2048, .f32⟩
  | .hbm, ⟨3, _⟩ => ⟨S4x2048x1024, .f32⟩
  | .hbm, ⟨4, _⟩ => ⟨S2048x4x1024, .f32⟩
  | .hbm, ⟨5, _⟩ => ⟨S2048x4096, .f32⟩
  | .hbm, ⟨6, _⟩ => ⟨S4096x4096, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== SwaIn.lean ====
abbrev S4096x2048 : Shape := ⟨2, ![4096, 2048]⟩
abbrev S4x2048x1152 : Shape := ⟨3, ![4, 2048, 1152]⟩
abbrev S4096x4608 : Shape := ⟨2, ![4096, 4608]⟩
abbrev S1024x2048 : Shape := ⟨2, ![1024, 2048]⟩
abbrev S1x2048x1152 : Shape := ⟨3, ![1, 2048, 1152]⟩
abbrev S1024x1152 : Shape := ⟨2, ![1024, 1152]⟩
abbrev S2048x1152 : Shape := ⟨2, ![2048, 1152]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4x2048x1152, .bf16⟩
  | .hbm, ⟨2, _⟩ => ⟨S4096x4608, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x1152, .bf16⟩
  | .local _ .vmem, ⟨3, _⟩ => ⟨S1x2048x1152, .bf16⟩
  | .local _ .vmem, ⟨4, _⟩ => ⟨S1024x1152, .bf16⟩
  | .local _ .vmem, ⟨5, _⟩ => ⟨S1024x1152, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c1_i32_0 : BitVec 32 := 1#32
  let v1 : BitVec 32 := Scalar.remsi arg1 c1_i32_0
  let c0_i32 : BitVec 32 := 0#32
  ![v0.toNat, arg2.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1152 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SwaInReferenceIdeal.lean ====
abbrev S4096x2048 : Shape := ⟨2, ![4096, 2048]⟩
abbrev S4x2048x1152 : Shape := ⟨3, ![4, 2048, 1152]⟩
abbrev S2048x4x1152 : Shape := ⟨3, ![2048, 4, 1152]⟩
abbrev S2048x4608 : Shape := ⟨2, ![2048, 4608]⟩
abbrev S4096x4608 : Shape := ⟨2, ![4096, 4608]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4x2048x1152, .bf16⟩
  | .hbm, ⟨2, _⟩ => ⟨S4096x2048, .f32⟩
  | .hbm, ⟨3, _⟩ => ⟨S4x2048x1152, .f32⟩
  | .hbm, ⟨4, _⟩ => ⟨S2048x4x1152, .f32⟩
  | .hbm, ⟨5, _⟩ => ⟨S2048x4608, .f32⟩
  | .hbm, ⟨6, _⟩ => ⟨S4096x4608, .f32⟩
  | .hbm, ⟨7, _⟩ => ⟨S4096x4608, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== PleMixBwd.lean ====
abbrev S4096x2048 : Shape := ⟨2, ![4096, 2048]⟩
abbrev S256x2048 : Shape := ⟨2, ![256, 2048]⟩

abbrev nBuf : Space → Nat
  | .hbm => 5
  | .vmem => 10
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S4096x2048, .bf16⟩
  | .hbm, ⟨4, _⟩ => ⟨S4096x2048, .bf16⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .bf16⟩
  | .local _ .vmem, ⟨7, _⟩ => ⟨S256x2048, .bf16⟩
  | .local _ .vmem, ⟨8, _⟩ => ⟨S256x2048, .bf16⟩
  | .local _ .vmem, ⟨9, _⟩ => ⟨S256x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== PleMixBwdReferenceIdeal.lean ====
abbrev S4096x2048 : Shape := ⟨2, ![4096, 2048]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S_, .f32⟩
  | .hbm, ⟨6, _⟩ => ⟨S4096x2048, .f32⟩
  | .hbm, ⟨7, _⟩ => ⟨S4096x2048, .f32⟩
  | .hbm, ⟨8, _⟩ => ⟨S_, .f32⟩
  | .hbm, ⟨9, _⟩ => ⟨S4096x2048, .f32⟩
  | .hbm, ⟨10, _⟩ => ⟨S4096x2048, .f32⟩
  | .hbm, ⟨11, _⟩ => ⟨S_, .f32⟩
  | .hbm, ⟨12, _⟩ => ⟨S4096x2048, .f32⟩
  | .hbm, ⟨13, _⟩ => ⟨S4096x2048, .f32⟩
  | .hbm, ⟨14, _⟩ => ⟨S4096x2048, .f32⟩
  | .hbm, ⟨15, _⟩ => ⟨S4096x2048, .f32⟩
  | .hbm, ⟨16, _⟩ => ⟨S4096x2048, .f32⟩
  | .hbm, ⟨17, _⟩ => ⟨S4096x2048, .f32⟩
  | .hbm, ⟨18, _⟩ => ⟨S4096x2048, .f32⟩
  | .hbm, ⟨19, _⟩ => ⟨S4096x2048, .bf16⟩
  | .hbm, ⟨20, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== PleEmbDw.lean ====
abbrev S4096x256 : Shape := ⟨2, ![4096, 256]⟩
abbrev S4096x2048 : Shape := ⟨2, ![4096, 2048]⟩
abbrev S4x256x512 : Shape := ⟨3, ![4, 256, 512]⟩
abbrev S4096x512 : Shape := ⟨2, ![4096, 512]⟩
abbrev S1x256x512 : Shape := ⟨3, ![1, 256, 512]⟩
abbrev S256x512 : Shape := ⟨2, ![256, 512]⟩

abbrev nBuf : Space → Nat
  | .hbm => 3
  | .vmem => 5
  | .smem => 0
  | _ => 0

abbrev bufTy : (tb : Table) → Fin (tcTables nBuf tb) → BufTy
  | .hbm, ⟨0, _⟩ => ⟨S4096x256, .bf16⟩
  | .hbm, ⟨1, _⟩ => ⟨S4096x2048, .bf16⟩
  | .hbm, ⟨2, _⟩ => ⟨S4x256x512, .bf16⟩
  | .local _ .vmem, ⟨0, _⟩ => ⟨S4096x256, .bf16⟩
  | .local _ .vmem, ⟨1, _⟩ => ⟨S4096x512, .bf16⟩
  | .local _ .vmem, ⟨2, _⟩ => ⟨S4096x512, .bf16⟩
  | .local _ .vmem, ⟨3, _⟩ => ⟨S1x256x512, .bf16⟩
  | .local _ .vmem, ⟨4, _⟩ => ⟨S1x256x512, .bf16⟩
  | _, _ => ⟨S4096x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c1_i32_0 : BitVec 32 := 1#32
  let v1 : BitVec 32 := Scalar.remsi arg1 c1_i32_0
  let c0_i32 : BitVec 32 := 0#32
  ![v0.toNat, arg0.toNat, v1.toNat]

abbrev stage0_0 : Fin 1 → Memref sig .tc .vmem S4096x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== PleEmbDwReferenceIdeal.lean ====
abbrev S4096x256 : Shape := ⟨2, ![4096, 256]⟩
abbrev S4096x2048 : Shape := ⟨2, ![4096, 2048]⟩
abbrev S_ : Shape := ⟨0, ![]⟩
abbrev S256x2048 : Shape := ⟨2, ![256, 2048]⟩
abbrev S2048x256 : Shape := ⟨2, ![2048, 256]⟩
abbrev S256x4x512 : Shape := ⟨3, ![256, 4, 512]⟩
abbrev S4x256x512 : Shape := ⟨3, ![4, 256, 512]⟩

abbrev nBuf : Space → Nat
  | .hbm => 12
  | .vmem => 0
  | .smem => 0
  | _ => 0

abbrev bufTy : (tb : Table) → Fin (tcTables nBuf tb) → BufTy
  | .hbm, ⟨0, _⟩ => ⟨S4096x256, .bf16⟩
  | .hbm, ⟨1, _⟩ => ⟨S4096x2048, .bf16⟩
  | .hbm, ⟨2, _⟩ => ⟨S4096x256, .f32⟩
  | .hbm, ⟨3, _⟩ => ⟨S4096x2048, .f32⟩
  | .hbm, ⟨4, _⟩ => ⟨S_, .f32⟩
  | .hbm, ⟨5, _⟩ => ⟨S256x2048, .f32⟩
  | .hbm, ⟨6, _⟩ => ⟨S4096x2048, .f32⟩
  | .hbm, ⟨7, _⟩ => ⟨S2048x256, .f32⟩
  | .hbm, ⟨8, _⟩ => ⟨S256x2048, .f32⟩
  | .hbm, ⟨9, _⟩ => ⟨S256x2048, .bf16⟩
  | .hbm, ⟨10, _⟩ => ⟨S256x4x512, .bf16⟩
  | .hbm, ⟨11, _⟩ => ⟨S4x256x512, .bf16⟩
  | _, _ => ⟨S4096x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== PleEmb.lean ====
abbrev S4096x256 : Shape := ⟨2, ![4096, 256]⟩
abbrev S4x256x512 : Shape := ⟨3, ![4, 256, 512]⟩
abbrev S4096x2048 : Shape := ⟨2, ![4096, 2048]⟩
abbrev S1024x256 : Shape := ⟨2, ![1024, 256]⟩
abbrev S1x256x512 : Shape := ⟨3, ![1, 256, 512]⟩
abbrev S1024x512 : Shape := ⟨2, ![1024, 512]⟩
abbrev S256x512 : Shape := ⟨2, ![256, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x256, .bf16⟩
  | .hbm, ⟨1, _⟩ => ⟨S4x256x512, .bf16⟩
  | .hbm, ⟨2, _⟩ => ⟨S4096x2048, .f32⟩
  | .local _ .vmem, ⟨0, _⟩ => ⟨S1024x256, .bf16⟩
  | .local _ .vmem, ⟨1, _⟩ => ⟨S1024x256, .bf16⟩
  | .local _ .vmem, ⟨2, _⟩ => ⟨S1x256x512, .bf16⟩
  | .local _ .vmem, ⟨3, _⟩ => ⟨S1x256x512, .bf16⟩
  | .local _ .vmem, ⟨4, _⟩ => ⟨S1024x512, .f32⟩
  | .local _ .vmem, ⟨5, _⟩ => ⟨S1024x512, .f32⟩
  | _, _ => ⟨S4096x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c1_i32_0 : BitVec 32 := 1#32
  let v1 : BitVec 32 := Scalar.remsi arg1 c1_i32_0
  let c0_i32 : BitVec 32 := 0#32
  ![v0.toNat, arg2.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== PleEmbReferenceIdeal.lean ====
abbrev S4096x256 : Shape := ⟨2, ![4096, 256]⟩
abbrev S4x256x512 : Shape := ⟨3, ![4, 256, 512]⟩
abbrev S256x4x512 : Shape := ⟨3, ![256, 4, 512]⟩
abbrev S256x2048 : Shape := ⟨2, ![256, 2048]⟩
abbrev S4096x2048 : Shape := ⟨2, ![4096, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x256, .bf16⟩
  | .hbm, ⟨1, _⟩ => ⟨S4x256x512, .bf16⟩
  | .hbm, ⟨2, _⟩ => ⟨S4096x256, .f32⟩
  | .hbm, ⟨3, _⟩ => ⟨S4x256x512, .f32⟩
  | .hbm, ⟨4, _⟩ => ⟨S256x4x512, .f32⟩
  | .hbm, ⟨5, _⟩ => ⟨S256x2048, .f32⟩
  | .hbm, ⟨6, _⟩ => ⟨S4096x2048, .f32⟩
  | _, _ => ⟨S4096x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== FoxGateBwd.lean ====
abbrev S4096x2048 : Shape := ⟨2, ![4096, 2048]⟩
abbrev S4096x8192 : Shape := ⟨2, ![4096, 8192]⟩
abbrev S256x2048 : Shape := ⟨2, ![256, 2048]⟩

abbrev nBuf : Space → Nat
  | .hbm => 5
  | .vmem => 10
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S4096x8192, .bf16⟩
  | .hbm, ⟨3, _⟩ => ⟨S4096x2048, .bf16⟩
  | .hbm, ⟨4, _⟩ => ⟨S4096x2048, .bf16⟩
  | .local _ .vmem, ⟨0, _⟩ => ⟨S256x2048, .bf16⟩
  | .local _ .vmem, ⟨1, _⟩ => ⟨S256x2048, .bf16⟩
  | .local _ .vmem, ⟨2, _⟩ => ⟨S256x2048, .bf16⟩
  | .local _ .vmem, ⟨3, _⟩ => ⟨S256x2048, .bf16⟩
  | .local _ .vmem, ⟨4, _⟩ => ⟨S256x2048, .bf16⟩
  | .local _ .vmem, ⟨5, _⟩ => ⟨S256x2048, .bf16⟩
  | .local _ .vmem, ⟨6, _⟩ => ⟨S256x2048, .bf16⟩
  | .local _ .vmem, ⟨7, _⟩ => ⟨S256x2048, .bf16⟩
  | .local _ .vmem, ⟨8, _⟩ => ⟨S256x2048, .bf16⟩
  | .local _ .vmem, ⟨9, _⟩ => ⟨S256x2048, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== FoxGateBwdReferenceIdeal.lean ====
abbrev S4096x2048 : Shape := ⟨2, ![4096, 2048]⟩
abbrev S4096x8192 : Shape := ⟨2, ![4096, 8192]⟩
abbrev S_ : Shape := ⟨0, ![]⟩

abbrev nBuf : Space → Nat
  | .hbm => 32
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S4096x8192, .bf16⟩
  | .hbm, ⟨3, _⟩ => ⟨S4096x2048, .f32⟩
  | .hbm, ⟨4, _⟩ => ⟨S4096x2048, .bf16⟩
  | .hbm, ⟨5, _⟩ => ⟨S4096x2048, .bf16⟩
  | .hbm, ⟨6, _⟩ => ⟨S4096x2048, .bf16⟩
  | .hbm, ⟨7, _⟩ => ⟨S4096x2048, .bf16⟩
  | .hbm, ⟨8, _⟩ => ⟨S4096x2048, .f32⟩
  | .hbm, ⟨9, _⟩ => ⟨S4096x2048, .f32⟩
  | .hbm, ⟨10, _⟩ => ⟨S4096x2048, .f32⟩
  | .hbm, ⟨11, _⟩ => ⟨S_, .f32⟩
  | .hbm, ⟨12, _⟩ => ⟨S4096x2048, .f32⟩
  | .hbm, ⟨13, _⟩ => ⟨S4096x2048, .f32⟩
  | .hbm, ⟨14, _⟩ => ⟨S_, .f32⟩
  | .hbm, ⟨15, _⟩ => ⟨S4096x2048, .f32⟩
  | .hbm, ⟨16, _⟩ => ⟨S4096x2048, .f32⟩
  | .hbm, ⟨17, _⟩ => ⟨S_, .f32⟩
  | .hbm, ⟨18, _⟩ => ⟨S4096x2048, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S4096x2048, .f32⟩
  | .hbm, ⟨26, _⟩ => ⟨S4096x2048, .f32⟩
  | .hbm, ⟨27, _⟩ => ⟨S4096x2048, .f32⟩
  | .hbm, ⟨28, _⟩ => ⟨S4096x2048, .f32⟩
  | .hbm, ⟨29, _⟩ => ⟨S4096x2048, .f32⟩
  | .hbm, ⟨30, _⟩ => ⟨S4096x2048, .bf16⟩
  | .hbm, ⟨31, _⟩ => ⟨S4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_v6_2 : Ref sig .tc := ⟨.hbm, 16, rfl⟩
abbrev main_call0_cst_1 : Ref sig .tc := ⟨.hbm, 17, rfl⟩
abbrev main_call0_v6 : Ref sig .tc := ⟨.hbm, 18, rfl⟩
abbrev main_call0_v7 : Ref sig .tc := ⟨.hbm, 19, rfl⟩
abbrev main_v6_1 : Ref sig .tc := ⟨.hbm, 20, rfl⟩
abbrev main_v6_0 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩

abbrev nD : Nat := 1
abbrev τ : Topo := Topo.v7x

variable {F : FTy → Type} [FloatOps F]
-- ==== FoxGate.lean ====
abbrev S4096x2048 : Shape := ⟨2, ![4096, 2048]⟩
abbrev S4096x8192 : Shape := ⟨2, ![4096, 8192]⟩
abbrev S256x2048 : Shape := ⟨2, ![256, 2048]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4096x8192, .bf16⟩
  | .hbm, ⟨2, _⟩ => ⟨S4096x2048, .bf16⟩
  | .local _ .vmem, ⟨0, _⟩ => ⟨S256x2048, .bf16⟩
  | .local _ .vmem, ⟨1, _⟩ => ⟨S256x2048, .bf16⟩
  | .local _ .vmem, ⟨2, _⟩ => ⟨S256x2048, .bf16⟩
  | .local _ .vmem, ⟨3, _⟩ => ⟨S256x2048, .bf16⟩
  | .local _ .vmem, ⟨4, _⟩ => ⟨S256x2048, .bf16⟩
  | .local _ .vmem, ⟨5, _⟩ => ⟨S256x2048, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== FoxGateReferenceIdeal.lean ====
abbrev S4096x2048 : Shape := ⟨2, ![4096, 2048]⟩
abbrev S4096x8192 : Shape := ⟨2, ![4096, 8192]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x8192, .bf16⟩
  | .hbm, ⟨2, _⟩ => ⟨S4096x2048, .f32⟩
  | .hbm, ⟨3, _⟩ => ⟨S4096x2048, .bf16⟩
  | .hbm, ⟨4, _⟩ => ⟨S4096x2048, .bf16⟩
  | .hbm, ⟨5, _⟩ => ⟨S4096x2048, .bf16⟩
  | .hbm, ⟨6, _⟩ => ⟨S4096x2048, .bf16⟩
  | .hbm, ⟨7, _⟩ => ⟨S4096x2048, .f32⟩
  | .hbm, ⟨8, _⟩ => ⟨S4096x2048, .f32⟩
  | .hbm, ⟨9, _⟩ => ⟨S4096x2048, .f32⟩
  | .hbm, ⟨10, _⟩ => ⟨S_, .f32⟩
  | .hbm, ⟨11, _⟩ => ⟨S4096x2048, .f32⟩
  | .hbm, ⟨12, _⟩ => ⟨S4096x2048, .f32⟩
  | .hbm, ⟨13, _⟩ => ⟨S_, .f32⟩
  | .hbm, ⟨14, _⟩ => ⟨S4096x2048, .f32⟩
  | .hbm, ⟨15, _⟩ => ⟨S4096x2048, .f32⟩
  | .hbm, ⟨16, _⟩ => ⟨S4096x2048, .f32⟩
  | .hbm, ⟨17, _⟩ => ⟨S4096x2048, .f32⟩
  | .hbm, ⟨18, _⟩ => ⟨S4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩

abbrev nD : Nat := 1
abbrev τ : Topo := Topo.v7x

variable {F : FTy → Type} [FloatOps F]
-- ==== Proof.FoxReal.lean ====
/- The gradient of forgetting attention over the real numbers, for one head: the weights, their gradient, and the
   identities that a block-wise backward pass uses. -/
module

public import Idealize.ShloMosaic.PureOps.Ideal
public import Mathlib.Data.EReal.Operations
public import Mathlib.Data.EReal.Inv

@[expose] public section

noncomputable section

namespace Cert.FoxReal

open Idealize.ShloMosaic
open scoped BigOperators

/-- A finite sum of reals, read in the extended reals. -/
theorem coe_sum {ι : Type*} (s : Finset ι) (f : ι → ℝ) : ((∑ x ∈ s, f x : ℝ) : EReal) = ∑ x ∈ s, (f x : EReal) := by
  classical
  induction s using Finset.induction_on with
  | empty => simp
  | insert a s h ih => rw [Finset.sum_insert h, Finset.sum_insert h, EReal.coe_add, ih]

variable {N D : ℕ} (q k v g : Fin N → Fin D → ℝ) (c mx : Fin N → ℝ)

/-- The score of key `b` for query `a`: the scaled product plus the difference of the running sums. -/
def score (a b : Fin N) : ℝ := (∑ d, q a d * k b d) * (1 / 8) + c a - c b

/-- The masked score: only the keys up to the query. -/
def masked (a b : Fin N) : EReal := if b ≤ a then (score q k c a b : EReal) else ⊥

/-- The unnormalised weight under the row's shift `mx`. -/
def weight (a b : Fin N) : ℝ := if b ≤ a then Real.exp (score q k c a b - mx a) else 0

/-- The sum of a row's weights. -/
def total (a : Fin N) : ℝ := ∑ b, weight q k c mx a b

/-- The attention weight. -/
def prob (a b : Fin N) : ℝ := weight q k c mx a b / total q k c mx a

/-- The gradient that the weight receives from the output. -/
def dprob (a b : Fin N) : ℝ := ∑ d, g a d * v b d

/-- The gradient of the score. -/
def dscore (a b : Fin N) : ℝ :=
  prob q k c mx a b * (dprob v g a b - ∑ b', prob q k c mx a b' * dprob v g a b')

theorem weight_nonneg (a b : Fin N) : 0 ≤ weight q k c mx a b := by
  unfold weight; split_ifs
  · exact (Real.exp_pos _).le
  · exact le_rfl

theorem total_pos (a : Fin N) : 0 < total q k c mx a :=
  Finset.sum_pos' (fun b _ => weight_nonneg q k c mx a b)
    ⟨a, Finset.mem_univ _, by unfold weight; rw [if_pos le_rfl]; exact Real.exp_pos _⟩

theorem prob_above {a b : Fin N} (h : ¬ b ≤ a) : prob q k c mx a b = 0 := by
  simp [prob, weight, h]

theorem dscore_above {a b : Fin N} (h : ¬ b ≤ a) : dscore q k v g c mx a b = 0 := by
  simp [dscore, prob_above q k c mx h]

/-- The exponential of the masked score under the shift is the weight. -/
theorem exp_masked (a b : Fin N) : Ideal.exp (masked q k c a b - (mx a : EReal)) = (weight q k c mx a b : EReal) := by
  unfold masked weight
  split_ifs
  · rw [← EReal.coe_sub, Ideal.exp_coe]
  · rw [EReal.bot_sub, Ideal.exp_bot, EReal.coe_zero]

/-- The exponential of the masked score less the row's log-sum is the normalised weight. -/
theorem exp_masked_logsum (a b : Fin N) :
    Ideal.exp (masked q k c a b - ((mx a : EReal) + Ideal.log (total q k c mx a : EReal))) = (prob q k c mx a b : EReal) := by
  have ht := total_pos q k c mx a
  rw [Ideal.log_coe, if_neg (not_le.mpr ht), ← EReal.coe_add]
  unfold masked prob weight
  split_ifs
  · rw [← EReal.coe_sub, Ideal.exp_coe, ← sub_sub, Real.exp_sub _ (Real.log _), Real.exp_log ht]
  · rw [EReal.bot_sub, Ideal.exp_bot, zero_div, EReal.coe_zero]

theorem div_coe_coe {x y : ℝ} (h : y ≠ 0) : Ideal.div (x : EReal) (y : EReal) = ((x / y : ℝ) : EReal) := by
  rw [Ideal.div_coe h, ← EReal.coe_mul, mul_one_div]

/-- The row sum of the output against its cotangent is the weighted sum of the weights' gradients. -/
theorem delta_eq (a : Fin N) :
    ∑ d, g a d * (∑ b, v b d * prob q k c mx a b) = ∑ b, prob q k c mx a b * dprob v g a b := by
  simp only [dprob, Finset.mul_sum]
  rw [Finset.sum_comm]
  exact Finset.sum_congr rfl fun b _ => Finset.sum_congr rfl fun d _ => by ring

/-- The gradient of a quotient by the row's sum, written out, is the gradient of the score. -/
theorem quotient_rule (a b : Fin N) :
    (dprob v g a b / total q k c mx a
      + -(∑ b', dprob v g a b' * (1 / (total q k c mx a * total q k c mx a)) * weight q k c mx a b'))
      * weight q k c mx a b = dscore q k v g c mx a b := by
  have ht := (total_pos q k c mx a).ne'
  have hs : ∑ b', dprob v g a b' * (1 / (total q k c mx a * total q k c mx a)) * weight q k c mx a b'
      = (∑ b', prob q k c mx a b' * dprob v g a b') / total q k c mx a := by
    rw [Finset.sum_div]
    refine Finset.sum_congr rfl fun b' _ => ?_
    unfold prob; field_simp
  rw [hs]; unfold dscore prob; field_simp; ring

/-- A maximum from the lower end over values none of which is the upper end, one of them above the lower end, is a real. -/
theorem fold_max_real {ι : Type*} (s : Finset ι) (f : ι → EReal) (hf : ∀ x ∈ s, f x < ⊤) (hr : ∃ x ∈ s, ⊥ < f x) :
    ∃ r : ℝ, s.fold max ⊥ f = (r : EReal) := by
  have htop : s.fold max ⊥ f < ⊤ := (Finset.fold_max_lt _).mpr ⟨bot_lt_top, hf⟩
  have hbot : ⊥ < s.fold max ⊥ f := (Finset.lt_fold_max _).mpr (.inr hr)
  exact ⟨(s.fold max ⊥ f).toReal, (EReal.coe_toReal htop.ne hbot.ne').symm⟩

theorem masked_lt_top (a b : Fin N) : masked q k c a b < ⊤ := by
  unfold masked; split_ifs
  · exact EReal.coe_lt_top _
  · exact bot_lt_top

theorem bot_lt_masked (a : Fin N) : ⊥ < masked q k c a a := by
  unfold masked; rw [if_pos le_rfl]; exact EReal.bot_lt_coe _

end Cert.FoxReal
-- ==== Proof.FoxArgs.lean ====
/- The arguments of the attention's gradient as real numbers: which column of which array each head reads. -/
module

public import proofs.«01_k».proof.Proof.FoxReal
public import Idealize.ShloMosaic.Lib.ValueIdx
public import Idealize.ShloMosaic.PureOps.Ideal.Laws
public import Idealize.ShloMosaic.PureOps.Reduce

@[expose] public section

noncomputable section

namespace Cert.FoxArgs

open Idealize.ShloMosaic Idealize.ShloMosaic.ValueIdx Cert.FoxReal

/-- Head `h`, coordinate `d`: the column of the query, of the key, of the value, and of the output. -/
def qcol (h : Fin 32) (d : Fin 64) : Fin 8192 := ⟨64 * h.val + d.val, by have := h.isLt; have := d.isLt; omega⟩
def kcol (h : Fin 32) (d : Fin 64) : Fin 8192 := ⟨2048 + (64 * h.val + d.val), by have := h.isLt; have := d.isLt; omega⟩
def vcol (h : Fin 32) (d : Fin 64) : Fin 8192 := ⟨4096 + (64 * h.val + d.val), by have := h.isLt; have := d.isLt; omega⟩
def ccol (h : Fin 32) : Fin 128 := ⟨h.val, by have := h.isLt; omega⟩
def gcol (h : Fin 32) (d : Fin 64) : Fin 2048 := ⟨64 * h.val + d.val, by have := h.isLt; have := d.isLt; omega⟩

theorem ext2 {n0 n1 : ℕ} {j : (⟨2, ![n0, n1]⟩ : Shape).Idx} {a : Fin n0} {b : Fin n1}
    (h0 : j 0 = a) (h1 : j 1 = b) : j = ix2 a b := by
  funext e; match e with | ⟨0, _⟩ => exact h0 | ⟨1, _⟩ => exact h1

theorem ext3 {n0 n1 n2 : ℕ} {j : (⟨3, ![n0, n1, n2]⟩ : Shape).Idx} {a : Fin n0} {b : Fin n1} {c : Fin n2}
    (h0 : j 0 = a) (h1 : j 1 = b) (h2 : j 2 = c) : j = ix3 a b c := by
  funext e; match e with | ⟨0, _⟩ => exact h0 | ⟨1, _⟩ => exact h1 | ⟨2, _⟩ => exact h2

/-- The comparison of two positions, as the mask makes it on 32-bit words. -/
theorem sle_ofNat (a b : Fin 4096) :
    IntOp.cmpi .sle (BitVec.ofNat 32 b.val) (BitVec.ofNat 32 a.val) = if b ≤ a then 1#1 else 0#1 := by
  have ha := a.isLt
  have hb := b.isLt
  have key : (BitVec.ofNat 32 b.val).sle (BitVec.ofNat 32 a.val) = decide (b ≤ a) := by
    rw [BitVec.sle_eq_decide, BitVec.toInt_eq_toNat_of_lt, BitVec.toInt_eq_toNat_of_lt] <;>
      simp only [BitVec.toNat_ofNat]
    · rw [Nat.mod_eq_of_lt (by omega), Nat.mod_eq_of_lt (by omega)]
      exact decide_eq_decide.mpr (Int.ofNat_le.trans Fin.le_def.symm)
    · rw [Nat.mod_eq_of_lt (by omega)]; omega
    · rw [Nat.mod_eq_of_lt (by omega)]; omega
  unfold IntOp.cmpi
  simp only [key]
  by_cases h : b ≤ a <;> simp [h]

/-- The arguments read as reals: `q`, `k`, `v` of the projection, the running sums `c`, the output's cotangent `g`. -/
structure Reads (x0 : (⟨2, ![4096, 8192]⟩ : Shape).Idx → EReal) (x1 : (⟨2, ![4096, 128]⟩ : Shape).Idx → EReal)
    (x2 : (⟨2, ![4096, 2048]⟩ : Shape).Idx → EReal)
    (q k v g : Fin 32 → Fin 4096 → Fin 64 → ℝ) (c : Fin 32 → Fin 4096 → ℝ) : Prop where
  hq : ∀ h a d, x0 (ix2 a (qcol h d)) = (q h a d : EReal)
  hk : ∀ h a d, x0 (ix2 a (kcol h d)) = (k h a d : EReal)
  hv : ∀ h a d, x0 (ix2 a (vcol h d)) = (v h a d : EReal)
  hg : ∀ h a d, x2 (ix2 a (gcol h d)) = (g h a d : EReal)
  hc : ∀ h a, x1 (ix2 a (ccol h)) = (c h a : EReal)

theorem ofBits_eighth : Ideal.ofBits .f32 0x3E000000#32 = ((1 / 8 : ℝ) : EReal) := by
  simp [Ideal.ofBits, Ideal.ieee, -EReal.coe_mul]; norm_num

theorem ofBits_zero : Ideal.ofBits .f32 0x00000000#32 = (0 : EReal) := by
  simp [Ideal.ofBits, Ideal.ieee, -EReal.coe_mul]

theorem ofBits_one : Ideal.ofBits .f32 0x3F800000#32 = ((1 : ℝ) : EReal) := by
  simp [Ideal.ofBits, Ideal.ieee, -EReal.coe_mul]; try norm_num

theorem ofBits_bot : Ideal.ofBits .f32 0xFF800000#32 = (⊥ : EReal) := by
  simp [Ideal.ofBits, Ideal.ieee, -EReal.coe_mul]

/-- The largest masked score of a row, as the host's reduction takes it, is a real number. -/
theorem rowMax_real {q k : Fin 32 → Fin 4096 → Fin 64 → ℝ} {c : Fin 32 → Fin 4096 → ℝ}
    (x : (⟨3, ![32, 4096, 4096]⟩ : Shape).Idx → EReal) (hx : ∀ h a b, x (ix3 h a b) = masked (q h) (k h) (c h) a b)
    {u : Shape} (init : u.Idx → EReal) (hi : ∀ i, init i = ⊥) (hu : 0 < u.numel)
    (hd : (⟨3, ![32, 4096, 4096]⟩ : Shape).ReducesTo [2] (⟨2, ![32, 4096]⟩ : Shape)) (h : Fin 32) (a : Fin 4096) :
    ∃ r : ℝ, Host.reduce (FloatOps.maximumf (F := Ideal) (φ := .f32)) x init hd hu (ix2 h a) = (r : EReal) := by
  have hR : (⟨3, ![32, 4096, 4096]⟩ : Shape).Reduces [2] (⟨2, ![32, 4096]⟩ : Shape) := by decide
  have hl : ∀ b : Fin 4096, Shape.Reduces.lift hR (ix2 h a) b = ix3 h a b := fun b => ext3 rfl rfl rfl
  rw [Host.reduce_eq_fold_single _ x init hd hR hu]
  rw [hi]
  refine fold_max_real (Finset.univ : Finset (Fin 4096)) (fun b : Fin 4096 => x (hR.lift (ix2 h a) b)) (fun b _ => ?_)
    ⟨a, Finset.mem_univ _, ?_⟩
  · show x (hR.lift (ix2 h a) b) < ⊤
    rw [hl b, hx]; exact masked_lt_top _ _ _ _ _
  · show ⊥ < x (hR.lift (ix2 h a) a)
    rw [hl a, hx]; exact bot_lt_masked _ _ _ _

end Cert.FoxArgs
-- ==== Proof.FoxPre.lean ====
/- The precondition, read: where `finite` is all ones, what the attention's gradient reads are real numbers. -/
module

public import proofs.«01_k».proof.Defs
public import proofs.«01_k».proof.Proof.FoxArgs
public import Idealize.ShloMosaic.Lib.Pipeline.Value

@[expose] public section

noncomputable section

namespace Cert.FoxPre

open Idealize.ShloMosaic Idealize.ShloMosaic.ValueIdx Cert.FoxReal Cert.FoxArgs

/-- The side conditions of the precondition's operations. -/
instance facts : Cert.Pre_finite.Facts where
  slices_S4096x8192_S4096x6144_0_0 := by decide
  bitsLt_bf16_f32 := by decide
  bcast_S_S4096x6144 := by decide
  slices_S4096x128_S4096x32_0_0 := by decide
  bcast_S_S4096x32 := by decide
  bcast_S_S4096x2048 := by decide

theorem ofBits_top : Ideal.ofBits .f32 0x7F800000#32 = (⊤ : EReal) := by
  simp [Ideal.ofBits, Ideal.ieee, -EReal.coe_mul]

/-- An absolute value under the upper end is a real number's. -/
theorem real_of_abs_lt {x : EReal} (h : Ideal.cmp .olt (max x (-x)) ⊤ = 1#1) : ∃ r : ℝ, x = (r : EReal) := by
  have h' : max x (-x) < ⊤ := by
    by_contra hn
    have : Ideal.cmp .olt (max x (-x)) ⊤ = 0#1 := by simp only [Ideal.cmp, hn]; rfl
    rw [this] at h; exact absurd h (by decide)
  refine ⟨x.toReal, (EReal.coe_toReal (ne_of_lt (lt_of_le_of_lt (le_max_left _ _) h')) ?_).symm⟩
  rintro rfl
  exact absurd h' (by simp)

theorem reads_of_finite {x0 : FVec Ideal (⟨2, ![4096, 8192]⟩ : Shape) .bf16} {x1 : FVec Ideal (⟨2, ![4096, 128]⟩ : Shape) .f32}
    {x2 : FVec Ideal (⟨2, ![4096, 2048]⟩ : Shape) .bf16}
    (h0 : (Cert.Pre_finite.fn (F := Ideal) x0 x1 x2).1 = fun _ => 1#1)
    (h1 : (Cert.Pre_finite.fn (F := Ideal) x0 x1 x2).2.1 = fun _ => 1#1)
    (h2 : (Cert.Pre_finite.fn (F := Ideal) x0 x1 x2).2.2 = fun _ => 1#1) :
    ∃ (q k v g : Fin 32 → Fin 4096 → Fin 64 → ℝ) (c : Fin 32 → Fin 4096 → ℝ), Reads x0 x1 x2 q k v g c := by
  have p0 : ∀ (a : Fin 4096) (j : Fin 8192), j.val < 6144 → ∃ r : ℝ, (x0 (ix2 a j) : EReal) = (r : EReal) := fun a j hj => by
    have e := congrFun h0 (ix2 a (⟨j.val, hj⟩ : Fin 6144))
    unfold Cert.Pre_finite.fn at e
    refine real_of_abs_lt ?_
    rw [← ofBits_top, ← e]
    show Ideal.cmp .olt _ _ = Ideal.cmp .olt _ _
    have hs : extractStridedSlice Cert.Pre_finite.S4096x6144 ![0, 0] x0 Cert.Pre_finite.Facts.slices_S4096x8192_S4096x6144_0_0
        (ix2 a (⟨j.val, hj⟩ : Fin 6144)) = x0 (ix2 a j) :=
      extractStridedSlice_apply ![0, 0] x0 _ _ _ (fun b => match b with
        | ⟨0, _⟩ => by show a.val = 0 + a.val; omega
        | ⟨1, _⟩ => by show j.val = 0 + j.val; omega)
    rw [← hs]; rfl
  have p1 : ∀ (a : Fin 4096) (h : Fin 32), ∃ r : ℝ, (x1 (ix2 a (ccol h)) : EReal) = (r : EReal) := fun a h => by
    have e := congrFun h1 (ix2 a h)
    unfold Cert.Pre_finite.fn at e
    refine real_of_abs_lt ?_
    rw [← ofBits_top, ← e]
    show Ideal.cmp .olt _ _ = Ideal.cmp .olt _ _
    have hs : extractStridedSlice Cert.Pre_finite.S4096x32 ![0, 0] x1 Cert.Pre_finite.Facts.slices_S4096x128_S4096x32_0_0
        (ix2 a h) = x1 (ix2 a (ccol h)) :=
      extractStridedSlice_apply ![0, 0] x1 _ _ _ (fun b => match b with
        | ⟨0, _⟩ => by show a.val = 0 + a.val; omega
        | ⟨1, _⟩ => by show h.val = 0 + h.val; omega)
    rw [← hs]; rfl
  have p2 : ∀ (a : Fin 4096) (j : Fin 2048), ∃ r : ℝ, (x2 (ix2 a j) : EReal) = (r : EReal) := fun a j => by
    have e := congrFun h2 (ix2 a j)
    unfold Cert.Pre_finite.fn at e
    refine real_of_abs_lt ?_
    rw [← ofBits_top, ← e]; rfl
  choose r0 hr0 using p0
  choose r1 hr1 using p1
  choose r2 hr2 using p2
  have hd : ∀ (h : Fin 32) (d : Fin 64), 64 * h.val + d.val < 2048 := fun h d => by have := h.isLt; have := d.isLt; omega
  exact ⟨fun h a d => r0 a (qcol h d) (by have := hd h d; show 64 * h.val + d.val < 6144; omega),
    fun h a d => r0 a (kcol h d) (by have := hd h d; show 2048 + (64 * h.val + d.val) < 6144; omega),
    fun h a d => r0 a (vcol h d) (by have := hd h d; show 4096 + (64 * h.val + d.val) < 6144; omega),
    fun h a d => r2 a (gcol h d), fun h a => r1 a h,
    ⟨fun h a d => hr0 _ _ _, fun h a d => hr0 _ _ _, fun h a d => hr0 _ _ _, fun h a d => hr2 _ _, fun h a => hr1 _ _⟩⟩

end Cert.FoxPre
-- ==== Proof.FoxReference.lean ====
/- What the reference computes, element by element: the gradients of forgetting attention over the real numbers. -/
module

public import proofs.«01_k».proof.Proof.Gen.ReferenceIdeal.Read
public import proofs.«01_k».proof.Proof.FoxArgs

@[expose] public section

set_option maxRecDepth 16384

noncomputable section

namespace Cert.FoxReference

open Cert.ReferenceIdeal Cert.ReferenceIdeal.Gen Cert.ReferenceIdeal.Read
open Idealize.ShloMosaic Idealize.ShloMosaic.ValueIdx Cert.FoxReal Cert.FoxArgs

variable {x0 : (⟨S4096x8192, .bf16⟩ : BufTy).Contents (Elt Ideal)} {x1 : (⟨S4096x128, .f32⟩ : BufTy).Contents (Elt Ideal)}
  {x2 : (⟨S4096x2048, .bf16⟩ : BufTy).Contents (Elt Ideal)}
variable {q k v g : Fin 32 → Fin 4096 → Fin 64 → ℝ} {c : Fin 32 → Fin 4096 → ℝ}

theorem v7_at (R : Reads x0 x1 x2 q k v g c) (a : Fin 4096) (h : Fin 32) (d : Fin 64) :
    val_main_v7 (F := Ideal) x0 (ix3 a h d) = (q h a d : EReal) := by
  rw [val_main_v7_apply, val_main_v1_apply, val_main_v0_apply, ← R.hq]
  refine congrArg x0 (funext fun e => Fin.ext ?_)
  have := a.isLt; have := h.isLt; have := d.isLt
  match e with
  | ⟨0, _⟩ => show ((a.val * 32 + h.val) * 64 + d.val) / 2048 = a.val; omega
  | ⟨1, _⟩ => show ((a.val * 32 + h.val) * 64 + d.val) % 2048 = 64 * h.val + d.val; omega

theorem v8_at (R : Reads x0 x1 x2 q k v g c) (a : Fin 4096) (h : Fin 32) (d : Fin 64) :
    val_main_v8 (F := Ideal) x0 (ix3 a h d) = (k h a d : EReal) := by
  rw [val_main_v8_apply, val_main_v2_apply, val_main_v0_apply, ← R.hk]
  refine congrArg x0 (funext fun e => Fin.ext ?_)
  have := a.isLt; have := h.isLt; have := d.isLt
  match e with
  | ⟨0, _⟩ => show ((a.val * 32 + h.val) * 64 + d.val) / 2048 = a.val; omega
  | ⟨1, _⟩ => show 2048 + ((a.val * 32 + h.val) * 64 + d.val) % 2048 = 2048 + (64 * h.val + d.val); omega

theorem v9_at (R : Reads x0 x1 x2 q k v g c) (a : Fin 4096) (h : Fin 32) (d : Fin 64) :
    val_main_v9 (F := Ideal) x0 (ix3 a h d) = (v h a d : EReal) := by
  rw [val_main_v9_apply, val_main_v3_apply, val_main_v0_apply, ← R.hv]
  refine congrArg x0 (funext fun e => Fin.ext ?_)
  have := a.isLt; have := h.isLt; have := d.isLt
  match e with
  | ⟨0, _⟩ => show ((a.val * 32 + h.val) * 64 + d.val) / 2048 = a.val; omega
  | ⟨1, _⟩ => show 4096 + ((a.val * 32 + h.val) * 64 + d.val) % 2048 = 4096 + (64 * h.val + d.val); omega

theorem v6_at (R : Reads x0 x1 x2 q k v g c) (h : Fin 32) (a : Fin 4096) :
    val_main_v6 (F := Ideal) x1 (ix2 h a) = (c h a : EReal) := by
  rw [val_main_v6_apply, val_main_v5_apply, ← R.hc]
  exact congrArg x1 (funext fun e => Fin.ext (by match e with | ⟨0, _⟩ => rfl | ⟨1, _⟩ => rfl))

/-- The scores before the mask. -/
theorem v18_at (R : Reads x0 x1 x2 q k v g c) (h : Fin 32) (a b : Fin 4096) :
    val_main_v18 (F := Ideal) x0 x1 (ix3 h a b) = (score (q h) (k h) (c h) a b : EReal) := by
  rw [val_main_v18_apply, val_main_v15_apply, val_main_v12_apply, val_main_v10_apply, val_main_v11_apply, val_main_cst_apply,
    val_main_v14_apply, val_main_v13_apply, val_main_v17_apply, val_main_v16_apply]
  simp only [show ∀ d, lidx_main_v10 (ix3 h a b) d = ix3 a h d from fun d => ext3 rfl rfl rfl,
    show ∀ d, ridx_main_v10 (ix3 h a b) d = ix3 b h d from fun d => ext3 rfl rfl rfl, v7_at R, v8_at R]
  rw [show idx_main_v13 (idx_main_v14 (ix3 h a b)) = ix2 h a from ext2 rfl rfl,
    show idx_main_v16 (idx_main_v17 (ix3 h a b)) = ix2 h b from ext2 rfl rfl, v6_at R, v6_at R]
  show (∑ d : Fin 64, (q h a d : EReal) * (k h b d : EReal)) * Ideal.ofBits .f32 0x3E000000#32 + (c h a : EReal) - (c h b : EReal) = _
  rw [ofBits_eighth]
  unfold score
  simp only [EReal.coe_sub, EReal.coe_add, EReal.coe_mul, coe_sum]

/-- The mask: a key is read up to the query. -/
theorem v26_1_at (h : Fin 32) (a b : Fin 4096) :
    val_main_v26_1 (F := Ideal) (ix3 h a b) = if b ≤ a then 1#1 else 0#1 := by
  rw [val_main_v26_1_apply, val_main_v25_apply, val_main_v24_apply, val_main_v22_apply, val_main_v20_apply, val_main_v19_apply,
    val_main_v23_apply, val_main_v21_apply, val_main_v19_apply]
  exact sle_ofNat a b

/-- The masked scores. -/
theorem v26_0_at (R : Reads x0 x1 x2 q k v g c) (h : Fin 32) (a b : Fin 4096) :
    val_main_v26_0 (F := Ideal) x0 x1 (ix3 h a b) = masked (q h) (k h) (c h) a b := by
  rw [val_main_v26_0_apply, v26_1_at, v18_at R, val_main_call0_v2_apply, val_main_call0_v0_apply, val_main_cst_0_apply]
  unfold masked
  by_cases hb : b ≤ a
  · rw [if_pos hb, if_pos hb]; rfl
  · rw [if_neg hb, if_neg hb]; exact ofBits_bot

/-- The shift of each row is some real number. -/
theorem v34_at (R : Reads x0 x1 x2 q k v g c) :
    ∃ mx : Fin 32 → Fin 4096 → ℝ, ∀ h a, val_main_v34 (F := Ideal) x0 x1 (ix2 h a) = (mx h a : EReal) := by
  have h1 : ∀ h a, ∃ r : ℝ, val_main_v27 (F := Ideal) x0 x1 (ix2 h a) = (r : EReal) := fun h a =>
    rowMax_real (q := q) (k := k) (c := c) _ (v26_0_at R) _ (fun i => ofBits_bot) _ _ h a
  choose mx hmx using h1
  refine ⟨mx, fun h a => ?_⟩
  rw [val_main_v34_apply, hmx, val_main_v33_apply, val_main_cst_3_apply]
  show max (Ideal.ofBits .f32 0xFF800000#32) (mx h a : EReal) = _
  rw [ofBits_bot]; exact max_eq_right bot_le

theorem v47_at (R : Reads x0 x1 x2 q k v g c) {mx : Fin 32 → Fin 4096 → ℝ}
    (hm : ∀ h a, val_main_v34 (F := Ideal) x0 x1 (ix2 h a) = (mx h a : EReal)) (h : Fin 32) (a b : Fin 4096) :
    val_main_v47 (F := Ideal) x0 x1 (ix3 h a b) = (weight (q h) (k h) (c h) (mx h) a b : EReal) := by
  rw [val_main_v47_apply, val_main_v46_apply, val_main_v45_apply, val_main_v44_apply, v26_0_at R,
    show idx_main_v44 (idx_main_v45 (ix3 h a b)) = ix2 h a from ext2 rfl rfl, hm]
  exact exp_masked (q h) (k h) (c h) (mx h) a b

theorem v48_at (R : Reads x0 x1 x2 q k v g c) {mx : Fin 32 → Fin 4096 → ℝ}
    (hm : ∀ h a, val_main_v34 (F := Ideal) x0 x1 (ix2 h a) = (mx h a : EReal)) (h : Fin 32) (a : Fin 4096) :
    val_main_v48 (F := Ideal) x0 x1 (ix2 h a) = (total (q h) (k h) (c h) (mx h) a : EReal) := by
  rw [val_main_v48_apply]
  simp only [show ∀ b, idx_main_v48 (ix2 h a) b = ix3 h a b from fun b => ext3 rfl rfl rfl, v47_at R hm]
  rw [val_main_cst_9_apply]
  show Ideal.ofBits .f32 0x00000000#32 + _ = _
  rw [ofBits_zero, zero_add, ← coe_sum]; rfl

theorem v51_at (R : Reads x0 x1 x2 q k v g c) {mx : Fin 32 → Fin 4096 → ℝ}
    (hm : ∀ h a, val_main_v34 (F := Ideal) x0 x1 (ix2 h a) = (mx h a : EReal)) (h : Fin 32) (a b : Fin 4096) :
    val_main_v51 (F := Ideal) x0 x1 (ix3 h a b) = (prob (q h) (k h) (c h) (mx h) a b : EReal) := by
  rw [val_main_v51_apply, val_main_v50_apply, val_main_v49_apply, v47_at R hm,
    show idx_main_v49 (idx_main_v50 (ix3 h a b)) = ix2 h a from ext2 rfl rfl, v48_at R hm]
  exact div_coe_coe (total_pos (q h) (k h) (c h) (mx h) a).ne'

/-- The cotangent of the output, by head. -/
theorem v60_at (R : Reads x0 x1 x2 q k v g c) (h : Fin 32) (d : Fin 64) (a : Fin 4096) :
    val_main_v60 (F := Ideal) x2 (ix3 h d a) = (g h a d : EReal) := by
  rw [val_main_v60_apply, val_main_v59_apply, val_main_v58_apply, ← R.hg]
  refine congrArg x2 (funext fun e => Fin.ext ?_)
  have := a.isLt; have := h.isLt; have := d.isLt
  match e with
  | ⟨0, _⟩ => show ((a.val * 32 + h.val) * 64 + d.val) / 2048 = a.val; omega
  | ⟨1, _⟩ => show ((a.val * 32 + h.val) * 64 + d.val) % 2048 = 64 * h.val + d.val; omega

theorem v61_at (R : Reads x0 x1 x2 q k v g c) (h : Fin 32) (a b : Fin 4096) :
    val_main_v61 (F := Ideal) x0 x2 (ix3 h a b) = (dprob (v h) (g h) a b : EReal) := by
  rw [val_main_v61_apply]
  simp only [show ∀ d, lidx_main_v61 (ix3 h a b) d = ix3 h d a from fun d => ext3 rfl rfl rfl,
    show ∀ d, ridx_main_v61 (ix3 h a b) d = ix3 b h d from fun d => ext3 rfl rfl rfl, v60_at R, v9_at R]
  unfold dprob
  simp only [coe_sum, EReal.coe_mul]

/-- The gradient of the scores, by the rule for a quotient, is that of the attention weights. -/
theorem v76_at (R : Reads x0 x1 x2 q k v g c) {mx : Fin 32 → Fin 4096 → ℝ}
    (hm : ∀ h a, val_main_v34 (F := Ideal) x0 x1 (ix2 h a) = (mx h a : EReal)) (h : Fin 32) (a b : Fin 4096) :
    val_main_v76 (F := Ideal) x0 x1 x2 (ix3 h a b) = (dscore (q h) (k h) (v h) (g h) (c h) (mx h) a b : EReal) := by
  have hl : ∀ i, val_main_v49 (F := Ideal) x0 x1 (ix3 h a i) = (total (q h) (k h) (c h) (mx h) a : EReal) := fun i => by
    rw [val_main_v49_apply, show idx_main_v49 (ix3 h a i) = ix2 h a from ext2 rfl rfl, v48_at R hm]
  have ht := (total_pos (q h) (k h) (c h) (mx h) a).ne'
  have h54 : val_main_v54 (F := Ideal) x0 x1 (ix3 h a 0)
      = ((1 / (total (q h) (k h) (c h) (mx h) a * total (q h) (k h) (c h) (mx h) a) : ℝ) : EReal) := by
    rw [val_main_v54_apply, val_main_v53_apply, val_main_cst_10_apply, val_main_v52_apply, hl]
    show Ideal.div (Ideal.ofBits .f32 0x3F800000#32) ((_ : EReal) * (_ : EReal)) = _
    rw [ofBits_one, ← EReal.coe_mul, div_coe_coe (mul_ne_zero ht ht)]
  have h67 : val_main_v67 (F := Ideal) x0 x1 x2 (ix2 h a)
      = ((∑ b', dprob (v h) (g h) a b' * (1 / (total (q h) (k h) (c h) (mx h) a * total (q h) (k h) (c h) (mx h) a))
          * weight (q h) (k h) (c h) (mx h) a b' : ℝ) : EReal) := by
    rw [val_main_v67_apply]
    simp only [show ∀ b, idx_main_v67 (ix2 h a) b = ix3 h a b from fun b => ext3 rfl rfl rfl, val_main_v66_apply,
      val_main_v65_apply, v61_at R, v47_at R hm, val_main_v64_apply,
      show ∀ b, idx_main_v64 (ix3 h a b) = ix3 h a 0 from fun b => ext3 rfl rfl rfl, h54]
    rw [val_main_cst_11_apply]
    show Ideal.ofBits .f32 0x00000000#32 + ∑ b' : Fin 4096, ((_ : EReal) * (_ : EReal)) * (_ : EReal) = _
    rw [ofBits_zero, zero_add, coe_sum]
    simp only [EReal.coe_mul]
  have h72 : val_main_v72 (F := Ideal) x0 x1 x2 (ix2 h a)
      = ((-(∑ b', dprob (v h) (g h) a b' * (1 / (total (q h) (k h) (c h) (mx h) a * total (q h) (k h) (c h) (mx h) a))
          * weight (q h) (k h) (c h) (mx h) a b') : ℝ) : EReal) := by
    rw [val_main_v72_apply, Fin.sum_univ_one, val_main_v69_apply, val_main_v68_apply, val_main_cst_12_apply,
      show idx_main_v68 (idx_main_v72 (ix2 h a) 0) = ix2 h a from
        ext2 (Fin.ext (by have := h.isLt; have := a.isLt; show ((h.val * 4096 + a.val) * 1 + 0) / 4096 = h.val; omega))
          (Fin.ext (by have := h.isLt; have := a.isLt; show ((h.val * 4096 + a.val) * 1 + 0) % 4096 = a.val; omega)), h67]
    show Ideal.ofBits .f32 0x00000000#32 + -(_ : EReal) = _
    rw [ofBits_zero, zero_add, ← EReal.coe_neg]
  rw [val_main_v76_apply, v26_1_at]
  by_cases hb : b ≤ a
  · rw [if_pos hb, select_one, val_main_v75_apply, val_main_v74_apply, val_main_v71_apply, val_main_v73_apply, val_main_v70_apply,
      v61_at R, v47_at R hm, show idx_main_v70 (ix3 h a b) = ix3 h a 0 from ext3 rfl rfl rfl, hl,
      show idx_main_v73 (ix3 h a b) = ix2 h a from ext2 rfl rfl, h72, ← quotient_rule]
    show (Ideal.div (_ : EReal) (_ : EReal) + (_ : EReal)) * (_ : EReal) = _
    rw [div_coe_coe ht, ← EReal.coe_add, ← EReal.coe_mul]
  · rw [if_neg hb, select_zero, dscore_above _ _ _ _ _ _ hb]
    exact ofBits_zero

section Results

variable {mx : Fin 32 → Fin 4096 → ℝ}

/-- The gradient of the query, before the last transposes. -/
theorem v88_at (R : Reads x0 x1 x2 q k v g c)
    (hm : ∀ h a, val_main_v34 (F := Ideal) x0 x1 (ix2 h a) = (mx h a : EReal)) (h : Fin 32) (a : Fin 4096) (d : Fin 64) :
    val_main_v88 (F := Ideal) x0 x1 x2 (ix3 h a d)
      = ((∑ b, dscore (q h) (k h) (v h) (g h) (c h) (mx h) a b * (1 / 8) * k h b d : ℝ) : EReal) := by
  rw [val_main_v88_apply]
  simp only [show ∀ b, lidx_main_v88 (ix3 h a d) b = ix3 h a b from fun b => ext3 rfl rfl rfl,
    show ∀ b, ridx_main_v88 (ix3 h a d) b = ix3 b h d from fun b => ext3 rfl rfl rfl, val_main_v85_apply, v76_at R hm,
    val_main_v84_apply, val_main_cst_17_apply, v8_at R]
  show ∑ b : Fin 4096, (_ : EReal) * Ideal.ofBits .f32 0x3E000000#32 * (_ : EReal) = _
  rw [ofBits_eighth, coe_sum]
  simp only [EReal.coe_mul]

/-- The gradient of the key, before the last transposes. -/
theorem v86_at (R : Reads x0 x1 x2 q k v g c)
    (hm : ∀ h a, val_main_v34 (F := Ideal) x0 x1 (ix2 h a) = (mx h a : EReal)) (h : Fin 32) (b : Fin 4096) (d : Fin 64) :
    val_main_v86 (F := Ideal) x0 x1 x2 (ix3 h b d)
      = ((∑ a, dscore (q h) (k h) (v h) (g h) (c h) (mx h) a b * (1 / 8) * q h a d : ℝ) : EReal) := by
  rw [val_main_v86_apply]
  simp only [show ∀ a, lidx_main_v86 (ix3 h b d) a = ix3 h a b from fun a => ext3 rfl rfl rfl,
    show ∀ a, ridx_main_v86 (ix3 h b d) a = ix3 a h d from fun a => ext3 rfl rfl rfl, val_main_v85_apply, v76_at R hm,
    val_main_v84_apply, val_main_cst_17_apply, v7_at R]
  show ∑ b : Fin 4096, (_ : EReal) * Ideal.ofBits .f32 0x3E000000#32 * (_ : EReal) = _
  rw [ofBits_eighth, coe_sum]
  simp only [EReal.coe_mul]

/-- The gradient of the value, before the last transposes. -/
theorem v62_at (R : Reads x0 x1 x2 q k v g c)
    (hm : ∀ h a, val_main_v34 (F := Ideal) x0 x1 (ix2 h a) = (mx h a : EReal)) (h : Fin 32) (d : Fin 64) (b : Fin 4096) :
    val_main_v62 (F := Ideal) x0 x1 x2 (ix3 h d b)
      = ((∑ a, g h a d * prob (q h) (k h) (c h) (mx h) a b : ℝ) : EReal) := by
  rw [val_main_v62_apply]
  simp only [show ∀ a, lidx_main_v62 (ix3 h d b) a = ix3 h d a from fun a => ext3 rfl rfl rfl,
    show ∀ a, ridx_main_v62 (ix3 h d b) a = ix3 h a b from fun a => ext3 rfl rfl rfl, v60_at R, v51_at R hm]
  simp only [coe_sum, EReal.coe_mul]

/-- There and back through the flat layout of a row, and by head: the last transposes move `(a, h, d)` to `(h, d, a)`. -/
theorem flat0 (a : Fin 4096) (h : Fin 32) (d : Fin 64) : ((a.val * 32 + h.val) * 64 + d.val) / 2048 = a.val := by
  have := h.isLt; have := d.isLt; omega
theorem flat1 (a : Fin 4096) (h : Fin 32) (d : Fin 64) : ((a.val * 32 + h.val) * 64 + d.val) % 2048 = 64 * h.val + d.val := by
  have := h.isLt; have := d.isLt; omega

theorem v95_at (R : Reads x0 x1 x2 q k v g c)
    (hm : ∀ h a, val_main_v34 (F := Ideal) x0 x1 (ix2 h a) = (mx h a : EReal)) (h : Fin 32) (d : Fin 64) (a : Fin 4096) :
    val_main_v95 (F := Ideal) x0 x1 x2 (ix3 h d a)
      = ((∑ b, dscore (q h) (k h) (v h) (g h) (c h) (mx h) a b * (1 / 8) * k h b d : ℝ) : EReal) := by
  rw [← v88_at R hm h a d, val_main_v95_apply, val_main_v94_apply, val_main_v93_apply, val_main_v92_apply, val_main_v89_apply]
  refine congrArg (val_main_v88 (F := Ideal) x0 x1 x2) (ext3 (Fin.ext ?_) (Fin.ext ?_) (Fin.ext ?_))
  all_goals have := a.isLt; have := h.isLt; have := d.isLt
  · show (((a.val * 32 + h.val) * 64 + d.val) / 2048 * 2048 + ((a.val * 32 + h.val) * 64 + d.val) % 2048) / 64 % 32 = h.val; omega
  · show (((a.val * 32 + h.val) * 64 + d.val) / 2048 * 2048 + ((a.val * 32 + h.val) * 64 + d.val) % 2048) / 2048 = a.val; omega
  · show (((a.val * 32 + h.val) * 64 + d.val) / 2048 * 2048 + ((a.val * 32 + h.val) * 64 + d.val) % 2048) % 64 = d.val; omega

theorem v99_at (R : Reads x0 x1 x2 q k v g c)
    (hm : ∀ h a, val_main_v34 (F := Ideal) x0 x1 (ix2 h a) = (mx h a : EReal)) (h : Fin 32) (d : Fin 64) (b : Fin 4096) :
    val_main_v99 (F := Ideal) x0 x1 x2 (ix3 h d b)
      = ((∑ a, dscore (q h) (k h) (v h) (g h) (c h) (mx h) a b * (1 / 8) * q h a d : ℝ) : EReal) := by
  rw [← v86_at R hm h b d, val_main_v99_apply, val_main_v98_apply, val_main_v97_apply, val_main_v91_apply, val_main_v87_apply]
  refine congrArg (val_main_v86 (F := Ideal) x0 x1 x2) (ext3 (Fin.ext ?_) (Fin.ext ?_) (Fin.ext ?_))
  all_goals have := b.isLt; have := h.isLt; have := d.isLt
  · show (((b.val * 32 + h.val) * 64 + d.val) / 2048 * 2048 + ((b.val * 32 + h.val) * 64 + d.val) % 2048) / 64 % 32 = h.val; omega
  · show (((b.val * 32 + h.val) * 64 + d.val) / 2048 * 2048 + ((b.val * 32 + h.val) * 64 + d.val) % 2048) / 2048 = b.val; omega
  · show (((b.val * 32 + h.val) * 64 + d.val) / 2048 * 2048 + ((b.val * 32 + h.val) * 64 + d.val) % 2048) % 64 = d.val; omega

theorem v103_at (R : Reads x0 x1 x2 q k v g c)
    (hm : ∀ h a, val_main_v34 (F := Ideal) x0 x1 (ix2 h a) = (mx h a : EReal)) (h : Fin 32) (d : Fin 64) (b : Fin 4096) :
    val_main_v103 (F := Ideal) x0 x1 x2 (ix3 h d b)
      = ((∑ a, g h a d * prob (q h) (k h) (c h) (mx h) a b : ℝ) : EReal) := by
  rw [← v62_at R hm h d b, val_main_v103_apply, val_main_v102_apply, val_main_v101_apply, val_main_v90_apply, val_main_v63_apply]
  refine congrArg (val_main_v62 (F := Ideal) x0 x1 x2) (ext3 (Fin.ext ?_) (Fin.ext ?_) (Fin.ext ?_))
  all_goals have := b.isLt; have := h.isLt; have := d.isLt
  · show (((b.val * 32 + h.val) * 64 + d.val) / 2048 * 2048 + ((b.val * 32 + h.val) * 64 + d.val) % 2048) / 64 % 32 = h.val; omega
  · show (((b.val * 32 + h.val) * 64 + d.val) / 2048 * 2048 + ((b.val * 32 + h.val) * 64 + d.val) % 2048) % 64 = d.val; omega
  · show (((b.val * 32 + h.val) * 64 + d.val) / 2048 * 2048 + ((b.val * 32 + h.val) * 64 + d.val) % 2048) / 2048 = b.val; omega

/-- The gradient of the running sum at the queries: the rows' sums. -/
theorem v96_at (R : Reads x0 x1 x2 q k v g c)
    (hm : ∀ h a, val_main_v34 (F := Ideal) x0 x1 (ix2 h a) = (mx h a : EReal)) (h : Fin 32) (z : Fin 1) (a : Fin 4096) :
    val_main_v96 (F := Ideal) x0 x1 x2 (ix3 h z a)
      = ((∑ b, dscore (q h) (k h) (v h) (g h) (c h) (mx h) a b : ℝ) : EReal) := by
  have h81 : val_main_v81 (F := Ideal) x0 x1 x2 (ix2 h a) = ((∑ b, dscore (q h) (k h) (v h) (g h) (c h) (mx h) a b : ℝ) : EReal) := by
    rw [val_main_v81_apply]
    simp only [show ∀ b, idx_main_v81 (ix2 h a) b = ix3 h a b from fun b => ext3 rfl rfl rfl, v76_at R hm]
    rw [val_main_cst_15_apply]
    show Ideal.ofBits .f32 0x00000000#32 + _ = _
    rw [ofBits_zero, zero_add, coe_sum]
  rw [val_main_v96_apply, show idx_main_v96 (ix3 h z a) = ix2 h a from ext2 rfl rfl, val_main_v83_apply, Fin.sum_univ_one,
    val_main_v82_apply, val_main_cst_16_apply,
    show idx_main_v82 (idx_main_v83 (ix2 h a) 0) = ix2 h a from
      ext2 (Fin.ext (by have := h.isLt; have := a.isLt; show ((h.val * 4096 + a.val) * 1 + 0) / 4096 = h.val; omega))
        (Fin.ext (by have := h.isLt; have := a.isLt; show ((h.val * 4096 + a.val) * 1 + 0) % 4096 = a.val; omega)), h81]
  show Ideal.ofBits .f32 0x00000000#32 + (_ : EReal) = _
  rw [ofBits_zero, zero_add]

/-- The gradient of the running sum at the keys: the columns' sums, negated. -/
theorem v100_at (R : Reads x0 x1 x2 q k v g c)
    (hm : ∀ h a, val_main_v34 (F := Ideal) x0 x1 (ix2 h a) = (mx h a : EReal)) (h : Fin 32) (z : Fin 1) (b : Fin 4096) :
    val_main_v100 (F := Ideal) x0 x1 x2 (ix3 h z b)
      = ((∑ a, -dscore (q h) (k h) (v h) (g h) (c h) (mx h) a b : ℝ) : EReal) := by
  have h78 : val_main_v78 (F := Ideal) x0 x1 x2 (ix2 h b) = ((∑ a, -dscore (q h) (k h) (v h) (g h) (c h) (mx h) a b : ℝ) : EReal) := by
    rw [val_main_v78_apply]
    simp only [show ∀ a, idx_main_v78 (ix2 h b) a = ix3 h a b from fun a => ext3 rfl rfl rfl, val_main_v77_apply, v76_at R hm]
    rw [val_main_cst_13_apply]
    show Ideal.ofBits .f32 0x00000000#32 + ∑ a : Fin 4096, -(_ : EReal) = _
    rw [ofBits_zero, zero_add, coe_sum]
    simp only [EReal.coe_neg]
  rw [val_main_v100_apply, show idx_main_v100 (ix3 h z b) = ix2 h b from ext2 rfl rfl, val_main_v80_apply, Fin.sum_univ_one,
    val_main_v79_apply, val_main_cst_14_apply,
    show idx_main_v79 (idx_main_v80 (ix2 h b) 0) = ix2 h b from
      ext2 (Fin.ext (by have := h.isLt; have := b.isLt; show ((h.val * 1 + 0) * 4096 + b.val) / 4096 = h.val; omega))
        (Fin.ext (by have := h.isLt; have := b.isLt; show ((h.val * 1 + 0) * 4096 + b.val) % 4096 = b.val; omega)), h78]
  show Ideal.ofBits .f32 0x00000000#32 + (_ : EReal) = _
  rw [ofBits_zero, zero_add]

end Results

end Cert.FoxReference
-- ==== Proof.FoxEntry.lean ====
/- The operands of the attention's backward call as real numbers: what the host's lines before it make of the arguments. -/
module

public import proofs.«01_k».proof.Proof.FoxReference
public import proofs.«01_k».proof.Proof.Gen.KernelIdeal.Frame.Runs
public import Idealize.ShloMosaic.Lib.StableHlo.RunRead

@[expose] public section

set_option maxRecDepth 16384

noncomputable section

namespace Cert.FoxEntry

open Idealize.ShloMosaic Idealize.ShloMosaic.TcCoe Idealize.ShloMosaic.ValueIdx Idealize.SL.Sem
open Cert.FoxReal Cert.FoxArgs Cert.KernelIdeal Cert.KernelIdeal.Gen

variable (m : (ℓ : Loc nD τ sig) → Buf (Elt Ideal) ℓ) (c : Dev nD)

/-- The contents after the scores are masked, before the saved rows are made of them. -/
def W : Valuation τ sig (Elt Ideal) :=
  StableHlo.after (List.flatten [hostOps0, hostOps0_1]) (fun b => m (c, b))

theorem V_eq (b : Ref sig .tc) : V m c b = StableHlo.after hostOps0_2 (W m c) b := by
  unfold V W
  rw [show (List.flatten [hostOps0, hostOps0_1, hostOps0_2] : List (HloOp τ sig (Elt Ideal))) = List.flatten [hostOps0, hostOps0_1] ++ hostOps0_2 from by
    simp only [List.flatten_cons, List.flatten_nil, List.append_nil, List.append_assoc]]
  rw [StableHlo.after_append]

theorem W53 : W m c main_v53 = Cert.ReferenceIdeal.Read.val_main_v26_0 (F := Ideal) (m (c, main_arg0)) (m (c, main_arg1)) := by
  unfold W
  after_reads_simp
  rfl

theorem W34 : W m c main_v34 = Cert.ReferenceIdeal.Read.val_main_v9 (F := Ideal) (m (c, main_arg0)) := by
  unfold W
  after_reads_simp
  rfl

open Cert.ReferenceIdeal.Read

theorem V10 (h : Fin 32) (b : Fin 4096) (d : Fin 64) :
    V m c main_v10 (ix3 h b d) = val_main_v9 (F := Ideal) (m (c, main_arg0)) (ix3 b h d) := by
  unfold V
  after_reads_simp
  rfl

theorem V22 (h : Fin 32) (z : Fin 1) (a : Fin 4096) :
    V m c main_v22 (ix3 h z a) = val_main_v6 (F := Ideal) (m (c, main_arg1)) (ix2 h a) := by
  unfold V
  after_reads_simp
  show val_main_v16 (F := Ideal) (m (c, main_arg1)) (ix3 h z a) = _
  rw [val_main_v16_apply]
  exact congrArg _ (ext2 rfl rfl)

theorem V24 (h : Fin 32) (a : Fin 4096) (l : Fin 128) :
    V m c main_v24 (ix3 h a l) = val_main_v6 (F := Ideal) (m (c, main_arg1)) (ix2 h a) := by
  unfold V
  after_reads_simp
  refine (broadcastInDim_apply _ bcast_S32x4096x1_S32x4096x128_0_1_2 _ (ix3 h a l) (ix3 h a 0) ?_).trans ?_
  · intro e
    match e with
    | ⟨0, _⟩ => rfl
    | ⟨1, _⟩ => rfl
    | ⟨2, _⟩ => rfl
  · show val_main_v13 (F := Ideal) (m (c, main_arg1)) (ix3 h a 0) = _
    rw [val_main_v13_apply]
    exact congrArg _ (ext2 rfl rfl)

theorem V69 (h : Fin 32) (d : Fin 64) (a : Fin 4096) :
    V m c main_v69 (ix3 h d a) = val_main_v60 (F := Ideal) (m (c, main_arg2)) (ix3 h d a) := by
  unfold V
  after_reads_simp
  rfl

/-- What the host makes of the masked scores `s`: each row's largest, the exponentials over it, their sum. -/
def rowMax (s : FVec Ideal S32x4096x4096 .f32) : FVec Ideal S32x4096 .f32 :=
  Host.reduce FloatOps.maximumf s (constant S_ .f32 0xFF800000#32) reducesTo_S32x4096x4096_S32x4096_d2 h_S_
def column (r : FVec Ideal S32x4096 .f32) : FVec Ideal S32x4096x1 .f32 :=
  broadcastInDim S32x4096x1 ![0, 1] bcast_S32x4096_S32x4096x1_0_1 r
def spread (r : FVec Ideal S32x4096x1 .f32) : FVec Ideal S32x4096x4096 .f32 :=
  broadcastInDim S32x4096x4096 ![0, 1, 2] bcast_S32x4096x1_S32x4096x4096_0_1_2 r
def expo (s : FVec Ideal S32x4096x4096 .f32) : FVec Ideal S32x4096x4096 .f32 :=
  Host.exp (subf s (spread (column (rowMax s))))
def expoSum (s : FVec Ideal S32x4096x4096 .f32) : FVec Ideal S32x4096 .f32 :=
  Host.reduceAdd (expo s) (constant S_ .f32 0x00000000#32) reducesTo_S32x4096x4096_S32x4096_d2 h_S_
def outT (x : FVec Ideal S4096x32x64 .f32) (s : FVec Ideal S32x4096x4096 .f32) : FVec Ideal S32x64x4096 .f32 :=
  Host.dotGeneral dot_S4096x32x64_S32x4096x4096_S32x64x4096_0_2_2_1_1_0 none x (Host.divf (expo s) (spread (column (expoSum s))))
def logSum (s : FVec Ideal S32x4096x4096 .f32) : FVec Ideal S32x4096x1 .f32 :=
  addf (column (rowMax s)) (Host.log (column (expoSum s)))

theorem add_log_at (r t : FVec Ideal S32x4096x1 .f32) (i : S32x4096x1.Idx) :
    addf r (Host.log t) i = (r i : EReal) + Ideal.log (t i) := rfl
theorem exp_sub_at (r t : FVec Ideal S32x4096x4096 .f32) (i : S32x4096x4096.Idx) :
    Host.exp (subf r t) i = Ideal.exp ((r i : EReal) - t i) := rfl
theorem div_at (r t : FVec Ideal S32x4096x4096 .f32) (i : S32x4096x4096.Idx) :
    Host.divf r t i = Ideal.div (r i) (t i) := rfl

theorem column_at (r : FVec Ideal S32x4096 .f32) (h : Fin 32) (a : Fin 4096) (z : Fin 1) : column r (ix3 h a z) = r (ix2 h a) :=
  broadcastInDim_apply _ _ r (ix3 h a z) (ix2 h a) fun e => match e with | ⟨0, _⟩ => rfl | ⟨1, _⟩ => rfl

theorem spread_at (r : FVec Ideal S32x4096x1 .f32) (h : Fin 32) (a b : Fin 4096) : spread r (ix3 h a b) = r (ix3 h a 0) :=
  broadcastInDim_apply _ _ r (ix3 h a b) (ix3 h a 0) fun e => match e with | ⟨0, _⟩ => rfl | ⟨1, _⟩ => rfl | ⟨2, _⟩ => rfl

theorem outT_at (x : FVec Ideal S4096x32x64 .f32) (s : FVec Ideal S32x4096x4096 .f32) (h : Fin 32) (d : Fin 64) (a : Fin 4096) :
    outT x s (ix3 h d a) = ∑ b : Fin 4096, (x (ix3 b h d) : EReal) * Ideal.div (expo s (ix3 h a b)) (expoSum s (ix2 h a)) := by
  unfold outT
  simp only [Host.dotGeneral]
  rw [Ideal.dotGeneral_apply, ← Equiv.sum_comp (contrEquiv1 dot_S4096x32x64_S32x4096x4096_S32x64x4096_0_2_2_1_1_0 4096 rfl rfl).symm]
  refine Finset.sum_congr rfl fun b _ => ?_
  have hk := contrEquiv1_symm_val dot_S4096x32x64_S32x4096x4096_S32x64x4096_0_2_2_1_1_0 4096 rfl rfl b
  rw [show dot_S4096x32x64_S32x4096x4096_S32x64x4096_0_2_2_1_1_0.lhsIdx (ix3 h d a) ((contrEquiv1 dot_S4096x32x64_S32x4096x4096_S32x64x4096_0_2_2_1_1_0 4096 rfl rfl).symm b) = ix3 b h d from
      ext3 (Fin.ext hk) rfl rfl,
    show dot_S4096x32x64_S32x4096x4096_S32x64x4096_0_2_2_1_1_0.rhsIdx (ix3 h d a) ((contrEquiv1 dot_S4096x32x64_S32x4096x4096_S32x64x4096_0_2_2_1_1_0 4096 rfl rfl).symm b) = ix3 h a b from
      ext3 rfl rfl (Fin.ext hk)]
  rw [div_at, spread_at, column_at]

theorem V64 : V m c main_v64 = (outT (W m c main_v34) (W m c main_v53) : FVec Ideal S32x64x4096 .f32) := by
  rw [V_eq]
  after_reads_simp
  rfl

theorem V67 (h : Fin 32) (z : Fin 1) (a : Fin 4096) : V m c main_v67 (ix3 h z a) = logSum (W m c main_v53) (ix3 h a z) := by
  rw [V_eq]
  after_reads_simp
  generalize W m c main_v53 = s
  exact transpose_apply [0, 2, 1] (logSum s) transposes_S32x4096x1_S32x1x4096_0_2_1 (ix3 h z a) (ix3 h a z)
    fun e => match e with | ⟨0, _⟩ => rfl | ⟨1, _⟩ => rfl | ⟨2, _⟩ => rfl

section
variable {x0 : S4096x8192.Idx → EReal} {x1 : S4096x128.Idx → EReal} {x2 : S4096x2048.Idx → EReal}
  {q k v g : Fin 32 → Fin 4096 → Fin 64 → ℝ} {cs : Fin 32 → Fin 4096 → ℝ}

theorem expo_at {s : FVec Ideal S32x4096x4096 .f32} {mx : Fin 32 → Fin 4096 → ℝ}
    (hs : ∀ h a b, s (ix3 h a b) = masked (q h) (k h) (cs h) a b) (hm : ∀ h a, rowMax s (ix2 h a) = (mx h a : EReal))
    (h : Fin 32) (a b : Fin 4096) : expo s (ix3 h a b) = (weight (q h) (k h) (cs h) (mx h) a b : EReal) := by
  rw [expo, exp_sub_at, spread_at, column_at, hs, hm]
  exact exp_masked (q h) (k h) (cs h) (mx h) a b

theorem expoSum_at {s : FVec Ideal S32x4096x4096 .f32} {mx : Fin 32 → Fin 4096 → ℝ}
    (hs : ∀ h a b, s (ix3 h a b) = masked (q h) (k h) (cs h) a b) (hm : ∀ h a, rowMax s (ix2 h a) = (mx h a : EReal))
    (h : Fin 32) (a : Fin 4096) : expoSum s (ix2 h a) = (total (q h) (k h) (cs h) (mx h) a : EReal) := by
  unfold expoSum
  simp only [Host.reduceAdd, Ideal.hostReduceAdd_def]
  rw [Ideal.hostReduceAdd_single reducesTo_S32x4096x4096_S32x4096_d2 (by decide)]
  rw [show (constant S_ .f32 0x00000000#32 : FVec Ideal S_ .f32) (Shape.Idx.first h_S_) = (0 : EReal) from ofBits_zero, zero_add]
  unfold total
  rw [coe_sum]
  refine Finset.sum_congr rfl fun (b : Fin 4096) _ => ?_
  refine Eq.trans ?_ (expo_at hs hm h a b)
  exact congrArg (expo s) (ext3 rfl rfl rfl)

theorem outT_real {x : FVec Ideal S4096x32x64 .f32} {s : FVec Ideal S32x4096x4096 .f32} {mx : Fin 32 → Fin 4096 → ℝ}
    (hx : ∀ h b d, x (ix3 b h d) = (v h b d : EReal))
    (hs : ∀ h a b, s (ix3 h a b) = masked (q h) (k h) (cs h) a b) (hm : ∀ h a, rowMax s (ix2 h a) = (mx h a : EReal))
    (h : Fin 32) (d : Fin 64) (a : Fin 4096) :
    outT x s (ix3 h d a) = ((∑ b, v h b d * prob (q h) (k h) (cs h) (mx h) a b : ℝ) : EReal) := by
  rw [outT_at, coe_sum]
  refine Finset.sum_congr rfl fun b _ => ?_
  rw [hx, expo_at hs hm, expoSum_at hs hm, div_coe_coe (total_pos (q h) (k h) (cs h) (mx h) a).ne', EReal.coe_mul]
  rfl

theorem logSum_real {s : FVec Ideal S32x4096x4096 .f32} {mx : Fin 32 → Fin 4096 → ℝ}
    (hs : ∀ h a b, s (ix3 h a b) = masked (q h) (k h) (cs h) a b) (hm : ∀ h a, rowMax s (ix2 h a) = (mx h a : EReal))
    (h : Fin 32) (a : Fin 4096) (z : Fin 1) :
    logSum s (ix3 h a z) = (mx h a : EReal) + Ideal.log (total (q h) (k h) (cs h) (mx h) a : EReal) := by
  rw [logSum, add_log_at, column_at, column_at, hm, expoSum_at hs hm]
end

/-- Four arrays end to end along the last axis, read at an index. -/
theorem cat_at (x : FVec Ideal S32x4096x64 .bf16) (y z : FVec Ideal S32x4096x1 .bf16) (w : FVec Ideal S32x4096x62 .bf16)
    (hc : Shape.Concatenates [S32x4096x64, S32x4096x1, S32x4096x1, S32x4096x62] S32x4096x128 2) (h : Fin 32) (a : Fin 4096) (d : Fin 128) :
    concatenate S32x4096x128 2 [⟨S32x4096x64, x⟩, ⟨S32x4096x1, y⟩, ⟨S32x4096x1, z⟩, ⟨S32x4096x62, w⟩] hc (ix3 h a d)
      = if hd : d.val < 64 then x (ix3 h a ⟨d.val, hd⟩) else if d.val = 64 then y (ix3 h a 0) else if d.val = 65 then z (ix3 h a 0)
        else w (ix3 h a ⟨d.val - 66, by have := d.isLt; omega⟩) := by
  have hlt := d.isLt
  split_ifs with h0 h1 h2
  · refine concatenate_apply_piece (t := S32x4096x128) 2 [⟨S32x4096x64, x⟩, ⟨S32x4096x1, y⟩, ⟨S32x4096x1, z⟩, ⟨S32x4096x62, w⟩] hc (ix3 h a d) 0
      (show 0 < 4 by decide) S32x4096x64 x rfl rfl 0 rfl _ ?_ ?_
    · intro e he; match e with | ⟨0, _⟩ => rfl | ⟨1, _⟩ => rfl | ⟨2, _⟩ => exact absurd rfl he
    · show 0 + d.val = d.val; omega
  · refine concatenate_apply_piece (t := S32x4096x128) 2 [⟨S32x4096x64, x⟩, ⟨S32x4096x1, y⟩, ⟨S32x4096x1, z⟩, ⟨S32x4096x62, w⟩] hc (ix3 h a d) 1
      (show 1 < 4 by decide) S32x4096x1 y rfl rfl 64 rfl _ ?_ ?_
    · intro e he; match e with | ⟨0, _⟩ => rfl | ⟨1, _⟩ => rfl | ⟨2, _⟩ => exact absurd rfl he
    · show 64 + 0 = d.val; omega
  · refine concatenate_apply_piece (t := S32x4096x128) 2 [⟨S32x4096x64, x⟩, ⟨S32x4096x1, y⟩, ⟨S32x4096x1, z⟩, ⟨S32x4096x62, w⟩] hc (ix3 h a d) 2
      (show 2 < 4 by decide) S32x4096x1 z rfl rfl 65 rfl _ ?_ ?_
    · intro e he; match e with | ⟨0, _⟩ => rfl | ⟨1, _⟩ => rfl | ⟨2, _⟩ => exact absurd rfl he
    · show 65 + 0 = d.val; omega
  · refine concatenate_apply_piece (t := S32x4096x128) 2 [⟨S32x4096x64, x⟩, ⟨S32x4096x1, y⟩, ⟨S32x4096x1, z⟩, ⟨S32x4096x62, w⟩] hc (ix3 h a d) 3
      (show 3 < 4 by decide) S32x4096x62 w rfl rfl 66 rfl _ ?_ ?_
    · intro e he; match e with | ⟨0, _⟩ => rfl | ⟨1, _⟩ => rfl | ⟨2, _⟩ => exact absurd rfl he
    · show 66 + (d.val - 66) = d.val; omega

/-- A query and a key with the two further coordinates the kernel gives them. -/
def qx (q : Fin 64 → ℝ) (d : Fin 128) : ℝ :=
  if hd : d.val < 64 then q ⟨d.val, hd⟩ * (1 / 8) else if d.val = 64 then 0 else if d.val = 65 then -1 else 0
def kx (k : Fin 64 → ℝ) (d : Fin 128) : ℝ :=
  if hd : d.val < 64 then k ⟨d.val, hd⟩ else if d.val = 64 then 1 else if d.val = 65 then 0 else 0

theorem ofBits16_eighth : Ideal.ofBits .bf16 0x3E00#16 = ((1 / 8 : ℝ) : EReal) := by
  simp [Ideal.ofBits, Ideal.ieee, -EReal.coe_mul]; norm_num
theorem ofBits16_zero : Ideal.ofBits .bf16 0x0000#16 = (0 : EReal) := by
  simp [Ideal.ofBits, Ideal.ieee, -EReal.coe_mul]
theorem ofBits16_one : Ideal.ofBits .bf16 0x3F80#16 = ((1 : ℝ) : EReal) := by
  simp [Ideal.ofBits, Ideal.ieee, -EReal.coe_mul]; try norm_num

/-- A slice of the projection, by head. -/
def byHead (r : FVec Ideal S4096x2048 .bf16) : FVec Ideal S32x4096x64 .bf16 :=
  transpose S32x4096x64 [1, 0, 2] (shapeCast S4096x32x64 r shapeCasts_S4096x2048_S4096x32x64) transposes_S4096x32x64_S32x4096x64_1_0_2
def qHead (x0 : FVec Ideal S4096x8192 .bf16) : FVec Ideal S32x4096x64 .bf16 :=
  mulf (byHead (extractStridedSlice S4096x2048 ![0, 0] x0 slices_S4096x8192_S4096x2048_0_0))
    (broadcastInDim S32x4096x64 ![] bcast_S_S32x4096x64 (constant S_ .bf16 0x3E00#16))
def kHead (x0 : FVec Ideal S4096x8192 .bf16) : FVec Ideal S32x4096x64 .bf16 :=
  byHead (extractStridedSlice S4096x2048 ![0, 2048] x0 slices_S4096x8192_S4096x2048_0_2048)
def ones : FVec Ideal S32x4096x1 .bf16 := broadcastInDim S32x4096x1 ![] bcast_S_S32x4096x1 (constant S_ .bf16 0x3F80#16)
def zeros : FVec Ideal S32x4096x1 .bf16 := broadcastInDim S32x4096x1 ![] bcast_S_S32x4096x1 (constant S_ .bf16 0x0000#16)
def pads : FVec Ideal S32x4096x62 .bf16 := broadcastInDim S32x4096x62 ![] bcast_S_S32x4096x62 (constant S_ .bf16 0x0000#16)

theorem qHead_at (x0 : FVec Ideal S4096x8192 .bf16) (h : Fin 32) (a : Fin 4096) (d : Fin 64) :
    qHead x0 (ix3 h a d) = (val_main_v7 (F := Ideal) x0 (ix3 a h d) : EReal) * ((1 / 8 : ℝ) : EReal) :=
  congrArg₂ (fun x y : EReal => x * y) rfl ofBits16_eighth
theorem kHead_at (x0 : FVec Ideal S4096x8192 .bf16) (h : Fin 32) (a : Fin 4096) (d : Fin 64) :
    kHead x0 (ix3 h a d) = (val_main_v8 (F := Ideal) x0 (ix3 a h d) : EReal) := rfl
theorem ones_at (i : S32x4096x1.Idx) : ones i = ((1 : ℝ) : EReal) := ofBits16_one
theorem zeros_at (i : S32x4096x1.Idx) : zeros i = (0 : EReal) := ofBits16_zero
theorem pads_at (i : S32x4096x62.Idx) : pads i = (0 : EReal) := ofBits16_zero
theorem neg_ones_at (i : S32x4096x1.Idx) : (Host.negf ones : FVec Ideal S32x4096x1 .bf16) i = ((-1 : ℝ) : EReal) := by
  show -(ones i : EReal) = _
  rw [ones_at]; rfl

theorem cat_q : Shape.Concatenates [S32x4096x64, S32x4096x1, S32x4096x1, S32x4096x62] S32x4096x128 2 := by decide

theorem V15 : V m c main_v15 = (concatenate S32x4096x128 2 [⟨S32x4096x64, qHead (m (c, main_arg0))⟩, ⟨S32x4096x1, zeros⟩,
    ⟨S32x4096x1, Host.negf ones⟩, ⟨S32x4096x62, pads⟩] cat_q : FVec Ideal S32x4096x128 .bf16) := by
  unfold V
  simp (disch := decide) only [StableHlo.readAfter, StableHlo.readUpto, StableHlo.nullary_result', StableHlo.unary_result',
    StableHlo.binary_result', StableHlo.reshape_result', StableHlo.nary4_result']
  rfl
theorem V16 : V m c main_v16 = (concatenate S32x4096x128 2 [⟨S32x4096x64, kHead (m (c, main_arg0))⟩, ⟨S32x4096x1, ones⟩,
    ⟨S32x4096x1, zeros⟩, ⟨S32x4096x62, pads⟩] cat_q : FVec Ideal S32x4096x128 .bf16) := by
  unfold V
  simp (disch := decide) only [StableHlo.readAfter, StableHlo.readUpto, StableHlo.nullary_result', StableHlo.unary_result',
    StableHlo.binary_result', StableHlo.reshape_result', StableHlo.nary4_result']
  rfl
theorem V19 (h : Fin 32) (d : Fin 128) (a : Fin 4096) : V m c main_v19 (ix3 h d a) = (V m c main_v15 (ix3 h a d) : EReal) := by
  rw [V15]
  unfold V
  simp (disch := decide) only [StableHlo.readAfter, StableHlo.readUpto, StableHlo.nullary_result', StableHlo.unary_result',
    StableHlo.binary_result', StableHlo.reshape_result', StableHlo.nary4_result']
  refine (transpose_apply [0, 2, 1] _ transposes_S32x4096x128_S32x128x4096_0_2_1 (ix3 h d a) (ix3 h a d)
    fun e => match e with | ⟨0, _⟩ => rfl | ⟨1, _⟩ => rfl | ⟨2, _⟩ => rfl).trans ?_
  rfl
theorem V20 (h : Fin 32) (d : Fin 128) (a : Fin 4096) : V m c main_v20 (ix3 h d a) = (V m c main_v16 (ix3 h a d) : EReal) := by
  rw [V16]
  unfold V
  simp (disch := decide) only [StableHlo.readAfter, StableHlo.readUpto, StableHlo.nullary_result', StableHlo.unary_result',
    StableHlo.binary_result', StableHlo.reshape_result', StableHlo.nary4_result']
  refine (transpose_apply [0, 2, 1] _ transposes_S32x4096x128_S32x128x4096_0_2_1 (ix3 h d a) (ix3 h a d)
    fun e => match e with | ⟨0, _⟩ => rfl | ⟨1, _⟩ => rfl | ⟨2, _⟩ => rfl).trans ?_
  rfl

/-- The call's operands in reals. `mx` is each row's largest masked score. -/
structure Entry (q k v g : Fin 32 → Fin 4096 → Fin 64 → ℝ) (cs mx : Fin 32 → Fin 4096 → ℝ) : Prop where
  e15 : ∀ h a d, V m c main_v15 (ix3 h a d) = (qx (q h a) d : EReal)
  e16 : ∀ h b d, V m c main_v16 (ix3 h b d) = (kx (k h b) d : EReal)
  e19 : ∀ h d a, V m c main_v19 (ix3 h d a) = (qx (q h a) d : EReal)
  e20 : ∀ h d b, V m c main_v20 (ix3 h d b) = (kx (k h b) d : EReal)
  e10 : ∀ h b d, V m c main_v10 (ix3 h b d) = (v h b d : EReal)
  e22 : ∀ h z a, V m c main_v22 (ix3 h z a) = (cs h a : EReal)
  e24 : ∀ h b l, V m c main_v24 (ix3 h b l) = (cs h b : EReal)
  e64 : ∀ h d a, V m c main_v64 (ix3 h d a) = ((∑ b, v h b d * prob (q h) (k h) (cs h) (mx h) a b : ℝ) : EReal)
  e67 : ∀ h z a, V m c main_v67 (ix3 h z a) = (mx h a : EReal) + Ideal.log (total (q h) (k h) (cs h) (mx h) a : EReal)
  e69 : ∀ h d a, V m c main_v69 (ix3 h d a) = (g h a d : EReal)

theorem entry {q k v g : Fin 32 → Fin 4096 → Fin 64 → ℝ} {cs : Fin 32 → Fin 4096 → ℝ}
    (R : Reads (m (c, main_arg0)) (m (c, main_arg1)) (m (c, main_arg2)) q k v g cs) : ∃ mx, Entry m c q k v g cs mx := by
  have hs : ∀ h a b, W m c main_v53 (ix3 h a b) = masked (q h) (k h) (cs h) a b := fun h a b => by
    rw [W53]; exact Cert.FoxReference.v26_0_at R h a b
  have h1 : ∀ h a, ∃ r : ℝ, rowMax (W m c main_v53) (ix2 h a) = (r : EReal) := fun h a =>
    rowMax_real (q := q) (k := k) (c := cs) _ hs _ (fun i => ofBits_bot) _ _ h a
  choose mx hm using h1
  have h15 : ∀ h a d, V m c main_v15 (ix3 h a d) = (qx (q h a) d : EReal) := fun h a d => by
    rw [V15]
    refine (cat_at _ _ _ _ _ h a d).trans ?_
    unfold qx
    split_ifs with h0 h1 h2
    · rw [qHead_at, Cert.FoxReference.v7_at R, EReal.coe_mul]
    · exact zeros_at _
    · exact neg_ones_at _
    · exact pads_at _
  have h16 : ∀ h a d, V m c main_v16 (ix3 h a d) = (kx (k h a) d : EReal) := fun h a d => by
    rw [V16]
    refine (cat_at _ _ _ _ _ h a d).trans ?_
    unfold kx
    split_ifs with h0 h1 h2
    · rw [kHead_at, Cert.FoxReference.v8_at R]
    · exact ones_at _
    · exact zeros_at _
    · exact pads_at _
  refine ⟨mx, h15, h16, fun h d a => (V19 m c h d a).trans (h15 h a d), fun h d a => (V20 m c h d a).trans (h16 h a d), ?_, ?_, ?_, ?_, ?_, ?_⟩
  · exact fun h b d => (V10 m c h b d).trans (Cert.FoxReference.v9_at R b h d)
  · exact fun h z a => (V22 m c h z a).trans (Cert.FoxReference.v6_at R h a)
  · exact fun h a l => (V24 m c h a l).trans (Cert.FoxReference.v6_at R h a)
  · intro h d a
    rw [V64]
    exact outT_real (fun h b d => by rw [W34]; exact Cert.FoxReference.v9_at R b h d) hs hm h d a
  · intro h z a
    rw [V67]
    exact logSum_real hs hm h a z
  · exact fun h d a => (V69 m c h d a).trans (Cert.FoxReference.v60_at R h d a)

end Cert.FoxEntry
-- ==== Proof.FoxBlock.lean ====
/- What one visit of a block pair computes: the weights of a key block against a query block, the scores' gradient,
   and the three products that it adds to the running sums. -/
module

public import proofs.«01_k».proof.Proof.Gen.KernelIdeal.Skeleton
public import proofs.«01_k».proof.Proof.FoxArgs
public import Idealize.ShloMosaic.Lib.Pipeline.Value

@[expose] public section

set_option maxRecDepth 16384

noncomputable section

namespace Cert.FoxBlock

open Cert.KernelIdeal Cert.KernelIdeal.Gen
open Idealize.ShloMosaic Idealize.ShloMosaic.ValueIdx Cert.FoxReal Cert.FoxArgs

/-- A product into zeros, read at an index: the sum over the contracted coordinate. -/
theorem matmul_at {n : ℕ} {sl sr so : Shape} {φ₁ φ₂ : FTy} (D : DotDims sl sr so) (hn : D.contr.rank = 1)
    (hs : D.contr.size ⟨0, by omega⟩ = n) (x : FVec Ideal sl φ₁) (y : FVec Ideal sr φ₂) (i : so.Idx)
    (li : Fin n → sl.Idx) (ri : Fin n → sr.Idx)
    (hl : ∀ k, D.lhsIdx i ((contrEquiv1 D n hn hs).symm k) = li k)
    (hr : ∀ k, D.rhsIdx i ((contrEquiv1 D n hn hs).symm k) = ri k) :
    matmul (F := Ideal) D none x y (constant so .f32 0x00000000#32) i = ∑ k : Fin n, (x (li k) : EReal) * (y (ri k) : EReal) := by
  simp only [matmul]
  rw [Ideal.matmul_apply, ← Equiv.sum_comp (contrEquiv1 D n hn hs).symm]
  show Ideal.ofBits .f32 0x00000000#32 + _ = _
  rw [ofBits_zero, zero_add]
  exact Finset.sum_congr rfl fun k _ => by rw [hl, hr]

theorem dotA_at (x : FVec Ideal S1024x128 .bf16) (y : FVec Ideal S1024x128 .bf16) (b : Fin 1024) (a : Fin 1024) :
    matmul (F := Ideal) dot_S1024x128_S1024x128_S1024x1024_1_1_0_0_n_n none x y (constant S1024x1024 .f32 0x00000000#32) (ix2 b a)
      = ∑ d : Fin 128, (x (ix2 b d) : EReal) * (y (ix2 a d) : EReal) :=
  matmul_at dot_S1024x128_S1024x128_S1024x1024_1_1_0_0_n_n rfl rfl x y (ix2 b a) _ _
    (fun k => ext2 rfl (Fin.ext (contrEquiv1_symm_val dot_S1024x128_S1024x128_S1024x1024_1_1_0_0_n_n 128 rfl rfl k)))
    (fun k => ext2 rfl (Fin.ext (contrEquiv1_symm_val dot_S1024x128_S1024x128_S1024x1024_1_1_0_0_n_n 128 rfl rfl k)))

theorem dotB_at (x : FVec Ideal S1024x64 .bf16) (y : FVec Ideal S64x1024 .bf16) (b : Fin 1024) (a : Fin 1024) :
    matmul (F := Ideal) dot_S1024x64_S64x1024_S1024x1024_1_0_0_1_n_n none x y (constant S1024x1024 .f32 0x00000000#32) (ix2 b a)
      = ∑ d : Fin 64, (x (ix2 b d) : EReal) * (y (ix2 d a) : EReal) :=
  matmul_at dot_S1024x64_S64x1024_S1024x1024_1_0_0_1_n_n rfl rfl x y (ix2 b a) _ _
    (fun k => ext2 rfl (Fin.ext (contrEquiv1_symm_val dot_S1024x64_S64x1024_S1024x1024_1_0_0_1_n_n 64 rfl rfl k)))
    (fun k => ext2 (Fin.ext (contrEquiv1_symm_val dot_S1024x64_S64x1024_S1024x1024_1_0_0_1_n_n 64 rfl rfl k)) rfl)

theorem dotC_at (x : FVec Ideal S64x1024 .bf16) (y : FVec Ideal S1024x1024 .bf16) (b : Fin 64) (a : Fin 1024) :
    matmul (F := Ideal) dot_S64x1024_S1024x1024_S64x1024_1_1_0_0_n_n none x y (constant S64x1024 .f32 0x00000000#32) (ix2 b a)
      = ∑ d : Fin 1024, (x (ix2 b d) : EReal) * (y (ix2 a d) : EReal) :=
  matmul_at dot_S64x1024_S1024x1024_S64x1024_1_1_0_0_n_n rfl rfl x y (ix2 b a) _ _
    (fun k => ext2 rfl (Fin.ext (contrEquiv1_symm_val dot_S64x1024_S1024x1024_S64x1024_1_1_0_0_n_n 1024 rfl rfl k)))
    (fun k => ext2 rfl (Fin.ext (contrEquiv1_symm_val dot_S64x1024_S1024x1024_S64x1024_1_1_0_0_n_n 1024 rfl rfl k)))

theorem dotD_at (x : FVec Ideal S128x1024 .bf16) (y : FVec Ideal S1024x1024 .bf16) (b : Fin 128) (a : Fin 1024) :
    matmul (F := Ideal) dot_S128x1024_S1024x1024_S128x1024_1_1_0_0_n_n none x y (constant S128x1024 .f32 0x00000000#32) (ix2 b a)
      = ∑ d : Fin 1024, (x (ix2 b d) : EReal) * (y (ix2 a d) : EReal) :=
  matmul_at dot_S128x1024_S1024x1024_S128x1024_1_1_0_0_n_n rfl rfl x y (ix2 b a) _ _
    (fun k => ext2 rfl (Fin.ext (contrEquiv1_symm_val dot_S128x1024_S1024x1024_S128x1024_1_1_0_0_n_n 1024 rfl rfl k)))
    (fun k => ext2 rfl (Fin.ext (contrEquiv1_symm_val dot_S128x1024_S1024x1024_S128x1024_1_1_0_0_n_n 1024 rfl rfl k)))

theorem dotE_at (x : FVec Ideal S128x1024 .bf16) (y : FVec Ideal S1024x1024 .bf16) (b : Fin 128) (a : Fin 1024) :
    matmul (F := Ideal) dot_S128x1024_S1024x1024_S128x1024_1_0_0_1_n_n none x y (constant S128x1024 .f32 0x00000000#32) (ix2 b a)
      = ∑ d : Fin 1024, (x (ix2 b d) : EReal) * (y (ix2 d a) : EReal) :=
  matmul_at dot_S128x1024_S1024x1024_S128x1024_1_0_0_1_n_n rfl rfl x y (ix2 b a) _ _
    (fun k => ext2 rfl (Fin.ext (contrEquiv1_symm_val dot_S128x1024_S1024x1024_S128x1024_1_0_0_1_n_n 1024 rfl rfl k)))
    (fun k => ext2 (Fin.ext (contrEquiv1_symm_val dot_S128x1024_S1024x1024_S128x1024_1_0_0_1_n_n 1024 rfl rfl k)) rfl)

/-- A block with a leading axis of one, read flat. -/
theorem flat3 {α : Type} {n k : ℕ} (x : (⟨3, ![1, n, k]⟩ : Shape).Idx → α) (h : (⟨3, ![1, n, k]⟩ : Shape).ShapeCasts ⟨2, ![n, k]⟩)
    (b : Fin n) (a : Fin k) : shapeCast ⟨2, ![n, k]⟩ x h (ix2 b a) = x (ix3 0 b a) :=
  shapeCast_apply x h (ix2 b a) (ix3 0 b a) (by
    rw [Shape.rowMajor_val_two, Shape.rowMajor_val_three]
    show (0 * n + b.val) * k + a.val = b.val * k + a.val
    rw [Nat.zero_mul, Nat.zero_add])

/-- A flat block, read with a leading axis of one. -/
theorem lift3 {α : Type} {n k : ℕ} (x : (⟨2, ![n, k]⟩ : Shape).Idx → α) (h : (⟨2, ![n, k]⟩ : Shape).ShapeCasts ⟨3, ![1, n, k]⟩)
    (z : Fin 1) (b : Fin n) (a : Fin k) : shapeCast ⟨3, ![1, n, k]⟩ x h (ix3 z b a) = x (ix2 b a) :=
  shapeCast_apply x h (ix3 z b a) (ix2 b a) (by
    rw [Shape.rowMajor_val_two, Shape.rowMajor_val_three]
    have hz : z.val = 0 := by omega
    show b.val * k + a.val = (z.val * n + b.val) * k + a.val
    rw [hz, Nat.zero_mul, Nat.zero_add])

/-- A row repeated down a block. -/
theorem row_at {α : Type} {n k : ℕ} (hk : k ≠ 1) (x : (⟨2, ![1, k]⟩ : Shape).Idx → α) (h : (⟨2, ![1, k]⟩ : Shape).Broadcasts ⟨2, ![n, k]⟩)
    (b : Fin n) (a : Fin k) : broadcastTo ⟨2, ![n, k]⟩ x h (ix2 b a) = x (ix2 0 a) :=
  broadcastTo_apply x h (ix2 b a) (ix2 0 a) (fun e => match e with
    | ⟨0, _⟩ => by show 0 = if (1 : ℕ) = 1 then 0 else b.val; rw [if_pos rfl]
    | ⟨1, _⟩ => by show a.val = if k = 1 then 0 else a.val; rw [if_neg hk])

/-- The lane of a column in the keys' running sums. -/
def lane (a : Fin 1024) : Fin 128 := ⟨a.val % 128, Nat.mod_lt _ (by decide)⟩

/-- Eight copies of the keys' running sums side by side. -/
theorem lanes_at (x : FVec Ideal S1024x128 .f32) (h) (b a : Fin 1024) :
    concatenate S1024x1024 1 [⟨S1024x128, x⟩, ⟨S1024x128, x⟩, ⟨S1024x128, x⟩, ⟨S1024x128, x⟩, ⟨S1024x128, x⟩, ⟨S1024x128, x⟩,
      ⟨S1024x128, x⟩, ⟨S1024x128, x⟩] h (ix2 b a) = x (ix2 b (lane a)) := by
  have ha := a.isLt
  have hk : a.val / 128 < 8 := by omega
  have hlen : a.val / 128 < ([⟨S1024x128, x⟩, ⟨S1024x128, x⟩, ⟨S1024x128, x⟩, ⟨S1024x128, x⟩, ⟨S1024x128, x⟩, ⟨S1024x128, x⟩,
      ⟨S1024x128, x⟩, ⟨S1024x128, x⟩] : List ((s : Shape) × (s.Idx → Ideal .f32))).length := hk
  refine concatenate_apply_piece (t := S1024x1024) 1 _ h (ix2 b a) (a.val / 128) hlen S1024x128 x ?_ rfl (128 * (a.val / 128)) ?_
    (ix2 b (lane a)) ?_ ?_
  · generalize a.val / 128 = j at hk hlen ⊢
    interval_cases j <;> rfl
  · generalize a.val / 128 = j at hk hlen ⊢
    interval_cases j <;> rfl
  · intro e he
    match e with
    | ⟨0, _⟩ => rfl
    | ⟨1, _⟩ => exact absurd rfl he
  · show 128 * (a.val / 128) + a.val % 128 = a.val
    omega

section Weights

variable (x0 x1 : FVec Ideal S1x1024x128 .bf16) (x5 x9 : FVec Ideal S1x1x1024 .f32) (x6 : FVec Ideal S1x1024x128 .f32)

/-- The scores of a key block against a query block. -/
def sc (b a : Fin 1024) : EReal :=
  (∑ d : Fin 128, (x1 (ix3 0 b d) : EReal) * (x0 (ix3 0 a d) : EReal)) + (x5 (ix3 0 0 a) : EReal) - (x6 (ix3 0 b (lane a)) : EReal)

/-- The weights below the diagonal. -/
theorem pay17_at (b a : Fin 1024) :
    k0_pay17 (F := Ideal) x1 x0 x5 x6 x9 (ix2 b a) = Ideal.exp (sc x0 x1 x5 x6 b a - (x9 (ix3 0 0 a) : EReal)) := by
  unfold k0_pay17
  show Ideal.exp (matmul (F := Ideal) dot_S1024x128_S1024x128_S1024x1024_1_1_0_0_n_n none (shapeCast S1024x128 x1 shapeCasts_S1x1024x128_S1024x128) (shapeCast S1024x128 x0 shapeCasts_S1x1024x128_S1024x128) (constant S1024x1024 .f32 0x00000000#32) (ix2 b a)
    + broadcastTo S1024x1024 (shapeCast S1x1024 x5 shapeCasts_S1x1x1024_S1x1024) broadcasts_S1x1024_S1024x1024 (ix2 b a)
    - concatenate S1024x1024 1 _ _ (ix2 b a)
    - broadcastTo S1024x1024 (shapeCast S1x1024 x9 shapeCasts_S1x1x1024_S1x1024) broadcasts_S1x1024_S1024x1024 (ix2 b a)) = _
  rw [dotA_at, row_at (by decide), row_at (by decide), lanes_at, flat3, flat3, flat3]
  simp only [flat3]
  rfl

/-- The weights on the diagonal: the keys after the query have none. -/
theorem pay20_at (b a : Fin 1024) :
    k0_pay20 (F := Ideal) x1 x0 x5 x6 x9 (ix2 b a)
      = Ideal.exp ((if b ≤ a then sc x0 x1 x5 x6 b a else ⊥) - (x9 (ix3 0 0 a) : EReal)) := by
  unfold k0_pay20
  show Ideal.exp (Scalar.select (IntOp.cmpi .sle (iota .tc S1024x1024 32 [0] iota_S1024x1024_d0_w32 (ix2 b a)) (iota .tc S1024x1024 32 [1] iota_S1024x1024_d1_w32 (ix2 b a))) (matmul (F := Ideal) dot_S1024x128_S1024x128_S1024x1024_1_1_0_0_n_n none (shapeCast S1024x128 x1 shapeCasts_S1x1024x128_S1024x128) (shapeCast S1024x128 x0 shapeCasts_S1x1024x128_S1024x128) (constant S1024x1024 .f32 0x00000000#32) (ix2 b a)
    + broadcastTo S1024x1024 (shapeCast S1x1024 x5 shapeCasts_S1x1x1024_S1x1024) broadcasts_S1x1024_S1024x1024 (ix2 b a)
    - concatenate S1024x1024 1 _ _ (ix2 b a)) (Named.named (F := Ideal) (φ := .f32) κ "mask" 0xF149F2CA#32 : EReal)
    - broadcastTo S1024x1024 (shapeCast S1x1024 x9 shapeCasts_S1x1x1024_S1x1024) broadcasts_S1x1024_S1024x1024 (ix2 b a)) = _
  rw [dotA_at, row_at (by decide), row_at (by decide), lanes_at, flat3, flat3, flat3]
  simp only [flat3]
  have hm : (Named.named (F := Ideal) (φ := .f32) κ "mask" 0xF149F2CA#32 : EReal) = ⊥ := IdealRules.named_const.ideal_named_scalar _ _ _ _ rfl
  have hc : IntOp.cmpi .sle (iota .tc S1024x1024 32 [0] iota_S1024x1024_d0_w32 (ix2 b a)) (iota .tc S1024x1024 32 [1] iota_S1024x1024_d1_w32 (ix2 b a))
      = if b ≤ a then 1#1 else 0#1 := by
    rw [show iota .tc S1024x1024 32 [0] iota_S1024x1024_d0_w32 (ix2 b a) = BitVec.ofNat 32 b.val from
        congrArg (BitVec.ofNat 32) (by show 0 * 1024 + b.val = b.val; omega),
      show iota .tc S1024x1024 32 [1] iota_S1024x1024_d1_w32 (ix2 b a) = BitVec.ofNat 32 a.val from
        congrArg (BitVec.ofNat 32) (by show 0 * 1024 + a.val = a.val; omega)]
    exact sle_ofNat ⟨a.val, by omega⟩ ⟨b.val, by omega⟩
  rw [hm, hc]
  by_cases h : b ≤ a
  · rw [if_pos h, if_pos h]; rfl
  · rw [if_neg h, if_neg h]; rfl

end Weights

/-- The products with a block, added to what the running sum held. -/
theorem pay9_at (p : FVec Ideal S1024x1024 .f32) (w : FVec Ideal S64x1024 .bf16) (s : FVec Ideal S64x1024 .f32) (d : Fin 64) (y : Fin 1024) :
    k0_pay9 (F := Ideal) p w s (ix2 d y) = (s (ix2 d y) : EReal) + ∑ a : Fin 1024, (w (ix2 d a) : EReal) * (p (ix2 y a) : EReal) := by
  unfold k0_pay9
  rw [shapeCast_self]
  show (s (ix2 d y) : EReal) + matmul (F := Ideal) dot_S64x1024_S1024x1024_S64x1024_1_1_0_0_n_n none w (truncf .bf16 p bitsLt_bf16_f32) (constant S64x1024 .f32 0x00000000#32) (ix2 d y) = _
  rw [dotC_at]; rfl

theorem pay5_at (p : FVec Ideal S1024x1024 .f32) (w : FVec Ideal S64x1024 .bf16) (s : FVec Ideal S64x1024 .f32) (d : Fin 64) (y : Fin 1024) :
    k0_pay5 (F := Ideal) p w s (ix2 d y) = (s (ix2 d y) : EReal) + ∑ a : Fin 1024, (w (ix2 d a) : EReal) * (p (ix2 y a) : EReal) :=
  pay9_at p w s d y

theorem pay21_at (w : FVec Ideal S1x64x1024 .bf16) (d : Fin 64) (a : Fin 1024) :
    k0_pay21 (F := Ideal) w (ix2 d a) = w (ix3 0 d a) := flat3 w _ d a

theorem pay18_at (w : FVec Ideal S1x64x1024 .bf16) (d : Fin 64) (a : Fin 1024) :
    k0_pay18 (F := Ideal) w (ix2 d a) = w (ix3 0 d a) := flat3 w _ d a

/-- The row sums of the output against its cotangent. -/
theorem pay22_at (w o : FVec Ideal S1x64x1024 .bf16) (z : Fin 1) (a : Fin 1024) :
    k0_pay22 (F := Ideal) w o (ix2 z a) = ∑ d : Fin 64, (w (ix3 0 d a) : EReal) * (o (ix3 0 d a) : EReal) := by
  unfold k0_pay22
  have e : ∀ (x : FVec Ideal S1024 .f32), shapeCast S1x1024 x shapeCasts_S1024_S1x1024 (ix2 z a) = x (ix1 a) := fun x =>
    shapeCast_apply x _ _ _ (by
      rw [Shape.rowMajor_val_two, Shape.rowMajor_val_one]
      have hz : z.val = 0 := by omega
      show a.val = z.val * 1024 + a.val
      rw [hz, Nat.zero_mul, Nat.zero_add])
  dsimp only
  rw [e]
  refine (Ideal.multiReduction_add_single _ _ _ _ _ _).trans ?_
  refine Finset.sum_congr rfl fun (d : Fin 64) _ => ?_
  have hl : reduces_S64x1024_S1024.lift (ix1 a) d = ix2 d a := ext2 rfl rfl
  rw [hl]
  show (k0_pay21 (F := Ideal) w (ix2 d a) : EReal) * (shapeCast S64x1024 o shapeCasts_S1x64x1024_S64x1024 (ix2 d a) : EReal) = _
  rw [pay21_at, flat3]

/-- The gradient of the scores of a block pair. -/
theorem pay8_at (p : FVec Ideal S1024x1024 .f32) (w : FVec Ideal S64x1024 .bf16) (dl : FVec Ideal S1x1024 .f32)
    (v : FVec Ideal S1x1024x64 .bf16) (b a : Fin 1024) :
    k0_pay8 (F := Ideal) p w dl v (ix2 b a)
      = (p (ix2 b a) : EReal) * ((∑ d : Fin 64, (v (ix3 0 b d) : EReal) * (w (ix2 d a) : EReal)) - (dl (ix2 0 a) : EReal)) := by
  unfold k0_pay8
  show (p (ix2 b a) : EReal) * (matmul (F := Ideal) dot_S1024x64_S64x1024_S1024x1024_1_0_0_1_n_n none (shapeCast S1024x64 v shapeCasts_S1x1024x64_S1024x64) w (constant S1024x1024 .f32 0x00000000#32) (ix2 b a)
    - broadcastTo S1024x1024 dl broadcasts_S1x1024_S1024x1024 (ix2 b a)) = _
  rw [dotB_at, row_at (by decide)]
  simp only [flat3]

/-- The other branch computes the same gradient. -/
theorem pay19_eq (x0 x1 : FVec Ideal S1x1024x128 .bf16) (x5 x9 : FVec Ideal S1x1x1024 .f32) (x6 : FVec Ideal S1x1024x128 .f32)
    (w o : FVec Ideal S1x64x1024 .bf16) (v : FVec Ideal S1x1024x64 .bf16) :
    k0_pay19 (F := Ideal) x1 x0 x5 x6 x9 w o v = k0_pay8 (F := Ideal) (k0_pay17 (F := Ideal) x1 x0 x5 x6 x9) (k0_pay18 (F := Ideal) w) (k0_pay22 (F := Ideal) w o) v := rfl

theorem pay10_at (p : FVec Ideal S1024x1024 .f32) (w : FVec Ideal S64x1024 .bf16) (dl : FVec Ideal S1x1024 .f32)
    (v : FVec Ideal S1x1024x64 .bf16) (s : FVec Ideal S128x1024 .f32) (qt : FVec Ideal S1x128x1024 .bf16) (d : Fin 128) (y : Fin 1024) :
    k0_pay10 (F := Ideal) p w dl v s qt (ix2 d y)
      = (s (ix2 d y) : EReal) + ∑ a : Fin 1024, (qt (ix3 0 d a) : EReal) * (k0_pay8 (F := Ideal) p w dl v (ix2 y a) : EReal) := by
  unfold k0_pay10
  rw [shapeCast_self]
  show (s (ix2 d y) : EReal) + matmul (F := Ideal) dot_S128x1024_S1024x1024_S128x1024_1_1_0_0_n_n none (shapeCast S128x1024 qt shapeCasts_S1x128x1024_S128x1024) (k0_pay8 (F := Ideal) p w dl v) (constant S128x1024 .f32 0x00000000#32) (ix2 d y) = _
  rw [dotD_at]
  simp only [flat3]

theorem pay11_at (p : FVec Ideal S1024x1024 .f32) (w : FVec Ideal S64x1024 .bf16) (dl : FVec Ideal S1x1024 .f32)
    (v : FVec Ideal S1x1024x64 .bf16) (s : FVec Ideal S128x1024 .f32) (kt : FVec Ideal S1x128x1024 .bf16) (d : Fin 128) (a : Fin 1024) :
    k0_pay11 (F := Ideal) p w dl v s kt (ix2 d a)
      = (s (ix2 d a) : EReal) + ∑ b : Fin 1024, (kt (ix3 0 d b) : EReal) * (k0_pay8 (F := Ideal) p w dl v (ix2 b a) : EReal) := by
  unfold k0_pay11
  rw [shapeCast_self]
  show (s (ix2 d a) : EReal) + matmul (F := Ideal) dot_S128x1024_S1024x1024_S128x1024_1_0_0_1_n_n none (shapeCast S128x1024 kt shapeCasts_S1x128x1024_S128x1024) (k0_pay8 (F := Ideal) p w dl v) (constant S128x1024 .f32 0x00000000#32) (ix2 d a) = _
  rw [dotE_at]
  simp only [flat3]

/-- The other branch adds the same products. -/
theorem pay6_eq (p : FVec Ideal S1024x1024 .f32) (w : FVec Ideal S64x1024 .bf16) (dl : FVec Ideal S1x1024 .f32)
    (v : FVec Ideal S1x1024x64 .bf16) (s : FVec Ideal S128x1024 .f32) (qt : FVec Ideal S1x128x1024 .bf16) :
    k0_pay6 (F := Ideal) (k0_pay8 (F := Ideal) p w dl v) s qt = k0_pay10 (F := Ideal) p w dl v s qt := rfl

theorem pay7_eq (p : FVec Ideal S1024x1024 .f32) (w : FVec Ideal S64x1024 .bf16) (dl : FVec Ideal S1x1024 .f32)
    (v : FVec Ideal S1x1024x64 .bf16) (s : FVec Ideal S128x1024 .f32) (kt : FVec Ideal S1x128x1024 .bf16) :
    k0_pay7 (F := Ideal) (k0_pay8 (F := Ideal) p w dl v) s kt = k0_pay11 (F := Ideal) p w dl v s kt := rfl

/-- The sums start at zero. -/
theorem pay1_at (i) : k0_pay1 (F := Ideal) i = (0 : EReal) := by
  unfold k0_pay1; rw [shapeCast_self]; exact ofBits_zero
theorem pay2_at (i) : k0_pay2 (F := Ideal) i = (0 : EReal) := by
  unfold k0_pay2; rw [shapeCast_self]; exact ofBits_zero
theorem pay3_at (i) : k0_pay3 (F := Ideal) i = (0 : EReal) := by
  unfold k0_pay3; rw [shapeCast_self]; exact ofBits_zero

/-- What is written out: the sums themselves, the queries' scaled. -/
theorem pay12_at (s : FVec Ideal S64x1024 .f32) (z : Fin 1) (d : Fin 64) (y : Fin 1024) : k0_pay12 (F := Ideal) s (ix3 z d y) = (s (ix2 d y) : EReal) :=
  lift3 (truncf .bf16 s bitsLt_bf16_f32) _ z d y
theorem pay14_at (s : FVec Ideal S64x1024 .f32) (z : Fin 1) (d : Fin 64) (y : Fin 1024) : k0_pay14 (F := Ideal) s (ix3 z d y) = (s (ix2 d y) : EReal) :=
  lift3 (truncf .bf16 s bitsLt_bf16_f32) _ z d y
theorem pay13_at (s : FVec Ideal S1x1024 .f32) (z w : Fin 1) (y : Fin 1024) : k0_pay13 (F := Ideal) s (ix3 z w y) = (s (ix2 w y) : EReal) :=
  lift3 s _ z w y
theorem pay16_at (s : FVec Ideal S1x4096 .f32) (z w : Fin 1) (y : Fin 4096) : k0_pay16 (F := Ideal) s (ix3 z w y) = (s (ix2 w y) : EReal) :=
  lift3 s _ z w y
theorem pay15_at (s : FVec Ideal S64x4096 .f32) (z : Fin 1) (d : Fin 64) (y : Fin 4096) :
    k0_pay15 (F := Ideal) s (ix3 z d y) = (s (ix2 d y) : EReal) * ((1 / 8 : ℝ) : EReal) := by
  unfold k0_pay15
  refine (lift3 _ _ z d y).trans ?_
  show (s (ix2 d y) : EReal) * Ideal.ofBits .f32 0x3E000000#32 = _
  rw [ofBits_eighth]

end Cert.FoxBlock
-- ==== Proof.FoxTiles.lean ====
/- Which part of its array each block of a visit is: visit `t` takes head `t / 16`, key tile `t / 4 % 4` and, where it
   computes, query tile `t % 4`. -/
module

public import proofs.«01_k».proof.Proof.Gen.KernelIdeal.Value
public import Idealize.ShloMosaic.Lib.ValueIdx

@[expose] public section

set_option maxRecDepth 16384

noncomputable section

namespace Cert.FoxTiles

open Idealize.ShloMosaic Idealize.ShloMosaic.TcCoe Idealize.ShloMosaic.ValueIdx Idealize.SL.Sem
open Cert.KernelIdeal Cert.KernelIdeal.Gen

variable {F : FTy → Type} [FloatOps F] [Named F]
variable (m : (ℓ : Loc nD τ sig) → Buf (Elt F) ℓ) (c : Dev nD) (t : Fin cfg0.N)

theorem lt512 : t.val < 512 := lt_of_lt_of_eq t.isLt (show cfg0.N = 512 from N_0)

/-- The head of a visit, its queries and its keys. -/
def hd : Fin 32 := ⟨t.val / 16, by have := lt512 t; omega⟩
def qry (a : Fin 1024) : Fin 4096 := ⟨1024 * (t.val % 4) + a.val, by have := a.isLt; omega⟩
def key (b : Fin 1024) : Fin 4096 := ⟨1024 * (t.val / 4 % 4) + b.val, by have := b.isLt; omega⟩

theorem coord0 : (grid0.coords t 0).val = t.val / 16 := by
  have := lt512 t
  show t.val / 16 % 32 = t.val / 16
  omega
theorem coord1 : (grid0.coords t 1).val = t.val / 4 % 4 := rfl
theorem coord2 : (grid0.coords t 2).val = t.val % 4 := by
  show t.val / 1 % 4 = t.val % 4
  rw [Nat.div_one]

theorem word0 : (BitVec.ofNat 32 (grid0.coords t 0).val).toNat = t.val / 16 := by
  have := lt512 t
  rw [coord0, BitVec.toNat_ofNat]
  omega
theorem word1 : (BitVec.ofNat 32 (grid0.coords t 1).val).toNat = t.val / 4 % 4 := by
  rw [coord1, BitVec.toNat_ofNat]
  omega
theorem wordMax (he : t.val / 4 % 4 ≤ t.val % 4) :
    (Scalar.maxsi (BitVec.ofNat 32 (grid0.coords t 2).val) (BitVec.ofNat 32 (grid0.coords t 1).val)).toNat = t.val % 4 := by
  rw [coord1, coord2]
  have h1 : t.val % 4 < 4 := Nat.mod_lt _ (by decide)
  generalize t.val % 4 = i at h1 he
  generalize t.val / 4 % 4 = j at he
  interval_cases i <;> interval_cases j <;> rfl

theorem blk0_at (he : t.val / 4 % 4 ≤ t.val % 4) (x : Fin 1024) (y : Fin 128) : iblk m c 0 t (ix3 0 x y) = V m c main_v15 (ix3 (hd t) (qry t x) y) := by
  have e0 : win0_0.index t (0 : Fin 3) = t.val / 16 := word0 t
  have e1 : win0_0.index t (1 : Fin 3) = t.val % 4 := wordMax t he
  have e2 : win0_0.index t (2 : Fin 3) = 0 := rfl
  refine congrArg (V m c main_v15) (funext fun a => Fin.ext ?_)
  match a with
  | ⟨0, _⟩ => show win0_0.index t (0 : Fin 3) * 1 + 1 * 0 = t.val / 16; omega
  | ⟨1, _⟩ => show win0_0.index t (1 : Fin 3) * 1024 + 1 * x.val = 1024 * (t.val % 4) + x.val; omega
  | ⟨2, _⟩ => show win0_0.index t (2 : Fin 3) * 128 + 1 * y.val = y.val; omega

theorem blk1_at (x : Fin 1024) (y : Fin 128) : iblk m c 1 t (ix3 0 x y) = V m c main_v16 (ix3 (hd t) (key t x) y) := by
  have e0 : win0_1.index t (0 : Fin 3) = t.val / 16 := word0 t
  have e1 : win0_1.index t (1 : Fin 3) = t.val / 4 % 4 := word1 t
  have e2 : win0_1.index t (2 : Fin 3) = 0 := rfl
  refine congrArg (V m c main_v16) (funext fun a => Fin.ext ?_)
  match a with
  | ⟨0, _⟩ => show win0_1.index t (0 : Fin 3) * 1 + 1 * 0 = t.val / 16; omega
  | ⟨1, _⟩ => show win0_1.index t (1 : Fin 3) * 1024 + 1 * x.val = 1024 * (t.val / 4 % 4) + x.val; omega
  | ⟨2, _⟩ => show win0_1.index t (2 : Fin 3) * 128 + 1 * y.val = y.val; omega

theorem blk2_at (he : t.val / 4 % 4 ≤ t.val % 4) (x : Fin 128) (y : Fin 1024) : iblk m c 2 t (ix3 0 x y) = V m c main_v19 (ix3 (hd t) x (qry t y)) := by
  have e0 : win0_2.index t (0 : Fin 3) = t.val / 16 := word0 t
  have e1 : win0_2.index t (1 : Fin 3) = 0 := rfl
  have e2 : win0_2.index t (2 : Fin 3) = t.val % 4 := wordMax t he
  refine congrArg (V m c main_v19) (funext fun a => Fin.ext ?_)
  match a with
  | ⟨0, _⟩ => show win0_2.index t (0 : Fin 3) * 1 + 1 * 0 = t.val / 16; omega
  | ⟨1, _⟩ => show win0_2.index t (1 : Fin 3) * 128 + 1 * x.val = x.val; omega
  | ⟨2, _⟩ => show win0_2.index t (2 : Fin 3) * 1024 + 1 * y.val = 1024 * (t.val % 4) + y.val; omega

theorem blk3_at (x : Fin 128) (y : Fin 1024) : iblk m c 3 t (ix3 0 x y) = V m c main_v20 (ix3 (hd t) x (key t y)) := by
  have e0 : win0_3.index t (0 : Fin 3) = t.val / 16 := word0 t
  have e1 : win0_3.index t (1 : Fin 3) = 0 := rfl
  have e2 : win0_3.index t (2 : Fin 3) = t.val / 4 % 4 := word1 t
  refine congrArg (V m c main_v20) (funext fun a => Fin.ext ?_)
  match a with
  | ⟨0, _⟩ => show win0_3.index t (0 : Fin 3) * 1 + 1 * 0 = t.val / 16; omega
  | ⟨1, _⟩ => show win0_3.index t (1 : Fin 3) * 128 + 1 * x.val = x.val; omega
  | ⟨2, _⟩ => show win0_3.index t (2 : Fin 3) * 1024 + 1 * y.val = 1024 * (t.val / 4 % 4) + y.val; omega

theorem blk4_at (x : Fin 1024) (y : Fin 64) : iblk m c 4 t (ix3 0 x y) = V m c main_v10 (ix3 (hd t) (key t x) y) := by
  have e0 : win0_4.index t (0 : Fin 3) = t.val / 16 := word0 t
  have e1 : win0_4.index t (1 : Fin 3) = t.val / 4 % 4 := word1 t
  have e2 : win0_4.index t (2 : Fin 3) = 0 := rfl
  refine congrArg (V m c main_v10) (funext fun a => Fin.ext ?_)
  match a with
  | ⟨0, _⟩ => show win0_4.index t (0 : Fin 3) * 1 + 1 * 0 = t.val / 16; omega
  | ⟨1, _⟩ => show win0_4.index t (1 : Fin 3) * 1024 + 1 * x.val = 1024 * (t.val / 4 % 4) + x.val; omega
  | ⟨2, _⟩ => show win0_4.index t (2 : Fin 3) * 64 + 1 * y.val = y.val; omega

theorem blk5_at (he : t.val / 4 % 4 ≤ t.val % 4) (x : Fin 1) (y : Fin 1024) : iblk m c 5 t (ix3 0 x y) = V m c main_v22 (ix3 (hd t) x (qry t y)) := by
  have e0 : win0_5.index t (0 : Fin 3) = t.val / 16 := word0 t
  have e1 : win0_5.index t (1 : Fin 3) = 0 := rfl
  have e2 : win0_5.index t (2 : Fin 3) = t.val % 4 := wordMax t he
  refine congrArg (V m c main_v22) (funext fun a => Fin.ext ?_)
  match a with
  | ⟨0, _⟩ => show win0_5.index t (0 : Fin 3) * 1 + 1 * 0 = t.val / 16; omega
  | ⟨1, _⟩ => show win0_5.index t (1 : Fin 3) * 1 + 1 * x.val = x.val; omega
  | ⟨2, _⟩ => show win0_5.index t (2 : Fin 3) * 1024 + 1 * y.val = 1024 * (t.val % 4) + y.val; omega

theorem blk6_at (x : Fin 1024) (y : Fin 128) : iblk m c 6 t (ix3 0 x y) = V m c main_v24 (ix3 (hd t) (key t x) y) := by
  have e0 : win0_6.index t (0 : Fin 3) = t.val / 16 := word0 t
  have e1 : win0_6.index t (1 : Fin 3) = t.val / 4 % 4 := word1 t
  have e2 : win0_6.index t (2 : Fin 3) = 0 := rfl
  refine congrArg (V m c main_v24) (funext fun a => Fin.ext ?_)
  match a with
  | ⟨0, _⟩ => show win0_6.index t (0 : Fin 3) * 1 + 1 * 0 = t.val / 16; omega
  | ⟨1, _⟩ => show win0_6.index t (1 : Fin 3) * 1024 + 1 * x.val = 1024 * (t.val / 4 % 4) + x.val; omega
  | ⟨2, _⟩ => show win0_6.index t (2 : Fin 3) * 128 + 1 * y.val = y.val; omega

theorem blk7_at (he : t.val / 4 % 4 ≤ t.val % 4) (x : Fin 64) (y : Fin 1024) : iblk m c 7 t (ix3 0 x y) = V m c main_v64 (ix3 (hd t) x (qry t y)) := by
  have e0 : win0_7.index t (0 : Fin 3) = t.val / 16 := word0 t
  have e1 : win0_7.index t (1 : Fin 3) = 0 := rfl
  have e2 : win0_7.index t (2 : Fin 3) = t.val % 4 := wordMax t he
  refine congrArg (V m c main_v64) (funext fun a => Fin.ext ?_)
  match a with
  | ⟨0, _⟩ => show win0_7.index t (0 : Fin 3) * 1 + 1 * 0 = t.val / 16; omega
  | ⟨1, _⟩ => show win0_7.index t (1 : Fin 3) * 64 + 1 * x.val = x.val; omega
  | ⟨2, _⟩ => show win0_7.index t (2 : Fin 3) * 1024 + 1 * y.val = 1024 * (t.val % 4) + y.val; omega

theorem blk8_at (he : t.val / 4 % 4 ≤ t.val % 4) (x : Fin 64) (y : Fin 1024) : iblk m c 8 t (ix3 0 x y) = V m c main_v69 (ix3 (hd t) x (qry t y)) := by
  have e0 : win0_8.index t (0 : Fin 3) = t.val / 16 := word0 t
  have e1 : win0_8.index t (1 : Fin 3) = 0 := rfl
  have e2 : win0_8.index t (2 : Fin 3) = t.val % 4 := wordMax t he
  refine congrArg (V m c main_v69) (funext fun a => Fin.ext ?_)
  match a with
  | ⟨0, _⟩ => show win0_8.index t (0 : Fin 3) * 1 + 1 * 0 = t.val / 16; omega
  | ⟨1, _⟩ => show win0_8.index t (1 : Fin 3) * 64 + 1 * x.val = x.val; omega
  | ⟨2, _⟩ => show win0_8.index t (2 : Fin 3) * 1024 + 1 * y.val = 1024 * (t.val % 4) + y.val; omega

theorem blk9_at (he : t.val / 4 % 4 ≤ t.val % 4) (x : Fin 1) (y : Fin 1024) : iblk m c 9 t (ix3 0 x y) = V m c main_v67 (ix3 (hd t) x (qry t y)) := by
  have e0 : win0_9.index t (0 : Fin 3) = t.val / 16 := word0 t
  have e1 : win0_9.index t (1 : Fin 3) = 0 := rfl
  have e2 : win0_9.index t (2 : Fin 3) = t.val % 4 := wordMax t he
  refine congrArg (V m c main_v67) (funext fun a => Fin.ext ?_)
  match a with
  | ⟨0, _⟩ => show win0_9.index t (0 : Fin 3) * 1 + 1 * 0 = t.val / 16; omega
  | ⟨1, _⟩ => show win0_9.index t (1 : Fin 3) * 1 + 1 * x.val = x.val; omega
  | ⟨2, _⟩ => show win0_9.index t (2 : Fin 3) * 1024 + 1 * y.val = 1024 * (t.val % 4) + y.val; omega

end Cert.FoxTiles
-- ==== Proof.FoxCases.lean ====
/- What each kind of visit leaves: the running sums after it, and the blocks it writes out, over the payloads of
   the visit's blocks. -/
module

public import proofs.«01_k».proof.Proof.Gen.KernelIdeal.Value
public import Idealize.ShloMosaic.Lib.ValueIdx
public import Idealize.ShloMosaic.Lib.WritesUnit
public import Idealize.ShloMosaic.Lib.VecWindow
public import Idealize.ShloMosaic.Lib.Pipeline.ReadBack
public import Idealize.ShloMosaic.Lib.Pipeline.ValueKit.Basic
public import Idealize.ShloMosaic.Lib.Pipeline.ValueKit.Tiles

@[expose] public section

set_option maxRecDepth 16384

noncomputable section

namespace Cert.FoxCases

open Idealize.ShloMosaic Idealize.ShloMosaic.TcCoe Idealize.SL.Sem
open Cert.KernelIdeal Cert.KernelIdeal.Gen Cert.KernelIdeal.Value

variable {F : FTy → Type} [FloatOps F] [Named F]
variable (m : (ℓ : Loc nD τ sig) → Buf (Elt F) ℓ)

theorem hz2 : (![0, 0] : Fin 2 → Nat) = fun _ => 0 := funext fun a => by fin_cases a <;> rfl
theorem hz3 : (![0, 0, 0] : Fin 3 → Nat) = fun _ => 0 := funext fun a => by fin_cases a <;> rfl

/-- The first column of the visit's queries. -/
theorem off_val (t : Fin cfg0.N) :
    (![0, BitVec.toNat (Scalar.indexCast (Scalar.muli (BitVec.ofNat 32 (grid0.coords t 2).val) 1024#32))] : Fin 2 → Nat)
      = ![0, 1024 * (t.val % 4)] := by
  have hc : (grid0.coords t 2).val = t.val % 4 := by
    show t.val / 1 % 4 = t.val % 4
    rw [Nat.div_one]
  rw [hc]
  have h4 : t.val % 4 < 4 := Nat.mod_lt _ (by decide)
  generalize t.val % 4 = i at h4
  interval_cases i <;> rfl

theorem off1_eq (t : Fin cfg0.N) : k0_off1 (grid0.coords t) = ![0, 1024 * (t.val % 4)] := off_val t
theorem off2_eq (t : Fin cfg0.N) : k0_off2 (grid0.coords t) = ![0, 1024 * (t.val % 4)] := off_val t

variable (c : Dev nD) (t : Fin cfg0.N)

/-- The weights of a visit on the diagonal, and of one below it. -/
def wDiag : FVec F S1024x1024 .f32 := k0_pay20 (iblk m c 1 t) (iblk m c 0 t) (iblk m c 5 t) (iblk m c 6 t) (iblk m c 9 t)
def wLow : FVec F S1024x1024 .f32 := k0_pay17 (iblk m c 1 t) (iblk m c 0 t) (iblk m c 5 t) (iblk m c 6 t) (iblk m c 9 t)

/-- The running sums that a visit with weights `w` leaves. -/
def newV (w : FVec F S1024x1024 .f32) (s : FVec F S64x1024 .f32) : FVec F S64x1024 .f32 := k0_pay9 w (k0_pay21 (iblk m c 8 t)) s
def newK (w : FVec F S1024x1024 .f32) (s : FVec F S128x1024 .f32) : FVec F S128x1024 .f32 :=
  k0_pay10 w (k0_pay21 (iblk m c 8 t)) (k0_pay22 (iblk m c 8 t) (iblk m c 7 t)) (iblk m c 4 t) s (iblk m c 2 t)

/-- The columns of the visit's queries. -/
def cols (q : FVec F S128x4096 .f32) : FVec F S128x1024 .f32 := fun y =>
  q (ValueIdx.ix2 (y 0) ⟨1024 * (t.val % 4) + (y 1).val, by have h : (y 1).val < 1024 := (y 1).isLt; have := Nat.mod_lt t.val (show 0 < 4 by decide); omega⟩)

def newQ (w : FVec F S1024x1024 .f32) (q : FVec F S128x4096 .f32) : FVec F S128x4096 .f32 := fun y =>
  if h : 1024 * (t.val % 4) ≤ (y 1).val ∧ (y 1).val < 1024 * (t.val % 4) + 1024 then
    k0_pay11 w (k0_pay21 (iblk m c 8 t)) (k0_pay22 (iblk m c 8 t) (iblk m c 7 t)) (iblk m c 4 t) (cols t q) (iblk m c 3 t)
      (ValueIdx.ix2 (y 0) ⟨(y 1).val - 1024 * (t.val % 4), by omega⟩)
  else q y

theorem ld_cols {o : Fin 2 → Nat} (ho : o = ![0, 1024 * (t.val % 4)]) (q : FVec F S128x4096 .f32) (inb) : View.ld (Val := Elt F) (e' := .f32) q
    (Rect.unit (s := S128x4096) o S128x1024.size inb) = cols t q := by
  subst ho
  funext y
  refine View.ld_unit_apply_of _ _ _ _ _ _ fun a => ?_
  match a with
  | ⟨0, _⟩ => exact (Nat.zero_add _).symm
  | ⟨1, _⟩ => rfl

/-- A write over those columns, read back. -/
theorem put_cols {o : Fin 2 → Nat} (ho : o = ![0, 1024 * (t.val % 4)]) (v : View sig .tc .vmem S128x4096 .f32) (f) (inb) (L) (q : FVec F S128x4096 .f32) (hq : View.read (Elt F) v (v.writes (Elt F) f L) = q)
    (w : FVec F S1024x1024 .f32) (pl : FVec F S128x1024 .f32)
    (hp : pl = k0_pay11 w (k0_pay21 (iblk m c 8 t)) (k0_pay22 (iblk m c 8 t) (iblk m c 7 t)) (iblk m c 4 t) (cols t q) (iblk m c 3 t)) :
    View.read (Elt F) v (v.writes (Elt F) f (⟨Rect.unit (s := S128x4096) o S128x1024.size inb, pl⟩ :: L)) = newQ m c t w q := by
  subst hp
  funext y
  unfold newQ
  by_cases h : 1024 * (t.val % 4) ≤ (y 1).val ∧ (y 1).val < 1024 * (t.val % 4) + 1024
  · rw [dif_pos h]
    refine View.read_writes_cons_unit_of_mem v f inb _ L y _ ho fun a => ?_
    match a with
    | ⟨0, _⟩ => show (y 0).val = 0 + (y 0).val; omega
    | ⟨1, _⟩ => show (y 1).val = 1024 * (t.val % 4) + ((y 1).val - 1024 * (t.val % 4)); omega
  · rw [dif_neg h]
    refine (View.read_writes_cons_unit_of_not_mem v f inb _ L y ho 1 ?_).trans (congrFun hq y)
    show (y 1).val < 1024 * (t.val % 4) ∨ 1024 * (t.val % 4) + 1024 ≤ (y 1).val
    omega

theorem cov_of {sp : Space} {S : Shape} {e : EltTy} (v : View sig .tc sp S e) {o : Fin S.rank → Nat} (ho : o = fun _ => 0) (inb) (w : S.Idx → Elt F e) (B : Rect S) :
    v.readCov [⟨Rect.unit o S.size inb, w⟩] B.toLoadRect = View.ld w B := by
  subst ho
  unfold View.readCov
  rw [View.readAt_eq_ld]
  exact congrArg (fun x => View.ld x B) (View.read_writes_full v _ inb w [])

theorem A_q (acc) (h0 : t.val % 16 = 0) (h1 : t.val % 4 = 0) (h2 : ¬t.val / 4 % 4 + 1 ≤ t.val % 4) (h3 : t.val / 4 % 4 = t.val % 4) (h4 : ¬t.val % 4 = 3) (h5 : ¬t.val % 16 = 15) :
    (stAt0 m c t.val t.isLt acc).2.2.2.2.2.1 = newQ m c t (wDiag m c t) k0_pay1 := by
  rw [stAt0_A m c t acc h0 h1 h2 h3 h4 h5]
  dsimp only
  unfold sout0_A_0
  unfold kernelRun0_A
  dsimp only
  sl_unfold_words
  simp only [View.readAt_eq_ld, read_unread_whole, Memref.IsWhole.read_unread, View.ld_unit_zero (S := S128x1024) hz2, View.ld_unit_zero (S := S64x1024) hz2, View.ld_unit_zero (S := S1x1024x128) hz3, View.ld_unit_zero (S := S1x128x1024) hz3, View.ld_unit_zero (S := S1x1024x64) hz3, View.ld_unit_zero (S := S1x1x1024) hz3, View.ld_unit_zero (S := S1x64x1024) hz3]
  refine put_cols m c t (off_val t) _ _ _ _ _ ?_ (wDiag m c t) _ ?_
  · exact View.read_writes_full (s := S128x4096) _ _ _ _ []
  · refine Eq.trans (congrArg (fun s => k0_pay11 _ _ _ _ s _) (ld_cols t (off_val t) _ _)) ?_
    exact congrArg (fun s => k0_pay11 _ _ _ _ (cols t s) _) (View.read_writes_full (s := S128x4096) _ _ _ _ [])

theorem A_k (acc) (h0 : t.val % 16 = 0) (h1 : t.val % 4 = 0) (h2 : ¬t.val / 4 % 4 + 1 ≤ t.val % 4) (h3 : t.val / 4 % 4 = t.val % 4) (h4 : ¬t.val % 4 = 3) (h5 : ¬t.val % 16 = 15) :
    (stAt0 m c t.val t.isLt acc).2.2.2.2.2.2.1 = newK m c t (wDiag m c t) k0_pay2 := by
  rw [stAt0_A m c t acc h0 h1 h2 h3 h4 h5]
  dsimp only
  unfold sout0_A_1
  refine (View.read_writes_eq_canon _ _ _ (by intro y; apply scover0_A_1)).trans ?_
  unfold kernelRun0_A
  dsimp only
  sl_unfold_words
  rw [View.canon_cons_unit_zero hz2]
  simp only [View.readAt_eq_ld, read_unread_whole, Memref.IsWhole.read_unread, View.ld_unit_zero (S := S128x1024) hz2, View.ld_unit_zero (S := S64x1024) hz2, View.ld_unit_zero (S := S1x1024x128) hz3, View.ld_unit_zero (S := S1x128x1024) hz3, View.ld_unit_zero (S := S1x1024x64) hz3, View.ld_unit_zero (S := S1x1x1024) hz3, View.ld_unit_zero (S := S1x64x1024) hz3, cov_of _ (S := S128x1024) hz2, cov_of _ (S := S64x1024) hz2]
  try rfl

theorem A_v (acc) (h0 : t.val % 16 = 0) (h1 : t.val % 4 = 0) (h2 : ¬t.val / 4 % 4 + 1 ≤ t.val % 4) (h3 : t.val / 4 % 4 = t.val % 4) (h4 : ¬t.val % 4 = 3) (h5 : ¬t.val % 16 = 15) :
    (stAt0 m c t.val t.isLt acc).2.2.2.2.2.2.2 = newV m c t (wDiag m c t) k0_pay3 := by
  rw [stAt0_A m c t acc h0 h1 h2 h3 h4 h5]
  dsimp only
  unfold sout0_A_2
  refine (View.read_writes_eq_canon _ _ _ (by intro y; apply scover0_A_2)).trans ?_
  unfold kernelRun0_A
  dsimp only
  sl_unfold_words
  rw [View.canon_cons_unit_zero hz2]
  simp only [View.readAt_eq_ld, read_unread_whole, Memref.IsWhole.read_unread, View.ld_unit_zero (S := S128x1024) hz2, View.ld_unit_zero (S := S64x1024) hz2, View.ld_unit_zero (S := S1x1024x128) hz3, View.ld_unit_zero (S := S1x128x1024) hz3, View.ld_unit_zero (S := S1x1024x64) hz3, View.ld_unit_zero (S := S1x1x1024) hz3, View.ld_unit_zero (S := S1x64x1024) hz3, cov_of _ (S := S128x1024) hz2, cov_of _ (S := S64x1024) hz2]
  try rfl

theorem B_q (acc) (h0 : ¬t.val % 16 = 0) (h1 : ¬t.val % 4 = 0) (h2 : t.val / 4 % 4 + 1 ≤ t.val % 4) (h3 : ¬t.val / 4 % 4 = t.val % 4) (h4 : ¬t.val % 4 = 3) (h5 : ¬t.val % 16 = 15) :
    (stAt0 m c t.val t.isLt acc).2.2.2.2.2.1 = newQ m c t (wLow m c t) acc.2.2.2.2.2.1 := by
  rw [stAt0_B m c t acc h0 h1 h2 h3 h4 h5]
  dsimp only
  unfold sout0_B_0
  unfold kernelRun0_B
  dsimp only
  sl_unfold_words
  simp only [View.readAt_eq_ld, read_unread_whole, Memref.IsWhole.read_unread, View.ld_unit_zero (S := S128x1024) hz2, View.ld_unit_zero (S := S64x1024) hz2, View.ld_unit_zero (S := S1x1024x128) hz3, View.ld_unit_zero (S := S1x128x1024) hz3, View.ld_unit_zero (S := S1x1024x64) hz3, View.ld_unit_zero (S := S1x1x1024) hz3, View.ld_unit_zero (S := S1x64x1024) hz3]
  refine put_cols m c t (off_val t) _ _ _ _ _ ?_ (wLow m c t) _ ?_
  · rw [View.writes_nil, read_unread_whole]
  · exact congrArg (fun s => k0_pay7 (k0_pay19 (iblk m c 1 t) (iblk m c 0 t) (iblk m c 5 t) (iblk m c 6 t) (iblk m c 9 t) (iblk m c 8 t) (iblk m c 7 t) (iblk m c 4 t)) s (iblk m c 3 t)) (ld_cols t (off_val t) _ _)

theorem B_k (acc) (h0 : ¬t.val % 16 = 0) (h1 : ¬t.val % 4 = 0) (h2 : t.val / 4 % 4 + 1 ≤ t.val % 4) (h3 : ¬t.val / 4 % 4 = t.val % 4) (h4 : ¬t.val % 4 = 3) (h5 : ¬t.val % 16 = 15) :
    (stAt0 m c t.val t.isLt acc).2.2.2.2.2.2.1 = newK m c t (wLow m c t) acc.2.2.2.2.2.2.1 := by
  rw [stAt0_B m c t acc h0 h1 h2 h3 h4 h5]
  dsimp only
  unfold sout0_B_1
  refine (View.read_writes_eq_canon _ _ _ (by intro y; apply scover0_B_1)).trans ?_
  unfold kernelRun0_B
  dsimp only
  sl_unfold_words
  rw [View.canon_unit_zero hz2]
  simp only [View.readAt_eq_ld, read_unread_whole, Memref.IsWhole.read_unread, View.ld_unit_zero (S := S128x1024) hz2, View.ld_unit_zero (S := S64x1024) hz2, View.ld_unit_zero (S := S1x1024x128) hz3, View.ld_unit_zero (S := S1x128x1024) hz3, View.ld_unit_zero (S := S1x1024x64) hz3, View.ld_unit_zero (S := S1x1x1024) hz3, View.ld_unit_zero (S := S1x64x1024) hz3, cov_of _ (S := S128x1024) hz2, cov_of _ (S := S64x1024) hz2]
  try rfl

theorem B_v (acc) (h0 : ¬t.val % 16 = 0) (h1 : ¬t.val % 4 = 0) (h2 : t.val / 4 % 4 + 1 ≤ t.val % 4) (h3 : ¬t.val / 4 % 4 = t.val % 4) (h4 : ¬t.val % 4 = 3) (h5 : ¬t.val % 16 = 15) :
    (stAt0 m c t.val t.isLt acc).2.2.2.2.2.2.2 = newV m c t (wLow m c t) acc.2.2.2.2.2.2.2 := by
  rw [stAt0_B m c t acc h0 h1 h2 h3 h4 h5]
  dsimp only
  unfold sout0_B_2
  refine (View.read_writes_eq_canon _ _ _ (by intro y; apply scover0_B_2)).trans ?_
  unfold kernelRun0_B
  dsimp only
  sl_unfold_words
  rw [View.canon_unit_zero hz2]
  simp only [View.readAt_eq_ld, read_unread_whole, Memref.IsWhole.read_unread, View.ld_unit_zero (S := S128x1024) hz2, View.ld_unit_zero (S := S64x1024) hz2, View.ld_unit_zero (S := S1x1024x128) hz3, View.ld_unit_zero (S := S1x128x1024) hz3, View.ld_unit_zero (S := S1x1024x64) hz3, View.ld_unit_zero (S := S1x1x1024) hz3, View.ld_unit_zero (S := S1x64x1024) hz3, cov_of _ (S := S128x1024) hz2, cov_of _ (S := S64x1024) hz2]
  try rfl

theorem C_q (acc) (h0 : ¬t.val % 16 = 0) (h1 : ¬t.val % 4 = 0) (h2 : t.val / 4 % 4 + 1 ≤ t.val % 4) (h3 : ¬t.val / 4 % 4 = t.val % 4) (h4 : t.val % 4 = 3) (h5 : ¬t.val % 16 = 15) :
    (stAt0 m c t.val t.isLt acc).2.2.2.2.2.1 = newQ m c t (wLow m c t) acc.2.2.2.2.2.1 := by
  rw [stAt0_C m c t acc h0 h1 h2 h3 h4 h5]
  dsimp only
  unfold sout0_C_0
  unfold kernelRun0_C
  dsimp only
  sl_unfold_words
  simp only [View.readAt_eq_ld, read_unread_whole, Memref.IsWhole.read_unread, View.ld_unit_zero (S := S128x1024) hz2, View.ld_unit_zero (S := S64x1024) hz2, View.ld_unit_zero (S := S1x1024x128) hz3, View.ld_unit_zero (S := S1x128x1024) hz3, View.ld_unit_zero (S := S1x1024x64) hz3, View.ld_unit_zero (S := S1x1x1024) hz3, View.ld_unit_zero (S := S1x64x1024) hz3]
  refine put_cols m c t (off_val t) _ _ _ _ _ ?_ (wLow m c t) _ ?_
  · rw [View.writes_nil, read_unread_whole]
  · exact congrArg (fun s => k0_pay7 (k0_pay19 (iblk m c 1 t) (iblk m c 0 t) (iblk m c 5 t) (iblk m c 6 t) (iblk m c 9 t) (iblk m c 8 t) (iblk m c 7 t) (iblk m c 4 t)) s (iblk m c 3 t)) (ld_cols t (off_val t) _ _)

theorem C_k (acc) (h0 : ¬t.val % 16 = 0) (h1 : ¬t.val % 4 = 0) (h2 : t.val / 4 % 4 + 1 ≤ t.val % 4) (h3 : ¬t.val / 4 % 4 = t.val % 4) (h4 : t.val % 4 = 3) (h5 : ¬t.val % 16 = 15) :
    (stAt0 m c t.val t.isLt acc).2.2.2.2.2.2.1 = newK m c t (wLow m c t) acc.2.2.2.2.2.2.1 := by
  rw [stAt0_C m c t acc h0 h1 h2 h3 h4 h5]
  dsimp only
  unfold sout0_C_1
  refine (View.read_writes_eq_canon _ _ _ (by intro y; apply scover0_C_1)).trans ?_
  unfold kernelRun0_C
  dsimp only
  sl_unfold_words
  rw [View.canon_unit_zero hz2]
  simp only [View.readAt_eq_ld, read_unread_whole, Memref.IsWhole.read_unread, View.ld_unit_zero (S := S128x1024) hz2, View.ld_unit_zero (S := S64x1024) hz2, View.ld_unit_zero (S := S1x1024x128) hz3, View.ld_unit_zero (S := S1x128x1024) hz3, View.ld_unit_zero (S := S1x1024x64) hz3, View.ld_unit_zero (S := S1x1x1024) hz3, View.ld_unit_zero (S := S1x64x1024) hz3, cov_of _ (S := S128x1024) hz2, cov_of _ (S := S64x1024) hz2]
  try rfl

theorem C_v (acc) (h0 : ¬t.val % 16 = 0) (h1 : ¬t.val % 4 = 0) (h2 : t.val / 4 % 4 + 1 ≤ t.val % 4) (h3 : ¬t.val / 4 % 4 = t.val % 4) (h4 : t.val % 4 = 3) (h5 : ¬t.val % 16 = 15) :
    (stAt0 m c t.val t.isLt acc).2.2.2.2.2.2.2 = newV m c t (wLow m c t) acc.2.2.2.2.2.2.2 := by
  rw [stAt0_C m c t acc h0 h1 h2 h3 h4 h5]
  dsimp only
  unfold sout0_C_2
  refine (View.read_writes_eq_canon _ _ _ (by intro y; apply scover0_C_2)).trans ?_
  unfold kernelRun0_C
  dsimp only
  sl_unfold_words
  rw [View.canon_unit_zero hz2]
  simp only [View.readAt_eq_ld, read_unread_whole, Memref.IsWhole.read_unread, View.ld_unit_zero (S := S128x1024) hz2, View.ld_unit_zero (S := S64x1024) hz2, View.ld_unit_zero (S := S1x1024x128) hz3, View.ld_unit_zero (S := S1x128x1024) hz3, View.ld_unit_zero (S := S1x1024x64) hz3, View.ld_unit_zero (S := S1x1x1024) hz3, View.ld_unit_zero (S := S1x64x1024) hz3, cov_of _ (S := S128x1024) hz2, cov_of _ (S := S64x1024) hz2]
  try rfl

theorem D_q (acc) (h0 : ¬t.val % 16 = 0) (h1 : t.val % 4 = 0) (h2 : ¬t.val / 4 % 4 + 1 ≤ t.val % 4) (h3 : ¬t.val / 4 % 4 = t.val % 4) (h4 : ¬t.val % 4 = 3) (h5 : ¬t.val % 16 = 15) :
    (stAt0 m c t.val t.isLt acc).2.2.2.2.2.1 = acc.2.2.2.2.2.1 := by
  rw [stAt0_D m c t acc h0 h1 h2 h3 h4 h5]
  dsimp only
  unfold sout0_D_0
  rfl

theorem D_k (acc) (h0 : ¬t.val % 16 = 0) (h1 : t.val % 4 = 0) (h2 : ¬t.val / 4 % 4 + 1 ≤ t.val % 4) (h3 : ¬t.val / 4 % 4 = t.val % 4) (h4 : ¬t.val % 4 = 3) (h5 : ¬t.val % 16 = 15) :
    (stAt0 m c t.val t.isLt acc).2.2.2.2.2.2.1 = k0_pay2 := by
  rw [stAt0_D m c t acc h0 h1 h2 h3 h4 h5]
  dsimp only
  unfold sout0_D_1
  refine (View.read_writes_eq_canon _ _ _ (by intro y; apply scover0_D_1)).trans ?_
  unfold kernelRun0_D
  dsimp only
  sl_unfold_words
  rw [View.canon_unit_zero hz2]

theorem D_v (acc) (h0 : ¬t.val % 16 = 0) (h1 : t.val % 4 = 0) (h2 : ¬t.val / 4 % 4 + 1 ≤ t.val % 4) (h3 : ¬t.val / 4 % 4 = t.val % 4) (h4 : ¬t.val % 4 = 3) (h5 : ¬t.val % 16 = 15) :
    (stAt0 m c t.val t.isLt acc).2.2.2.2.2.2.2 = k0_pay3 := by
  rw [stAt0_D m c t acc h0 h1 h2 h3 h4 h5]
  dsimp only
  unfold sout0_D_2
  refine (View.read_writes_eq_canon _ _ _ (by intro y; apply scover0_D_2)).trans ?_
  unfold kernelRun0_D
  dsimp only
  sl_unfold_words
  rw [View.canon_unit_zero hz2]

theorem E_q (acc) (h0 : ¬t.val % 16 = 0) (h1 : ¬t.val % 4 = 0) (h2 : ¬t.val / 4 % 4 + 1 ≤ t.val % 4) (h3 : t.val / 4 % 4 = t.val % 4) (h4 : ¬t.val % 4 = 3) (h5 : ¬t.val % 16 = 15) :
    (stAt0 m c t.val t.isLt acc).2.2.2.2.2.1 = newQ m c t (wDiag m c t) acc.2.2.2.2.2.1 := by
  rw [stAt0_E m c t acc h0 h1 h2 h3 h4 h5]
  dsimp only
  unfold sout0_E_0
  unfold kernelRun0_E
  dsimp only
  sl_unfold_words
  simp only [View.readAt_eq_ld, read_unread_whole, Memref.IsWhole.read_unread, View.ld_unit_zero (S := S128x1024) hz2, View.ld_unit_zero (S := S64x1024) hz2, View.ld_unit_zero (S := S1x1024x128) hz3, View.ld_unit_zero (S := S1x128x1024) hz3, View.ld_unit_zero (S := S1x1024x64) hz3, View.ld_unit_zero (S := S1x1x1024) hz3, View.ld_unit_zero (S := S1x64x1024) hz3]
  refine put_cols m c t (off_val t) _ _ _ _ _ ?_ (wDiag m c t) _ ?_
  · rw [View.writes_nil, read_unread_whole]
  · exact congrArg (fun s => k0_pay11 _ _ _ _ s _) (ld_cols t (off_val t) _ _)

theorem E_k (acc) (h0 : ¬t.val % 16 = 0) (h1 : ¬t.val % 4 = 0) (h2 : ¬t.val / 4 % 4 + 1 ≤ t.val % 4) (h3 : t.val / 4 % 4 = t.val % 4) (h4 : ¬t.val % 4 = 3) (h5 : ¬t.val % 16 = 15) :
    (stAt0 m c t.val t.isLt acc).2.2.2.2.2.2.1 = newK m c t (wDiag m c t) acc.2.2.2.2.2.2.1 := by
  rw [stAt0_E m c t acc h0 h1 h2 h3 h4 h5]
  dsimp only
  unfold sout0_E_1
  refine (View.read_writes_eq_canon _ _ _ (by intro y; apply scover0_E_1)).trans ?_
  unfold kernelRun0_E
  dsimp only
  sl_unfold_words
  rw [View.canon_unit_zero hz2]
  simp only [View.readAt_eq_ld, read_unread_whole, Memref.IsWhole.read_unread, View.ld_unit_zero (S := S128x1024) hz2, View.ld_unit_zero (S := S64x1024) hz2, View.ld_unit_zero (S := S1x1024x128) hz3, View.ld_unit_zero (S := S1x128x1024) hz3, View.ld_unit_zero (S := S1x1024x64) hz3, View.ld_unit_zero (S := S1x1x1024) hz3, View.ld_unit_zero (S := S1x64x1024) hz3, cov_of _ (S := S128x1024) hz2, cov_of _ (S := S64x1024) hz2]
  try rfl

theorem E_v (acc) (h0 : ¬t.val % 16 = 0) (h1 : ¬t.val % 4 = 0) (h2 : ¬t.val / 4 % 4 + 1 ≤ t.val % 4) (h3 : t.val / 4 % 4 = t.val % 4) (h4 : ¬t.val % 4 = 3) (h5 : ¬t.val % 16 = 15) :
    (stAt0 m c t.val t.isLt acc).2.2.2.2.2.2.2 = newV m c t (wDiag m c t) acc.2.2.2.2.2.2.2 := by
  rw [stAt0_E m c t acc h0 h1 h2 h3 h4 h5]
  dsimp only
  unfold sout0_E_2
  refine (View.read_writes_eq_canon _ _ _ (by intro y; apply scover0_E_2)).trans ?_
  unfold kernelRun0_E
  dsimp only
  sl_unfold_words
  rw [View.canon_unit_zero hz2]
  simp only [View.readAt_eq_ld, read_unread_whole, Memref.IsWhole.read_unread, View.ld_unit_zero (S := S128x1024) hz2, View.ld_unit_zero (S := S64x1024) hz2, View.ld_unit_zero (S := S1x1024x128) hz3, View.ld_unit_zero (S := S1x128x1024) hz3, View.ld_unit_zero (S := S1x1024x64) hz3, View.ld_unit_zero (S := S1x1x1024) hz3, View.ld_unit_zero (S := S1x64x1024) hz3, cov_of _ (S := S128x1024) hz2, cov_of _ (S := S64x1024) hz2]
  try rfl

theorem F_q (acc) (h0 : ¬t.val % 16 = 0) (h1 : ¬t.val % 4 = 0) (h2 : ¬t.val / 4 % 4 + 1 ≤ t.val % 4) (h3 : ¬t.val / 4 % 4 = t.val % 4) (h4 : ¬t.val % 4 = 3) (h5 : ¬t.val % 16 = 15) :
    (stAt0 m c t.val t.isLt acc).2.2.2.2.2.1 = acc.2.2.2.2.2.1 := by
  rw [stAt0_F m c t acc h0 h1 h2 h3 h4 h5]
  dsimp only
  unfold sout0_F_0
  rfl

theorem F_k (acc) (h0 : ¬t.val % 16 = 0) (h1 : ¬t.val % 4 = 0) (h2 : ¬t.val / 4 % 4 + 1 ≤ t.val % 4) (h3 : ¬t.val / 4 % 4 = t.val % 4) (h4 : ¬t.val % 4 = 3) (h5 : ¬t.val % 16 = 15) :
    (stAt0 m c t.val t.isLt acc).2.2.2.2.2.2.1 = acc.2.2.2.2.2.2.1 := by
  rw [stAt0_F m c t acc h0 h1 h2 h3 h4 h5]
  dsimp only
  unfold sout0_F_1
  rfl

theorem F_v (acc) (h0 : ¬t.val % 16 = 0) (h1 : ¬t.val % 4 = 0) (h2 : ¬t.val / 4 % 4 + 1 ≤ t.val % 4) (h3 : ¬t.val / 4 % 4 = t.val % 4) (h4 : ¬t.val % 4 = 3) (h5 : ¬t.val % 16 = 15) :
    (stAt0 m c t.val t.isLt acc).2.2.2.2.2.2.2 = acc.2.2.2.2.2.2.2 := by
  rw [stAt0_F m c t acc h0 h1 h2 h3 h4 h5]
  dsimp only
  unfold sout0_F_2
  rfl

theorem G_q (acc) (h0 : ¬t.val % 16 = 0) (h1 : ¬t.val % 4 = 0) (h2 : ¬t.val / 4 % 4 + 1 ≤ t.val % 4) (h3 : t.val / 4 % 4 = t.val % 4) (h4 : t.val % 4 = 3) (h5 : t.val % 16 = 15) :
    (stAt0 m c t.val t.isLt acc).2.2.2.2.2.1 = newQ m c t (wDiag m c t) acc.2.2.2.2.2.1 := by
  rw [stAt0_G m c t acc h0 h1 h2 h3 h4 h5]
  dsimp only
  unfold sout0_G_0
  unfold kernelRun0_G
  dsimp only
  sl_unfold_words
  simp only [View.readAt_eq_ld, read_unread_whole, Memref.IsWhole.read_unread, View.ld_unit_zero (S := S128x1024) hz2, View.ld_unit_zero (S := S64x1024) hz2, View.ld_unit_zero (S := S1x1024x128) hz3, View.ld_unit_zero (S := S1x128x1024) hz3, View.ld_unit_zero (S := S1x1024x64) hz3, View.ld_unit_zero (S := S1x1x1024) hz3, View.ld_unit_zero (S := S1x64x1024) hz3]
  refine put_cols m c t (off_val t) _ _ _ _ _ ?_ (wDiag m c t) _ ?_
  · rw [View.writes_nil, read_unread_whole]
  · exact congrArg (fun s => k0_pay11 _ _ _ _ s _) (ld_cols t (off_val t) _ _)

theorem G_k (acc) (h0 : ¬t.val % 16 = 0) (h1 : ¬t.val % 4 = 0) (h2 : ¬t.val / 4 % 4 + 1 ≤ t.val % 4) (h3 : t.val / 4 % 4 = t.val % 4) (h4 : t.val % 4 = 3) (h5 : t.val % 16 = 15) :
    (stAt0 m c t.val t.isLt acc).2.2.2.2.2.2.1 = newK m c t (wDiag m c t) acc.2.2.2.2.2.2.1 := by
  rw [stAt0_G m c t acc h0 h1 h2 h3 h4 h5]
  dsimp only
  unfold sout0_G_1
  refine (View.read_writes_eq_canon _ _ _ (by intro y; apply scover0_G_1)).trans ?_
  unfold kernelRun0_G
  dsimp only
  sl_unfold_words
  rw [View.canon_unit_zero hz2]
  simp only [View.readAt_eq_ld, read_unread_whole, Memref.IsWhole.read_unread, View.ld_unit_zero (S := S128x1024) hz2, View.ld_unit_zero (S := S64x1024) hz2, View.ld_unit_zero (S := S1x1024x128) hz3, View.ld_unit_zero (S := S1x128x1024) hz3, View.ld_unit_zero (S := S1x1024x64) hz3, View.ld_unit_zero (S := S1x1x1024) hz3, View.ld_unit_zero (S := S1x64x1024) hz3, cov_of _ (S := S128x1024) hz2, cov_of _ (S := S64x1024) hz2]
  try rfl

theorem G_v (acc) (h0 : ¬t.val % 16 = 0) (h1 : ¬t.val % 4 = 0) (h2 : ¬t.val / 4 % 4 + 1 ≤ t.val % 4) (h3 : t.val / 4 % 4 = t.val % 4) (h4 : t.val % 4 = 3) (h5 : t.val % 16 = 15) :
    (stAt0 m c t.val t.isLt acc).2.2.2.2.2.2.2 = newV m c t (wDiag m c t) acc.2.2.2.2.2.2.2 := by
  rw [stAt0_G m c t acc h0 h1 h2 h3 h4 h5]
  dsimp only
  unfold sout0_G_2
  refine (View.read_writes_eq_canon _ _ _ (by intro y; apply scover0_G_2)).trans ?_
  unfold kernelRun0_G
  dsimp only
  sl_unfold_words
  rw [View.canon_unit_zero hz2]
  simp only [View.readAt_eq_ld, read_unread_whole, Memref.IsWhole.read_unread, View.ld_unit_zero (S := S128x1024) hz2, View.ld_unit_zero (S := S64x1024) hz2, View.ld_unit_zero (S := S1x1024x128) hz3, View.ld_unit_zero (S := S1x128x1024) hz3, View.ld_unit_zero (S := S1x1024x64) hz3, View.ld_unit_zero (S := S1x1x1024) hz3, View.ld_unit_zero (S := S1x64x1024) hz3, cov_of _ (S := S128x1024) hz2, cov_of _ (S := S64x1024) hz2]
  try rfl

theorem C_o12 (acc) (h0 : ¬t.val % 16 = 0) (h1 : ¬t.val % 4 = 0) (h2 : t.val / 4 % 4 + 1 ≤ t.val % 4) (h3 : ¬t.val / 4 % 4 = t.val % 4) (h4 : t.val % 4 = 3) (h5 : ¬t.val % 16 = 15) :
    (stAt0 m c t.val t.isLt acc).2.2.1 = k0_pay12 (View.ld (Val := Elt F) (e' := .f32) (stAt0 m c t.val t.isLt acc).2.2.2.2.2.2.1 (Rect.unit (s := S128x1024) ![0, 0] ![64, 1024] inb_S128x1024_S64x1024_0_0)) := by
  rw [C_k m c t acc h0 h1 h2 h3 h4 h5, stAt0_C m c t acc h0 h1 h2 h3 h4 h5]
  dsimp only
  unfold out0_C_12
  refine (View.read_writes_eq_canon _ _ _ (by intro y; apply cover0_C_12)).trans ?_
  unfold kernelRun0_C
  dsimp only
  sl_unfold_words
  rw [View.canon_unit_zero hz3]
  simp only [View.readAt_eq_ld, read_unread_whole, Memref.IsWhole.read_unread, View.ld_unit_zero (S := S128x1024) hz2, View.ld_unit_zero (S := S64x1024) hz2, View.ld_unit_zero (S := S1x1024x128) hz3, View.ld_unit_zero (S := S1x128x1024) hz3, View.ld_unit_zero (S := S1x1024x64) hz3, View.ld_unit_zero (S := S1x1x1024) hz3, View.ld_unit_zero (S := S1x64x1024) hz3, cov_of _ (S := S128x1024) hz2, cov_of _ (S := S64x1024) hz2]
  try rfl

theorem C_o13 (acc) (h0 : ¬t.val % 16 = 0) (h1 : ¬t.val % 4 = 0) (h2 : t.val / 4 % 4 + 1 ≤ t.val % 4) (h3 : ¬t.val / 4 % 4 = t.val % 4) (h4 : t.val % 4 = 3) (h5 : ¬t.val % 16 = 15) :
    (stAt0 m c t.val t.isLt acc).2.2.2.1 = k0_pay13 (View.ld (Val := Elt F) (e' := .f32) (stAt0 m c t.val t.isLt acc).2.2.2.2.2.2.1 (Rect.unit (s := S128x1024) ![65, 0] ![1, 1024] inb_S128x1024_S1x1024_65_0)) := by
  rw [C_k m c t acc h0 h1 h2 h3 h4 h5, stAt0_C m c t acc h0 h1 h2 h3 h4 h5]
  dsimp only
  unfold out0_C_13
  refine (View.read_writes_eq_canon _ _ _ (by intro y; apply cover0_C_13)).trans ?_
  unfold kernelRun0_C
  dsimp only
  sl_unfold_words
  rw [View.canon_unit_zero hz3]
  simp only [View.readAt_eq_ld, read_unread_whole, Memref.IsWhole.read_unread, View.ld_unit_zero (S := S128x1024) hz2, View.ld_unit_zero (S := S64x1024) hz2, View.ld_unit_zero (S := S1x1024x128) hz3, View.ld_unit_zero (S := S1x128x1024) hz3, View.ld_unit_zero (S := S1x1024x64) hz3, View.ld_unit_zero (S := S1x1x1024) hz3, View.ld_unit_zero (S := S1x64x1024) hz3, cov_of _ (S := S128x1024) hz2, cov_of _ (S := S64x1024) hz2]
  try rfl

theorem C_o14 (acc) (h0 : ¬t.val % 16 = 0) (h1 : ¬t.val % 4 = 0) (h2 : t.val / 4 % 4 + 1 ≤ t.val % 4) (h3 : ¬t.val / 4 % 4 = t.val % 4) (h4 : t.val % 4 = 3) (h5 : ¬t.val % 16 = 15) :
    (stAt0 m c t.val t.isLt acc).2.2.2.2.1 = k0_pay14 (stAt0 m c t.val t.isLt acc).2.2.2.2.2.2.2 := by
  rw [C_v m c t acc h0 h1 h2 h3 h4 h5, stAt0_C m c t acc h0 h1 h2 h3 h4 h5]
  dsimp only
  unfold out0_C_14
  refine (View.read_writes_eq_canon _ _ _ (by intro y; apply cover0_C_14)).trans ?_
  unfold kernelRun0_C
  dsimp only
  sl_unfold_words
  rw [View.canon_unit_zero hz3]
  simp only [View.readAt_eq_ld, read_unread_whole, Memref.IsWhole.read_unread, View.ld_unit_zero (S := S128x1024) hz2, View.ld_unit_zero (S := S64x1024) hz2, View.ld_unit_zero (S := S1x1024x128) hz3, View.ld_unit_zero (S := S1x128x1024) hz3, View.ld_unit_zero (S := S1x1024x64) hz3, View.ld_unit_zero (S := S1x1x1024) hz3, View.ld_unit_zero (S := S1x64x1024) hz3, cov_of _ (S := S128x1024) hz2, cov_of _ (S := S64x1024) hz2]
  try rfl

theorem G_o12 (acc) (h0 : ¬t.val % 16 = 0) (h1 : ¬t.val % 4 = 0) (h2 : ¬t.val / 4 % 4 + 1 ≤ t.val % 4) (h3 : t.val / 4 % 4 = t.val % 4) (h4 : t.val % 4 = 3) (h5 : t.val % 16 = 15) :
    (stAt0 m c t.val t.isLt acc).2.2.1 = k0_pay12 (View.ld (Val := Elt F) (e' := .f32) (stAt0 m c t.val t.isLt acc).2.2.2.2.2.2.1 (Rect.unit (s := S128x1024) ![0, 0] ![64, 1024] inb_S128x1024_S64x1024_0_0)) := by
  rw [G_k m c t acc h0 h1 h2 h3 h4 h5, stAt0_G m c t acc h0 h1 h2 h3 h4 h5]
  dsimp only
  unfold out0_G_12
  refine (View.read_writes_eq_canon _ _ _ (by intro y; apply cover0_G_12)).trans ?_
  unfold kernelRun0_G
  dsimp only
  sl_unfold_words
  rw [View.canon_unit_zero hz3]
  simp only [View.readAt_eq_ld, read_unread_whole, Memref.IsWhole.read_unread, View.ld_unit_zero (S := S128x1024) hz2, View.ld_unit_zero (S := S64x1024) hz2, View.ld_unit_zero (S := S1x1024x128) hz3, View.ld_unit_zero (S := S1x128x1024) hz3, View.ld_unit_zero (S := S1x1024x64) hz3, View.ld_unit_zero (S := S1x1x1024) hz3, View.ld_unit_zero (S := S1x64x1024) hz3, cov_of _ (S := S128x1024) hz2, cov_of _ (S := S64x1024) hz2]
  try rfl

theorem G_o13 (acc) (h0 : ¬t.val % 16 = 0) (h1 : ¬t.val % 4 = 0) (h2 : ¬t.val / 4 % 4 + 1 ≤ t.val % 4) (h3 : t.val / 4 % 4 = t.val % 4) (h4 : t.val % 4 = 3) (h5 : t.val % 16 = 15) :
    (stAt0 m c t.val t.isLt acc).2.2.2.1 = k0_pay13 (View.ld (Val := Elt F) (e' := .f32) (stAt0 m c t.val t.isLt acc).2.2.2.2.2.2.1 (Rect.unit (s := S128x1024) ![65, 0] ![1, 1024] inb_S128x1024_S1x1024_65_0)) := by
  rw [G_k m c t acc h0 h1 h2 h3 h4 h5, stAt0_G m c t acc h0 h1 h2 h3 h4 h5]
  dsimp only
  unfold out0_G_13
  refine (View.read_writes_eq_canon _ _ _ (by intro y; apply cover0_G_13)).trans ?_
  unfold kernelRun0_G
  dsimp only
  sl_unfold_words
  rw [View.canon_unit_zero hz3]
  simp only [View.readAt_eq_ld, read_unread_whole, Memref.IsWhole.read_unread, View.ld_unit_zero (S := S128x1024) hz2, View.ld_unit_zero (S := S64x1024) hz2, View.ld_unit_zero (S := S1x1024x128) hz3, View.ld_unit_zero (S := S1x128x1024) hz3, View.ld_unit_zero (S := S1x1024x64) hz3, View.ld_unit_zero (S := S1x1x1024) hz3, View.ld_unit_zero (S := S1x64x1024) hz3, cov_of _ (S := S128x1024) hz2, cov_of _ (S := S64x1024) hz2]
  try rfl

theorem G_o14 (acc) (h0 : ¬t.val % 16 = 0) (h1 : ¬t.val % 4 = 0) (h2 : ¬t.val / 4 % 4 + 1 ≤ t.val % 4) (h3 : t.val / 4 % 4 = t.val % 4) (h4 : t.val % 4 = 3) (h5 : t.val % 16 = 15) :
    (stAt0 m c t.val t.isLt acc).2.2.2.2.1 = k0_pay14 (stAt0 m c t.val t.isLt acc).2.2.2.2.2.2.2 := by
  rw [G_v m c t acc h0 h1 h2 h3 h4 h5, stAt0_G m c t acc h0 h1 h2 h3 h4 h5]
  dsimp only
  unfold out0_G_14
  refine (View.read_writes_eq_canon _ _ _ (by intro y; apply cover0_G_14)).trans ?_
  unfold kernelRun0_G
  dsimp only
  sl_unfold_words
  rw [View.canon_unit_zero hz3]
  simp only [View.readAt_eq_ld, read_unread_whole, Memref.IsWhole.read_unread, View.ld_unit_zero (S := S128x1024) hz2, View.ld_unit_zero (S := S64x1024) hz2, View.ld_unit_zero (S := S1x1024x128) hz3, View.ld_unit_zero (S := S1x128x1024) hz3, View.ld_unit_zero (S := S1x1024x64) hz3, View.ld_unit_zero (S := S1x1x1024) hz3, View.ld_unit_zero (S := S1x64x1024) hz3, cov_of _ (S := S128x1024) hz2, cov_of _ (S := S64x1024) hz2]
  try rfl

theorem G_o10 (acc) (h0 : ¬t.val % 16 = 0) (h1 : ¬t.val % 4 = 0) (h2 : ¬t.val / 4 % 4 + 1 ≤ t.val % 4) (h3 : t.val / 4 % 4 = t.val % 4) (h4 : t.val % 4 = 3) (h5 : t.val % 16 = 15) :
    (stAt0 m c t.val t.isLt acc).1 = k0_pay15 (View.ld (Val := Elt F) (e' := .f32) (stAt0 m c t.val t.isLt acc).2.2.2.2.2.1 (Rect.unit (s := S128x4096) ![0, 0] ![64, 4096] inb_S128x4096_S64x4096_0_0)) := by
  rw [G_q m c t acc h0 h1 h2 h3 h4 h5, stAt0_G m c t acc h0 h1 h2 h3 h4 h5]
  dsimp only
  unfold out0_G_10
  refine (View.read_writes_eq_canon _ _ _ (by intro y; apply cover0_G_10)).trans ?_
  unfold kernelRun0_G
  dsimp only
  sl_unfold_words
  rw [View.canon_unit_zero hz3]
  simp only [View.readAt_eq_ld, read_unread_whole, Memref.IsWhole.read_unread, View.ld_unit_zero (S := S128x1024) hz2, View.ld_unit_zero (S := S64x1024) hz2, View.ld_unit_zero (S := S1x1024x128) hz3, View.ld_unit_zero (S := S1x128x1024) hz3, View.ld_unit_zero (S := S1x1024x64) hz3, View.ld_unit_zero (S := S1x1x1024) hz3, View.ld_unit_zero (S := S1x64x1024) hz3, cov_of _ (S := S128x1024) hz2, cov_of _ (S := S64x1024) hz2]
  refine congrArg (fun q : FVec F S128x4096 .f32 => k0_pay15 (View.ld (Val := Elt F) (e' := .f32) q (Rect.unit (s := S128x4096) ![0, 0] ![64, 4096] inb_S128x4096_S64x4096_0_0))) ?_
  refine put_cols m c t (off_val t) _ _ _ _ _ ?_ (wDiag m c t) _ ?_
  · rw [View.writes_nil, read_unread_whole]
  · exact congrArg (fun s => k0_pay11 _ _ _ _ s _) (ld_cols t (off_val t) _ _)

theorem G_o11 (acc) (h0 : ¬t.val % 16 = 0) (h1 : ¬t.val % 4 = 0) (h2 : ¬t.val / 4 % 4 + 1 ≤ t.val % 4) (h3 : t.val / 4 % 4 = t.val % 4) (h4 : t.val % 4 = 3) (h5 : t.val % 16 = 15) :
    (stAt0 m c t.val t.isLt acc).2.1 = k0_pay16 (View.ld (Val := Elt F) (e' := .f32) (stAt0 m c t.val t.isLt acc).2.2.2.2.2.1 (Rect.unit (s := S128x4096) ![64, 0] ![1, 4096] inb_S128x4096_S1x4096_64_0)) := by
  rw [G_q m c t acc h0 h1 h2 h3 h4 h5, stAt0_G m c t acc h0 h1 h2 h3 h4 h5]
  dsimp only
  unfold out0_G_11
  refine (View.read_writes_eq_canon _ _ _ (by intro y; apply cover0_G_11)).trans ?_
  unfold kernelRun0_G
  dsimp only
  sl_unfold_words
  rw [View.canon_unit_zero hz3]
  simp only [View.readAt_eq_ld, read_unread_whole, Memref.IsWhole.read_unread, View.ld_unit_zero (S := S128x1024) hz2, View.ld_unit_zero (S := S64x1024) hz2, View.ld_unit_zero (S := S1x1024x128) hz3, View.ld_unit_zero (S := S1x128x1024) hz3, View.ld_unit_zero (S := S1x1024x64) hz3, View.ld_unit_zero (S := S1x1x1024) hz3, View.ld_unit_zero (S := S1x64x1024) hz3, cov_of _ (S := S128x1024) hz2, cov_of _ (S := S64x1024) hz2]
  refine congrArg (fun q : FVec F S128x4096 .f32 => k0_pay16 (View.ld (Val := Elt F) (e' := .f32) q (Rect.unit (s := S128x4096) ![64, 0] ![1, 4096] inb_S128x4096_S1x4096_64_0))) ?_
  refine put_cols m c t (off_val t) _ _ _ _ _ ?_ (wDiag m c t) _ ?_
  · rw [View.writes_nil, read_unread_whole]
  · exact congrArg (fun s => k0_pay11 _ _ _ _ s _) (ld_cols t (off_val t) _ _)

end Cert.FoxCases
-- ==== Proof.FoxStep.lean ====
/- One visit in reals: with the weights of its queries and keys, what it adds to the running sums. -/
module

public import proofs.«01_k».proof.Proof.FoxEntry
public import proofs.«01_k».proof.Proof.FoxBlock
public import proofs.«01_k».proof.Proof.FoxTiles
public import proofs.«01_k».proof.Proof.FoxCases

@[expose] public section

noncomputable section

namespace Cert.FoxStep

open Idealize.ShloMosaic Idealize.ShloMosaic.TcCoe Idealize.ShloMosaic.ValueIdx Idealize.SL.Sem
open Cert.FoxReal Cert.FoxArgs Cert.FoxEntry Cert.FoxBlock Cert.FoxTiles Cert.FoxCases Cert.KernelIdeal Cert.KernelIdeal.Gen Cert.KernelIdeal.Value

variable {m : (ℓ : Loc nD τ sig) → Buf (Elt Ideal) ℓ} {c : Dev nD}
  {q k v g : Fin 32 → Fin 4096 → Fin 64 → ℝ} {cs mx : Fin 32 → Fin 4096 → ℝ}

/-- The product of a query and a key with their further coordinates is the scaled product. -/
theorem dot_x (q k : Fin 64 → ℝ) : ∑ d : Fin 128, kx k d * qx q d = (∑ d, q d * k d) * (1 / 8) := by
  refine (Fin.sum_univ_add (a := 64) (b := 64) (fun d : Fin (64 + 64) => kx k d * qx q d)).trans ?_
  have h1 : ∀ d : Fin 64, kx k (Fin.castAdd 64 d) * qx q (Fin.castAdd 64 d) = q d * k d * (1 / 8) := fun d => by
    have hd : (Fin.castAdd 64 d : Fin 128).val < 64 := d.isLt
    unfold kx qx
    rw [dif_pos hd, dif_pos hd]
    show k d * (q d * (1 / 8)) = _
    ring
  have h2 : ∀ d : Fin 64, kx k (Fin.natAdd 64 d) * qx q (Fin.natAdd 64 d) = 0 := fun d => by
    have hv : (Fin.natAdd 64 d : Fin 128).val = 64 + d.val := rfl
    unfold kx qx
    rw [dif_neg (by omega), dif_neg (by omega)]
    by_cases h64 : (Fin.natAdd 64 d : Fin 128).val = 64
    · rw [if_pos h64, if_pos h64, mul_zero]
    · rw [if_neg h64, if_neg h64]
      by_cases h65 : (Fin.natAdd 64 d : Fin 128).val = 65
      · rw [if_pos h65, zero_mul]
      · rw [if_neg h65, zero_mul]
  rw [Finset.sum_congr rfl fun d _ => h1 d, Finset.sum_congr rfl fun d _ => h2 d, Finset.sum_const_zero, add_zero, Finset.sum_mul]

section
variable (E : Entry m c q k v g cs mx) (t : Fin cfg0.N) (he : t.val / 4 % 4 ≤ t.val % 4)
include E he

theorem sc_real (b a : Fin 1024) : sc (iblk m c 0 t) (iblk m c 1 t) (iblk m c 5 t) (iblk m c 6 t) b a
    = (score (q (hd t)) (k (hd t)) (cs (hd t)) (qry t a) (key t b) : EReal) := by
  unfold sc
  rw [blk5_at m c t he, blk6_at m c t, E.e22, E.e24]
  simp only [blk0_at m c t he, blk1_at m c t, E.e15, E.e16]
  unfold score
  rw [EReal.coe_sub, EReal.coe_add, ← dot_x, coe_sum]
  simp only [EReal.coe_mul]

theorem lse_real (a : Fin 1024) : (iblk m c 9 t (ix3 0 0 a) : EReal)
    = (mx (hd t) (qry t a) : EReal) + Ideal.log (total (q (hd t)) (k (hd t)) (cs (hd t)) (mx (hd t)) (qry t a) : EReal) := by
  rw [blk9_at m c t he, E.e67]

/-- The weights below the diagonal, and on it. -/
theorem wLow_real (h2 : t.val / 4 % 4 + 1 ≤ t.val % 4) (b a : Fin 1024) :
    wLow m c t (ix2 b a) = (prob (q (hd t)) (k (hd t)) (cs (hd t)) (mx (hd t)) (qry t a) (key t b) : EReal) := by
  unfold wLow
  rw [pay17_at, sc_real E t he, lse_real E t he, ← exp_masked_logsum]
  unfold masked
  have hb := b.isLt
  rw [if_pos (show key t b ≤ qry t a from Fin.le_def.mpr (by show 1024 * (t.val / 4 % 4) + b.val ≤ 1024 * (t.val % 4) + a.val; omega))]

theorem wDiag_real (h3 : t.val / 4 % 4 = t.val % 4) (b a : Fin 1024) :
    wDiag m c t (ix2 b a) = (prob (q (hd t)) (k (hd t)) (cs (hd t)) (mx (hd t)) (qry t a) (key t b) : EReal) := by
  unfold wDiag
  rw [pay20_at, sc_real E t he, lse_real E t he, ← exp_masked_logsum]
  unfold masked
  have hiff : b ≤ a ↔ key t b ≤ qry t a := by
    rw [Fin.le_def, Fin.le_def]
    show b.val ≤ a.val ↔ 1024 * (t.val / 4 % 4) + b.val ≤ 1024 * (t.val % 4) + a.val
    omega
  simp only [hiff]

variable {w : FVec Ideal S1024x1024 .f32}
  (hw : ∀ b a, w (ix2 b a) = (prob (q (hd t)) (k (hd t)) (cs (hd t)) (mx (hd t)) (qry t a) (key t b) : EReal))
include hw

theorem ds_real (b a : Fin 1024) :
    k0_pay8 (F := Ideal) w (k0_pay21 (iblk m c 8 t)) (k0_pay22 (iblk m c 8 t) (iblk m c 7 t)) (iblk m c 4 t) (ix2 b a)
      = (dscore (q (hd t)) (k (hd t)) (v (hd t)) (g (hd t)) (cs (hd t)) (mx (hd t)) (qry t a) (key t b) : EReal) := by
  rw [pay8_at, hw, pay22_at]
  simp only [pay21_at, blk8_at m c t he, blk7_at m c t he, blk4_at m c t, E.e10, E.e64, E.e69]
  unfold dscore
  rw [← delta_eq, EReal.coe_mul, EReal.coe_sub]
  unfold dprob
  rw [coe_sum, coe_sum]
  simp only [EReal.coe_mul, mul_comm]

theorem newV_real (s : FVec Ideal S64x1024 .f32) (d : Fin 64) (y : Fin 1024) :
    newV m c t w s (ix2 d y) = (s (ix2 d y) : EReal)
      + ((∑ a : Fin 1024, g (hd t) (qry t a) d * prob (q (hd t)) (k (hd t)) (cs (hd t)) (mx (hd t)) (qry t a) (key t y) : ℝ) : EReal) := by
  unfold newV
  rw [pay9_at, coe_sum]
  simp only [pay21_at, blk8_at m c t he, E.e69, hw, EReal.coe_mul]

theorem newK_real (s : FVec Ideal S128x1024 .f32) (d : Fin 128) (y : Fin 1024) :
    newK m c t w s (ix2 d y) = (s (ix2 d y) : EReal)
      + ((∑ a : Fin 1024, qx (q (hd t) (qry t a)) d
          * dscore (q (hd t)) (k (hd t)) (v (hd t)) (g (hd t)) (cs (hd t)) (mx (hd t)) (qry t a) (key t y) : ℝ) : EReal) := by
  unfold newK
  rw [pay10_at, coe_sum]
  simp only [ds_real E t he hw, blk2_at m c t he, E.e19, EReal.coe_mul]

theorem newQ_in (s : FVec Ideal S128x4096 .f32) (d : Fin 128) (a : Fin 1024) :
    newQ m c t w s (ix2 d (qry t a)) = (s (ix2 d (qry t a)) : EReal)
      + ((∑ b : Fin 1024, kx (k (hd t) (key t b)) d
          * dscore (q (hd t)) (k (hd t)) (v (hd t)) (g (hd t)) (cs (hd t)) (mx (hd t)) (qry t a) (key t b) : ℝ) : EReal) := by
  unfold newQ
  have ha := a.isLt
  have hin : 1024 * (t.val % 4) ≤ ((ix2 d (qry t a) : S128x4096.Idx) 1).val ∧ ((ix2 d (qry t a) : S128x4096.Idx) 1).val < 1024 * (t.val % 4) + 1024 := by
    show 1024 * (t.val % 4) ≤ 1024 * (t.val % 4) + a.val ∧ 1024 * (t.val % 4) + a.val < 1024 * (t.val % 4) + 1024
    omega
  rw [dif_pos hin]
  have hi : (ix2 ((ix2 d (qry t a) : S128x4096.Idx) 0) ⟨((ix2 d (qry t a) : S128x4096.Idx) 1).val - 1024 * (t.val % 4), by omega⟩ : S128x1024.Idx) = ix2 d a :=
    ext2 rfl (Fin.ext (by show 1024 * (t.val % 4) + a.val - 1024 * (t.val % 4) = a.val; omega))
  refine (congrArg _ hi).trans ?_
  rw [pay11_at, coe_sum]
  simp only [ds_real E t he hw, blk3_at m c t, E.e20, EReal.coe_mul]
  rfl
end

theorem newQ_out (t : Fin cfg0.N) (w : FVec Ideal S1024x1024 .f32) (s : FVec Ideal S128x4096 .f32) (d : Fin 128) (x : Fin 4096)
    (hx : ¬(1024 * (t.val % 4) ≤ x.val ∧ x.val < 1024 * (t.val % 4) + 1024)) :
    newQ m c t w s (ix2 d x) = s (ix2 d x) := dif_neg hx

end Cert.FoxStep
-- ==== Proof.FoxSum.lean ====
/- The running sums after each visit, in reals: over the queries up to the visit's tile, and for each query over the keys. -/
module

public import proofs.«01_k».proof.Proof.FoxStep

@[expose] public section

noncomputable section

namespace Cert.FoxSum

open Idealize.ShloMosaic Idealize.ShloMosaic.TcCoe Idealize.ShloMosaic.ValueIdx Idealize.SL.Sem
open Cert.FoxReal Cert.FoxArgs Cert.FoxEntry Cert.FoxBlock Cert.FoxTiles Cert.FoxCases Cert.FoxStep Cert.KernelIdeal Cert.KernelIdeal.Gen Cert.KernelIdeal.Value

/-- The sum of the first `B` entries. -/
def psum (f : Fin 4096 → ℝ) (B : ℕ) : ℝ := ∑ n ∈ Finset.range B, if h : n < 4096 then f ⟨n, h⟩ else 0

theorem psum_zero (f : Fin 4096 → ℝ) : psum f 0 = 0 := rfl

theorem psum_all (f : Fin 4096 → ℝ) : psum f 4096 = ∑ a, f a := by
  unfold psum
  rw [Finset.sum_range]
  exact Finset.sum_congr rfl fun a _ => dif_pos a.isLt

theorem psum_step (f : Fin 4096 → ℝ) (i : ℕ) (hi : i < 4) (f' : Fin 1024 → ℝ)
    (hf : ∀ x : Fin 1024, f' x = f ⟨1024 * i + x.val, by have := x.isLt; omega⟩) :
    psum f (1024 * (i + 1)) = psum f (1024 * i) + ∑ x, f' x := by
  unfold psum
  rw [show 1024 * (i + 1) = 1024 * i + 1024 by ring, Finset.sum_range_add, Finset.sum_range (n := 1024)]
  congr 1
  refine Finset.sum_congr rfl fun x _ => ?_
  have := x.isLt
  rw [hf, dif_pos (by omega)]

theorem psum_skip (f : Fin 4096 → ℝ) (i : ℕ) (hi : i < 4)
    (hf : ∀ x : Fin 1024, f ⟨1024 * i + x.val, by have := x.isLt; omega⟩ = 0) : psum f (1024 * (i + 1)) = psum f (1024 * i) := by
  rw [psum_step f i hi (fun _ => 0) fun x => (hf x).symm, Finset.sum_const_zero, add_zero]

variable (q k v g : Fin 32 → Fin 4096 → Fin 64 → ℝ) (cs mx : Fin 32 → Fin 4096 → ℝ)

/-- The terms of the three sums, for head `h`. -/
def termV (h : Fin 32) (d : Fin 64) (b a : Fin 4096) : ℝ := g h a d * prob (q h) (k h) (cs h) (mx h) a b
def termK (h : Fin 32) (d : Fin 128) (b a : Fin 4096) : ℝ := qx (q h a) d * dscore (q h) (k h) (v h) (g h) (cs h) (mx h) a b
def termQ (h : Fin 32) (d : Fin 128) (a b : Fin 4096) : ℝ := kx (k h b) d * dscore (q h) (k h) (v h) (g h) (cs h) (mx h) a b

variable {q k v g cs mx} {m : (ℓ : Loc nD τ sig) → Buf (Elt Ideal) ℓ} {c : Dev nD}

theorem termV_above {h : Fin 32} {d : Fin 64} {a b : Fin 4096} (hab : ¬b ≤ a) : termV q k g cs mx h d b a = 0 := by
  unfold termV; rw [prob_above _ _ _ _ hab, mul_zero]
theorem termK_above {h : Fin 32} {d : Fin 128} {a b : Fin 4096} (hab : ¬b ≤ a) : termK q k v g cs mx h d b a = 0 := by
  unfold termK; rw [dscore_above _ _ _ _ _ _ hab, mul_zero]
theorem termQ_above {h : Fin 32} {d : Fin 128} {a b : Fin 4096} (hab : ¬b ≤ a) : termQ q k v g cs mx h d a b = 0 := by
  unfold termQ; rw [dscore_above _ _ _ _ _ _ hab, mul_zero]

/-- How many keys the sum of query `x` holds, when the tiles of queries before `r` have been visited with key tile `j`. -/
def bound (j r : ℕ) (x : Fin 4096) : ℕ := if x.val < 1024 * r then 1024 * (j + 1) else 1024 * j

variable (q k v g cs mx) in
/-- The three sums when the tiles of queries before `r` have been visited with the visit's keys. -/
structure SumV (t : Fin cfg0.N) (r : ℕ) (s : FVec Ideal S64x1024 .f32) : Prop where
  at_ : ∀ d y, s (ix2 d y) = (psum (termV q k g cs mx (hd t) d (key t y)) (1024 * r) : EReal)
variable (q k v g cs mx) in
structure SumK (t : Fin cfg0.N) (r : ℕ) (s : FVec Ideal S128x1024 .f32) : Prop where
  at_ : ∀ d y, s (ix2 d y) = (psum (termK q k v g cs mx (hd t) d (key t y)) (1024 * r) : EReal)
variable (q k v g cs mx) in
structure SumQ (t : Fin cfg0.N) (r : ℕ) (s : FVec Ideal S128x4096 .f32) : Prop where
  at_ : ∀ d x, s (ix2 d x) = (psum (termQ q k v g cs mx (hd t) d x) (bound (t.val / 4 % 4) r x) : EReal)

section
variable (t : Fin cfg0.N)

theorem startV : SumV q k g cs mx t 0 (k0_pay3 (F := Ideal)) :=
  ⟨fun d y => by rw [pay3_at, mul_zero, psum_zero, EReal.coe_zero]⟩
theorem startK : SumK q k v g cs mx t 0 (k0_pay2 (F := Ideal)) :=
  ⟨fun d y => by rw [pay2_at, mul_zero, psum_zero, EReal.coe_zero]⟩
theorem startQ (hj : t.val / 4 % 4 = 0) : SumQ q k v g cs mx t 0 (k0_pay1 (F := Ideal)) :=
  ⟨fun d x => by rw [pay1_at, bound, hj, mul_zero, if_neg (Nat.not_lt_zero _), psum_zero, EReal.coe_zero]⟩

/-- Queries before every key of the tile add nothing. -/
theorem skipV (h : t.val % 4 < t.val / 4 % 4) {s} (S : SumV q k g cs mx t (t.val % 4) s) : SumV q k g cs mx t (t.val % 4 + 1) s :=
  ⟨fun d y => by
    rw [S.at_ d y, psum_skip _ _ (Nat.mod_lt _ (by decide)) fun x => termV_above ?_]
    rw [Fin.le_def]
    have := x.isLt
    show ¬(1024 * (t.val / 4 % 4) + y.val ≤ 1024 * (t.val % 4) + x.val)
    omega⟩
theorem skipK (h : t.val % 4 < t.val / 4 % 4) {s} (S : SumK q k v g cs mx t (t.val % 4) s) : SumK q k v g cs mx t (t.val % 4 + 1) s :=
  ⟨fun d y => by
    rw [S.at_ d y, psum_skip _ _ (Nat.mod_lt _ (by decide)) fun x => termK_above ?_]
    rw [Fin.le_def]
    have := x.isLt
    show ¬(1024 * (t.val / 4 % 4) + y.val ≤ 1024 * (t.val % 4) + x.val)
    omega⟩
theorem skipQ (h : t.val % 4 < t.val / 4 % 4) {s} (S : SumQ q k v g cs mx t (t.val % 4) s) : SumQ q k v g cs mx t (t.val % 4 + 1) s :=
  ⟨fun d x => by
    rw [S.at_ d x]
    have hj : t.val / 4 % 4 < 4 := Nat.mod_lt _ (by decide)
    unfold bound
    by_cases h0 : x.val < 1024 * (t.val % 4)
    · rw [if_pos h0, if_pos (by omega)]
    · rw [if_neg h0]
      by_cases h1 : x.val < 1024 * (t.val % 4 + 1)
      · rw [if_pos h1, psum_skip _ _ hj fun b => termQ_above ?_]
        rw [Fin.le_def]
        show ¬(1024 * (t.val / 4 % 4) + b.val ≤ x.val)
        omega
      · rw [if_neg h1]⟩

variable (E : Entry m c q k v g cs mx) (he : t.val / 4 % 4 ≤ t.val % 4) {w : FVec Ideal S1024x1024 .f32}
  (hw : ∀ b a, w (ix2 b a) = (prob (q (hd t)) (k (hd t)) (cs (hd t)) (mx (hd t)) (qry t a) (key t b) : EReal))
include E he hw

theorem stepV {s} (S : SumV q k g cs mx t (t.val % 4) s) : SumV q k g cs mx t (t.val % 4 + 1) (newV m c t w s) :=
  ⟨fun d y => by
    rw [newV_real E t he hw, S.at_, ← EReal.coe_add]
    exact congrArg _ (psum_step _ _ (Nat.mod_lt _ (by decide)) _ fun x => rfl).symm⟩
theorem stepK {s} (S : SumK q k v g cs mx t (t.val % 4) s) : SumK q k v g cs mx t (t.val % 4 + 1) (newK m c t w s) :=
  ⟨fun d y => by
    rw [newK_real E t he hw, S.at_, ← EReal.coe_add]
    exact congrArg _ (psum_step _ _ (Nat.mod_lt _ (by decide)) _ fun x => rfl).symm⟩
theorem stepQ {s} (S : SumQ q k v g cs mx t (t.val % 4) s) : SumQ q k v g cs mx t (t.val % 4 + 1) (newQ m c t w s) :=
  ⟨fun d x => by
    have hj : t.val / 4 % 4 < 4 := Nat.mod_lt _ (by decide)
    by_cases hx : 1024 * (t.val % 4) ≤ x.val ∧ x.val < 1024 * (t.val % 4) + 1024
    · obtain ⟨a, rfl⟩ : ∃ a : Fin 1024, x = qry t a :=
        ⟨⟨x.val - 1024 * (t.val % 4), by omega⟩, Fin.ext (by show x.val = 1024 * (t.val % 4) + (x.val - 1024 * (t.val % 4)); omega)⟩
      rw [newQ_in E t he hw, S.at_, ← EReal.coe_add]
      unfold bound
      rw [if_neg (by omega), if_pos (by omega)]
      exact congrArg _ (psum_step _ _ hj _ fun b => rfl).symm
    · rw [newQ_out t w s d x hx, S.at_]
      unfold bound
      by_cases h0 : x.val < 1024 * (t.val % 4)
      · rw [if_pos h0, if_pos (by omega)]
      · rw [if_neg h0, if_neg (by omega)]⟩
end

variable (q k v g cs mx) in
/-- The sums a visit finds, where it does not start them. -/
structure Enter (t : Fin cfg0.N) (sq : FVec Ideal S128x4096 .f32) (sk : FVec Ideal S128x1024 .f32) (sv : FVec Ideal S64x1024 .f32) : Prop where
  hq : t.val % 16 ≠ 0 → SumQ q k v g cs mx t (t.val % 4) sq
  hk : t.val % 4 ≠ 0 → SumK q k v g cs mx t (t.val % 4) sk
  hv : t.val % 4 ≠ 0 → SumV q k g cs mx t (t.val % 4) sv

variable (q k v g cs mx) in
/-- The sums a visit leaves. -/
structure Leave (t : Fin cfg0.N) (sq : FVec Ideal S128x4096 .f32) (sk : FVec Ideal S128x1024 .f32) (sv : FVec Ideal S64x1024 .f32) : Prop where
  hq : SumQ q k v g cs mx t (t.val % 4 + 1) sq
  hk : SumK q k v g cs mx t (t.val % 4 + 1) sk
  hv : SumV q k g cs mx t (t.val % 4 + 1) sv

theorem step (E : Entry m c q k v g cs mx) (t : Fin cfg0.N) (acc)
    (H : Enter q k v g cs mx t acc.2.2.2.2.2.1 acc.2.2.2.2.2.2.1 acc.2.2.2.2.2.2.2) :
    Leave q k v g cs mx t (stAt0 m c t.val t.isLt acc).2.2.2.2.2.1 (stAt0 m c t.val t.isLt acc).2.2.2.2.2.2.1
      (stAt0 m c t.val t.isLt acc).2.2.2.2.2.2.2 := by
  have r0 : t.val % 4 < 4 := Nat.mod_lt _ (by decide)
  have r1 : t.val / 4 % 4 < 4 := Nat.mod_lt _ (by decide)
  rcases Nat.lt_trichotomy (t.val % 4) (t.val / 4 % 4) with hlt | heq | hgt
  · by_cases h1 : t.val % 4 = 0
    · have a : ¬t.val % 16 = 0 := by omega
      have b : ¬t.val / 4 % 4 + 1 ≤ t.val % 4 := by omega
      have d : ¬t.val / 4 % 4 = t.val % 4 := by omega
      have e : ¬t.val % 4 = 3 := by omega
      have f : ¬t.val % 16 = 15 := by omega
      rw [D_q m c t acc a h1 b d e f, D_k m c t acc a h1 b d e f, D_v m c t acc a h1 b d e f]
      exact ⟨skipQ t hlt (H.hq a), skipK t hlt (by rw [h1]; exact startK t), skipV t hlt (by rw [h1]; exact startV t)⟩
    · have a : ¬t.val % 16 = 0 := by omega
      have b : ¬t.val / 4 % 4 + 1 ≤ t.val % 4 := by omega
      have d : ¬t.val / 4 % 4 = t.val % 4 := by omega
      have e : ¬t.val % 4 = 3 := by omega
      have f : ¬t.val % 16 = 15 := by omega
      rw [F_q m c t acc a h1 b d e f, F_k m c t acc a h1 b d e f, F_v m c t acc a h1 b d e f]
      exact ⟨skipQ t hlt (H.hq a), skipK t hlt (H.hk h1), skipV t hlt (H.hv h1)⟩
  · have he : t.val / 4 % 4 ≤ t.val % 4 := heq.ge
    have b : ¬t.val / 4 % 4 + 1 ≤ t.val % 4 := by omega
    have hw := wDiag_real E t he heq.symm
    by_cases h1 : t.val % 4 = 0
    · have a : t.val % 16 = 0 := by omega
      have e : ¬t.val % 4 = 3 := by omega
      have f : ¬t.val % 16 = 15 := by omega
      rw [A_q m c t acc a h1 b heq.symm e f, A_k m c t acc a h1 b heq.symm e f, A_v m c t acc a h1 b heq.symm e f]
      exact ⟨stepQ t E he hw (by rw [h1]; exact startQ t (by omega)), stepK t E he hw (by rw [h1]; exact startK t),
        stepV t E he hw (by rw [h1]; exact startV t)⟩
    · have a : ¬t.val % 16 = 0 := by omega
      by_cases e : t.val % 4 = 3
      · have f : t.val % 16 = 15 := by omega
        rw [G_q m c t acc a h1 b heq.symm e f, G_k m c t acc a h1 b heq.symm e f, G_v m c t acc a h1 b heq.symm e f]
        exact ⟨stepQ t E he hw (H.hq a), stepK t E he hw (H.hk h1), stepV t E he hw (H.hv h1)⟩
      · have f : ¬t.val % 16 = 15 := by omega
        rw [E_q m c t acc a h1 b heq.symm e f, E_k m c t acc a h1 b heq.symm e f, E_v m c t acc a h1 b heq.symm e f]
        exact ⟨stepQ t E he hw (H.hq a), stepK t E he hw (H.hk h1), stepV t E he hw (H.hv h1)⟩
  · have he : t.val / 4 % 4 ≤ t.val % 4 := hgt.le
    have b : t.val / 4 % 4 + 1 ≤ t.val % 4 := hgt
    have d : ¬t.val / 4 % 4 = t.val % 4 := by omega
    have h1 : ¬t.val % 4 = 0 := by omega
    have a : ¬t.val % 16 = 0 := by omega
    have f : ¬t.val % 16 = 15 := by omega
    have hw := wLow_real E t he b
    by_cases e : t.val % 4 = 3
    · rw [C_q m c t acc a h1 b d e f, C_k m c t acc a h1 b d e f, C_v m c t acc a h1 b d e f]
      exact ⟨stepQ t E he hw (H.hq a), stepK t E he hw (H.hk h1), stepV t E he hw (H.hv h1)⟩
    · rw [B_q m c t acc a h1 b d e f, B_k m c t acc a h1 b d e f, B_v m c t acc a h1 b d e f]
      exact ⟨stepQ t E he hw (H.hq a), stepK t E he hw (H.hk h1), stepV t E he hw (H.hv h1)⟩

/-- What one visit leaves is what the next finds. -/
theorem next {t u : Fin cfg0.N} (hu : u.val = t.val + 1) {sq sk sv} (H : Leave q k v g cs mx t sq sk sv) : Enter q k v g cs mx u sq sk sv := by
  have hh : u.val % 16 ≠ 0 → hd u = hd t := fun h => Fin.ext (by show u.val / 16 = t.val / 16; omega)
  have hk : u.val % 4 ≠ 0 → ∀ y, key u y = key t y := fun h y =>
    Fin.ext (by show 1024 * (u.val / 4 % 4) + y.val = 1024 * (t.val / 4 % 4) + y.val; omega)
  have hr : u.val % 4 ≠ 0 → t.val % 4 + 1 = u.val % 4 := fun h => by omega
  refine ⟨fun h => ⟨fun d x => ?_⟩, fun h => ⟨fun d y => ?_⟩, fun h => ⟨fun d y => ?_⟩⟩
  · rw [H.hq.at_, hh h]
    congr 2
    have hx := x.isLt
    unfold bound
    split_ifs <;> omega
  · rw [H.hk.at_, hh (by omega), hk h, hr h]
  · rw [H.hv.at_, hh (by omega), hk h, hr h]

variable (q k v g cs mx) in
/-- The three sums among what a visit leaves. -/
def LeaveOf (t : Fin cfg0.N) (o : Vec Ideal S1x64x4096 .bf16 × Vec Ideal S1x1x4096 .f32 × Vec Ideal S1x64x1024 .bf16 × Vec Ideal S1x1x1024 .f32 × Vec Ideal S1x64x1024 .bf16 × Vec Ideal S128x4096 .f32 × Vec Ideal S128x1024 .f32 × Vec Ideal S64x1024 .f32) : Prop :=
  Leave q k v g cs mx t o.2.2.2.2.2.1 o.2.2.2.2.2.2.1 o.2.2.2.2.2.2.2

theorem leave (E : Entry m c q k v g cs mx) (n : ℕ) : ∀ (hn : n < cfg0.N), LeaveOf q k v g cs mx ⟨n, hn⟩ (outsAt0 m c n hn) := by
  induction n with
  | zero =>
    intro hn
    have h : ∀ (n : ℕ) (hn : n < cfg0.N), n = 0 → LeaveOf q k v g cs mx ⟨n, hn⟩ (stAt0 m c n hn junk0) := fun n hn e =>
      step E ⟨n, hn⟩ junk0 ⟨fun h => absurd (by show n % _ = 0; rw [e]) h, fun h => absurd (by show n % _ = 0; rw [e]) h, fun h => absurd (by show n % _ = 0; rw [e]) h⟩
    rw [outsAt0_zero]
    exact h 0 hn rfl
  | succ n ih =>
    intro hn
    have ih' := ih (Nat.lt_of_succ_lt hn)
    rw [outsAt0_succ]
    generalize outsAt0 m c n (Nat.lt_of_succ_lt hn) = acc at ih'
    exact step E ⟨n + 1, hn⟩ acc (next (t := ⟨n, Nat.lt_of_succ_lt hn⟩) rfl ih')

end Cert.FoxSum
-- ==== Proof.FoxClaim.lean ====
/- The five gradients the kernel ends with are the reference's. -/
module

public import proofs.«01_k».proof.Proof.FoxSum

@[expose] public section

noncomputable section

namespace Cert.FoxReal

variable {N D : ℕ} (q k v g : Fin N → Fin D → ℝ) (c mx mx' : Fin N → ℝ)

/-- A row's shift cancels in the weights. -/
theorem weight_shift (a b : Fin N) : weight q k c mx a b = weight q k c mx' a b * Real.exp (mx' a - mx a) := by
  unfold weight
  split_ifs
  · rw [← Real.exp_add]; congr 1; ring
  · rw [zero_mul]

theorem prob_shift (a b : Fin N) : prob q k c mx a b = prob q k c mx' a b := by
  have ht : total q k c mx a = total q k c mx' a * Real.exp (mx' a - mx a) := by
    unfold total
    rw [Finset.sum_mul]
    exact Finset.sum_congr rfl fun b _ => weight_shift q k c mx mx' a b
  unfold prob
  rw [ht, weight_shift q k c mx mx' a b, mul_div_mul_right _ _ (Real.exp_pos _).ne']

theorem dscore_shift (a b : Fin N) : dscore q k v g c mx a b = dscore q k v g c mx' a b := by
  unfold dscore
  simp only [prob_shift q k c mx mx']

end Cert.FoxReal

namespace Cert.FoxClaim

open Idealize.ShloMosaic Idealize.ShloMosaic.TcCoe Idealize.ShloMosaic.ValueIdx Idealize.SL.Sem
open Cert.FoxReal Cert.FoxArgs Cert.FoxEntry Cert.FoxBlock Cert.FoxTiles Cert.FoxCases Cert.FoxStep Cert.FoxSum Cert.KernelIdeal Cert.KernelIdeal.Gen Cert.KernelIdeal.Value

variable {q k v g : Fin 32 → Fin 4096 → Fin 64 → ℝ} {cs mx : Fin 32 → Fin 4096 → ℝ} {m : (ℓ : Loc nD τ sig) → Buf (Elt Ideal) ℓ} {c : Dev nD}

section
variable (t : Fin cfg0.N) (acc : Vec Ideal S1x64x4096 .bf16 × Vec Ideal S1x1x4096 .f32 × Vec Ideal S1x64x1024 .bf16 × Vec Ideal S1x1x1024 .f32 × Vec Ideal S1x64x1024 .bf16 × Vec Ideal S128x4096 .f32 × Vec Ideal S128x1024 .f32 × Vec Ideal S64x1024 .f32)
  (L : LeaveOf q k v g cs mx t (stAt0 m c t.val t.isLt acc))
include L

theorem out14 (h4 : t.val % 4 = 3) (z : Fin 1) (d : Fin 64) (y : Fin 1024) :
    (stAt0 m c t.val t.isLt acc).2.2.2.2.1 (ix3 z d y) = ((∑ a, termV q k g cs mx (hd t) d (key t y) a : ℝ) : EReal) := by
  have e : (stAt0 m c t.val t.isLt acc).2.2.2.2.1 = k0_pay14 (stAt0 m c t.val t.isLt acc).2.2.2.2.2.2.2 := by
    by_cases h5 : t.val % 16 = 15
    · exact G_o14 m c t acc (by omega) (by omega) (by omega) (by omega) h4 h5
    · exact C_o14 m c t acc (by omega) (by omega) (by omega) (by omega) h4 h5
  rw [e, pay14_at, L.hv.at_, h4, ← psum_all]

theorem out12 (h4 : t.val % 4 = 3) (z : Fin 1) (d : Fin 64) (y : Fin 1024) :
    (stAt0 m c t.val t.isLt acc).2.2.1 (ix3 z d y)
      = ((∑ a, termK q k v g cs mx (hd t) ⟨d.val, by have := d.isLt; omega⟩ (key t y) a : ℝ) : EReal) := by
  have e : (stAt0 m c t.val t.isLt acc).2.2.1 = k0_pay12 (View.ld (Val := Elt Ideal) (e' := .f32) (stAt0 m c t.val t.isLt acc).2.2.2.2.2.2.1 (Rect.unit (s := S128x1024) ![0, 0] ![64, 1024] inb_S128x1024_S64x1024_0_0)) := by
    by_cases h5 : t.val % 16 = 15
    · exact G_o12 m c t acc (by omega) (by omega) (by omega) (by omega) h4 h5
    · exact C_o12 m c t acc (by omega) (by omega) (by omega) (by omega) h4 h5
  rw [e, pay12_at]
  refine (View.ld_unit_apply_of _ _ _ _ _ (ix2 ⟨d.val, by have := d.isLt; omega⟩ y) fun a => ?_).trans ?_
  · match a with
    | ⟨0, _⟩ => exact (Nat.zero_add _).symm
    | ⟨1, _⟩ => exact (Nat.zero_add _).symm
  · rw [L.hk.at_, h4, ← psum_all]

theorem out13 (h4 : t.val % 4 = 3) (z w : Fin 1) (y : Fin 1024) :
    (stAt0 m c t.val t.isLt acc).2.2.2.1 (ix3 z w y)
      = ((∑ a, termK q k v g cs mx (hd t) ⟨65, by decide⟩ (key t y) a : ℝ) : EReal) := by
  have e : (stAt0 m c t.val t.isLt acc).2.2.2.1 = k0_pay13 (View.ld (Val := Elt Ideal) (e' := .f32) (stAt0 m c t.val t.isLt acc).2.2.2.2.2.2.1 (Rect.unit (s := S128x1024) ![65, 0] ![1, 1024] inb_S128x1024_S1x1024_65_0)) := by
    by_cases h5 : t.val % 16 = 15
    · exact G_o13 m c t acc (by omega) (by omega) (by omega) (by omega) h4 h5
    · exact C_o13 m c t acc (by omega) (by omega) (by omega) (by omega) h4 h5
  rw [e, pay13_at]
  refine (View.ld_unit_apply_of _ _ _ _ _ (ix2 ⟨65, by decide⟩ y) fun a => ?_).trans ?_
  · have hw : w.val = 0 := by have := w.isLt; omega
    match a with
    | ⟨0, _⟩ => show 65 = 65 + w.val; omega
    | ⟨1, _⟩ => exact (Nat.zero_add _).symm
  · rw [L.hk.at_, h4, ← psum_all]

theorem out10 (h5 : t.val % 16 = 15) (z : Fin 1) (d : Fin 64) (x : Fin 4096) :
    (stAt0 m c t.val t.isLt acc).1 (ix3 z d x)
      = ((∑ b, termQ q k v g cs mx (hd t) ⟨d.val, by have := d.isLt; omega⟩ x b : ℝ) : EReal) * ((1 / 8 : ℝ) : EReal) := by
  rw [G_o10 m c t acc (by omega) (by omega) (by omega) (by omega) (by omega) h5, pay15_at]
  refine congrArg (· * ((1 / 8 : ℝ) : EReal)) ((View.ld_unit_apply_of _ _ _ _ _ (ix2 ⟨d.val, by have := d.isLt; omega⟩ x) fun a => ?_).trans ?_)
  · match a with
    | ⟨0, _⟩ => exact (Nat.zero_add _).symm
    | ⟨1, _⟩ => exact (Nat.zero_add _).symm
  · have hx := x.isLt
    rw [L.hq.at_, show t.val % 4 = 3 by omega, show t.val / 4 % 4 = 3 by omega, bound, if_pos (by omega), ← psum_all]

theorem out11 (h5 : t.val % 16 = 15) (z w : Fin 1) (x : Fin 4096) :
    (stAt0 m c t.val t.isLt acc).2.1 (ix3 z w x)
      = ((∑ b, termQ q k v g cs mx (hd t) ⟨64, by decide⟩ x b : ℝ) : EReal) := by
  rw [G_o11 m c t acc (by omega) (by omega) (by omega) (by omega) (by omega) h5, pay16_at]
  refine (View.ld_unit_apply_of _ _ _ _ _ (ix2 ⟨64, by decide⟩ x) fun a => ?_).trans ?_
  · have hw : w.val = 0 := by have := w.isLt; omega
    match a with
    | ⟨0, _⟩ => show 64 = 64 + w.val; omega
    | ⟨1, _⟩ => exact (Nat.zero_add _).symm
  · have hx := x.isLt
    rw [L.hq.at_, show t.val % 4 = 3 by omega, show t.val / 4 % 4 = 3 by omega, bound, if_pos (by omega), ← psum_all]
end

/-- The state after a visit that is not the first, as the step from the one before. -/
theorem visit (E : Entry m c q k v g cs mx) (n : ℕ) (hn : n < cfg0.N) (h0 : 0 < n) :
    ∃ acc, outsAt0 m c n hn = stAt0 m c n hn acc ∧ LeaveOf q k v g cs mx ⟨n, hn⟩ (stAt0 m c n hn acc) := by
  obtain ⟨n', rfl⟩ : ∃ n', n = n' + 1 := ⟨n - 1, by omega⟩
  refine ⟨_, outsAt0_succ m c n' hn, ?_⟩
  rw [← outsAt0_succ]
  exact leave E (n' + 1) hn

theorem N_512 : cfg0.N = 512 := N_0

theorem G14_at (E : Entry m c q k v g cs mx) (h : Fin 32) (d : Fin 64) (b : Fin 4096) :
    G14 m c (ix3 h d b) = ((∑ a, termV q k g cs mx h d b a : ℝ) : EReal) := by
  have hh := h.isLt
  have hb := b.isLt
  have hd' := d.isLt
  have hp : pt14Of (ix3 h d b) = 16 * h.val + 4 * (b.val / 1024) + 3 := by
    show 4 * (4 * (h.val / 1 - 0) + 4 * (d.val / 64 - 0) + 1 * (b.val / 1024 - 0)) + 3 = _; omega
  have hn : pt14Of (ix3 h d b) < cfg0.N := by rw [N_512, hp]; omega
  obtain ⟨acc, e, L⟩ := visit E (pt14Of (ix3 h d b)) hn (by omega)
  have e1 : hd ⟨pt14Of (ix3 h d b), hn⟩ = h := Fin.ext (by show pt14Of (ix3 h d b) / 16 = h.val; omega)
  have e2 : key ⟨pt14Of (ix3 h d b), hn⟩ ⟨b.val % 1024, Nat.mod_lt _ (by decide)⟩ = b :=
    Fin.ext (by show 1024 * (pt14Of (ix3 h d b) / 4 % 4) + b.val % 1024 = b.val; omega)
  unfold G14
  rw [dif_pos hn, ← outsAt0_sweep m c _ hn, e]
  have hl : loc14Of (ix3 h d b) = ix3 0 d ⟨b.val % 1024, Nat.mod_lt _ (by decide)⟩ :=
    ext3 (Fin.ext (by show h.val % 1 = 0; omega)) (Fin.ext (by show d.val % 64 = d.val; omega)) rfl
  rw [hl]
  refine (out14 ⟨pt14Of (ix3 h d b), hn⟩ acc L (by show pt14Of (ix3 h d b) % 4 = 3; omega) 0 d _).trans ?_
  rw [e1, e2]

theorem G12_at (E : Entry m c q k v g cs mx) (h : Fin 32) (d : Fin 64) (b : Fin 4096) :
    G12 m c (ix3 h d b) = ((∑ a, termK q k v g cs mx h ⟨d.val, by have := d.isLt; omega⟩ b a : ℝ) : EReal) := by
  have hh := h.isLt
  have hb := b.isLt
  have hd' := d.isLt
  have hp : pt12Of (ix3 h d b) = 16 * h.val + 4 * (b.val / 1024) + 3 := by
    show 4 * (4 * (h.val / 1 - 0) + 4 * (d.val / 64 - 0) + 1 * (b.val / 1024 - 0)) + 3 = _; omega
  have hn : pt12Of (ix3 h d b) < cfg0.N := by rw [N_512, hp]; omega
  obtain ⟨acc, e, L⟩ := visit E (pt12Of (ix3 h d b)) hn (by omega)
  have e1 : hd ⟨pt12Of (ix3 h d b), hn⟩ = h := Fin.ext (by show pt12Of (ix3 h d b) / 16 = h.val; omega)
  have e2 : key ⟨pt12Of (ix3 h d b), hn⟩ ⟨b.val % 1024, Nat.mod_lt _ (by decide)⟩ = b :=
    Fin.ext (by show 1024 * (pt12Of (ix3 h d b) / 4 % 4) + b.val % 1024 = b.val; omega)
  unfold G12
  rw [dif_pos hn, ← outsAt0_sweep m c _ hn, e]
  have hl : loc12Of (ix3 h d b) = ix3 0 d ⟨b.val % 1024, Nat.mod_lt _ (by decide)⟩ :=
    ext3 (Fin.ext (by show h.val % 1 = 0; omega)) (Fin.ext (by show d.val % 64 = d.val; omega)) rfl
  rw [hl]
  refine (out12 ⟨pt12Of (ix3 h d b), hn⟩ acc L (by show pt12Of (ix3 h d b) % 4 = 3; omega) 0 d _).trans ?_
  rw [e1, e2]

theorem G13_at (E : Entry m c q k v g cs mx) (h : Fin 32) (z : Fin 1) (b : Fin 4096) :
    G13 m c (ix3 h z b) = ((∑ a, termK q k v g cs mx h ⟨65, by decide⟩ b a : ℝ) : EReal) := by
  have hh := h.isLt
  have hb := b.isLt
  have hd' := z.isLt
  have hp : pt13Of (ix3 h z b) = 16 * h.val + 4 * (b.val / 1024) + 3 := by
    show 4 * (4 * (h.val / 1 - 0) + 4 * (z.val / 1 - 0) + 1 * (b.val / 1024 - 0)) + 3 = _; omega
  have hn : pt13Of (ix3 h z b) < cfg0.N := by rw [N_512, hp]; omega
  obtain ⟨acc, e, L⟩ := visit E (pt13Of (ix3 h z b)) hn (by omega)
  have e1 : hd ⟨pt13Of (ix3 h z b), hn⟩ = h := Fin.ext (by show pt13Of (ix3 h z b) / 16 = h.val; omega)
  have e2 : key ⟨pt13Of (ix3 h z b), hn⟩ ⟨b.val % 1024, Nat.mod_lt _ (by decide)⟩ = b :=
    Fin.ext (by show 1024 * (pt13Of (ix3 h z b) / 4 % 4) + b.val % 1024 = b.val; omega)
  unfold G13
  rw [dif_pos hn, ← outsAt0_sweep m c _ hn, e]
  have hl : loc13Of (ix3 h z b) = ix3 0 0 ⟨b.val % 1024, Nat.mod_lt _ (by decide)⟩ :=
    ext3 (Fin.ext (by show h.val % 1 = 0; omega)) (Fin.ext (by show z.val % 1 = 0; omega)) rfl
  rw [hl]
  refine (out13 ⟨pt13Of (ix3 h z b), hn⟩ acc L (by show pt13Of (ix3 h z b) % 4 = 3; omega) 0 0 _).trans ?_
  rw [e1, e2]

theorem G10_at (E : Entry m c q k v g cs mx) (h : Fin 32) (d : Fin 64) (a : Fin 4096) :
    G10 m c (ix3 h d a) = ((∑ b, termQ q k v g cs mx h ⟨d.val, by have := d.isLt; omega⟩ a b : ℝ) : EReal) * ((1 / 8 : ℝ) : EReal) := by
  have hh := h.isLt
  have hb := a.isLt
  have hd' := d.isLt
  have hp : pt10Of (ix3 h d a) = 16 * h.val + 15 := by
    show 16 * (1 * (h.val / 1 - 0) + 1 * (d.val / 64 - 0) + 1 * (a.val / 4096 - 0)) + 15 = _; omega
  have hn : pt10Of (ix3 h d a) < cfg0.N := by rw [N_512, hp]; omega
  obtain ⟨acc, e, L⟩ := visit E (pt10Of (ix3 h d a)) hn (by omega)
  have e1 : hd ⟨pt10Of (ix3 h d a), hn⟩ = h := Fin.ext (by show pt10Of (ix3 h d a) / 16 = h.val; omega)
  unfold G10
  rw [dif_pos hn, ← outsAt0_sweep m c _ hn, e]
  have hl : loc10Of (ix3 h d a) = ix3 0 d a :=
    ext3 (Fin.ext (by show h.val % 1 = 0; omega)) (Fin.ext (by show d.val % 64 = d.val; omega)) (Fin.ext (by show a.val % 4096 = a.val; omega))
  rw [hl]
  refine (out10 ⟨pt10Of (ix3 h d a), hn⟩ acc L (by show pt10Of (ix3 h d a) % 16 = 15; omega) 0 d a).trans ?_
  rw [e1]

theorem G11_at (E : Entry m c q k v g cs mx) (h : Fin 32) (z : Fin 1) (a : Fin 4096) :
    G11 m c (ix3 h z a) = ((∑ b, termQ q k v g cs mx h ⟨64, by decide⟩ a b : ℝ) : EReal) := by
  have hh := h.isLt
  have hb := a.isLt
  have hd' := z.isLt
  have hp : pt11Of (ix3 h z a) = 16 * h.val + 15 := by
    show 16 * (1 * (h.val / 1 - 0) + 1 * (z.val / 1 - 0) + 1 * (a.val / 4096 - 0)) + 15 = _; omega
  have hn : pt11Of (ix3 h z a) < cfg0.N := by rw [N_512, hp]; omega
  obtain ⟨acc, e, L⟩ := visit E (pt11Of (ix3 h z a)) hn (by omega)
  have e1 : hd ⟨pt11Of (ix3 h z a), hn⟩ = h := Fin.ext (by show pt11Of (ix3 h z a) / 16 = h.val; omega)
  unfold G11
  rw [dif_pos hn, ← outsAt0_sweep m c _ hn, e]
  have hl : loc11Of (ix3 h z a) = ix3 0 0 a :=
    ext3 (Fin.ext (by show h.val % 1 = 0; omega)) (Fin.ext (by show z.val % 1 = 0; omega)) (Fin.ext (by show a.val % 4096 = a.val; omega))
  rw [hl]
  refine (out11 ⟨pt11Of (ix3 h z a), hn⟩ acc L (by show pt11Of (ix3 h z a) % 16 = 15; omega) 0 0 a).trans ?_
  rw [e1]

section
open Cert.ReferenceIdeal.Read Cert.FoxReference

/-- What the kernel's five arrays end holding is what the reference computes from the same finite arguments. -/
theorem results_eq {x0 : FVec Ideal (⟨2, ![4096, 8192]⟩ : Shape) .bf16} {x1 : FVec Ideal (⟨2, ![4096, 128]⟩ : Shape) .f32}
    {x2 : FVec Ideal (⟨2, ![4096, 2048]⟩ : Shape) .bf16} (R : Reads x0 x1 x2 q k v g cs)
    (E : Entry m c q k v g cs mx) :
    G10 m c = val_main_v95 (F := Ideal) x0 x1 x2 ∧ G11 m c = val_main_v96 (F := Ideal) x0 x1 x2
      ∧ G12 m c = val_main_v99 (F := Ideal) x0 x1 x2 ∧ G13 m c = val_main_v100 (F := Ideal) x0 x1 x2
      ∧ G14 m c = val_main_v103 (F := Ideal) x0 x1 x2 := by
  obtain ⟨mx', hm⟩ := v34_at R
  refine ⟨funext fun i => ?_, funext fun i => ?_, funext fun i => ?_, funext fun i => ?_, funext fun i => ?_⟩
  · obtain ⟨h, d, a, rfl⟩ : ∃ (h : Fin 32) (d : Fin 64) (a : Fin 4096), i = ix3 h d a := ⟨i 0, i 1, i 2, ext3 rfl rfl rfl⟩
    rw [G10_at E, v95_at R hm, ← EReal.coe_mul, Finset.sum_mul]
    refine congrArg _ (Finset.sum_congr rfl fun b _ => ?_)
    unfold termQ kx
    rw [dif_pos d.isLt, dscore_shift _ _ _ _ _ (mx h) (mx' h)]
    ring
  · obtain ⟨h, z, a, rfl⟩ : ∃ (h : Fin 32) (z : Fin 1) (a : Fin 4096), i = ix3 h z a := ⟨i 0, i 1, i 2, ext3 rfl rfl rfl⟩
    rw [G11_at E, v96_at R hm]
    refine congrArg _ (Finset.sum_congr rfl fun b _ => ?_)
    unfold termQ kx
    rw [dif_neg (by decide), if_pos rfl, dscore_shift _ _ _ _ _ (mx h) (mx' h), one_mul]
  · obtain ⟨h, d, b, rfl⟩ : ∃ (h : Fin 32) (d : Fin 64) (b : Fin 4096), i = ix3 h d b := ⟨i 0, i 1, i 2, ext3 rfl rfl rfl⟩
    rw [G12_at E, v99_at R hm]
    refine congrArg _ (Finset.sum_congr rfl fun a _ => ?_)
    unfold termK qx
    rw [dif_pos d.isLt, dscore_shift _ _ _ _ _ (mx h) (mx' h)]
    ring
  · obtain ⟨h, z, b, rfl⟩ : ∃ (h : Fin 32) (z : Fin 1) (b : Fin 4096), i = ix3 h z b := ⟨i 0, i 1, i 2, ext3 rfl rfl rfl⟩
    rw [G13_at E, v100_at R hm]
    refine congrArg _ (Finset.sum_congr rfl fun a _ => ?_)
    unfold termK qx
    rw [dif_neg (by decide), if_neg (by decide), if_pos rfl, dscore_shift _ _ _ _ _ (mx h) (mx' h), neg_one_mul]
  · obtain ⟨h, d, b, rfl⟩ : ∃ (h : Fin 32) (d : Fin 64) (b : Fin 4096), i = ix3 h d b := ⟨i 0, i 1, i 2, ext3 rfl rfl rfl⟩
    rw [G14_at E, v103_at R hm]
    refine congrArg _ (Finset.sum_congr rfl fun a _ => ?_)
    unfold termV
    rw [prob_shift _ _ _ (mx h) (mx' h)]
end

end Cert.FoxClaim
-- ==== Proof.Product.lean ====
/- A product of two arrays computed block by block: what the calls for the projections and their gradients share. -/
module

public import proofs.«01_k».proof.Proof.FoxBlock

@[expose] public section

set_option maxRecDepth 16384

noncomputable section

namespace Cert.Product

open Idealize.ShloMosaic Idealize.ShloMosaic.ValueIdx Cert.FoxArgs Cert.FoxBlock

theorem hz2 : (![0, 0] : Fin 2 → Nat) = fun _ => 0 := funext fun a => by fin_cases a <;> rfl
theorem hz3 : (![0, 0, 0] : Fin 3 → Nat) = fun _ => 0 := funext fun a => by fin_cases a <;> rfl

/-- An array of `n` rows and `p` columns. -/
abbrev Mat (n p : ℕ) : Type := (⟨2, ![n, p]⟩ : Shape).Idx → EReal
/-- Its columns, cut into four. -/
abbrev Cut (n w : ℕ) : Type := (⟨3, ![4, n, w]⟩ : Shape).Idx → EReal

/-- `xᵀ y`, `x yᵀ` and `x y`, at an index. -/
def tmul {k n p : ℕ} (x : Mat k n) (y : Mat k p) (a : Fin n) (b : Fin p) : EReal := ∑ j : Fin k, x (ix2 j a) * y (ix2 j b)
def mulT {n k p : ℕ} (x : Mat n k) (y : Mat p k) (a : Fin n) (b : Fin p) : EReal := ∑ j : Fin k, x (ix2 a j) * y (ix2 b j)
def mul {n k p : ℕ} (x : Mat n k) (y : Mat k p) (a : Fin n) (b : Fin p) : EReal := ∑ j : Fin k, x (ix2 a j) * y (ix2 j b)

/-- Column `r` of part `q`, of four parts of `w` columns. -/
def col {p : ℕ} (w : ℕ) (hp : p = 4 * w) (q : Fin 4) (r : Fin w) : Fin p := ⟨w * q.val + r.val, by
  subst hp
  have hq := q.isLt
  have hr := r.isLt
  calc w * q.val + r.val < w * q.val + w := by omega
    _ = w * (q.val + 1) := (Nat.mul_succ _ _).symm
    _ ≤ w * 4 := Nat.mul_le_mul_left w (by omega)
    _ = 4 * w := Nat.mul_comm _ _⟩

/-- The array whose columns the four parts hold. -/
def whole {n p : ℕ} (w : ℕ) (hp : p = 4 * w) (y : Cut n w) : Mat n p := fun i =>
  y (ix3 ⟨(i 1).val / w, by
    have h : (i 1).val < 4 * w := lt_of_lt_of_eq (i 1).isLt hp
    rcases Nat.eq_zero_or_pos w with rfl | hw
    · exact absurd h (by omega)
    · exact (Nat.div_lt_iff_lt_mul hw).2 h⟩
    ⟨(i 0).val, (i 0).isLt⟩ ⟨(i 1).val % w, Nat.mod_lt _ (by
    have h : (i 1).val < 4 * w := lt_of_lt_of_eq (i 1).isLt hp
    omega)⟩)

theorem whole_col {n p : ℕ} (w : ℕ) (hp : p = 4 * w) (y : Cut n w) (a : Fin n) (q : Fin 4) (r : Fin w) :
    whole w hp y (ix2 a (col w hp q r)) = y (ix3 q a r) := by
  have hr := r.isLt
  refine congrArg y (ext3 (Fin.ext ?_) rfl (Fin.ext ?_))
  · show (w * q.val + r.val) / w = q.val
    rw [Nat.mul_add_div (by omega), Nat.div_eq_of_lt hr, Nat.add_zero]
  · show (w * q.val + r.val) % w = r.val
    rw [Nat.mul_add_mod, Nat.mod_eq_of_lt hr]

/-- The tile of `s` that a number lies in holds it. -/
theorem in_tile {x i s : ℕ} (hs : 0 < s) (h : x = i / s) : x * s ≤ i ∧ i < x * s + s := by
  subst h
  have h1 := Nat.div_add_mod i s
  have h2 := Nat.mod_lt i hs
  rw [Nat.mul_comm] at h1
  omega

/-- A sum over four parts, one after the other, is the sum over all. -/
theorem sum_parts {p : ℕ} (w : ℕ) (hp : p = 4 * w) (f : Fin p → EReal) :
    ∑ s ∈ Finset.range 4, (∑ r : Fin w, if h : s < 4 then f (col w hp ⟨s, h⟩ r) else 0) = ∑ j, f j := by
  subst hp
  have e : ∀ s : Fin 4, ∀ r : Fin w, (finProdFinEquiv (s, r) : Fin (4 * w)) = col w rfl s r := fun s r =>
    Fin.ext (by show r.val + w * s.val = w * s.val + r.val; omega)
  rw [← Equiv.sum_comp finProdFinEquiv, Fintype.sum_prod_type, Finset.sum_range]
  refine Finset.sum_congr rfl fun s _ => Finset.sum_congr rfl fun r _ => ?_
  rw [dif_pos s.isLt, e]

/-- The product over the columns of one part alone. -/
def mulTPart {n k p : ℕ} (w : ℕ) (hk : k = 4 * w) (x : Mat n k) (y : Mat p k) (a : Fin n) (b : Fin p) (s : ℕ) : EReal :=
  ∑ r : Fin w, if h : s < 4 then x (ix2 a (col w hk ⟨s, h⟩ r)) * y (ix2 b (col w hk ⟨s, h⟩ r)) else 0

theorem mulTPart_of {n k p : ℕ} (w : ℕ) (hk : k = 4 * w) (x : Mat n k) (y : Mat p k) (a : Fin n) (b : Fin p) (q : Fin 4) :
    mulTPart w hk x y a b q.val = ∑ r : Fin w, x (ix2 a (col w hk q r)) * y (ix2 b (col w hk q r)) :=
  Finset.sum_congr rfl fun _ _ => dif_pos q.isLt

theorem sum_mulT {n k p : ℕ} (w : ℕ) (hk : k = 4 * w) (x : Mat n k) (y : Mat p k) (a : Fin n) (b : Fin p) :
    ∑ s ∈ Finset.range 4, mulTPart w hk x y a b s = mulT x y a b :=
  sum_parts w hk fun j => x (ix2 a j) * y (ix2 b j)

end Cert.Product

end
-- ==== Proof.InDwValue.lean ====
/- The call for the gradient of an input projection's weights: each grid point computes one block of the product, whole. -/
module

public import proofs.«01_k».proof.Proof.Product
public import proofs.«01_k».proof.Proof.Gen.InDwIdeal.Value
public import proofs.«01_k».proof.Proof.Gen.InDwReferenceIdeal.Read

@[expose] public section

set_option maxRecDepth 16384

noncomputable section

namespace Cert.InDwValue

open Idealize.ShloMosaic Idealize.ShloMosaic.TcCoe Idealize.ShloMosaic.ValueIdx Idealize.SL.Sem
open Cert.FoxArgs Cert.FoxBlock Cert.Product Cert.InDwIdeal Cert.InDwIdeal.Gen

theorem pay_at (x y : Vec Ideal S4096x1024 .bf16) (z : Fin 1) (a b : Fin 1024) :
    k0_pay1 (F := Ideal) x y (ix3 z a b) = tmul x y a b := by
  unfold k0_pay1
  refine (lift3 _ _ z a b).trans ?_
  exact matmul_at (φ₁ := .bf16) (φ₂ := .bf16) dot_S4096x1024_S4096x1024_S1024x1024_0_0_1_1_n_n rfl rfl x y (ix2 a b) _ _
    (fun k => ext2 (Fin.ext (contrEquiv1_symm_val dot_S4096x1024_S4096x1024_S1024x1024_0_0_1_1_n_n 4096 rfl rfl k)) rfl)
    (fun k => ext2 (Fin.ext (contrEquiv1_symm_val dot_S4096x1024_S4096x1024_S1024x1024_0_0_1_1_n_n 4096 rfl rfl k)) rfl)

theorem idx_facts : ∀ t : Fin cfg0.N, win0_0.index t (0 : Fin 2) = 0 ∧ win0_0.index t (1 : Fin 2) = win0_2.index t (1 : Fin 3)
    ∧ win0_1.index t (0 : Fin 2) = 0 ∧ win0_1.index t (1 : Fin 2) = 2 * win0_2.index t (0 : Fin 3) + win0_2.index t (2 : Fin 3)
    ∧ win0_2.index t (0 : Fin 3) < 4 ∧ win0_2.index t (1 : Fin 3) < 2 ∧ win0_2.index t (2 : Fin 3) < 2 :=
  (by decide +kernel : ∀ t : Fin grid0.N, _)

theorem idx_onto : ∀ (q0 : Fin 4) (q1 q2 : Fin 2), ∃ t : Fin cfg0.N, win0_2.flush t = true ∧ win0_2.index t = ![q0.val, q1.val, q2.val] :=
  (by decide +kernel : ∀ (q0 : Fin 4) (q1 q2 : Fin 2), ∃ t : Fin grid0.N, win0_2.flush t = true ∧ win0_2.index t = ![q0.val, q1.val, q2.val])

variable (m : (ℓ : Loc nD τ sig) → Buf (Elt Ideal) ℓ) (c : Dev nD)

/-- The gradient, cut by columns into four: the product of the transposed argument with the cotangent. -/
def out : S4x2048x2048.Idx → EReal := fun i =>
  tmul (m ((c.tc : Thread nD τ).loc main_arg0)) (m ((c.tc : Thread nD τ).loc main_arg1)) ⟨(i 1).val, (i 1).isLt⟩
    (col 2048 rfl ⟨(i 0).val, (i 0).isLt⟩ ⟨(i 2).val, (i 2).isLt⟩)

theorem flushed_eq (t : Fin cfg0.N) : (dats m 0 c).flushed 2 t = ((cfg0.win 2).blk t).view.read (Elt Ideal) (out m c) := by
  obtain ⟨e0, e1, f0, f1, b0, b1, b2⟩ := idx_facts t
  rw [Cert.InDwIdeal.Value.flushed2]
  unfold out0_2
  rw [View.canon_unit_zero hz3, View.ld_unit_zero hz2, View.ld_unit_zero hz2]
  funext y
  obtain ⟨z, a, b, rfl⟩ : ∃ (z : Fin 1) (a b : Fin 1024), y = ix3 z a b := ⟨y 0, y 1, y 2, eq_ix3 y⟩
  have hz : z.val = 0 := by omega
  refine (pay_at _ _ z a b).trans ?_
  show _ = out m c (((cfg0.win 2).blk t).view.emb (ix3 z a b))
  unfold out tmul
  refine Finset.sum_congr rfl fun k _ => congrArg₂ (· * ·) ?_ ?_
  · refine (congrArg (V m c main_arg0) (ext2 (Fin.ext ?_) (Fin.ext ?_))).trans (congrFun (V_main_arg0 m c) _)
    · show win0_0.index t (0 : Fin 2) * 4096 + 1 * k.val = k.val; omega
    · show win0_0.index t (1 : Fin 2) * 1024 + 1 * a.val = win0_2.index t (1 : Fin 3) * 1024 + 1 * a.val; omega
  · refine (congrArg (V m c main_arg1) (ext2 (Fin.ext ?_) (Fin.ext ?_))).trans (congrFun (V_main_arg1 m c) _)
    · show win0_1.index t (0 : Fin 2) * 4096 + 1 * k.val = k.val; omega
    · show win0_1.index t (1 : Fin 2) * 1024 + 1 * b.val
        = 2048 * (win0_2.index t (0 : Fin 3) * 1 + 1 * z.val) + (win0_2.index t (2 : Fin 3) * 1024 + 1 * b.val)
      omega

theorem cover (i : S4x2048x2048.Idx) : ∃ t : Fin cfg0.N, (cfg0.win 2).flush t = true ∧ i ∈ ((cfg0.win 2).blk t).view.set := by
  have h0 : (i 0).val < 4 := (i 0).isLt
  have h1 : (i 1).val < 2048 := (i 1).isLt
  have h2 : (i 2).val < 2048 := (i 2).isLt
  obtain ⟨t, hf, ht⟩ := idx_onto ⟨(i 0).val, h0⟩ ⟨(i 1).val / 1024, by omega⟩ ⟨(i 2).val / 1024, by omega⟩
  refine ⟨t, hf, ?_⟩
  show i ∈ ((View.whole main_v0).slice (win0_2.rect t)).set
  rw [View.set_slice_whole, Rect.mem_set_unit]
  intro a
  match a with
  | ⟨0, _⟩ => exact in_tile (s := 1) (by decide) ((congrFun ht 0).trans (Nat.div_one _).symm)
  | ⟨1, _⟩ => exact in_tile (s := 1024) (by decide) (congrFun ht 1)
  | ⟨2, _⟩ => exact in_tile (s := 1024) (by decide) (congrFun ht 2)

/-- What the call ends with. -/
theorem final : (dats m 0 c).arrAt 2 cfg0.N = out m c :=
  (dats m 0 c).arrAt_eq_of_cover 2 _ (fun t _ => flushed_eq m c t) cover

open Cert.InDwReferenceIdeal.Read in
/-- The reference's result. -/
theorem reference_eq (x : Mat 4096 2048) (y : Mat 4096 8192) (i : S4x2048x2048.Idx) :
    val_main_v8 (F := Ideal) x y i = tmul x y ⟨(i 1).val, (i 1).isLt⟩ (col 2048 rfl ⟨(i 0).val, (i 0).isLt⟩ ⟨(i 2).val, (i 2).isLt⟩) := by
  have h0 : (i 0).val < 4 := (i 0).isLt
  have h1 : (i 1).val < 2048 := (i 1).isLt
  have h2 : (i 2).val < 2048 := (i 2).isLt
  rw [val_main_v8_apply, val_main_v7_apply, val_main_v6_apply, val_main_v5_apply]
  show val_main_v4 (F := Ideal) x y _ = _
  rw [val_main_v4_apply]
  refine Finset.sum_congr rfl fun k _ => (mul_comm _ _).trans (congrArg₂ (· * ·) ?_ ?_)
  · refine congrArg x (ext2 rfl (Fin.ext ?_))
    show (((i 1).val * 4 + (i 0).val) * 2048 + (i 2).val) / 8192 = (i 1).val
    omega
  · refine congrArg y (ext2 rfl (Fin.ext ?_))
    show (((i 1).val * 4 + (i 0).val) * 2048 + (i 2).val) % 8192 = 2048 * (i 0).val + (i 2).val
    omega

end Cert.InDwValue

end
-- ==== Proof.InDxValue.lean ====
/- The call for the gradient of an input projection's argument: four grid points in a row add up one block of the product,
   each over the columns that one chip's weights hold. -/
module

public import proofs.«01_k».proof.Proof.Product
public import proofs.«01_k».proof.Proof.Gen.InDxIdeal.Value
public import proofs.«01_k».proof.Proof.Gen.InDxReferenceIdeal.Read
public import Idealize.ShloMosaic.Lib.Pipeline.ReadBack

@[expose] public section

set_option maxRecDepth 16384

noncomputable section

namespace Cert.InDxValue

open Idealize.ShloMosaic Idealize.ShloMosaic.TcCoe Idealize.ShloMosaic.ValueIdx Idealize.SL.Sem
open Cert.FoxArgs Cert.FoxBlock Cert.Product Cert.InDxIdeal Cert.InDxIdeal.Gen Cert.InDxIdeal.Value

theorem pay1_at (x : Vec Ideal S1024x2048 .bf16) (y : Vec Ideal S1x1024x2048 .bf16) (a b : Fin 1024) :
    k0_pay1 (F := Ideal) x y (ix2 a b) = ∑ k : Fin 2048, (x (ix2 a k) : EReal) * (y (ix3 0 b k) : EReal) := by
  refine (matmul_at (φ₁ := .bf16) (φ₂ := .bf16) dot_S1024x2048_S1024x2048_S1024x1024_1_1_0_0_n_n rfl rfl x _ (ix2 a b) _ _
    (fun k => ext2 rfl (Fin.ext (contrEquiv1_symm_val dot_S1024x2048_S1024x2048_S1024x1024_1_1_0_0_n_n 2048 rfl rfl k)))
    (fun k => ext2 rfl (Fin.ext (contrEquiv1_symm_val dot_S1024x2048_S1024x2048_S1024x1024_1_1_0_0_n_n 2048 rfl rfl k)))).trans ?_
  exact Finset.sum_congr rfl fun k _ => congrArg (_ * ·) (flat3 y _ b k)

theorem pay3_at (x : Vec Ideal S1024x2048 .bf16) (y : Vec Ideal S1x1024x2048 .bf16) (acc : Vec Ideal S1024x1024 .f32) (i : S1024x1024.Idx) :
    k0_pay3 (F := Ideal) x y acc i = (acc i : EReal) + (k0_pay1 (F := Ideal) x y i : EReal) := by
  unfold k0_pay3
  exact congrFun (shapeCast_self _ _) i

variable (m : (ℓ : Loc nD τ sig) → Buf (Elt Ideal) ℓ) (c : Dev nD)

/-- What a grid point adds. -/
def part (n : ℕ) : S1024x1024.Idx → EReal := fun i =>
  if h : n < cfg0.N then k0_pay1 (F := Ideal) (iblk m c 0 ⟨n, h⟩) (iblk m c 1 ⟨n, h⟩) i else 0

theorem part_of (t : Fin cfg0.N) : part m c t.val = k0_pay1 (F := Ideal) (iblk m c 0 t) (iblk m c 1 t) :=
  funext fun _ => dif_pos t.isLt

theorem start (t : Fin cfg0.N) (acc) (h0 : t.val % 4 = 0) : scAt0_0 m c t.val t.isLt acc = part m c t.val := by
  rw [part_of]
  unfold scAt0_0
  rw [dif_pos h0, dif_neg (by omega), dif_neg (by omega)]
  unfold sout0_A_0
  refine (View.read_writes_eq_canon _ _ _ (by intro y; apply scover0_A_0)).trans ?_
  unfold kernelRun0_A
  dsimp only
  sl_unfold_words
  rw [View.canon_unit_zero hz2]
  simp only [View.readAt_eq_ld, read_unread_whole, Memref.IsWhole.read_unread, View.ld_unit_zero (S := S1024x2048) hz2, View.ld_unit_zero (S := S1x1024x2048) hz3]
  exact shapeCast_self _ _

theorem step_B (t : Fin cfg0.N) (acc) (h0 : ¬t.val % 4 = 0) (h2 : ¬t.val % 4 = 3) (i) :
    scAt0_0 m c t.val t.isLt acc i = acc i + part m c t.val i := by
  rw [part_of]
  unfold scAt0_0
  rw [dif_neg h0, dif_pos (by omega), dif_neg h2]
  unfold sout0_B_0
  refine (congrFun (View.read_writes_eq_canon _ _ _ (by intro y; apply scover0_B_0)) i).trans ?_
  unfold kernelRun0_B
  dsimp only
  sl_unfold_words
  rw [View.canon_unit_zero hz2]
  simp only [View.readAt_eq_ld, read_unread_whole, Memref.IsWhole.read_unread, View.ld_unit_zero (S := S1024x2048) hz2, View.ld_unit_zero (S := S1x1024x2048) hz3, View.ld_unit_zero (S := S1024x1024) hz2]
  exact pay3_at _ _ _ i

theorem step_C (t : Fin cfg0.N) (acc) (h0 : ¬t.val % 4 = 0) (h2 : t.val % 4 = 3) (i) :
    scAt0_0 m c t.val t.isLt acc i = acc i + part m c t.val i := by
  rw [part_of]
  unfold scAt0_0
  rw [dif_neg h0, dif_pos (by omega), dif_pos h2]
  unfold sout0_C_0
  refine (congrFun (View.read_writes_eq_canon _ _ _ (by intro y; apply scover0_C_0)) i).trans ?_
  unfold kernelRun0_C
  dsimp only
  sl_unfold_words
  rw [View.canon_unit_zero hz2]
  simp only [View.readAt_eq_ld, read_unread_whole, Memref.IsWhole.read_unread, View.ld_unit_zero (S := S1024x2048) hz2, View.ld_unit_zero (S := S1x1024x2048) hz3, View.ld_unit_zero (S := S1024x1024) hz2]
  exact pay3_at _ _ _ i

/-- The last of the four points writes out the sum. -/
theorem out_eq (t : Fin cfg0.N) (h2 : t.val % 4 = 3) : (outsAt0 m c t.val t.isLt).1 = (outsAt0 m c t.val t.isLt).2 := by
  rw [outsAt0_C m c t (by omega) (by omega) h2]
  dsimp only
  unfold out0_C_2 sout0_C_0
  refine (View.read_writes_eq_canon _ _ _ (by intro y; apply cover0_C_2)).trans (.trans ?_ (View.read_writes_eq_canon _ _ _ (by intro y; apply scover0_C_0)).symm)
  unfold kernelRun0_C
  dsimp only
  sl_unfold_words
  rw [View.canon_unit_zero hz2, View.canon_unit_zero hz2]
  exact View.readCov_unit_zero (S := S1024x1024) _ hz2 _ _

theorem sum_eq (t : Fin cfg0.N) (h2 : t.val % 4 = 3) (i) :
    (outsAt0 m c t.val t.isLt).2 i = ∑ s ∈ Finset.range 4, part m c (4 * (t.val / 4) + s) i := by
  rw [soutsAt0_0_eq]
  refine (Pipeline.accAt_add_apply _ _ (fun _ => (0 : EReal)) (part m c) (4 * (t.val / 4)) 3 ?_ ?_ (t.val % 4) (by omega) _ i).trans ?_
  · intro h i
    rw [start m c ⟨_, h⟩ _ (Nat.mul_mod_right _ _), zero_add]
  · intro n h acc i h1 h3
    by_cases h4 : n % 4 = 3
    · exact step_C m c ⟨n, h⟩ acc (by show ¬n % 4 = 0; omega) h4 i
    · exact step_B m c ⟨n, h⟩ acc (by show ¬n % 4 = 0; omega) h4 i
  · rw [zero_add, h2]

theorem idx_facts : ∀ t : Fin cfg0.N, win0_0.index t (0 : Fin 2) = t.val / 8 ∧ win0_0.index t (1 : Fin 2) = t.val % 4
    ∧ win0_1.index t (0 : Fin 3) = t.val % 4 ∧ win0_1.index t (1 : Fin 3) = t.val / 4 % 2 ∧ win0_1.index t (2 : Fin 3) = 0 :=
  (by decide +kernel : ∀ t : Fin grid0.N, _)

/-- The gradient: the product of the cotangent with the whole of the weights, transposed. -/
def out : S4096x2048.Idx → EReal := fun i =>
  mulT (m ((c.tc : Thread nD τ).loc main_arg0)) (whole 2048 rfl (m ((c.tc : Thread nD τ).loc main_arg1))) ⟨(i 0).val, (i 0).isLt⟩ ⟨(i 1).val, (i 1).isLt⟩

theorem part_at (n : ℕ) (h : n < cfg0.N) (a b : Fin 1024) (A : Fin 4096) (B : Fin 2048) (q : Fin 4)
    (hA : A.val = 1024 * (n / 8) + a.val) (hB : B.val = 1024 * (n / 4 % 2) + b.val) (hq : q.val = n % 4) :
    part m c n (ix2 a b) = mulTPart 2048 rfl (m ((c.tc : Thread nD τ).loc main_arg0))
      (whole 2048 rfl (m ((c.tc : Thread nD τ).loc main_arg1))) A B q.val := by
  obtain ⟨e0, e1, f0, f1, f2⟩ := idx_facts ⟨n, h⟩
  refine (congrFun (part_of m c ⟨n, h⟩) _).trans ((pay1_at _ _ a b).trans ?_)
  rw [mulTPart_of]
  refine Finset.sum_congr rfl fun r _ => congrArg₂ (· * ·) ?_ ?_
  · refine (congrArg (V m c main_arg0) (ext2 (Fin.ext ?_) (Fin.ext ?_))).trans (congrFun (V_main_arg0 m c) _)
    · show win0_0.index ⟨n, h⟩ (0 : Fin 2) * 1024 + 1 * a.val = A.val; dsimp only at e0; omega
    · show win0_0.index ⟨n, h⟩ (1 : Fin 2) * 2048 + 1 * r.val = 2048 * q.val + r.val; dsimp only at e1; omega
  · rw [whole_col]
    refine (congrArg (V m c main_arg1) (ext3 (Fin.ext ?_) (Fin.ext ?_) (Fin.ext ?_))).trans (congrFun (V_main_arg1 m c) _)
    · show win0_1.index ⟨n, h⟩ (0 : Fin 3) * 1 + 1 * 0 = q.val; dsimp only at f0; omega
    · show win0_1.index ⟨n, h⟩ (1 : Fin 3) * 1024 + 1 * b.val = B.val; dsimp only at f1; omega
    · show win0_1.index ⟨n, h⟩ (2 : Fin 3) * 2048 + 1 * r.val = r.val; omega

theorem block_eq (n : ℕ) (h : n < cfg0.N) (h2 : n % 4 = 3) (a b : Fin 1024) (A : Fin 4096) (B : Fin 2048)
    (hA : A.val = 1024 * (n / 8) + a.val) (hB : B.val = 1024 * (n / 4 % 2) + b.val) :
    (outsAt0 m c n h).1 (ix2 a b) = mulT (m ((c.tc : Thread nD τ).loc main_arg0))
      (whole 2048 rfl (m ((c.tc : Thread nD τ).loc main_arg1))) A B := by
  have hN := lt_of_lt_of_eq h (show cfg0.N = 32 from N_0)
  rw [out_eq m c ⟨n, h⟩ h2]
  refine (sum_eq m c ⟨n, h⟩ h2 _).trans (.trans ?_ (sum_mulT 2048 rfl _ _ A B))
  refine Finset.sum_congr rfl fun s hs => ?_
  have hs4 : s < 4 := Finset.mem_range.1 hs
  exact part_at m c _ (lt_of_lt_of_eq (by dsimp only; omega) N_0.symm) a b A B ⟨s, hs4⟩
    (by dsimp only; omega) (by dsimp only; omega) (by dsimp only; omega)

/-- What the call ends with. -/
theorem final : G2 m c = out m c := by
  funext i
  have h0 : (i 0).val < 4096 := (i 0).isLt
  have h1 : (i 1).val < 2048 := (i 1).isLt
  have e : pt2Of i = 4 * (2 * ((i 0).val / 1024 - 0) + 1 * ((i 1).val / 1024 - 0)) + 3 := rfl
  have hp : pt2Of i < cfg0.N := lt_of_lt_of_eq (by omega) N_0.symm
  unfold G2
  rw [dif_pos hp, ← outsAt0_sweep m c (pt2Of i) hp]
  refine (congrArg _ (ext2 rfl rfl : loc2Of i = ix2 ⟨(i 0).val % 1024, by omega⟩ ⟨(i 1).val % 1024, by omega⟩)).trans ?_
  exact block_eq m c _ hp (by omega) _ _ _ _ (by dsimp only; omega) (by dsimp only; omega)

open Cert.InDxReferenceIdeal.Read in
/-- The reference's result. -/
theorem reference_eq (x : Mat 4096 8192) (y : Cut 2048 2048) (i : S4096x2048.Idx) :
    val_main_v6 (F := Ideal) x y i = mulT x (whole 2048 rfl y) ⟨(i 0).val, (i 0).isLt⟩ ⟨(i 1).val, (i 1).isLt⟩ := by
  rw [val_main_v6_apply]
  refine Finset.sum_congr rfl fun k _ => congrArg₂ (· * ·) (congrArg x (ext2 rfl rfl)) ?_
  rw [val_main_v3_apply, val_main_v2_apply]
  refine congrArg y (ext3 (Fin.ext ?_) (Fin.ext ?_) (Fin.ext ?_))
  all_goals
    have h1 : (i 1).val < 2048 := (i 1).isLt
    have h2 := k.isLt
  · show ((i 1).val * 8192 + k.val) / 2048 % 4 = k.val / 2048; omega
  · show ((i 1).val * 8192 + k.val) / 8192 = (i 1).val; omega
  · show ((i 1).val * 8192 + k.val) % 2048 = k.val % 2048; omega

end Cert.InDxValue

end
-- ==== Proof.OutDwValue.lean ====
/- The call for the gradient of an output projection's weights: each grid point computes one block of the product, whole. -/
module

public import proofs.«01_k».proof.Proof.Product
public import proofs.«01_k».proof.Proof.Gen.OutDwIdeal.Value
public import proofs.«01_k».proof.Proof.Gen.OutDwReferenceIdeal.Read

@[expose] public section

set_option maxRecDepth 16384

noncomputable section

namespace Cert.OutDwValue

open Idealize.ShloMosaic Idealize.ShloMosaic.TcCoe Idealize.ShloMosaic.ValueIdx Idealize.SL.Sem
open Cert.FoxArgs Cert.FoxBlock Cert.Product Cert.OutDwIdeal Cert.OutDwIdeal.Gen

theorem pay_at (x y : Vec Ideal S4096x1024 .bf16) (a b : Fin 1024) : k0_pay1 (F := Ideal) x y (ix2 a b) = tmul x y a b :=
  matmul_at (φ₁ := .bf16) (φ₂ := .bf16) dot_S4096x1024_S4096x1024_S1024x1024_0_0_1_1_n_n rfl rfl x y (ix2 a b) _ _
    (fun k => ext2 (Fin.ext (contrEquiv1_symm_val dot_S4096x1024_S4096x1024_S1024x1024_0_0_1_1_n_n 4096 rfl rfl k)) rfl)
    (fun k => ext2 (Fin.ext (contrEquiv1_symm_val dot_S4096x1024_S4096x1024_S1024x1024_0_0_1_1_n_n 4096 rfl rfl k)) rfl)

theorem idx_facts : ∀ t : Fin cfg0.N, win0_0.index t (0 : Fin 2) = 0 ∧ win0_0.index t (1 : Fin 2) = win0_2.index t (0 : Fin 2)
    ∧ win0_1.index t (0 : Fin 2) = 0 ∧ win0_1.index t (1 : Fin 2) = win0_2.index t (1 : Fin 2) :=
  (by decide +kernel : ∀ t : Fin grid0.N, _)

theorem idx_onto : ∀ q0 q1 : Fin 2, ∃ t : Fin cfg0.N, win0_2.flush t = true ∧ win0_2.index t = ![q0.val, q1.val] :=
  (by decide +kernel : ∀ q0 q1 : Fin 2, ∃ t : Fin grid0.N, win0_2.flush t = true ∧ win0_2.index t = ![q0.val, q1.val])

variable (m : (ℓ : Loc nD τ sig) → Buf (Elt Ideal) ℓ) (c : Dev nD)

/-- The gradient: the product of the transposed argument with the cotangent. -/
def out : S2048x2048.Idx → EReal := fun i =>
  tmul (m ((c.tc : Thread nD τ).loc main_arg0)) (m ((c.tc : Thread nD τ).loc main_arg1)) ⟨(i 0).val, (i 0).isLt⟩ ⟨(i 1).val, (i 1).isLt⟩

theorem flushed_eq (t : Fin cfg0.N) : (dats m 0 c).flushed 2 t = ((cfg0.win 2).blk t).view.read (Elt Ideal) (out m c) := by
  obtain ⟨e0, e1, f0, f1⟩ := idx_facts t
  rw [Cert.OutDwIdeal.Value.flushed2]
  unfold out0_2
  rw [View.canon_unit_zero hz2, View.ld_unit_zero hz2, View.ld_unit_zero hz2]
  funext y
  obtain ⟨a, b, rfl⟩ : ∃ a b : Fin 1024, y = ix2 a b := ⟨y 0, y 1, eq_ix2 y⟩
  refine (pay_at _ _ a b).trans ?_
  show _ = out m c (((cfg0.win 2).blk t).view.emb (ix2 a b))
  unfold out tmul
  refine Finset.sum_congr rfl fun k _ => congrArg₂ (· * ·) ?_ ?_
  · refine (congrArg (V m c main_arg0) (ext2 (Fin.ext ?_) (Fin.ext ?_))).trans (congrFun (V_main_arg0 m c) _)
    · show win0_0.index t (0 : Fin 2) * 4096 + 1 * k.val = k.val; omega
    · show win0_0.index t (1 : Fin 2) * 1024 + 1 * a.val = win0_2.index t (0 : Fin 2) * 1024 + 1 * a.val; omega
  · refine (congrArg (V m c main_arg1) (ext2 (Fin.ext ?_) (Fin.ext ?_))).trans (congrFun (V_main_arg1 m c) _)
    · show win0_1.index t (0 : Fin 2) * 4096 + 1 * k.val = k.val; omega
    · show win0_1.index t (1 : Fin 2) * 1024 + 1 * b.val = win0_2.index t (1 : Fin 2) * 1024 + 1 * b.val; omega

theorem cover (i : S2048x2048.Idx) : ∃ t : Fin cfg0.N, (cfg0.win 2).flush t = true ∧ i ∈ ((cfg0.win 2).blk t).view.set := by
  have h0 : (i 0).val < 2048 := (i 0).isLt
  have h1 : (i 1).val < 2048 := (i 1).isLt
  obtain ⟨t, hf, ht⟩ := idx_onto ⟨(i 0).val / 1024, by omega⟩ ⟨(i 1).val / 1024, by omega⟩
  refine ⟨t, hf, ?_⟩
  show i ∈ ((View.whole main_v0).slice (win0_2.rect t)).set
  rw [View.set_slice_whole, Rect.mem_set_unit]
  intro a
  match a with
  | ⟨0, _⟩ => exact in_tile (s := 1024) (by decide) (congrFun ht 0)
  | ⟨1, _⟩ => exact in_tile (s := 1024) (by decide) (congrFun ht 1)

/-- What the call ends with. -/
theorem final : (dats m 0 c).arrAt 2 cfg0.N = out m c :=
  (dats m 0 c).arrAt_eq_of_cover 2 _ (fun t _ => flushed_eq m c t) cover

open Cert.OutDwReferenceIdeal.Read in
/-- The reference's result. -/
theorem reference_eq (x y : Mat 4096 2048) (i : S2048x2048.Idx) :
    val_main_v6 (F := Ideal) x y i = tmul x y ⟨(i 0).val, (i 0).isLt⟩ ⟨(i 1).val, (i 1).isLt⟩ := by
  rw [val_main_v6_apply, val_main_v5_apply]
  show val_main_v4 (F := Ideal) x y _ = _
  rw [val_main_v4_apply]
  exact Finset.sum_congr rfl fun k _ => (mul_comm _ _).trans (congrArg₂ (· * ·) (congrArg x (ext2 rfl rfl)) (congrArg y (ext2 rfl rfl)))

end Cert.OutDwValue

end
-- ==== Proof.SsmInDwValue.lean ====
/- The call for the gradient of an input projection's weights: each grid point computes one block of the product, whole. -/
module

public import proofs.«01_k».proof.Proof.Product
public import proofs.«01_k».proof.Proof.Gen.SsmInDwIdeal.Value
public import proofs.«01_k».proof.Proof.Gen.SsmInDwReferenceIdeal.Read

@[expose] public section

set_option maxRecDepth 16384

noncomputable section

namespace Cert.SsmInDwValue

open Idealize.ShloMosaic Idealize.ShloMosaic.TcCoe Idealize.ShloMosaic.ValueIdx Idealize.SL.Sem
open Cert.FoxArgs Cert.FoxBlock Cert.Product Cert.SsmInDwIdeal Cert.SsmInDwIdeal.Gen

theorem pay_at (x y : Vec Ideal S4096x1024 .bf16) (z : Fin 1) (a b : Fin 1024) :
    k0_pay1 (F := Ideal) x y (ix3 z a b) = tmul x y a b := by
  unfold k0_pay1
  refine (lift3 _ _ z a b).trans ?_
  exact matmul_at (φ₁ := .bf16) (φ₂ := .bf16) dot_S4096x1024_S4096x1024_S1024x1024_0_0_1_1_n_n rfl rfl x y (ix2 a b) _ _
    (fun k => ext2 (Fin.ext (contrEquiv1_symm_val dot_S4096x1024_S4096x1024_S1024x1024_0_0_1_1_n_n 4096 rfl rfl k)) rfl)
    (fun k => ext2 (Fin.ext (contrEquiv1_symm_val dot_S4096x1024_S4096x1024_S1024x1024_0_0_1_1_n_n 4096 rfl rfl k)) rfl)

theorem idx_facts : ∀ t : Fin cfg0.N, win0_0.index t (0 : Fin 2) = 0 ∧ win0_0.index t (1 : Fin 2) = win0_2.index t (1 : Fin 3)
    ∧ win0_1.index t (0 : Fin 2) = 0 ∧ win0_1.index t (1 : Fin 2) = win0_2.index t (0 : Fin 3)
    ∧ win0_2.index t (0 : Fin 3) < 4 ∧ win0_2.index t (1 : Fin 3) < 2 ∧ win0_2.index t (2 : Fin 3) = 0 :=
  (by decide +kernel : ∀ t : Fin grid0.N, _)

theorem idx_onto : ∀ (q0 : Fin 4) (q1 : Fin 2), ∃ t : Fin cfg0.N, win0_2.flush t = true ∧ win0_2.index t = ![q0.val, q1.val, 0] :=
  (by decide +kernel : ∀ (q0 : Fin 4) (q1 : Fin 2), ∃ t : Fin grid0.N, win0_2.flush t = true ∧ win0_2.index t = ![q0.val, q1.val, 0])

variable (m : (ℓ : Loc nD τ sig) → Buf (Elt Ideal) ℓ) (c : Dev nD)

/-- The gradient, cut by columns into four: the product of the transposed argument with the cotangent. -/
def out : S4x2048x1024.Idx → EReal := fun i =>
  tmul (m ((c.tc : Thread nD τ).loc main_arg0)) (m ((c.tc : Thread nD τ).loc main_arg1)) ⟨(i 1).val, (i 1).isLt⟩
    (col 1024 rfl ⟨(i 0).val, (i 0).isLt⟩ ⟨(i 2).val, (i 2).isLt⟩)

theorem flushed_eq (t : Fin cfg0.N) : (dats m 0 c).flushed 2 t = ((cfg0.win 2).blk t).view.read (Elt Ideal) (out m c) := by
  obtain ⟨e0, e1, f0, f1, b0, b1, b2⟩ := idx_facts t
  rw [Cert.SsmInDwIdeal.Value.flushed2]
  unfold out0_2
  rw [View.canon_unit_zero hz3, View.ld_unit_zero hz2, View.ld_unit_zero hz2]
  funext y
  obtain ⟨z, a, b, rfl⟩ : ∃ (z : Fin 1) (a b : Fin 1024), y = ix3 z a b := ⟨y 0, y 1, y 2, eq_ix3 y⟩
  have hz : z.val = 0 := by omega
  refine (pay_at _ _ z a b).trans ?_
  show _ = out m c (((cfg0.win 2).blk t).view.emb (ix3 z a b))
  unfold out tmul
  refine Finset.sum_congr rfl fun k _ => congrArg₂ (· * ·) ?_ ?_
  · refine (congrArg (V m c main_arg0) (ext2 (Fin.ext ?_) (Fin.ext ?_))).trans (congrFun (V_main_arg0 m c) _)
    · show win0_0.index t (0 : Fin 2) * 4096 + 1 * k.val = k.val; omega
    · show win0_0.index t (1 : Fin 2) * 1024 + 1 * a.val = win0_2.index t (1 : Fin 3) * 1024 + 1 * a.val; omega
  · refine (congrArg (V m c main_arg1) (ext2 (Fin.ext ?_) (Fin.ext ?_))).trans (congrFun (V_main_arg1 m c) _)
    · show win0_1.index t (0 : Fin 2) * 4096 + 1 * k.val = k.val; omega
    · show win0_1.index t (1 : Fin 2) * 1024 + 1 * b.val
        = 1024 * (win0_2.index t (0 : Fin 3) * 1 + 1 * z.val) + (win0_2.index t (2 : Fin 3) * 1024 + 1 * b.val)
      omega

theorem cover (i : S4x2048x1024.Idx) : ∃ t : Fin cfg0.N, (cfg0.win 2).flush t = true ∧ i ∈ ((cfg0.win 2).blk t).view.set := by
  have h0 : (i 0).val < 4 := (i 0).isLt
  have h1 : (i 1).val < 2048 := (i 1).isLt
  have h2 : (i 2).val < 1024 := (i 2).isLt
  obtain ⟨t, hf, ht⟩ := idx_onto ⟨(i 0).val, h0⟩ ⟨(i 1).val / 1024, by omega⟩
  refine ⟨t, hf, ?_⟩
  show i ∈ ((View.whole main_v0).slice (win0_2.rect t)).set
  rw [View.set_slice_whole, Rect.mem_set_unit]
  intro a
  match a with
  | ⟨0, _⟩ => exact in_tile (s := 1) (by decide) ((congrFun ht 0).trans (Nat.div_one _).symm)
  | ⟨1, _⟩ => exact in_tile (s := 1024) (by decide) (congrFun ht 1)
  | ⟨2, _⟩ => exact in_tile (s := 1024) (by decide) ((congrFun ht 2).trans (Nat.div_eq_of_lt h2).symm)

/-- What the call ends with. -/
theorem final : (dats m 0 c).arrAt 2 cfg0.N = out m c :=
  (dats m 0 c).arrAt_eq_of_cover 2 _ (fun t _ => flushed_eq m c t) cover

open Cert.SsmInDwReferenceIdeal.Read in
/-- The reference's result. -/
theorem reference_eq (x : Mat 4096 2048) (y : Mat 4096 4096) (i : S4x2048x1024.Idx) :
    val_main_v8 (F := Ideal) x y i = tmul x y ⟨(i 1).val, (i 1).isLt⟩ (col 1024 rfl ⟨(i 0).val, (i 0).isLt⟩ ⟨(i 2).val, (i 2).isLt⟩) := by
  have h0 : (i 0).val < 4 := (i 0).isLt
  have h1 : (i 1).val < 2048 := (i 1).isLt
  have h2 : (i 2).val < 1024 := (i 2).isLt
  rw [val_main_v8_apply, val_main_v7_apply, val_main_v6_apply, val_main_v5_apply]
  show val_main_v4 (F := Ideal) x y _ = _
  rw [val_main_v4_apply]
  refine Finset.sum_congr rfl fun k _ => (mul_comm _ _).trans (congrArg₂ (· * ·) ?_ ?_)
  · refine congrArg x (ext2 rfl (Fin.ext ?_))
    show (((i 1).val * 4 + (i 0).val) * 1024 + (i 2).val) / 4096 = (i 1).val
    omega
  · refine congrArg y (ext2 rfl (Fin.ext ?_))
    show (((i 1).val * 4 + (i 0).val) * 1024 + (i 2).val) % 4096 = 1024 * (i 0).val + (i 2).val
    omega

end Cert.SsmInDwValue

end
-- ==== Proof.SsmInDxValue.lean ====
/- The call for the gradient of an input projection's argument: four grid points in a row add up one block of the product,
   each over the columns that one chip's weights hold. -/
module

public import proofs.«01_k».proof.Proof.Product
public import proofs.«01_k».proof.Proof.Gen.SsmInDxIdeal.Value
public import proofs.«01_k».proof.Proof.Gen.SsmInDxReferenceIdeal.Read
public import Idealize.ShloMosaic.Lib.Pipeline.ReadBack

@[expose] public section

set_option maxRecDepth 16384

noncomputable section

namespace Cert.SsmInDxValue

open Idealize.ShloMosaic Idealize.ShloMosaic.TcCoe Idealize.ShloMosaic.ValueIdx Idealize.SL.Sem
open Cert.FoxArgs Cert.FoxBlock Cert.Product Cert.SsmInDxIdeal Cert.SsmInDxIdeal.Gen Cert.SsmInDxIdeal.Value

theorem pay1_at (x : Vec Ideal S1024x1024 .bf16) (y : Vec Ideal S1x1024x1024 .bf16) (a b : Fin 1024) :
    k0_pay1 (F := Ideal) x y (ix2 a b) = ∑ k : Fin 1024, (x (ix2 a k) : EReal) * (y (ix3 0 b k) : EReal) := by
  refine (matmul_at (φ₁ := .bf16) (φ₂ := .bf16) dot_S1024x1024_S1024x1024_S1024x1024_1_1_0_0_n_n rfl rfl x _ (ix2 a b) _ _
    (fun k => ext2 rfl (Fin.ext (contrEquiv1_symm_val dot_S1024x1024_S1024x1024_S1024x1024_1_1_0_0_n_n 1024 rfl rfl k)))
    (fun k => ext2 rfl (Fin.ext (contrEquiv1_symm_val dot_S1024x1024_S1024x1024_S1024x1024_1_1_0_0_n_n 1024 rfl rfl k)))).trans ?_
  exact Finset.sum_congr rfl fun k _ => congrArg (_ * ·) (flat3 y _ b k)

theorem pay3_at (x : Vec Ideal S1024x1024 .bf16) (y : Vec Ideal S1x1024x1024 .bf16) (acc : Vec Ideal S1024x1024 .f32) (i : S1024x1024.Idx) :
    k0_pay3 (F := Ideal) x y acc i = (acc i : EReal) + (k0_pay1 (F := Ideal) x y i : EReal) := by
  unfold k0_pay3
  exact congrFun (shapeCast_self _ _) i

variable (m : (ℓ : Loc nD τ sig) → Buf (Elt Ideal) ℓ) (c : Dev nD)

/-- What a grid point adds. -/
def part (n : ℕ) : S1024x1024.Idx → EReal := fun i =>
  if h : n < cfg0.N then k0_pay1 (F := Ideal) (iblk m c 0 ⟨n, h⟩) (iblk m c 1 ⟨n, h⟩) i else 0

theorem part_of (t : Fin cfg0.N) : part m c t.val = k0_pay1 (F := Ideal) (iblk m c 0 t) (iblk m c 1 t) :=
  funext fun _ => dif_pos t.isLt

theorem start (t : Fin cfg0.N) (acc) (h0 : t.val % 4 = 0) : scAt0_0 m c t.val t.isLt acc = part m c t.val := by
  rw [part_of]
  unfold scAt0_0
  rw [dif_pos h0, dif_neg (by omega), dif_neg (by omega)]
  unfold sout0_A_0
  refine (View.read_writes_eq_canon _ _ _ (by intro y; apply scover0_A_0)).trans ?_
  unfold kernelRun0_A
  dsimp only
  sl_unfold_words
  rw [View.canon_unit_zero hz2]
  simp only [View.readAt_eq_ld, read_unread_whole, Memref.IsWhole.read_unread, View.ld_unit_zero (S := S1024x1024) hz2, View.ld_unit_zero (S := S1x1024x1024) hz3]
  exact shapeCast_self _ _

theorem step_B (t : Fin cfg0.N) (acc) (h0 : ¬t.val % 4 = 0) (h2 : ¬t.val % 4 = 3) (i) :
    scAt0_0 m c t.val t.isLt acc i = acc i + part m c t.val i := by
  rw [part_of]
  unfold scAt0_0
  rw [dif_neg h0, dif_pos (by omega), dif_neg h2]
  unfold sout0_B_0
  refine (congrFun (View.read_writes_eq_canon _ _ _ (by intro y; apply scover0_B_0)) i).trans ?_
  unfold kernelRun0_B
  dsimp only
  sl_unfold_words
  rw [View.canon_unit_zero hz2]
  simp only [View.readAt_eq_ld, read_unread_whole, Memref.IsWhole.read_unread, View.ld_unit_zero (S := S1024x1024) hz2, View.ld_unit_zero (S := S1x1024x1024) hz3, View.ld_unit_zero (S := S1024x1024) hz2]
  exact pay3_at _ _ _ i

theorem step_C (t : Fin cfg0.N) (acc) (h0 : ¬t.val % 4 = 0) (h2 : t.val % 4 = 3) (i) :
    scAt0_0 m c t.val t.isLt acc i = acc i + part m c t.val i := by
  rw [part_of]
  unfold scAt0_0
  rw [dif_neg h0, dif_pos (by omega), dif_pos h2]
  unfold sout0_C_0
  refine (congrFun (View.read_writes_eq_canon _ _ _ (by intro y; apply scover0_C_0)) i).trans ?_
  unfold kernelRun0_C
  dsimp only
  sl_unfold_words
  rw [View.canon_unit_zero hz2]
  simp only [View.readAt_eq_ld, read_unread_whole, Memref.IsWhole.read_unread, View.ld_unit_zero (S := S1024x1024) hz2, View.ld_unit_zero (S := S1x1024x1024) hz3, View.ld_unit_zero (S := S1024x1024) hz2]
  exact pay3_at _ _ _ i

/-- The last of the four points writes out the sum. -/
theorem out_eq (t : Fin cfg0.N) (h2 : t.val % 4 = 3) : (outsAt0 m c t.val t.isLt).1 = (outsAt0 m c t.val t.isLt).2 := by
  rw [outsAt0_C m c t (by omega) (by omega) h2]
  dsimp only
  unfold out0_C_2 sout0_C_0
  refine (View.read_writes_eq_canon _ _ _ (by intro y; apply cover0_C_2)).trans (.trans ?_ (View.read_writes_eq_canon _ _ _ (by intro y; apply scover0_C_0)).symm)
  unfold kernelRun0_C
  dsimp only
  sl_unfold_words
  rw [View.canon_unit_zero hz2, View.canon_unit_zero hz2]
  exact View.readCov_unit_zero (S := S1024x1024) _ hz2 _ _

theorem sum_eq (t : Fin cfg0.N) (h2 : t.val % 4 = 3) (i) :
    (outsAt0 m c t.val t.isLt).2 i = ∑ s ∈ Finset.range 4, part m c (4 * (t.val / 4) + s) i := by
  rw [soutsAt0_0_eq]
  refine (Pipeline.accAt_add_apply _ _ (fun _ => (0 : EReal)) (part m c) (4 * (t.val / 4)) 3 ?_ ?_ (t.val % 4) (by omega) _ i).trans ?_
  · intro h i
    rw [start m c ⟨_, h⟩ _ (Nat.mul_mod_right _ _), zero_add]
  · intro n h acc i h1 h3
    by_cases h4 : n % 4 = 3
    · exact step_C m c ⟨n, h⟩ acc (by show ¬n % 4 = 0; omega) h4 i
    · exact step_B m c ⟨n, h⟩ acc (by show ¬n % 4 = 0; omega) h4 i
  · rw [zero_add, h2]

theorem idx_facts : ∀ t : Fin cfg0.N, win0_0.index t (0 : Fin 2) = t.val / 8 ∧ win0_0.index t (1 : Fin 2) = t.val % 4
    ∧ win0_1.index t (0 : Fin 3) = t.val % 4 ∧ win0_1.index t (1 : Fin 3) = t.val / 4 % 2 ∧ win0_1.index t (2 : Fin 3) = 0 :=
  (by decide +kernel : ∀ t : Fin grid0.N, _)

/-- The gradient: the product of the cotangent with the whole of the weights, transposed. -/
def out : S4096x2048.Idx → EReal := fun i =>
  mulT (m ((c.tc : Thread nD τ).loc main_arg0)) (whole 1024 rfl (m ((c.tc : Thread nD τ).loc main_arg1))) ⟨(i 0).val, (i 0).isLt⟩ ⟨(i 1).val, (i 1).isLt⟩

theorem part_at (n : ℕ) (h : n < cfg0.N) (a b : Fin 1024) (A : Fin 4096) (B : Fin 2048) (q : Fin 4)
    (hA : A.val = 1024 * (n / 8) + a.val) (hB : B.val = 1024 * (n / 4 % 2) + b.val) (hq : q.val = n % 4) :
    part m c n (ix2 a b) = mulTPart 1024 rfl (m ((c.tc : Thread nD τ).loc main_arg0))
      (whole 1024 rfl (m ((c.tc : Thread nD τ).loc main_arg1))) A B q.val := by
  obtain ⟨e0, e1, f0, f1, f2⟩ := idx_facts ⟨n, h⟩
  refine (congrFun (part_of m c ⟨n, h⟩) _).trans ((pay1_at _ _ a b).trans ?_)
  rw [mulTPart_of]
  refine Finset.sum_congr rfl fun r _ => congrArg₂ (· * ·) ?_ ?_
  · refine (congrArg (V m c main_arg0) (ext2 (Fin.ext ?_) (Fin.ext ?_))).trans (congrFun (V_main_arg0 m c) _)
    · show win0_0.index ⟨n, h⟩ (0 : Fin 2) * 1024 + 1 * a.val = A.val; dsimp only at e0; omega
    · show win0_0.index ⟨n, h⟩ (1 : Fin 2) * 1024 + 1 * r.val = 1024 * q.val + r.val; dsimp only at e1; omega
  · rw [whole_col]
    refine (congrArg (V m c main_arg1) (ext3 (Fin.ext ?_) (Fin.ext ?_) (Fin.ext ?_))).trans (congrFun (V_main_arg1 m c) _)
    · show win0_1.index ⟨n, h⟩ (0 : Fin 3) * 1 + 1 * 0 = q.val; dsimp only at f0; omega
    · show win0_1.index ⟨n, h⟩ (1 : Fin 3) * 1024 + 1 * b.val = B.val; dsimp only at f1; omega
    · show win0_1.index ⟨n, h⟩ (2 : Fin 3) * 1024 + 1 * r.val = r.val; omega

theorem block_eq (n : ℕ) (h : n < cfg0.N) (h2 : n % 4 = 3) (a b : Fin 1024) (A : Fin 4096) (B : Fin 2048)
    (hA : A.val = 1024 * (n / 8) + a.val) (hB : B.val = 1024 * (n / 4 % 2) + b.val) :
    (outsAt0 m c n h).1 (ix2 a b) = mulT (m ((c.tc : Thread nD τ).loc main_arg0))
      (whole 1024 rfl (m ((c.tc : Thread nD τ).loc main_arg1))) A B := by
  have hN := lt_of_lt_of_eq h (show cfg0.N = 32 from N_0)
  rw [out_eq m c ⟨n, h⟩ h2]
  refine (sum_eq m c ⟨n, h⟩ h2 _).trans (.trans ?_ (sum_mulT 1024 rfl _ _ A B))
  refine Finset.sum_congr rfl fun s hs => ?_
  have hs4 : s < 4 := Finset.mem_range.1 hs
  exact part_at m c _ (lt_of_lt_of_eq (by dsimp only; omega) N_0.symm) a b A B ⟨s, hs4⟩
    (by dsimp only; omega) (by dsimp only; omega) (by dsimp only; omega)

/-- What the call ends with. -/
theorem final : G2 m c = out m c := by
  funext i
  have h0 : (i 0).val < 4096 := (i 0).isLt
  have h1 : (i 1).val < 2048 := (i 1).isLt
  have e : pt2Of i = 4 * (2 * ((i 0).val / 1024 - 0) + 1 * ((i 1).val / 1024 - 0)) + 3 := rfl
  have hp : pt2Of i < cfg0.N := lt_of_lt_of_eq (by omega) N_0.symm
  unfold G2
  rw [dif_pos hp, ← outsAt0_sweep m c (pt2Of i) hp]
  refine (congrArg _ (ext2 rfl rfl : loc2Of i = ix2 ⟨(i 0).val % 1024, by omega⟩ ⟨(i 1).val % 1024, by omega⟩)).trans ?_
  exact block_eq m c _ hp (by omega) _ _ _ _ (by dsimp only; omega) (by dsimp only; omega)

open Cert.SsmInDxReferenceIdeal.Read in
/-- The reference's result. -/
theorem reference_eq (x : Mat 4096 4096) (y : Cut 2048 1024) (i : S4096x2048.Idx) :
    val_main_v6 (F := Ideal) x y i = mulT x (whole 1024 rfl y) ⟨(i 0).val, (i 0).isLt⟩ ⟨(i 1).val, (i 1).isLt⟩ := by
  rw [val_main_v6_apply]
  refine Finset.sum_congr rfl fun k _ => congrArg₂ (· * ·) (congrArg x (ext2 rfl rfl)) ?_
  rw [val_main_v3_apply, val_main_v2_apply]
  refine congrArg y (ext3 (Fin.ext ?_) (Fin.ext ?_) (Fin.ext ?_))
  all_goals
    have h1 : (i 1).val < 2048 := (i 1).isLt
    have h2 := k.isLt
  · show ((i 1).val * 4096 + k.val) / 1024 % 4 = k.val / 1024; omega
  · show ((i 1).val * 4096 + k.val) / 4096 = (i 1).val; omega
  · show ((i 1).val * 4096 + k.val) % 1024 = k.val % 1024; omega

end Cert.SsmInDxValue

end
-- ==== Proof.OutDxValue.lean ====
/- The call for the gradient of an output projection's argument: each grid point computes one block of the product, whole. -/
module

public import proofs.«01_k».proof.Proof.Product
public import proofs.«01_k».proof.Proof.Gen.OutDxIdeal.Value
public import proofs.«01_k».proof.Proof.Gen.OutDxReferenceIdeal.Read

@[expose] public section

set_option maxRecDepth 16384

noncomputable section

namespace Cert.OutDxValue

open Idealize.ShloMosaic Idealize.ShloMosaic.TcCoe Idealize.ShloMosaic.ValueIdx Idealize.SL.Sem
open Cert.FoxArgs Cert.FoxBlock Cert.Product Cert.OutDxIdeal Cert.OutDxIdeal.Gen

theorem pay_at (x y : Vec Ideal S1024x2048 .bf16) (a b : Fin 1024) : k0_pay1 (F := Ideal) x y (ix2 a b) = mulT x y a b :=
  matmul_at (φ₁ := .bf16) (φ₂ := .bf16) dot_S1024x2048_S1024x2048_S1024x1024_1_1_0_0_n_n rfl rfl x y (ix2 a b) _ _
    (fun k => ext2 rfl (Fin.ext (contrEquiv1_symm_val dot_S1024x2048_S1024x2048_S1024x1024_1_1_0_0_n_n 2048 rfl rfl k)))
    (fun k => ext2 rfl (Fin.ext (contrEquiv1_symm_val dot_S1024x2048_S1024x2048_S1024x1024_1_1_0_0_n_n 2048 rfl rfl k)))

theorem idx_facts : ∀ t : Fin cfg0.N, win0_0.index t (0 : Fin 2) = win0_2.index t (0 : Fin 2) ∧ win0_0.index t (1 : Fin 2) = 0
    ∧ win0_1.index t (0 : Fin 2) = win0_2.index t (1 : Fin 2) ∧ win0_1.index t (1 : Fin 2) = 0 :=
  (by decide +kernel : ∀ t : Fin grid0.N, _)

theorem idx_onto : ∀ (q0 : Fin 4) (q1 : Fin 2), ∃ t : Fin cfg0.N, win0_2.flush t = true ∧ win0_2.index t = ![q0.val, q1.val] :=
  (by decide +kernel : ∀ (q0 : Fin 4) (q1 : Fin 2), ∃ t : Fin grid0.N, win0_2.flush t = true ∧ win0_2.index t = ![q0.val, q1.val])

variable (m : (ℓ : Loc nD τ sig) → Buf (Elt Ideal) ℓ) (c : Dev nD)

/-- The gradient: the product of the cotangent with the transposed weights. -/
def out : S4096x2048.Idx → EReal := fun i =>
  mulT (m ((c.tc : Thread nD τ).loc main_arg0)) (m ((c.tc : Thread nD τ).loc main_arg1)) ⟨(i 0).val, (i 0).isLt⟩ ⟨(i 1).val, (i 1).isLt⟩

theorem flushed_eq (t : Fin cfg0.N) : (dats m 0 c).flushed 2 t = ((cfg0.win 2).blk t).view.read (Elt Ideal) (out m c) := by
  obtain ⟨e0, e1, f0, f1⟩ := idx_facts t
  rw [Cert.OutDxIdeal.Value.flushed2]
  unfold out0_2
  rw [View.canon_unit_zero hz2, View.ld_unit_zero hz2, View.ld_unit_zero hz2]
  funext y
  obtain ⟨a, b, rfl⟩ : ∃ a b : Fin 1024, y = ix2 a b := ⟨y 0, y 1, eq_ix2 y⟩
  refine (pay_at _ _ a b).trans ?_
  show _ = out m c (((cfg0.win 2).blk t).view.emb (ix2 a b))
  unfold out mulT
  refine Finset.sum_congr rfl fun k _ => congrArg₂ (· * ·) ?_ ?_
  · refine (congrArg (V m c main_arg0) (ext2 (Fin.ext ?_) (Fin.ext ?_))).trans (congrFun (V_main_arg0 m c) _)
    · show win0_0.index t (0 : Fin 2) * 1024 + 1 * a.val = win0_2.index t (0 : Fin 2) * 1024 + 1 * a.val; omega
    · show win0_0.index t (1 : Fin 2) * 2048 + 1 * k.val = k.val; omega
  · refine (congrArg (V m c main_arg1) (ext2 (Fin.ext ?_) (Fin.ext ?_))).trans (congrFun (V_main_arg1 m c) _)
    · show win0_1.index t (0 : Fin 2) * 1024 + 1 * b.val = win0_2.index t (1 : Fin 2) * 1024 + 1 * b.val; omega
    · show win0_1.index t (1 : Fin 2) * 2048 + 1 * k.val = k.val; omega

theorem cover (i : S4096x2048.Idx) : ∃ t : Fin cfg0.N, (cfg0.win 2).flush t = true ∧ i ∈ ((cfg0.win 2).blk t).view.set := by
  have h0 : (i 0).val < 4096 := (i 0).isLt
  have h1 : (i 1).val < 2048 := (i 1).isLt
  obtain ⟨t, hf, ht⟩ := idx_onto ⟨(i 0).val / 1024, by omega⟩ ⟨(i 1).val / 1024, by omega⟩
  refine ⟨t, hf, ?_⟩
  show i ∈ ((View.whole main_v0).slice (win0_2.rect t)).set
  rw [View.set_slice_whole, Rect.mem_set_unit]
  intro a
  match a with
  | ⟨0, _⟩ => exact in_tile (s := 1024) (by decide) (congrFun ht 0)
  | ⟨1, _⟩ => exact in_tile (s := 1024) (by decide) (congrFun ht 1)

/-- What the call ends with. -/
theorem final : (dats m 0 c).arrAt 2 cfg0.N = out m c :=
  (dats m 0 c).arrAt_eq_of_cover 2 _ (fun t _ => flushed_eq m c t) cover

open Cert.OutDxReferenceIdeal.Read in
/-- The reference's result. -/
theorem reference_eq (x : Mat 4096 2048) (y : Mat 2048 2048) (i : S4096x2048.Idx) :
    val_main_v5 (F := Ideal) x y i = mulT x y ⟨(i 0).val, (i 0).isLt⟩ ⟨(i 1).val, (i 1).isLt⟩ := by
  rw [val_main_v5_apply]
  show val_main_v4 (F := Ideal) x y _ = _
  rw [val_main_v4_apply]
  exact Finset.sum_congr rfl fun k _ => congrArg₂ (· * ·) (congrArg x (ext2 rfl rfl)) (congrArg y (ext2 rfl rfl))

end Cert.OutDxValue

end
-- ==== Proof.GateDxValue.lean ====
/- The call for the gradient of the argument of a layer's gate: each grid point computes one block of the product, whole. -/
module

public import proofs.«01_k».proof.Proof.Product
public import proofs.«01_k».proof.Proof.Gen.GateDxIdeal.Value
public import proofs.«01_k».proof.Proof.Gen.GateDxReferenceIdeal.Read

@[expose] public section

set_option maxRecDepth 16384

noncomputable section

namespace Cert.GateDxValue

open Idealize.ShloMosaic Idealize.ShloMosaic.TcCoe Idealize.ShloMosaic.ValueIdx Idealize.SL.Sem
open Cert.FoxArgs Cert.FoxBlock Cert.Product Cert.GateDxIdeal Cert.GateDxIdeal.Gen

theorem pay_at (x y : Vec Ideal S1024x2048 .bf16) (a b : Fin 1024) : k0_pay1 (F := Ideal) x y (ix2 a b) = mulT x y a b :=
  matmul_at (φ₁ := .bf16) (φ₂ := .bf16) dot_S1024x2048_S1024x2048_S1024x1024_1_1_0_0_n_n rfl rfl x y (ix2 a b) _ _
    (fun k => ext2 rfl (Fin.ext (contrEquiv1_symm_val dot_S1024x2048_S1024x2048_S1024x1024_1_1_0_0_n_n 2048 rfl rfl k)))
    (fun k => ext2 rfl (Fin.ext (contrEquiv1_symm_val dot_S1024x2048_S1024x2048_S1024x1024_1_1_0_0_n_n 2048 rfl rfl k)))

theorem idx_facts : ∀ t : Fin cfg0.N, win0_0.index t (0 : Fin 2) = win0_2.index t (0 : Fin 2) ∧ win0_0.index t (1 : Fin 2) = 0
    ∧ win0_1.index t (0 : Fin 2) = win0_2.index t (1 : Fin 2) ∧ win0_1.index t (1 : Fin 2) = 0 :=
  (by decide +kernel : ∀ t : Fin grid0.N, _)

theorem idx_onto : ∀ (q0 : Fin 4) (q1 : Fin 2), ∃ t : Fin cfg0.N, win0_2.flush t = true ∧ win0_2.index t = ![q0.val, q1.val] :=
  (by decide +kernel : ∀ (q0 : Fin 4) (q1 : Fin 2), ∃ t : Fin grid0.N, win0_2.flush t = true ∧ win0_2.index t = ![q0.val, q1.val])

variable (m : (ℓ : Loc nD τ sig) → Buf (Elt Ideal) ℓ) (c : Dev nD)

/-- The gradient: the product of the cotangent with the transposed weights. -/
def out : S4096x2048.Idx → EReal := fun i =>
  mulT (m ((c.tc : Thread nD τ).loc main_arg0)) (m ((c.tc : Thread nD τ).loc main_arg1)) ⟨(i 0).val, (i 0).isLt⟩ ⟨(i 1).val, (i 1).isLt⟩

theorem flushed_eq (t : Fin cfg0.N) : (dats m 0 c).flushed 2 t = ((cfg0.win 2).blk t).view.read (Elt Ideal) (out m c) := by
  obtain ⟨e0, e1, f0, f1⟩ := idx_facts t
  rw [Cert.GateDxIdeal.Value.flushed2]
  unfold out0_2
  rw [View.canon_unit_zero hz2, View.ld_unit_zero hz2, View.ld_unit_zero hz2]
  funext y
  obtain ⟨a, b, rfl⟩ : ∃ a b : Fin 1024, y = ix2 a b := ⟨y 0, y 1, eq_ix2 y⟩
  refine (pay_at _ _ a b).trans ?_
  show _ = out m c (((cfg0.win 2).blk t).view.emb (ix2 a b))
  unfold out mulT
  refine Finset.sum_congr rfl fun k _ => congrArg₂ (· * ·) ?_ ?_
  · refine (congrArg (V m c main_arg0) (ext2 (Fin.ext ?_) (Fin.ext ?_))).trans (congrFun (V_main_arg0 m c) _)
    · show win0_0.index t (0 : Fin 2) * 1024 + 1 * a.val = win0_2.index t (0 : Fin 2) * 1024 + 1 * a.val; omega
    · show win0_0.index t (1 : Fin 2) * 2048 + 1 * k.val = k.val; omega
  · refine (congrArg (V m c main_arg1) (ext2 (Fin.ext ?_) (Fin.ext ?_))).trans (congrFun (V_main_arg1 m c) _)
    · show win0_1.index t (0 : Fin 2) * 1024 + 1 * b.val = win0_2.index t (1 : Fin 2) * 1024 + 1 * b.val; omega
    · show win0_1.index t (1 : Fin 2) * 2048 + 1 * k.val = k.val; omega

theorem cover (i : S4096x2048.Idx) : ∃ t : Fin cfg0.N, (cfg0.win 2).flush t = true ∧ i ∈ ((cfg0.win 2).blk t).view.set := by
  have h0 : (i 0).val < 4096 := (i 0).isLt
  have h1 : (i 1).val < 2048 := (i 1).isLt
  obtain ⟨t, hf, ht⟩ := idx_onto ⟨(i 0).val / 1024, by omega⟩ ⟨(i 1).val / 1024, by omega⟩
  refine ⟨t, hf, ?_⟩
  show i ∈ ((View.whole main_v0).slice (win0_2.rect t)).set
  rw [View.set_slice_whole, Rect.mem_set_unit]
  intro a
  match a with
  | ⟨0, _⟩ => exact in_tile (s := 1024) (by decide) (congrFun ht 0)
  | ⟨1, _⟩ => exact in_tile (s := 1024) (by decide) (congrFun ht 1)

/-- What the call ends with. -/
theorem final : (dats m 0 c).arrAt 2 cfg0.N = out m c :=
  (dats m 0 c).arrAt_eq_of_cover 2 _ (fun t _ => flushed_eq m c t) cover

open Cert.GateDxReferenceIdeal.Read in
/-- The reference's result. -/
theorem reference_eq (x : Mat 4096 2048) (y : Mat 2048 2048) (i : S4096x2048.Idx) :
    val_main_v4 (F := Ideal) x y i = mulT x y ⟨(i 0).val, (i 0).isLt⟩ ⟨(i 1).val, (i 1).isLt⟩ := by
  rw [val_main_v4_apply]
  exact Finset.sum_congr rfl fun k _ => congrArg₂ (· * ·) (congrArg x (ext2 rfl rfl)) (congrArg y (ext2 rfl rfl))

end Cert.GateDxValue

end
-- ==== Proof.SwaInDwValue.lean ====
/- The call for the gradient of an input projection's weights: each grid point computes one block of the product, whole. -/
module

public import proofs.«01_k».proof.Proof.Product
public import proofs.«01_k».proof.Proof.Gen.SwaInDwIdeal.Value
public import proofs.«01_k».proof.Proof.Gen.SwaInDwReferenceIdeal.Read

@[expose] public section

set_option maxRecDepth 16384

noncomputable section

namespace Cert.SwaInDwValue

open Idealize.ShloMosaic Idealize.ShloMosaic.TcCoe Idealize.ShloMosaic.ValueIdx Idealize.SL.Sem
open Cert.FoxArgs Cert.FoxBlock Cert.Product Cert.SwaInDwIdeal Cert.SwaInDwIdeal.Gen

theorem pay_at (x : Vec Ideal S4096x1024 .bf16) (y : Vec Ideal S4096x1152 .bf16) (z : Fin 1) (a : Fin 1024) (b : Fin 1152) :
    k0_pay1 (F := Ideal) x y (ix3 z a b) = tmul x y a b := by
  unfold k0_pay1
  refine (lift3 _ _ z a b).trans ?_
  exact matmul_at (φ₁ := .bf16) (φ₂ := .bf16) dot_S4096x1024_S4096x1152_S1024x1152_0_0_1_1_n_n rfl rfl x y (ix2 a b) _ _
    (fun k => ext2 (Fin.ext (contrEquiv1_symm_val dot_S4096x1024_S4096x1152_S1024x1152_0_0_1_1_n_n 4096 rfl rfl k)) rfl)
    (fun k => ext2 (Fin.ext (contrEquiv1_symm_val dot_S4096x1024_S4096x1152_S1024x1152_0_0_1_1_n_n 4096 rfl rfl k)) rfl)

theorem idx_facts : ∀ t : Fin cfg0.N, win0_0.index t (0 : Fin 2) = 0 ∧ win0_0.index t (1 : Fin 2) = win0_2.index t (1 : Fin 3)
    ∧ win0_1.index t (0 : Fin 2) = 0 ∧ win0_1.index t (1 : Fin 2) = win0_2.index t (0 : Fin 3)
    ∧ win0_2.index t (0 : Fin 3) < 4 ∧ win0_2.index t (1 : Fin 3) < 2 ∧ win0_2.index t (2 : Fin 3) = 0 :=
  (by decide +kernel : ∀ t : Fin grid0.N, _)

theorem idx_onto : ∀ (q0 : Fin 4) (q1 : Fin 2), ∃ t : Fin cfg0.N, win0_2.flush t = true ∧ win0_2.index t = ![q0.val, q1.val, 0] :=
  (by decide +kernel : ∀ (q0 : Fin 4) (q1 : Fin 2), ∃ t : Fin grid0.N, win0_2.flush t = true ∧ win0_2.index t = ![q0.val, q1.val, 0])

variable (m : (ℓ : Loc nD τ sig) → Buf (Elt Ideal) ℓ) (c : Dev nD)

/-- The gradient, cut by columns into four: the product of the transposed argument with the cotangent. -/
def out : S4x2048x1152.Idx → EReal := fun i =>
  tmul (m ((c.tc : Thread nD τ).loc main_arg0)) (m ((c.tc : Thread nD τ).loc main_arg1)) ⟨(i 1).val, (i 1).isLt⟩
    (col 1152 rfl ⟨(i 0).val, (i 0).isLt⟩ ⟨(i 2).val, (i 2).isLt⟩)

theorem flushed_eq (t : Fin cfg0.N) : (dats m 0 c).flushed 2 t = ((cfg0.win 2).blk t).view.read (Elt Ideal) (out m c) := by
  obtain ⟨e0, e1, f0, f1, b0, b1, b2⟩ := idx_facts t
  rw [Cert.SwaInDwIdeal.Value.flushed2]
  unfold out0_2
  rw [View.canon_unit_zero hz3, View.ld_unit_zero hz2, View.ld_unit_zero hz2]
  funext y
  obtain ⟨z, a, b, rfl⟩ : ∃ (z : Fin 1) (a : Fin 1024) (b : Fin 1152), y = ix3 z a b := ⟨y 0, y 1, y 2, eq_ix3 y⟩
  have hz : z.val = 0 := by omega
  refine (pay_at _ _ z a b).trans ?_
  show _ = out m c (((cfg0.win 2).blk t).view.emb (ix3 z a b))
  unfold out tmul
  refine Finset.sum_congr rfl fun k _ => congrArg₂ (· * ·) ?_ ?_
  · refine (congrArg (V m c main_arg0) (ext2 (Fin.ext ?_) (Fin.ext ?_))).trans (congrFun (V_main_arg0 m c) _)
    · show win0_0.index t (0 : Fin 2) * 4096 + 1 * k.val = k.val; omega
    · show win0_0.index t (1 : Fin 2) * 1024 + 1 * a.val = win0_2.index t (1 : Fin 3) * 1024 + 1 * a.val; omega
  · refine (congrArg (V m c main_arg1) (ext2 (Fin.ext ?_) (Fin.ext ?_))).trans (congrFun (V_main_arg1 m c) _)
    · show win0_1.index t (0 : Fin 2) * 4096 + 1 * k.val = k.val; omega
    · show win0_1.index t (1 : Fin 2) * 1152 + 1 * b.val
        = 1152 * (win0_2.index t (0 : Fin 3) * 1 + 1 * z.val) + (win0_2.index t (2 : Fin 3) * 1152 + 1 * b.val)
      omega

theorem cover (i : S4x2048x1152.Idx) : ∃ t : Fin cfg0.N, (cfg0.win 2).flush t = true ∧ i ∈ ((cfg0.win 2).blk t).view.set := by
  have h0 : (i 0).val < 4 := (i 0).isLt
  have h1 : (i 1).val < 2048 := (i 1).isLt
  have h2 : (i 2).val < 1152 := (i 2).isLt
  obtain ⟨t, hf, ht⟩ := idx_onto ⟨(i 0).val, h0⟩ ⟨(i 1).val / 1024, by omega⟩
  refine ⟨t, hf, ?_⟩
  show i ∈ ((View.whole main_v0).slice (win0_2.rect t)).set
  rw [View.set_slice_whole, Rect.mem_set_unit]
  intro a
  match a with
  | ⟨0, _⟩ => exact in_tile (s := 1) (by decide) ((congrFun ht 0).trans (Nat.div_one _).symm)
  | ⟨1, _⟩ => exact in_tile (s := 1024) (by decide) (congrFun ht 1)
  | ⟨2, _⟩ => exact in_tile (s := 1152) (by decide) ((congrFun ht 2).trans (Nat.div_eq_of_lt h2).symm)

/-- What the call ends with. -/
theorem final : (dats m 0 c).arrAt 2 cfg0.N = out m c :=
  (dats m 0 c).arrAt_eq_of_cover 2 _ (fun t _ => flushed_eq m c t) cover

open Cert.SwaInDwReferenceIdeal.Read in
/-- The reference's result. -/
theorem reference_eq (x : Mat 4096 2048) (y : Mat 4096 4608) (i : S4x2048x1152.Idx) :
    val_main_v8 (F := Ideal) x y i = tmul x y ⟨(i 1).val, (i 1).isLt⟩ (col 1152 rfl ⟨(i 0).val, (i 0).isLt⟩ ⟨(i 2).val, (i 2).isLt⟩) := by
  have h0 : (i 0).val < 4 := (i 0).isLt
  have h1 : (i 1).val < 2048 := (i 1).isLt
  have h2 : (i 2).val < 1152 := (i 2).isLt
  rw [val_main_v8_apply, val_main_v7_apply, val_main_v6_apply, val_main_v5_apply]
  show val_main_v4 (F := Ideal) x y _ = _
  rw [val_main_v4_apply]
  refine Finset.sum_congr rfl fun k _ => (mul_comm _ _).trans (congrArg₂ (· * ·) ?_ ?_)
  · refine congrArg x (ext2 rfl (Fin.ext ?_))
    show (((i 1).val * 4 + (i 0).val) * 1152 + (i 2).val) / 4608 = (i 1).val
    omega
  · refine congrArg y (ext2 rfl (Fin.ext ?_))
    show (((i 1).val * 4 + (i 0).val) * 1152 + (i 2).val) % 4608 = 1152 * (i 0).val + (i 2).val
    omega

end Cert.SwaInDwValue

end
-- ==== Proof.SwaInDxValue.lean ====
/- The call for the gradient of an input projection's argument: four grid points in a row add up one block of the product,
   each over the columns that one chip's weights hold. -/
module

public import proofs.«01_k».proof.Proof.Product
public import proofs.«01_k».proof.Proof.Gen.SwaInDxIdeal.Value
public import proofs.«01_k».proof.Proof.Gen.SwaInDxReferenceIdeal.Read
public import Idealize.ShloMosaic.Lib.Pipeline.ReadBack

@[expose] public section

set_option maxRecDepth 16384

noncomputable section

namespace Cert.SwaInDxValue

open Idealize.ShloMosaic Idealize.ShloMosaic.TcCoe Idealize.ShloMosaic.ValueIdx Idealize.SL.Sem
open Cert.FoxArgs Cert.FoxBlock Cert.Product Cert.SwaInDxIdeal Cert.SwaInDxIdeal.Gen Cert.SwaInDxIdeal.Value

theorem pay1_at (x : Vec Ideal S1024x1152 .bf16) (y : Vec Ideal S1x1024x1152 .bf16) (a b : Fin 1024) :
    k0_pay1 (F := Ideal) x y (ix2 a b) = ∑ k : Fin 1152, (x (ix2 a k) : EReal) * (y (ix3 0 b k) : EReal) := by
  refine (matmul_at (φ₁ := .bf16) (φ₂ := .bf16) dot_S1024x1152_S1024x1152_S1024x1024_1_1_0_0_n_n rfl rfl x _ (ix2 a b) _ _
    (fun k => ext2 rfl (Fin.ext (contrEquiv1_symm_val dot_S1024x1152_S1024x1152_S1024x1024_1_1_0_0_n_n 1152 rfl rfl k)))
    (fun k => ext2 rfl (Fin.ext (contrEquiv1_symm_val dot_S1024x1152_S1024x1152_S1024x1024_1_1_0_0_n_n 1152 rfl rfl k)))).trans ?_
  exact Finset.sum_congr rfl fun k _ => congrArg (_ * ·) (flat3 y _ b k)

theorem pay3_at (x : Vec Ideal S1024x1152 .bf16) (y : Vec Ideal S1x1024x1152 .bf16) (acc : Vec Ideal S1024x1024 .f32) (i : S1024x1024.Idx) :
    k0_pay3 (F := Ideal) x y acc i = (acc i : EReal) + (k0_pay1 (F := Ideal) x y i : EReal) := by
  unfold k0_pay3
  exact congrFun (shapeCast_self _ _) i

variable (m : (ℓ : Loc nD τ sig) → Buf (Elt Ideal) ℓ) (c : Dev nD)

/-- What a grid point adds. -/
def part (n : ℕ) : S1024x1024.Idx → EReal := fun i =>
  if h : n < cfg0.N then k0_pay1 (F := Ideal) (iblk m c 0 ⟨n, h⟩) (iblk m c 1 ⟨n, h⟩) i else 0

theorem part_of (t : Fin cfg0.N) : part m c t.val = k0_pay1 (F := Ideal) (iblk m c 0 t) (iblk m c 1 t) :=
  funext fun _ => dif_pos t.isLt

theorem start (t : Fin cfg0.N) (acc) (h0 : t.val % 4 = 0) : scAt0_0 m c t.val t.isLt acc = part m c t.val := by
  rw [part_of]
  unfold scAt0_0
  rw [dif_pos h0, dif_neg (by omega), dif_neg (by omega)]
  unfold sout0_A_0
  refine (View.read_writes_eq_canon _ _ _ (by intro y; apply scover0_A_0)).trans ?_
  unfold kernelRun0_A
  dsimp only
  sl_unfold_words
  rw [View.canon_unit_zero hz2]
  simp only [View.readAt_eq_ld, read_unread_whole, Memref.IsWhole.read_unread, View.ld_unit_zero (S := S1024x1152) hz2, View.ld_unit_zero (S := S1x1024x1152) hz3]
  exact shapeCast_self _ _

theorem step_B (t : Fin cfg0.N) (acc) (h0 : ¬t.val % 4 = 0) (h2 : ¬t.val % 4 = 3) (i) :
    scAt0_0 m c t.val t.isLt acc i = acc i + part m c t.val i := by
  rw [part_of]
  unfold scAt0_0
  rw [dif_neg h0, dif_pos (by omega), dif_neg h2]
  unfold sout0_B_0
  refine (congrFun (View.read_writes_eq_canon _ _ _ (by intro y; apply scover0_B_0)) i).trans ?_
  unfold kernelRun0_B
  dsimp only
  sl_unfold_words
  rw [View.canon_unit_zero hz2]
  simp only [View.readAt_eq_ld, read_unread_whole, Memref.IsWhole.read_unread, View.ld_unit_zero (S := S1024x1152) hz2, View.ld_unit_zero (S := S1x1024x1152) hz3, View.ld_unit_zero (S := S1024x1024) hz2]
  exact pay3_at _ _ _ i

theorem step_C (t : Fin cfg0.N) (acc) (h0 : ¬t.val % 4 = 0) (h2 : t.val % 4 = 3) (i) :
    scAt0_0 m c t.val t.isLt acc i = acc i + part m c t.val i := by
  rw [part_of]
  unfold scAt0_0
  rw [dif_neg h0, dif_pos (by omega), dif_pos h2]
  unfold sout0_C_0
  refine (congrFun (View.read_writes_eq_canon _ _ _ (by intro y; apply scover0_C_0)) i).trans ?_
  unfold kernelRun0_C
  dsimp only
  sl_unfold_words
  rw [View.canon_unit_zero hz2]
  simp only [View.readAt_eq_ld, read_unread_whole, Memref.IsWhole.read_unread, View.ld_unit_zero (S := S1024x1152) hz2, View.ld_unit_zero (S := S1x1024x1152) hz3, View.ld_unit_zero (S := S1024x1024) hz2]
  exact pay3_at _ _ _ i

/-- The last of the four points writes out the sum. -/
theorem out_eq (t : Fin cfg0.N) (h2 : t.val % 4 = 3) : (outsAt0 m c t.val t.isLt).1 = (outsAt0 m c t.val t.isLt).2 := by
  rw [outsAt0_C m c t (by omega) (by omega) h2]
  dsimp only
  unfold out0_C_2 sout0_C_0
  refine (View.read_writes_eq_canon _ _ _ (by intro y; apply cover0_C_2)).trans (.trans ?_ (View.read_writes_eq_canon _ _ _ (by intro y; apply scover0_C_0)).symm)
  unfold kernelRun0_C
  dsimp only
  sl_unfold_words
  rw [View.canon_unit_zero hz2, View.canon_unit_zero hz2]
  exact View.readCov_unit_zero (S := S1024x1024) _ hz2 _ _

theorem sum_eq (t : Fin cfg0.N) (h2 : t.val % 4 = 3) (i) :
    (outsAt0 m c t.val t.isLt).2 i = ∑ s ∈ Finset.range 4, part m c (4 * (t.val / 4) + s) i := by
  rw [soutsAt0_0_eq]
  refine (Pipeline.accAt_add_apply _ _ (fun _ => (0 : EReal)) (part m c) (4 * (t.val / 4)) 3 ?_ ?_ (t.val % 4) (by omega) _ i).trans ?_
  · intro h i
    rw [start m c ⟨_, h⟩ _ (Nat.mul_mod_right _ _), zero_add]
  · intro n h acc i h1 h3
    by_cases h4 : n % 4 = 3
    · exact step_C m c ⟨n, h⟩ acc (by show ¬n % 4 = 0; omega) h4 i
    · exact step_B m c ⟨n, h⟩ acc (by show ¬n % 4 = 0; omega) h4 i
  · rw [zero_add, h2]

theorem idx_facts : ∀ t : Fin cfg0.N, win0_0.index t (0 : Fin 2) = t.val / 8 ∧ win0_0.index t (1 : Fin 2) = t.val % 4
    ∧ win0_1.index t (0 : Fin 3) = t.val % 4 ∧ win0_1.index t (1 : Fin 3) = t.val / 4 % 2 ∧ win0_1.index t (2 : Fin 3) = 0 :=
  (by decide +kernel : ∀ t : Fin grid0.N, _)

/-- The gradient: the product of the cotangent with the whole of the weights, transposed. -/
def out : S4096x2048.Idx → EReal := fun i =>
  mulT (m ((c.tc : Thread nD τ).loc main_arg0)) (whole 1152 rfl (m ((c.tc : Thread nD τ).loc main_arg1))) ⟨(i 0).val, (i 0).isLt⟩ ⟨(i 1).val, (i 1).isLt⟩

theorem part_at (n : ℕ) (h : n < cfg0.N) (a b : Fin 1024) (A : Fin 4096) (B : Fin 2048) (q : Fin 4)
    (hA : A.val = 1024 * (n / 8) + a.val) (hB : B.val = 1024 * (n / 4 % 2) + b.val) (hq : q.val = n % 4) :
    part m c n (ix2 a b) = mulTPart 1152 rfl (m ((c.tc : Thread nD τ).loc main_arg0))
      (whole 1152 rfl (m ((c.tc : Thread nD τ).loc main_arg1))) A B q.val := by
  obtain ⟨e0, e1, f0, f1, f2⟩ := idx_facts ⟨n, h⟩
  refine (congrFun (part_of m c ⟨n, h⟩) _).trans ((pay1_at _ _ a b).trans ?_)
  rw [mulTPart_of]
  refine Finset.sum_congr rfl fun r _ => congrArg₂ (· * ·) ?_ ?_
  · refine (congrArg (V m c main_arg0) (ext2 (Fin.ext ?_) (Fin.ext ?_))).trans (congrFun (V_main_arg0 m c) _)
    · show win0_0.index ⟨n, h⟩ (0 : Fin 2) * 1024 + 1 * a.val = A.val; dsimp only at e0; omega
    · show win0_0.index ⟨n, h⟩ (1 : Fin 2) * 1152 + 1 * r.val = 1152 * q.val + r.val; dsimp only at e1; omega
  · rw [whole_col]
    refine (congrArg (V m c main_arg1) (ext3 (Fin.ext ?_) (Fin.ext ?_) (Fin.ext ?_))).trans (congrFun (V_main_arg1 m c) _)
    · show win0_1.index ⟨n, h⟩ (0 : Fin 3) * 1 + 1 * 0 = q.val; dsimp only at f0; omega
    · show win0_1.index ⟨n, h⟩ (1 : Fin 3) * 1024 + 1 * b.val = B.val; dsimp only at f1; omega
    · show win0_1.index ⟨n, h⟩ (2 : Fin 3) * 1152 + 1 * r.val = r.val; omega

theorem block_eq (n : ℕ) (h : n < cfg0.N) (h2 : n % 4 = 3) (a b : Fin 1024) (A : Fin 4096) (B : Fin 2048)
    (hA : A.val = 1024 * (n / 8) + a.val) (hB : B.val = 1024 * (n / 4 % 2) + b.val) :
    (outsAt0 m c n h).1 (ix2 a b) = mulT (m ((c.tc : Thread nD τ).loc main_arg0))
      (whole 1152 rfl (m ((c.tc : Thread nD τ).loc main_arg1))) A B := by
  have hN := lt_of_lt_of_eq h (show cfg0.N = 32 from N_0)
  rw [out_eq m c ⟨n, h⟩ h2]
  refine (sum_eq m c ⟨n, h⟩ h2 _).trans (.trans ?_ (sum_mulT 1152 rfl _ _ A B))
  refine Finset.sum_congr rfl fun s hs => ?_
  have hs4 : s < 4 := Finset.mem_range.1 hs
  exact part_at m c _ (lt_of_lt_of_eq (by dsimp only; omega) N_0.symm) a b A B ⟨s, hs4⟩
    (by dsimp only; omega) (by dsimp only; omega) (by dsimp only; omega)

/-- What the call ends with. -/
theorem final : G2 m c = out m c := by
  funext i
  have h0 : (i 0).val < 4096 := (i 0).isLt
  have h1 : (i 1).val < 2048 := (i 1).isLt
  have e : pt2Of i = 4 * (2 * ((i 0).val / 1024 - 0) + 1 * ((i 1).val / 1024 - 0)) + 3 := rfl
  have hp : pt2Of i < cfg0.N := lt_of_lt_of_eq (by omega) N_0.symm
  unfold G2
  rw [dif_pos hp, ← outsAt0_sweep m c (pt2Of i) hp]
  refine (congrArg _ (ext2 rfl rfl : loc2Of i = ix2 ⟨(i 0).val % 1024, by omega⟩ ⟨(i 1).val % 1024, by omega⟩)).trans ?_
  exact block_eq m c _ hp (by omega) _ _ _ _ (by dsimp only; omega) (by dsimp only; omega)

open Cert.SwaInDxReferenceIdeal.Read in
/-- The reference's result. -/
theorem reference_eq (x : Mat 4096 4608) (y : Cut 2048 1152) (i : S4096x2048.Idx) :
    val_main_v6 (F := Ideal) x y i = mulT x (whole 1152 rfl y) ⟨(i 0).val, (i 0).isLt⟩ ⟨(i 1).val, (i 1).isLt⟩ := by
  rw [val_main_v6_apply]
  refine Finset.sum_congr rfl fun k _ => congrArg₂ (· * ·) (congrArg x (ext2 rfl rfl)) ?_
  rw [val_main_v3_apply, val_main_v2_apply]
  refine congrArg y (ext3 (Fin.ext ?_) (Fin.ext ?_) (Fin.ext ?_))
  all_goals
    have h1 : (i 1).val < 2048 := (i 1).isLt
    have h2 := k.isLt
  · show ((i 1).val * 4608 + k.val) / 1152 % 4 = k.val / 1152; omega
  · show ((i 1).val * 4608 + k.val) / 4608 = (i 1).val; omega
  · show ((i 1).val * 4608 + k.val) % 1152 = k.val % 1152; omega

end Cert.SwaInDxValue

end
-- ==== Proof.FoxInValue.lean ====
/- The call for an input projection of 8192 columns: each grid point computes one block of the product, whole, from the
   weights of one chip. -/
module

public import proofs.«01_k».proof.Proof.Product
public import proofs.«01_k».proof.Proof.Gen.FoxInIdeal.Value
public import proofs.«01_k».proof.Proof.Gen.FoxInReferenceIdeal.Read

@[expose] public section

set_option maxRecDepth 16384

noncomputable section

namespace Cert.FoxInValue

open Idealize.ShloMosaic Idealize.ShloMosaic.TcCoe Idealize.ShloMosaic.ValueIdx Idealize.SL.Sem
open Cert.FoxArgs Cert.FoxBlock Cert.Product Cert.FoxInIdeal Cert.FoxInIdeal.Gen

theorem pay_at (x : Vec Ideal S1024x2048 .bf16) (y : Vec Ideal S1x2048x1024 .bf16) (a b : Fin 1024) :
    k0_pay1 (F := Ideal) x y (ix2 a b) = ∑ k : Fin 2048, (x (ix2 a k) : EReal) * (y (ix3 0 k b) : EReal) := by
  refine (matmul_at (φ₁ := .bf16) (φ₂ := .bf16) dot_S1024x2048_S2048x1024_S1024x1024_1_0_0_1_n_n rfl rfl x _ (ix2 a b) _ _
    (fun k => ext2 rfl (Fin.ext (contrEquiv1_symm_val dot_S1024x2048_S2048x1024_S1024x1024_1_0_0_1_n_n 2048 rfl rfl k)))
    (fun k => ext2 (Fin.ext (contrEquiv1_symm_val dot_S1024x2048_S2048x1024_S1024x1024_1_0_0_1_n_n 2048 rfl rfl k)) rfl)).trans ?_
  exact Finset.sum_congr rfl fun k _ => congrArg (_ * ·) (flat3 y _ k b)

theorem idx_facts : ∀ t : Fin cfg0.N, win0_0.index t (0 : Fin 2) = win0_2.index t (0 : Fin 2) ∧ win0_0.index t (1 : Fin 2) = 0
    ∧ win0_1.index t (0 : Fin 3) = win0_2.index t (1 : Fin 2) / 2 ∧ win0_1.index t (1 : Fin 3) = 0
    ∧ win0_1.index t (2 : Fin 3) = win0_2.index t (1 : Fin 2) % 2 :=
  (by decide +kernel : ∀ t : Fin grid0.N, _)

theorem idx_onto : ∀ (q0 : Fin 4) (q1 : Fin 8), ∃ t : Fin cfg0.N, win0_2.flush t = true ∧ win0_2.index t = ![q0.val, q1.val] :=
  (by decide +kernel : ∀ (q0 : Fin 4) (q1 : Fin 8), ∃ t : Fin grid0.N, win0_2.flush t = true ∧ win0_2.index t = ![q0.val, q1.val])

variable (m : (ℓ : Loc nD τ sig) → Buf (Elt Ideal) ℓ) (c : Dev nD)

/-- The projection: the product of the argument with the whole of the weights. -/
def out : S4096x8192.Idx → EReal := fun i =>
  mul (m ((c.tc : Thread nD τ).loc main_arg0)) (whole 2048 rfl (m ((c.tc : Thread nD τ).loc main_arg1))) ⟨(i 0).val, (i 0).isLt⟩ ⟨(i 1).val, (i 1).isLt⟩

theorem flushed_eq (t : Fin cfg0.N) : (dats m 0 c).flushed 2 t = ((cfg0.win 2).blk t).view.read (Elt Ideal) (out m c) := by
  obtain ⟨e0, e1, f0, f1, f2⟩ := idx_facts t
  rw [Cert.FoxInIdeal.Value.flushed2]
  unfold out0_2
  rw [View.canon_unit_zero hz2, View.ld_unit_zero hz2, View.ld_unit_zero hz3]
  funext y
  obtain ⟨a, b, rfl⟩ : ∃ a b : Fin 1024, y = ix2 a b := ⟨y 0, y 1, eq_ix2 y⟩
  refine (pay_at _ _ a b).trans ?_
  show _ = out m c (((cfg0.win 2).blk t).view.emb (ix2 a b))
  unfold out mul whole
  refine Finset.sum_congr rfl fun k _ => congrArg₂ (· * ·) ?_ ?_
  · refine (congrArg (V m c main_arg0) (ext2 (Fin.ext ?_) (Fin.ext ?_))).trans (congrFun (V_main_arg0 m c) _)
    · show win0_0.index t (0 : Fin 2) * 1024 + 1 * a.val = win0_2.index t (0 : Fin 2) * 1024 + 1 * a.val; omega
    · show win0_0.index t (1 : Fin 2) * 2048 + 1 * k.val = k.val; omega
  · refine (congrArg (V m c main_arg1) (ext3 (Fin.ext ?_) (Fin.ext ?_) (Fin.ext ?_))).trans (congrFun (V_main_arg1 m c) _)
    · show win0_1.index t (0 : Fin 3) * 1 + 1 * 0 = (win0_2.index t (1 : Fin 2) * 1024 + 1 * b.val) / 2048; omega
    · show win0_1.index t (1 : Fin 3) * 2048 + 1 * k.val = k.val; omega
    · show win0_1.index t (2 : Fin 3) * 1024 + 1 * b.val = (win0_2.index t (1 : Fin 2) * 1024 + 1 * b.val) % 2048; omega

theorem cover (i : S4096x8192.Idx) : ∃ t : Fin cfg0.N, (cfg0.win 2).flush t = true ∧ i ∈ ((cfg0.win 2).blk t).view.set := by
  have h0 : (i 0).val < 4096 := (i 0).isLt
  have h1 : (i 1).val < 8192 := (i 1).isLt
  obtain ⟨t, hf, ht⟩ := idx_onto ⟨(i 0).val / 1024, by omega⟩ ⟨(i 1).val / 1024, by omega⟩
  refine ⟨t, hf, ?_⟩
  show i ∈ ((View.whole main_v0).slice (win0_2.rect t)).set
  rw [View.set_slice_whole, Rect.mem_set_unit]
  intro a
  match a with
  | ⟨0, _⟩ => exact in_tile (s := 1024) (by decide) (congrFun ht 0)
  | ⟨1, _⟩ => exact in_tile (s := 1024) (by decide) (congrFun ht 1)

/-- What the call ends with. -/
theorem final : (dats m 0 c).arrAt 2 cfg0.N = out m c :=
  (dats m 0 c).arrAt_eq_of_cover 2 _ (fun t _ => flushed_eq m c t) cover

open Cert.FoxInReferenceIdeal.Read in
/-- The reference's result. -/
theorem reference_eq (x : Mat 4096 2048) (y : Cut 2048 2048) (i : S4096x8192.Idx) :
    val_main_v5 (F := Ideal) x y i = mul x (whole 2048 rfl y) ⟨(i 0).val, (i 0).isLt⟩ ⟨(i 1).val, (i 1).isLt⟩ := by
  rw [val_main_v5_apply]
  show val_main_v4 (F := Ideal) x y _ = _
  rw [val_main_v4_apply]
  refine Finset.sum_congr rfl fun k _ => congrArg₂ (· * ·) (congrArg x (ext2 rfl rfl)) ?_
  rw [val_main_v3_apply, val_main_v2_apply]
  refine congrArg y (ext3 (Fin.ext ?_) (Fin.ext ?_) (Fin.ext ?_))
  all_goals
    have h1 : (i 1).val < 8192 := (i 1).isLt
    have h2 := k.isLt
  · show (k.val * 8192 + (i 1).val) / 2048 % 4 = (i 1).val / 2048; omega
  · show (k.val * 8192 + (i 1).val) / 8192 = k.val; omega
  · show (k.val * 8192 + (i 1).val) % 2048 = (i 1).val % 2048; omega

end Cert.FoxInValue

end
-- ==== Proof.MixerOutValue.lean ====
/- The call for an output projection, or for a layer's gate: each grid point computes one block of the product, whole. -/
module

public import proofs.«01_k».proof.Proof.Product
public import proofs.«01_k».proof.Proof.Gen.MixerOutIdeal.Value
public import proofs.«01_k».proof.Proof.Gen.MixerOutReferenceIdeal.Read

@[expose] public section

set_option maxRecDepth 16384

noncomputable section

namespace Cert.MixerOutValue

open Idealize.ShloMosaic Idealize.ShloMosaic.TcCoe Idealize.ShloMosaic.ValueIdx Idealize.SL.Sem
open Cert.FoxArgs Cert.FoxBlock Cert.Product Cert.MixerOutIdeal Cert.MixerOutIdeal.Gen

theorem pay_at (x : Vec Ideal S1024x2048 .bf16) (y : Vec Ideal S2048x1024 .bf16) (a b : Fin 1024) : k0_pay1 (F := Ideal) x y (ix2 a b) = mul x y a b :=
  matmul_at (φ₁ := .bf16) (φ₂ := .bf16) dot_S1024x2048_S2048x1024_S1024x1024_1_0_0_1_n_n rfl rfl x y (ix2 a b) _ _
    (fun k => ext2 rfl (Fin.ext (contrEquiv1_symm_val dot_S1024x2048_S2048x1024_S1024x1024_1_0_0_1_n_n 2048 rfl rfl k)))
    (fun k => ext2 (Fin.ext (contrEquiv1_symm_val dot_S1024x2048_S2048x1024_S1024x1024_1_0_0_1_n_n 2048 rfl rfl k)) rfl)

theorem idx_facts : ∀ t : Fin cfg0.N, win0_0.index t (0 : Fin 2) = win0_2.index t (0 : Fin 2) ∧ win0_0.index t (1 : Fin 2) = 0
    ∧ win0_1.index t (0 : Fin 2) = 0 ∧ win0_1.index t (1 : Fin 2) = win0_2.index t (1 : Fin 2) :=
  (by decide +kernel : ∀ t : Fin grid0.N, _)

theorem idx_onto : ∀ (q0 : Fin 4) (q1 : Fin 2), ∃ t : Fin cfg0.N, win0_2.flush t = true ∧ win0_2.index t = ![q0.val, q1.val] :=
  (by decide +kernel : ∀ (q0 : Fin 4) (q1 : Fin 2), ∃ t : Fin grid0.N, win0_2.flush t = true ∧ win0_2.index t = ![q0.val, q1.val])

variable (m : (ℓ : Loc nD τ sig) → Buf (Elt Ideal) ℓ) (c : Dev nD)

/-- The projection: the product of the argument with the weights. -/
def out : S4096x2048.Idx → EReal := fun i =>
  mul (m ((c.tc : Thread nD τ).loc main_arg0)) (m ((c.tc : Thread nD τ).loc main_arg1)) ⟨(i 0).val, (i 0).isLt⟩ ⟨(i 1).val, (i 1).isLt⟩

theorem flushed_eq (t : Fin cfg0.N) : (dats m 0 c).flushed 2 t = ((cfg0.win 2).blk t).view.read (Elt Ideal) (out m c) := by
  obtain ⟨e0, e1, f0, f1⟩ := idx_facts t
  rw [Cert.MixerOutIdeal.Value.flushed2]
  unfold out0_2
  rw [View.canon_unit_zero hz2, View.ld_unit_zero hz2, View.ld_unit_zero hz2]
  funext y
  obtain ⟨a, b, rfl⟩ : ∃ a b : Fin 1024, y = ix2 a b := ⟨y 0, y 1, eq_ix2 y⟩
  refine (pay_at _ _ a b).trans ?_
  show _ = out m c (((cfg0.win 2).blk t).view.emb (ix2 a b))
  unfold out mul
  refine Finset.sum_congr rfl fun k _ => congrArg₂ (· * ·) ?_ ?_
  · refine (congrArg (V m c main_arg0) (ext2 (Fin.ext ?_) (Fin.ext ?_))).trans (congrFun (V_main_arg0 m c) _)
    · show win0_0.index t (0 : Fin 2) * 1024 + 1 * a.val = win0_2.index t (0 : Fin 2) * 1024 + 1 * a.val; omega
    · show win0_0.index t (1 : Fin 2) * 2048 + 1 * k.val = k.val; omega
  · refine (congrArg (V m c main_arg1) (ext2 (Fin.ext ?_) (Fin.ext ?_))).trans (congrFun (V_main_arg1 m c) _)
    · show win0_1.index t (0 : Fin 2) * 2048 + 1 * k.val = k.val; omega
    · show win0_1.index t (1 : Fin 2) * 1024 + 1 * b.val = win0_2.index t (1 : Fin 2) * 1024 + 1 * b.val; omega

theorem cover (i : S4096x2048.Idx) : ∃ t : Fin cfg0.N, (cfg0.win 2).flush t = true ∧ i ∈ ((cfg0.win 2).blk t).view.set := by
  have h0 : (i 0).val < 4096 := (i 0).isLt
  have h1 : (i 1).val < 2048 := (i 1).isLt
  obtain ⟨t, hf, ht⟩ := idx_onto ⟨(i 0).val / 1024, by omega⟩ ⟨(i 1).val / 1024, by omega⟩
  refine ⟨t, hf, ?_⟩
  show i ∈ ((View.whole main_v0).slice (win0_2.rect t)).set
  rw [View.set_slice_whole, Rect.mem_set_unit]
  intro a
  match a with
  | ⟨0, _⟩ => exact in_tile (s := 1024) (by decide) (congrFun ht 0)
  | ⟨1, _⟩ => exact in_tile (s := 1024) (by decide) (congrFun ht 1)

/-- What the call ends with. -/
theorem final : (dats m 0 c).arrAt 2 cfg0.N = out m c :=
  (dats m 0 c).arrAt_eq_of_cover 2 _ (fun t _ => flushed_eq m c t) cover

open Cert.MixerOutReferenceIdeal.Read in
/-- The reference's result. -/
theorem reference_eq (x : Mat 4096 2048) (y : Mat 2048 2048) (i : S4096x2048.Idx) :
    val_main_v2 (F := Ideal) x y i = mul x y ⟨(i 0).val, (i 0).isLt⟩ ⟨(i 1).val, (i 1).isLt⟩ := by
  rw [val_main_v2_apply]
  exact Finset.sum_congr rfl fun k _ => congrArg₂ (· * ·) (congrArg x (ext2 rfl rfl)) (congrArg y (ext2 rfl rfl))

end Cert.MixerOutValue

end
-- ==== Proof.SsmInValue.lean ====
/- The call for an input projection of 4096 columns: each grid point computes one block of the product, whole, from the
   weights of one chip. -/
module

public import proofs.«01_k».proof.Proof.Product
public import proofs.«01_k».proof.Proof.Gen.SsmInIdeal.Value
public import proofs.«01_k».proof.Proof.Gen.SsmInReferenceIdeal.Read

@[expose] public section

set_option maxRecDepth 16384

noncomputable section

namespace Cert.SsmInValue

open Idealize.ShloMosaic Idealize.ShloMosaic.TcCoe Idealize.ShloMosaic.ValueIdx Idealize.SL.Sem
open Cert.FoxArgs Cert.FoxBlock Cert.Product Cert.SsmInIdeal Cert.SsmInIdeal.Gen

theorem pay_at (x : Vec Ideal S1024x2048 .bf16) (y : Vec Ideal S1x2048x1024 .bf16) (a b : Fin 1024) :
    k0_pay1 (F := Ideal) x y (ix2 a b) = ∑ k : Fin 2048, (x (ix2 a k) : EReal) * (y (ix3 0 k b) : EReal) := by
  refine (matmul_at (φ₁ := .bf16) (φ₂ := .bf16) dot_S1024x2048_S2048x1024_S1024x1024_1_0_0_1_n_n rfl rfl x _ (ix2 a b) _ _
    (fun k => ext2 rfl (Fin.ext (contrEquiv1_symm_val dot_S1024x2048_S2048x1024_S1024x1024_1_0_0_1_n_n 2048 rfl rfl k)))
    (fun k => ext2 (Fin.ext (contrEquiv1_symm_val dot_S1024x2048_S2048x1024_S1024x1024_1_0_0_1_n_n 2048 rfl rfl k)) rfl)).trans ?_
  exact Finset.sum_congr rfl fun k _ => congrArg (_ * ·) (flat3 y _ k b)

theorem idx_facts : ∀ t : Fin cfg0.N, win0_0.index t (0 : Fin 2) = win0_2.index t (0 : Fin 2) ∧ win0_0.index t (1 : Fin 2) = 0
    ∧ win0_1.index t (0 : Fin 3) = win0_2.index t (1 : Fin 2) ∧ win0_1.index t (1 : Fin 3) = 0
    ∧ win0_1.index t (2 : Fin 3) = 0 :=
  (by decide +kernel : ∀ t : Fin grid0.N, _)

theorem idx_onto : ∀ (q0 : Fin 4) (q1 : Fin 4), ∃ t : Fin cfg0.N, win0_2.flush t = true ∧ win0_2.index t = ![q0.val, q1.val] :=
  (by decide +kernel : ∀ (q0 : Fin 4) (q1 : Fin 4), ∃ t : Fin grid0.N, win0_2.flush t = true ∧ win0_2.index t = ![q0.val, q1.val])

variable (m : (ℓ : Loc nD τ sig) → Buf (Elt Ideal) ℓ) (c : Dev nD)

/-- The projection: the product of the argument with the whole of the weights. -/
def out : S4096x4096.Idx → EReal := fun i =>
  mul (m ((c.tc : Thread nD τ).loc main_arg0)) (whole 1024 rfl (m ((c.tc : Thread nD τ).loc main_arg1))) ⟨(i 0).val, (i 0).isLt⟩ ⟨(i 1).val, (i 1).isLt⟩

theorem flushed_eq (t : Fin cfg0.N) : (dats m 0 c).flushed 2 t = ((cfg0.win 2).blk t).view.read (Elt Ideal) (out m c) := by
  obtain ⟨e0, e1, f0, f1, f2⟩ := idx_facts t
  rw [Cert.SsmInIdeal.Value.flushed2]
  unfold out0_2
  rw [View.canon_unit_zero hz2, View.ld_unit_zero hz2, View.ld_unit_zero hz3]
  funext y
  obtain ⟨a, b, rfl⟩ : ∃ a b : Fin 1024, y = ix2 a b := ⟨y 0, y 1, eq_ix2 y⟩
  refine (pay_at _ _ a b).trans ?_
  show _ = out m c (((cfg0.win 2).blk t).view.emb (ix2 a b))
  unfold out mul whole
  refine Finset.sum_congr rfl fun k _ => congrArg₂ (· * ·) ?_ ?_
  · refine (congrArg (V m c main_arg0) (ext2 (Fin.ext ?_) (Fin.ext ?_))).trans (congrFun (V_main_arg0 m c) _)
    · show win0_0.index t (0 : Fin 2) * 1024 + 1 * a.val = win0_2.index t (0 : Fin 2) * 1024 + 1 * a.val; omega
    · show win0_0.index t (1 : Fin 2) * 2048 + 1 * k.val = k.val; omega
  · refine (congrArg (V m c main_arg1) (ext3 (Fin.ext ?_) (Fin.ext ?_) (Fin.ext ?_))).trans (congrFun (V_main_arg1 m c) _)
    · show win0_1.index t (0 : Fin 3) * 1 + 1 * 0 = (win0_2.index t (1 : Fin 2) * 1024 + 1 * b.val) / 1024; omega
    · show win0_1.index t (1 : Fin 3) * 2048 + 1 * k.val = k.val; omega
    · show win0_1.index t (2 : Fin 3) * 1024 + 1 * b.val = (win0_2.index t (1 : Fin 2) * 1024 + 1 * b.val) % 1024; omega

theorem cover (i : S4096x4096.Idx) : ∃ t : Fin cfg0.N, (cfg0.win 2).flush t = true ∧ i ∈ ((cfg0.win 2).blk t).view.set := by
  have h0 : (i 0).val < 4096 := (i 0).isLt
  have h1 : (i 1).val < 4096 := (i 1).isLt
  obtain ⟨t, hf, ht⟩ := idx_onto ⟨(i 0).val / 1024, by omega⟩ ⟨(i 1).val / 1024, by omega⟩
  refine ⟨t, hf, ?_⟩
  show i ∈ ((View.whole main_v0).slice (win0_2.rect t)).set
  rw [View.set_slice_whole, Rect.mem_set_unit]
  intro a
  match a with
  | ⟨0, _⟩ => exact in_tile (s := 1024) (by decide) (congrFun ht 0)
  | ⟨1, _⟩ => exact in_tile (s := 1024) (by decide) (congrFun ht 1)

/-- What the call ends with. -/
theorem final : (dats m 0 c).arrAt 2 cfg0.N = out m c :=
  (dats m 0 c).arrAt_eq_of_cover 2 _ (fun t _ => flushed_eq m c t) cover

open Cert.SsmInReferenceIdeal.Read in
/-- The reference's result. -/
theorem reference_eq (x : Mat 4096 2048) (y : Cut 2048 1024) (i : S4096x4096.Idx) :
    val_main_v4 (F := Ideal) x y i = mul x (whole 1024 rfl y) ⟨(i 0).val, (i 0).isLt⟩ ⟨(i 1).val, (i 1).isLt⟩ := by
  rw [val_main_v4_apply]
  refine Finset.sum_congr rfl fun k _ => congrArg₂ (· * ·) (congrArg x (ext2 rfl rfl)) ?_
  rw [val_main_v3_apply, val_main_v2_apply]
  refine congrArg y (ext3 (Fin.ext ?_) (Fin.ext ?_) (Fin.ext ?_))
  all_goals
    have h1 : (i 1).val < 4096 := (i 1).isLt
    have h2 := k.isLt
  · show (k.val * 4096 + (i 1).val) / 1024 % 4 = (i 1).val / 1024; omega
  · show (k.val * 4096 + (i 1).val) / 4096 = k.val; omega
  · show (k.val * 4096 + (i 1).val) % 1024 = (i 1).val % 1024; omega

end Cert.SsmInValue

end
-- ==== Proof.SwaInValue.lean ====
/- The call for an input projection of 4608 columns: each grid point computes one block of the product, whole, from the
   weights of one chip. -/
module

public import proofs.«01_k».proof.Proof.Product
public import proofs.«01_k».proof.Proof.Gen.SwaInIdeal.Value
public import proofs.«01_k».proof.Proof.Gen.SwaInReferenceIdeal.Read

@[expose] public section

set_option maxRecDepth 16384

noncomputable section

namespace Cert.SwaInValue

open Idealize.ShloMosaic Idealize.ShloMosaic.TcCoe Idealize.ShloMosaic.ValueIdx Idealize.SL.Sem
open Cert.FoxArgs Cert.FoxBlock Cert.Product Cert.SwaInIdeal Cert.SwaInIdeal.Gen

theorem pay_at (x : Vec Ideal S1024x2048 .bf16) (y : Vec Ideal S1x2048x1152 .bf16) (a : Fin 1024) (b : Fin 1152) :
    k0_pay1 (F := Ideal) x y (ix2 a b) = ∑ k : Fin 2048, (x (ix2 a k) : EReal) * (y (ix3 0 k b) : EReal) := by
  refine (matmul_at (φ₁ := .bf16) (φ₂ := .bf16) dot_S1024x2048_S2048x1152_S1024x1152_1_0_0_1_n_n rfl rfl x _ (ix2 a b) _ _
    (fun k => ext2 rfl (Fin.ext (contrEquiv1_symm_val dot_S1024x2048_S2048x1152_S1024x1152_1_0_0_1_n_n 2048 rfl rfl k)))
    (fun k => ext2 (Fin.ext (contrEquiv1_symm_val dot_S1024x2048_S2048x1152_S1024x1152_1_0_0_1_n_n 2048 rfl rfl k)) rfl)).trans ?_
  exact Finset.sum_congr rfl fun k _ => congrArg (_ * ·) (flat3 y _ k b)

theorem idx_facts : ∀ t : Fin cfg0.N, win0_0.index t (0 : Fin 2) = win0_2.index t (0 : Fin 2) ∧ win0_0.index t (1 : Fin 2) = 0
    ∧ win0_1.index t (0 : Fin 3) = win0_2.index t (1 : Fin 2) ∧ win0_1.index t (1 : Fin 3) = 0
    ∧ win0_1.index t (2 : Fin 3) = 0 :=
  (by decide +kernel : ∀ t : Fin grid0.N, _)

theorem idx_onto : ∀ (q0 : Fin 4) (q1 : Fin 4), ∃ t : Fin cfg0.N, win0_2.flush t = true ∧ win0_2.index t = ![q0.val, q1.val] :=
  (by decide +kernel : ∀ (q0 : Fin 4) (q1 : Fin 4), ∃ t : Fin grid0.N, win0_2.flush t = true ∧ win0_2.index t = ![q0.val, q1.val])

variable (m : (ℓ : Loc nD τ sig) → Buf (Elt Ideal) ℓ) (c : Dev nD)

/-- The projection: the product of the argument with the whole of the weights. -/
def out : S4096x4608.Idx → EReal := fun i =>
  mul (m ((c.tc : Thread nD τ).loc main_arg0)) (whole 1152 rfl (m ((c.tc : Thread nD τ).loc main_arg1))) ⟨(i 0).val, (i 0).isLt⟩ ⟨(i 1).val, (i 1).isLt⟩

theorem flushed_eq (t : Fin cfg0.N) : (dats m 0 c).flushed 2 t = ((cfg0.win 2).blk t).view.read (Elt Ideal) (out m c) := by
  obtain ⟨e0, e1, f0, f1, f2⟩ := idx_facts t
  rw [Cert.SwaInIdeal.Value.flushed2]
  unfold out0_2
  rw [View.canon_unit_zero hz2, View.ld_unit_zero hz2, View.ld_unit_zero hz3]
  funext y
  obtain ⟨a, b, rfl⟩ : ∃ (a : Fin 1024) (b : Fin 1152), y = ix2 a b := ⟨y 0, y 1, eq_ix2 y⟩
  refine (pay_at _ _ a b).trans ?_
  show _ = out m c (((cfg0.win 2).blk t).view.emb (ix2 a b))
  unfold out mul whole
  refine Finset.sum_congr rfl fun k _ => congrArg₂ (· * ·) ?_ ?_
  · refine (congrArg (V m c main_arg0) (ext2 (Fin.ext ?_) (Fin.ext ?_))).trans (congrFun (V_main_arg0 m c) _)
    · show win0_0.index t (0 : Fin 2) * 1024 + 1 * a.val = win0_2.index t (0 : Fin 2) * 1024 + 1 * a.val; omega
    · show win0_0.index t (1 : Fin 2) * 2048 + 1 * k.val = k.val; omega
  · refine (congrArg (V m c main_arg1) (ext3 (Fin.ext ?_) (Fin.ext ?_) (Fin.ext ?_))).trans (congrFun (V_main_arg1 m c) _)
    · show win0_1.index t (0 : Fin 3) * 1 + 1 * 0 = (win0_2.index t (1 : Fin 2) * 1152 + 1 * b.val) / 1152; omega
    · show win0_1.index t (1 : Fin 3) * 2048 + 1 * k.val = k.val; omega
    · show win0_1.index t (2 : Fin 3) * 1152 + 1 * b.val = (win0_2.index t (1 : Fin 2) * 1152 + 1 * b.val) % 1152; omega

theorem cover (i : S4096x4608.Idx) : ∃ t : Fin cfg0.N, (cfg0.win 2).flush t = true ∧ i ∈ ((cfg0.win 2).blk t).view.set := by
  have h0 : (i 0).val < 4096 := (i 0).isLt
  have h1 : (i 1).val < 4608 := (i 1).isLt
  obtain ⟨t, hf, ht⟩ := idx_onto ⟨(i 0).val / 1024, by omega⟩ ⟨(i 1).val / 1152, by omega⟩
  refine ⟨t, hf, ?_⟩
  show i ∈ ((View.whole main_v0).slice (win0_2.rect t)).set
  rw [View.set_slice_whole, Rect.mem_set_unit]
  intro a
  match a with
  | ⟨0, _⟩ => exact in_tile (s := 1024) (by decide) (congrFun ht 0)
  | ⟨1, _⟩ => exact in_tile (s := 1152) (by decide) (congrFun ht 1)

/-- What the call ends with. -/
theorem final : (dats m 0 c).arrAt 2 cfg0.N = out m c :=
  (dats m 0 c).arrAt_eq_of_cover 2 _ (fun t _ => flushed_eq m c t) cover

open Cert.SwaInReferenceIdeal.Read in
/-- The reference's result. -/
theorem reference_eq (x : Mat 4096 2048) (y : Cut 2048 1152) (i : S4096x4608.Idx) :
    val_main_v5 (F := Ideal) x y i = mul x (whole 1152 rfl y) ⟨(i 0).val, (i 0).isLt⟩ ⟨(i 1).val, (i 1).isLt⟩ := by
  rw [val_main_v5_apply]
  show val_main_v4 (F := Ideal) x y _ = _
  rw [val_main_v4_apply]
  refine Finset.sum_congr rfl fun k _ => congrArg₂ (· * ·) (congrArg x (ext2 rfl rfl)) ?_
  rw [val_main_v3_apply, val_main_v2_apply]
  refine congrArg y (ext3 (Fin.ext ?_) (Fin.ext ?_) (Fin.ext ?_))
  all_goals
    have h1 : (i 1).val < 4608 := (i 1).isLt
    have h2 := k.isLt
  · show (k.val * 4608 + (i 1).val) / 1152 % 4 = (i 1).val / 1152; omega
  · show (k.val * 4608 + (i 1).val) / 4608 = k.val; omega
  · show (k.val * 4608 + (i 1).val) % 1152 = (i 1).val % 1152; omega

end Cert.SwaInValue

end
-- ==== Proof.PleMixBwdValue.lean ====
/- The call for the gradient of the per-layer embedding and of its gate: element by element it is what the reference computes. -/
module

public import proofs.«01_k».proof.Proof.Gen.PleMixBwdIdeal.Value
public import proofs.«01_k».proof.Proof.Gen.PleMixBwdReferenceIdeal.Read
public import Idealize.ShloMosaic.Lib.IdealHost

@[expose] public section

noncomputable section

namespace Cert.PleMixBwdValue

open Idealize.ShloMosaic
open Cert.PleMixBwdIdeal Cert.PleMixBwdReferenceIdeal.Read

/-- The reference's sigmoid, written with an exponential, is the kernel's. -/
theorem sigmoid_eq (g : S4096x2048.Idx → EReal) (i : S4096x2048.Idx) :
    val_main_v5 (F := Ideal) g i = (FloatOps.logistic (F := Ideal) (φ := .f32) (g i) : EReal) := by
  rw [val_main_v5_apply, val_main_v4_apply, val_main_cst_0_apply, val_main_v3_apply, val_main_v2_apply, val_main_cst_apply,
    val_main_v1_apply, val_main_v0_apply]
  exact (congrArg (fun o : EReal => Ideal.div o (o + Ideal.exp (-g i))) Ideal.ofBits_one_f32)

theorem emb_eq (dx g : S4096x2048.Idx → EReal) :
    Cert.PleMixBwdIdeal.Value.G3 (F := Ideal) dx g = val_main_v13 (F := Ideal) dx g := by
  funext i
  rw [val_main_v13_apply, val_main_v11_apply, sigmoid_eq]

theorem gate_eq (dx e g : S4096x2048.Idx → EReal) :
    Cert.PleMixBwdIdeal.Value.G4 (F := Ideal) dx e g = val_main_v14 (F := Ideal) dx e g := by
  funext i
  rw [val_main_v14_apply, val_main_v12_apply, val_main_v10_apply, val_main_v8_apply, val_main_v7_apply, val_main_v6_apply,
    val_main_cst_1_apply, sigmoid_eq]
  exact (mul_assoc (_ : EReal) _ _).trans (congrArg (· * _) (mul_comm _ _))

end Cert.PleMixBwdValue

end
-- ==== Proof.PleEmbDwValue.lean ====
/- The call for the gradient of the per-layer embeddings' weights: each grid point computes one block of the product, whole. -/
module

public import proofs.«01_k».proof.Proof.Product
public import proofs.«01_k».proof.Proof.Gen.PleEmbDwIdeal.Value
public import proofs.«01_k».proof.Proof.Gen.PleEmbDwReferenceIdeal.Read

@[expose] public section

set_option maxRecDepth 16384

noncomputable section

namespace Cert.PleEmbDwValue

open Idealize.ShloMosaic Idealize.ShloMosaic.TcCoe Idealize.ShloMosaic.ValueIdx Idealize.SL.Sem
open Cert.FoxArgs Cert.FoxBlock Cert.Product Cert.PleEmbDwIdeal Cert.PleEmbDwIdeal.Gen

theorem pay_at (x : Vec Ideal S4096x256 .bf16) (y : Vec Ideal S4096x512 .bf16) (z : Fin 1) (a : Fin 256) (b : Fin 512) :
    k0_pay1 (F := Ideal) x y (ix3 z a b) = tmul x y a b := by
  unfold k0_pay1
  refine (lift3 _ _ z a b).trans ?_
  exact matmul_at (φ₁ := .bf16) (φ₂ := .bf16) dot_S4096x256_S4096x512_S256x512_0_0_1_1_n_n rfl rfl x y (ix2 a b) _ _
    (fun k => ext2 (Fin.ext (contrEquiv1_symm_val dot_S4096x256_S4096x512_S256x512_0_0_1_1_n_n 4096 rfl rfl k)) rfl)
    (fun k => ext2 (Fin.ext (contrEquiv1_symm_val dot_S4096x256_S4096x512_S256x512_0_0_1_1_n_n 4096 rfl rfl k)) rfl)

theorem idx_facts : ∀ t : Fin cfg0.N, win0_0.index t (0 : Fin 2) = 0 ∧ win0_0.index t (1 : Fin 2) = win0_2.index t (1 : Fin 3)
    ∧ win0_1.index t (0 : Fin 2) = 0 ∧ win0_1.index t (1 : Fin 2) = win0_2.index t (0 : Fin 3)
    ∧ win0_2.index t (0 : Fin 3) < 4 ∧ win0_2.index t (1 : Fin 3) < 1 ∧ win0_2.index t (2 : Fin 3) = 0 :=
  (by decide +kernel : ∀ t : Fin grid0.N, _)

theorem idx_onto : ∀ (q0 : Fin 4) (q1 : Fin 1), ∃ t : Fin cfg0.N, win0_2.flush t = true ∧ win0_2.index t = ![q0.val, q1.val, 0] :=
  (by decide +kernel : ∀ (q0 : Fin 4) (q1 : Fin 1), ∃ t : Fin grid0.N, win0_2.flush t = true ∧ win0_2.index t = ![q0.val, q1.val, 0])

variable (m : (ℓ : Loc nD τ sig) → Buf (Elt Ideal) ℓ) (c : Dev nD)

/-- The gradient, cut by columns into four: the product of the transposed argument with the cotangent. -/
def out : S4x256x512.Idx → EReal := fun i =>
  tmul (m ((c.tc : Thread nD τ).loc main_arg0)) (m ((c.tc : Thread nD τ).loc main_arg1)) ⟨(i 1).val, (i 1).isLt⟩
    (col 512 rfl ⟨(i 0).val, (i 0).isLt⟩ ⟨(i 2).val, (i 2).isLt⟩)

theorem flushed_eq (t : Fin cfg0.N) : (dats m 0 c).flushed 2 t = ((cfg0.win 2).blk t).view.read (Elt Ideal) (out m c) := by
  obtain ⟨e0, e1, f0, f1, b0, b1, b2⟩ := idx_facts t
  rw [Cert.PleEmbDwIdeal.Value.flushed2]
  unfold out0_2
  rw [View.canon_unit_zero hz3, View.ld_unit_zero hz2, View.ld_unit_zero hz2]
  funext y
  obtain ⟨z, a, b, rfl⟩ : ∃ (z : Fin 1) (a : Fin 256) (b : Fin 512), y = ix3 z a b := ⟨y 0, y 1, y 2, eq_ix3 y⟩
  have hz : z.val = 0 := by omega
  refine (pay_at _ _ z a b).trans ?_
  show _ = out m c (((cfg0.win 2).blk t).view.emb (ix3 z a b))
  unfold out tmul
  refine Finset.sum_congr rfl fun k _ => congrArg₂ (· * ·) ?_ ?_
  · refine (congrArg (V m c main_arg0) (ext2 (Fin.ext ?_) (Fin.ext ?_))).trans (congrFun (V_main_arg0 m c) _)
    · show win0_0.index t (0 : Fin 2) * 4096 + 1 * k.val = k.val; omega
    · show win0_0.index t (1 : Fin 2) * 256 + 1 * a.val = win0_2.index t (1 : Fin 3) * 256 + 1 * a.val; omega
  · refine (congrArg (V m c main_arg1) (ext2 (Fin.ext ?_) (Fin.ext ?_))).trans (congrFun (V_main_arg1 m c) _)
    · show win0_1.index t (0 : Fin 2) * 4096 + 1 * k.val = k.val; omega
    · show win0_1.index t (1 : Fin 2) * 512 + 1 * b.val
        = 512 * (win0_2.index t (0 : Fin 3) * 1 + 1 * z.val) + (win0_2.index t (2 : Fin 3) * 512 + 1 * b.val)
      omega

theorem cover (i : S4x256x512.Idx) : ∃ t : Fin cfg0.N, (cfg0.win 2).flush t = true ∧ i ∈ ((cfg0.win 2).blk t).view.set := by
  have h0 : (i 0).val < 4 := (i 0).isLt
  have h1 : (i 1).val < 256 := (i 1).isLt
  have h2 : (i 2).val < 512 := (i 2).isLt
  obtain ⟨t, hf, ht⟩ := idx_onto ⟨(i 0).val, h0⟩ ⟨(i 1).val / 256, by omega⟩
  refine ⟨t, hf, ?_⟩
  show i ∈ ((View.whole main_v0).slice (win0_2.rect t)).set
  rw [View.set_slice_whole, Rect.mem_set_unit]
  intro a
  match a with
  | ⟨0, _⟩ => exact in_tile (s := 1) (by decide) ((congrFun ht 0).trans (Nat.div_one _).symm)
  | ⟨1, _⟩ => exact in_tile (s := 256) (by decide) (congrFun ht 1)
  | ⟨2, _⟩ => exact in_tile (s := 512) (by decide) ((congrFun ht 2).trans (Nat.div_eq_of_lt h2).symm)

/-- What the call ends with. -/
theorem final : (dats m 0 c).arrAt 2 cfg0.N = out m c :=
  (dats m 0 c).arrAt_eq_of_cover 2 _ (fun t _ => flushed_eq m c t) cover

open Cert.PleEmbDwReferenceIdeal.Read in
/-- The reference's result. -/
theorem reference_eq (x : Mat 4096 256) (y : Mat 4096 2048) (i : S4x256x512.Idx) :
    val_main_v8 (F := Ideal) x y i = tmul x y ⟨(i 1).val, (i 1).isLt⟩ (col 512 rfl ⟨(i 0).val, (i 0).isLt⟩ ⟨(i 2).val, (i 2).isLt⟩) := by
  have h0 : (i 0).val < 4 := (i 0).isLt
  have h1 : (i 1).val < 256 := (i 1).isLt
  have h2 : (i 2).val < 512 := (i 2).isLt
  rw [val_main_v8_apply, val_main_v7_apply, val_main_v6_apply, val_main_v5_apply]
  show val_main_v4 (F := Ideal) x y _ = _
  rw [val_main_v4_apply]
  refine Finset.sum_congr rfl fun k _ => (mul_comm _ _).trans (congrArg₂ (· * ·) ?_ ?_)
  · refine congrArg x (ext2 rfl (Fin.ext ?_))
    show (((i 1).val * 4 + (i 0).val) * 512 + (i 2).val) / 2048 = (i 1).val
    omega
  · refine congrArg y (ext2 rfl (Fin.ext ?_))
    show (((i 1).val * 4 + (i 0).val) * 512 + (i 2).val) % 2048 = 512 * (i 0).val + (i 2).val
    omega

end Cert.PleEmbDwValue

end
-- ==== Proof.PleEmbValue.lean ====
/- The call for the projection of the per-layer embeddings: each grid point computes one block of the product, whole, from the
   weights of one chip. -/
module

public import proofs.«01_k».proof.Proof.Product
public import proofs.«01_k».proof.Proof.Gen.PleEmbIdeal.Value
public import proofs.«01_k».proof.Proof.Gen.PleEmbReferenceIdeal.Read

@[expose] public section

set_option maxRecDepth 16384

noncomputable section

namespace Cert.PleEmbValue

open Idealize.ShloMosaic Idealize.ShloMosaic.TcCoe Idealize.ShloMosaic.ValueIdx Idealize.SL.Sem
open Cert.FoxArgs Cert.FoxBlock Cert.Product Cert.PleEmbIdeal Cert.PleEmbIdeal.Gen

theorem pay_at (x : Vec Ideal S1024x256 .bf16) (y : Vec Ideal S1x256x512 .bf16) (a : Fin 1024) (b : Fin 512) :
    k0_pay1 (F := Ideal) x y (ix2 a b) = ∑ k : Fin 256, (x (ix2 a k) : EReal) * (y (ix3 0 k b) : EReal) := by
  refine (matmul_at (φ₁ := .bf16) (φ₂ := .bf16) dot_S1024x256_S256x512_S1024x512_1_0_0_1_n_n rfl rfl x _ (ix2 a b) _ _
    (fun k => ext2 rfl (Fin.ext (contrEquiv1_symm_val dot_S1024x256_S256x512_S1024x512_1_0_0_1_n_n 256 rfl rfl k)))
    (fun k => ext2 (Fin.ext (contrEquiv1_symm_val dot_S1024x256_S256x512_S1024x512_1_0_0_1_n_n 256 rfl rfl k)) rfl)).trans ?_
  exact Finset.sum_congr rfl fun k _ => congrArg (_ * ·) (flat3 y _ k b)

theorem idx_facts : ∀ t : Fin cfg0.N, win0_0.index t (0 : Fin 2) = win0_2.index t (0 : Fin 2) ∧ win0_0.index t (1 : Fin 2) = 0
    ∧ win0_1.index t (0 : Fin 3) = win0_2.index t (1 : Fin 2) ∧ win0_1.index t (1 : Fin 3) = 0
    ∧ win0_1.index t (2 : Fin 3) = 0 :=
  (by decide +kernel : ∀ t : Fin grid0.N, _)

theorem idx_onto : ∀ (q0 : Fin 4) (q1 : Fin 4), ∃ t : Fin cfg0.N, win0_2.flush t = true ∧ win0_2.index t = ![q0.val, q1.val] :=
  (by decide +kernel : ∀ (q0 : Fin 4) (q1 : Fin 4), ∃ t : Fin grid0.N, win0_2.flush t = true ∧ win0_2.index t = ![q0.val, q1.val])

variable (m : (ℓ : Loc nD τ sig) → Buf (Elt Ideal) ℓ) (c : Dev nD)

/-- The projection: the product of the argument with the whole of the weights. -/
def out : S4096x2048.Idx → EReal := fun i =>
  mul (m ((c.tc : Thread nD τ).loc main_arg0)) (whole 512 rfl (m ((c.tc : Thread nD τ).loc main_arg1))) ⟨(i 0).val, (i 0).isLt⟩ ⟨(i 1).val, (i 1).isLt⟩

theorem flushed_eq (t : Fin cfg0.N) : (dats m 0 c).flushed 2 t = ((cfg0.win 2).blk t).view.read (Elt Ideal) (out m c) := by
  obtain ⟨e0, e1, f0, f1, f2⟩ := idx_facts t
  rw [Cert.PleEmbIdeal.Value.flushed2]
  unfold out0_2
  rw [View.canon_unit_zero hz2, View.ld_unit_zero hz2, View.ld_unit_zero hz3]
  funext y
  obtain ⟨a, b, rfl⟩ : ∃ (a : Fin 1024) (b : Fin 512), y = ix2 a b := ⟨y 0, y 1, eq_ix2 y⟩
  refine (pay_at _ _ a b).trans ?_
  show _ = out m c (((cfg0.win 2).blk t).view.emb (ix2 a b))
  unfold out mul whole
  refine Finset.sum_congr rfl fun k _ => congrArg₂ (· * ·) ?_ ?_
  · refine (congrArg (V m c main_arg0) (ext2 (Fin.ext ?_) (Fin.ext ?_))).trans (congrFun (V_main_arg0 m c) _)
    · show win0_0.index t (0 : Fin 2) * 1024 + 1 * a.val = win0_2.index t (0 : Fin 2) * 1024 + 1 * a.val; omega
    · show win0_0.index t (1 : Fin 2) * 256 + 1 * k.val = k.val; omega
  · refine (congrArg (V m c main_arg1) (ext3 (Fin.ext ?_) (Fin.ext ?_) (Fin.ext ?_))).trans (congrFun (V_main_arg1 m c) _)
    · show win0_1.index t (0 : Fin 3) * 1 + 1 * 0 = (win0_2.index t (1 : Fin 2) * 512 + 1 * b.val) / 512; omega
    · show win0_1.index t (1 : Fin 3) * 256 + 1 * k.val = k.val; omega
    · show win0_1.index t (2 : Fin 3) * 512 + 1 * b.val = (win0_2.index t (1 : Fin 2) * 512 + 1 * b.val) % 512; omega

theorem cover (i : S4096x2048.Idx) : ∃ t : Fin cfg0.N, (cfg0.win 2).flush t = true ∧ i ∈ ((cfg0.win 2).blk t).view.set := by
  have h0 : (i 0).val < 4096 := (i 0).isLt
  have h1 : (i 1).val < 2048 := (i 1).isLt
  obtain ⟨t, hf, ht⟩ := idx_onto ⟨(i 0).val / 1024, by omega⟩ ⟨(i 1).val / 512, by omega⟩
  refine ⟨t, hf, ?_⟩
  show i ∈ ((View.whole main_v0).slice (win0_2.rect t)).set
  rw [View.set_slice_whole, Rect.mem_set_unit]
  intro a
  match a with
  | ⟨0, _⟩ => exact in_tile (s := 1024) (by decide) (congrFun ht 0)
  | ⟨1, _⟩ => exact in_tile (s := 512) (by decide) (congrFun ht 1)

/-- What the call ends with. -/
theorem final : (dats m 0 c).arrAt 2 cfg0.N = out m c :=
  (dats m 0 c).arrAt_eq_of_cover 2 _ (fun t _ => flushed_eq m c t) cover

open Cert.PleEmbReferenceIdeal.Read in
/-- The reference's result. -/
theorem reference_eq (x : Mat 4096 256) (y : Cut 256 512) (i : S4096x2048.Idx) :
    val_main_v4 (F := Ideal) x y i = mul x (whole 512 rfl y) ⟨(i 0).val, (i 0).isLt⟩ ⟨(i 1).val, (i 1).isLt⟩ := by
  rw [val_main_v4_apply]
  refine Finset.sum_congr rfl fun k _ => congrArg₂ (· * ·) (congrArg x (ext2 rfl rfl)) ?_
  rw [val_main_v3_apply, val_main_v2_apply]
  refine congrArg y (ext3 (Fin.ext ?_) (Fin.ext ?_) (Fin.ext ?_))
  all_goals
    have h1 : (i 1).val < 2048 := (i 1).isLt
    have h2 := k.isLt
  · show (k.val * 2048 + (i 1).val) / 512 % 4 = (i 1).val / 512; omega
  · show (k.val * 2048 + (i 1).val) / 2048 = k.val; omega
  · show (k.val * 2048 + (i 1).val) % 512 = (i 1).val % 512; omega

end Cert.PleEmbValue

end
-- ==== Proof.Gate.lean ====
/- Gates: the sigmoid as the host writes it, and the gradient of x · sigmoid x. -/
module

public import proofs.«01_k».proof.Proof.FoxPre
public import Idealize.ShloMosaic.Lib.IdealHost

@[expose] public section

noncomputable section

namespace Cert.Gate

open Idealize.ShloMosaic

/-- The sigmoid written with an exponential. -/
theorem sigmoid_eq (x : EReal) :
    Ideal.div (Ideal.ofBits .f32 0x3F800000#32) (Ideal.ofBits .f32 0x3F800000#32 + Ideal.exp (-x)) = Ideal.logistic x := by
  rw [Ideal.ofBits_one_f32]; rfl

/-- The gradient of `x · sigmoid x`, times a real number: as the product rule gives it, and with the sigmoid taken out. The argument
    may be infinite. -/
theorem silu_grad (c : ℝ) (x : EReal) :
    (c : EReal) * Ideal.logistic x * (Ideal.ofBits .f32 0x3F800000#32 + x * (Ideal.ofBits .f32 0x3F800000#32 - Ideal.logistic x))
      = (c : EReal) * Ideal.logistic x + x * (c : EReal) * (Ideal.logistic x * (Ideal.ofBits .f32 0x3F800000#32 - Ideal.logistic x)) := by
  rw [Ideal.ofBits_one_f32]
  induction x with
  | bot => rw [Ideal.logistic_bot]; simp
  | top =>
    have h : (1 : EReal) - 1 = 0 := by rw [← EReal.coe_one, ← EReal.coe_sub, sub_self, EReal.coe_zero]
    rw [Ideal.logistic_top, h]; simp
  | coe r =>
    rw [Ideal.logistic_coe, ← EReal.coe_one]
    simp only [← EReal.coe_mul, ← EReal.coe_sub, ← EReal.coe_add]
    congr 1; ring

/-- A product of real numbers is one. -/
theorem real_mul {x y : EReal} (hx : ∃ r : ℝ, x = r) (hy : ∃ r : ℝ, y = r) : ∃ r : ℝ, x * y = r := by
  obtain ⟨a, rfl⟩ := hx
  obtain ⟨b, rfl⟩ := hy
  exact ⟨a * b, (EReal.coe_mul a b).symm⟩

end Cert.Gate

end
-- ==== Proof.FoxGateValue.lean ====
/- The calls for the forgetting attention's gate, forward and backward: element by element they are what the references compute. -/
module

public import proofs.«01_k».proof.Proof.Gate
public import proofs.«01_k».proof.Proof.Gen.FoxGateIdeal.Value
public import proofs.«01_k».proof.Proof.Gen.FoxGateReferenceIdeal.Read
public import proofs.«01_k».proof.Proof.Gen.FoxGateBwdIdeal.Value
public import proofs.«01_k».proof.Proof.Gen.FoxGateBwdReferenceIdeal.Read

@[expose] public section

noncomputable section

namespace Cert.FoxGateValue

open Idealize.ShloMosaic Cert.FoxArgs

abbrev Out := (⟨2, ![4096, 2048]⟩ : Shape).Idx → EReal
abbrev Proj := (⟨2, ![4096, 8192]⟩ : Shape).Idx → EReal

/-- The gate: the last quarter of the projection. -/
def gate (p : Proj) (i : (⟨2, ![4096, 2048]⟩ : Shape).Idx) : EReal :=
  p (ValueIdx.ix2 ⟨(i 0).val, (i 0).isLt⟩ ⟨6144 + (i 1).val, by have h : (i 1).val < 2048 := (i 1).isLt; omega⟩)

section Forward
open Cert.FoxGateReferenceIdeal.Read

theorem gate_eq (p : Proj) (i) : (val_main_v5 (F := Ideal) p i : EReal) = gate p i := by
  rw [val_main_v5_apply, val_main_v4_apply]
  exact congrArg p (ext2 rfl rfl)

theorem forward (o : Out) (p : Proj) : Cert.FoxGateIdeal.Value.G2 (F := Ideal) o p = val_main_v8 (F := Ideal) o p := by
  funext i
  rw [val_main_v8_apply, val_main_v7_apply, val_main_v6_apply, val_main_v0_apply, val_main_call0_v5_apply, val_main_call0_v4_apply,
    val_main_call0_cst_0_apply, val_main_call0_v3_apply, val_main_call0_v2_apply, val_main_call0_cst_apply, val_main_call0_v1_apply,
    val_main_call0_v0_apply, gate_eq]
  refine .trans ?_ (congrArg (fun s : EReal => o i * (gate p i * s)) (Cert.Gate.sigmoid_eq (gate p i)).symm)
  have h : p (Cert.FoxGateIdeal.Value.inIdx2_1 i) = gate p i := congrArg p (ext2 rfl (Fin.ext (Nat.add_comm _ _)))
  show (o i : EReal) * (p (Cert.FoxGateIdeal.Value.inIdx2_1 i) * Ideal.logistic (p (Cert.FoxGateIdeal.Value.inIdx2_1 i))) = _
  rw [h]

end Forward

section Backward
open Cert.FoxGateBwdReferenceIdeal.Read

theorem gate_eq' (p : Proj) (i) : (val_main_v5 (F := Ideal) p i : EReal) = gate p i := by
  rw [val_main_v5_apply, val_main_v4_apply]
  exact congrArg p (ext2 rfl rfl)

theorem sigmoid_eq (p : Proj) (i) : (val_main_v6_2 (F := Ideal) p i : EReal) = Ideal.logistic (gate p i) := by
  rw [val_main_v6_2_apply, val_main_call0_v4_apply, val_main_call0_cst_0_apply, val_main_call0_v3_apply, val_main_call0_v2_apply,
    val_main_call0_cst_apply, val_main_call0_v1_apply, val_main_call0_v0_apply, gate_eq']
  exact Cert.Gate.sigmoid_eq _

theorem out_grad (da : Out) (p : Proj) : Cert.FoxGateBwdIdeal.Value.G3 (F := Ideal) da p = val_main_v12 (F := Ideal) da p := by
  funext i
  rw [val_main_v12_apply, val_main_v10_apply, val_main_v8_apply, val_main_v6_0_apply, gate_eq', sigmoid_eq]
  have h : p (Cert.FoxGateBwdIdeal.Value.inIdx3_1 i) = gate p i := congrArg p (ext2 rfl (Fin.ext (Nat.add_comm _ _)))
  show (da i : EReal) * p (Cert.FoxGateBwdIdeal.Value.inIdx3_1 i) * Ideal.logistic (p (Cert.FoxGateBwdIdeal.Value.inIdx3_1 i)) = _
  rw [h]
  exact mul_assoc (_ : EReal) _ _

theorem gate_grad (da o : Out) (p : Proj) (hd : ∀ i, ∃ r : ℝ, da i = r) (ho : ∀ i, ∃ r : ℝ, o i = r) :
    Cert.FoxGateBwdIdeal.Value.G4 (F := Ideal) da o p = val_main_v13 (F := Ideal) da o p := by
  funext i
  rw [val_main_v13_apply, val_main_v11_apply, val_main_call1_v1_apply, val_main_call1_v2_apply, val_main_call1_v0_apply,
    val_main_v6_1_apply, val_main_call0_v7_apply, val_main_call0_v6_apply, val_main_call0_cst_1_apply, val_main_v9_apply,
    val_main_v8_apply, val_main_v0_apply, gate_eq', sigmoid_eq]
  have h : p (Cert.FoxGateBwdIdeal.Value.inIdx4_2 i) = gate p i := congrArg p (ext2 rfl (Fin.ext (Nat.add_comm _ _)))
  show (da i : EReal) * o i * Ideal.logistic (p (Cert.FoxGateBwdIdeal.Value.inIdx4_2 i))
      * (Ideal.ofBits .f32 0x3F800000#32 + p (Cert.FoxGateBwdIdeal.Value.inIdx4_2 i)
        * (Ideal.ofBits .f32 0x3F800000#32 - Ideal.logistic (p (Cert.FoxGateBwdIdeal.Value.inIdx4_2 i))))
    = (o i : EReal) * da i * Ideal.logistic (gate p i)
      + gate p i * (o i * da i) * (Ideal.logistic (gate p i) * (Ideal.ofBits .f32 0x3F800000#32 - Ideal.logistic (gate p i)))
  obtain ⟨c, hc⟩ := Cert.Gate.real_mul (ho i) (hd i)
  rw [h, mul_comm (da i : EReal), hc]
  exact Cert.Gate.silu_grad c _

end Backward

/-- The side conditions of the precondition's operations. -/
instance facts : Cert.Pre_finite_gated.Facts where
  bitsLt_bf16_f32 := by decide
  bcast_S_S4096x2048 := by decide

/-- Where the precondition is all ones, the cotangent and the attention's output are real numbers. -/
theorem reals {da o : FVec Ideal (⟨2, ![4096, 2048]⟩ : Shape) .bf16} {p : FVec Ideal (⟨2, ![4096, 8192]⟩ : Shape) .bf16}
    (h0 : (Cert.Pre_finite_gated.fn (F := Ideal) da o p).1 = fun _ => 1#1)
    (h1 : (Cert.Pre_finite_gated.fn (F := Ideal) da o p).2 = fun _ => 1#1) :
    (∀ i, ∃ r : ℝ, (da i : EReal) = r) ∧ (∀ i, ∃ r : ℝ, (o i : EReal) = r) := by
  refine ⟨fun i => ?_, fun i => ?_⟩
  · have e := congrFun h0 i
    unfold Cert.Pre_finite_gated.fn at e
    refine Cert.FoxPre.real_of_abs_lt ?_
    rw [← Cert.FoxPre.ofBits_top, ← e]
    rfl
  · have e := congrFun h1 i
    unfold Cert.Pre_finite_gated.fn at e
    refine Cert.FoxPre.real_of_abs_lt ?_
    rw [← Cert.FoxPre.ofBits_top, ← e]
    rfl

end Cert.FoxGateValue

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.KernelIdeal.Value
public import proofs.«01_k».proof.Proof.Gen.InDw
public import proofs.«01_k».proof.Proof.Gen.InDw.Frame
public import proofs.«01_k».proof.Proof.Gen.InDwIdeal
public import proofs.«01_k».proof.Proof.Gen.InDwIdeal.Frame
public import proofs.«01_k».proof.Proof.Gen.InDwIdeal.Value
public import proofs.«01_k».proof.Proof.Gen.InDwReferenceIdeal
public import proofs.«01_k».proof.Proof.Gen.InDwReferenceIdeal.Run
public import proofs.«01_k».proof.Proof.Gen.InDwReferenceIdeal.Read
public import proofs.«01_k».proof.Proof.Gen.InDx
public import proofs.«01_k».proof.Proof.Gen.InDx.Frame
public import proofs.«01_k».proof.Proof.Gen.InDxIdeal
public import proofs.«01_k».proof.Proof.Gen.InDxIdeal.Frame
public import proofs.«01_k».proof.Proof.Gen.InDxIdeal.Value
public import proofs.«01_k».proof.Proof.Gen.InDxReferenceIdeal
public import proofs.«01_k».proof.Proof.Gen.InDxReferenceIdeal.Run
public import proofs.«01_k».proof.Proof.Gen.InDxReferenceIdeal.Read
public import proofs.«01_k».proof.Proof.Gen.OutDw
public import proofs.«01_k».proof.Proof.Gen.OutDw.Frame
public import proofs.«01_k».proof.Proof.Gen.OutDwIdeal
public import proofs.«01_k».proof.Proof.Gen.OutDwIdeal.Frame
public import proofs.«01_k».proof.Proof.Gen.OutDwIdeal.Value
public import proofs.«01_k».proof.Proof.Gen.OutDwReferenceIdeal
public import proofs.«01_k».proof.Proof.Gen.OutDwReferenceIdeal.Run
public import proofs.«01_k».proof.Proof.Gen.OutDwReferenceIdeal.Read
public import proofs.«01_k».proof.Proof.Gen.SsmInDw
public import proofs.«01_k».proof.Proof.Gen.SsmInDw.Frame
public import proofs.«01_k».proof.Proof.Gen.SsmInDwIdeal
public import proofs.«01_k».proof.Proof.Gen.SsmInDwIdeal.Frame
public import proofs.«01_k».proof.Proof.Gen.SsmInDwIdeal.Value
public import proofs.«01_k».proof.Proof.Gen.SsmInDwReferenceIdeal
public import proofs.«01_k».proof.Proof.Gen.SsmInDwReferenceIdeal.Run
public import proofs.«01_k».proof.Proof.Gen.SsmInDwReferenceIdeal.Read
public import proofs.«01_k».proof.Proof.Gen.SsmInDx
public import proofs.«01_k».proof.Proof.Gen.SsmInDx.Frame
public import proofs.«01_k».proof.Proof.Gen.SsmInDxIdeal
public import proofs.«01_k».proof.Proof.Gen.SsmInDxIdeal.Frame
public import proofs.«01_k».proof.Proof.Gen.SsmInDxIdeal.Value
public import proofs.«01_k».proof.Proof.Gen.SsmInDxReferenceIdeal
public import proofs.«01_k».proof.Proof.Gen.SsmInDxReferenceIdeal.Run
public import proofs.«01_k».proof.Proof.Gen.SsmInDxReferenceIdeal.Read
public import proofs.«01_k».proof.Proof.Gen.OutDx
public import proofs.«01_k».proof.Proof.Gen.OutDx.Frame
public import proofs.«01_k».proof.Proof.Gen.OutDxIdeal
public import proofs.«01_k».proof.Proof.Gen.OutDxIdeal.Frame
public import proofs.«01_k».proof.Proof.Gen.OutDxIdeal.Value
public import proofs.«01_k».proof.Proof.Gen.OutDxReferenceIdeal
public import proofs.«01_k».proof.Proof.Gen.OutDxReferenceIdeal.Run
public import proofs.«01_k».proof.Proof.Gen.OutDxReferenceIdeal.Read
public import proofs.«01_k».proof.Proof.Gen.GateDx
public import proofs.«01_k».proof.Proof.Gen.GateDx.Frame
public import proofs.«01_k».proof.Proof.Gen.GateDxIdeal
public import proofs.«01_k».proof.Proof.Gen.GateDxIdeal.Frame
public import proofs.«01_k».proof.Proof.Gen.GateDxIdeal.Value
public import proofs.«01_k».proof.Proof.Gen.GateDxReferenceIdeal
public import proofs.«01_k».proof.Proof.Gen.GateDxReferenceIdeal.Run
public import proofs.«01_k».proof.Proof.Gen.GateDxReferenceIdeal.Read
public import proofs.«01_k».proof.Proof.Gen.SwaInDw
public import proofs.«01_k».proof.Proof.Gen.SwaInDw.Frame
public import proofs.«01_k».proof.Proof.Gen.SwaInDwIdeal
public import proofs.«01_k».proof.Proof.Gen.SwaInDwIdeal.Frame
public import proofs.«01_k».proof.Proof.Gen.SwaInDwIdeal.Value
public import proofs.«01_k».proof.Proof.Gen.SwaInDwReferenceIdeal
public import proofs.«01_k».proof.Proof.Gen.SwaInDwReferenceIdeal.Run
public import proofs.«01_k».proof.Proof.Gen.SwaInDwReferenceIdeal.Read
public import proofs.«01_k».proof.Proof.Gen.SwaInDx
public import proofs.«01_k».proof.Proof.Gen.SwaInDx.Frame
public import proofs.«01_k».proof.Proof.Gen.SwaInDxIdeal
public import proofs.«01_k».proof.Proof.Gen.SwaInDxIdeal.Frame
public import proofs.«01_k».proof.Proof.Gen.SwaInDxIdeal.Value
public import proofs.«01_k».proof.Proof.Gen.SwaInDxReferenceIdeal
public import proofs.«01_k».proof.Proof.Gen.SwaInDxReferenceIdeal.Run
public import proofs.«01_k».proof.Proof.Gen.SwaInDxReferenceIdeal.Read
public import proofs.«01_k».proof.Proof.Gen.FoxIn
public import proofs.«01_k».proof.Proof.Gen.FoxIn.Frame
public import proofs.«01_k».proof.Proof.Gen.FoxInIdeal
public import proofs.«01_k».proof.Proof.Gen.FoxInIdeal.Frame
public import proofs.«01_k».proof.Proof.Gen.FoxInIdeal.Value
public import proofs.«01_k».proof.Proof.Gen.FoxInReferenceIdeal
public import proofs.«01_k».proof.Proof.Gen.FoxInReferenceIdeal.Run
public import proofs.«01_k».proof.Proof.Gen.FoxInReferenceIdeal.Read
public import proofs.«01_k».proof.Proof.Gen.MixerOut
public import proofs.«01_k».proof.Proof.Gen.MixerOut.Frame
public import proofs.«01_k».proof.Proof.Gen.MixerOutIdeal
public import proofs.«01_k».proof.Proof.Gen.MixerOutIdeal.Frame
public import proofs.«01_k».proof.Proof.Gen.MixerOutIdeal.Value
public import proofs.«01_k».proof.Proof.Gen.MixerOutReferenceIdeal
public import proofs.«01_k».proof.Proof.Gen.MixerOutReferenceIdeal.Run
public import proofs.«01_k».proof.Proof.Gen.MixerOutReferenceIdeal.Read
public import proofs.«01_k».proof.Proof.Gen.SsmIn
public import proofs.«01_k».proof.Proof.Gen.SsmIn.Frame
public import proofs.«01_k».proof.Proof.Gen.SsmInIdeal
public import proofs.«01_k».proof.Proof.Gen.SsmInIdeal.Frame
public import proofs.«01_k».proof.Proof.Gen.SsmInIdeal.Value
public import proofs.«01_k».proof.Proof.Gen.SsmInReferenceIdeal
public import proofs.«01_k».proof.Proof.Gen.SsmInReferenceIdeal.Run
public import proofs.«01_k».proof.Proof.Gen.SsmInReferenceIdeal.Read
public import proofs.«01_k».proof.Proof.Gen.SwaIn
public import proofs.«01_k».proof.Proof.Gen.SwaIn.Frame
public import proofs.«01_k».proof.Proof.Gen.SwaInIdeal
public import proofs.«01_k».proof.Proof.Gen.SwaInIdeal.Frame
public import proofs.«01_k».proof.Proof.Gen.SwaInIdeal.Value
public import proofs.«01_k».proof.Proof.Gen.SwaInReferenceIdeal
public import proofs.«01_k».proof.Proof.Gen.SwaInReferenceIdeal.Run
public import proofs.«01_k».proof.Proof.Gen.SwaInReferenceIdeal.Read
public import proofs.«01_k».proof.Proof.Gen.PleMixBwd
public import proofs.«01_k».proof.Proof.Gen.PleMixBwd.Frame
public import proofs.«01_k».proof.Proof.Gen.PleMixBwdIdeal
public import proofs.«01_k».proof.Proof.Gen.PleMixBwdIdeal.Frame
public import proofs.«01_k».proof.Proof.Gen.PleMixBwdIdeal.Value
public import proofs.«01_k».proof.Proof.Gen.PleMixBwdReferenceIdeal
public import proofs.«01_k».proof.Proof.Gen.PleMixBwdReferenceIdeal.Run
public import proofs.«01_k».proof.Proof.Gen.PleMixBwdReferenceIdeal.Read
public import proofs.«01_k».proof.Proof.Gen.PleEmbDw
public import proofs.«01_k».proof.Proof.Gen.PleEmbDw.Frame
public import proofs.«01_k».proof.Proof.Gen.PleEmbDwIdeal
public import proofs.«01_k».proof.Proof.Gen.PleEmbDwIdeal.Frame
public import proofs.«01_k».proof.Proof.Gen.PleEmbDwIdeal.Value
public import proofs.«01_k».proof.Proof.Gen.PleEmbDwReferenceIdeal
public import proofs.«01_k».proof.Proof.Gen.PleEmbDwReferenceIdeal.Run
public import proofs.«01_k».proof.Proof.Gen.PleEmbDwReferenceIdeal.Read
public import proofs.«01_k».proof.Proof.Gen.PleEmb
public import proofs.«01_k».proof.Proof.Gen.PleEmb.Frame
public import proofs.«01_k».proof.Proof.Gen.PleEmbIdeal
public import proofs.«01_k».proof.Proof.Gen.PleEmbIdeal.Frame
public import proofs.«01_k».proof.Proof.Gen.PleEmbIdeal.Value
public import proofs.«01_k».proof.Proof.Gen.PleEmbReferenceIdeal
public import proofs.«01_k».proof.Proof.Gen.PleEmbReferenceIdeal.Run
public import proofs.«01_k».proof.Proof.Gen.PleEmbReferenceIdeal.Read
public import proofs.«01_k».proof.Proof.Gen.FoxGateBwd
public import proofs.«01_k».proof.Proof.Gen.FoxGateBwd.Frame
public import proofs.«01_k».proof.Proof.Gen.FoxGateBwdIdeal
public import proofs.«01_k».proof.Proof.Gen.FoxGateBwdIdeal.Frame
public import proofs.«01_k».proof.Proof.Gen.FoxGateBwdIdeal.Value
public import proofs.«01_k».proof.Proof.Gen.FoxGateBwdReferenceIdeal
public import proofs.«01_k».proof.Proof.Gen.FoxGateBwdReferenceIdeal.Run
public import proofs.«01_k».proof.Proof.Gen.FoxGateBwdReferenceIdeal.Read
public import proofs.«01_k».proof.Proof.Gen.FoxGate
public import proofs.«01_k».proof.Proof.Gen.FoxGate.Frame
public import proofs.«01_k».proof.Proof.Gen.FoxGateIdeal
public import proofs.«01_k».proof.Proof.Gen.FoxGateIdeal.Frame
public import proofs.«01_k».proof.Proof.Gen.FoxGateIdeal.Value
public import proofs.«01_k».proof.Proof.Gen.FoxGateReferenceIdeal
public import proofs.«01_k».proof.Proof.Gen.FoxGateReferenceIdeal.Run
public import proofs.«01_k».proof.Proof.Gen.FoxGateReferenceIdeal.Read
public import proofs.«01_k».proof.Proof.FoxPre
public import proofs.«01_k».proof.Proof.FoxClaim
public import proofs.«01_k».proof.Proof.InDwValue
public import proofs.«01_k».proof.Proof.InDxValue
public import proofs.«01_k».proof.Proof.OutDwValue
public import proofs.«01_k».proof.Proof.SsmInDwValue
public import proofs.«01_k».proof.Proof.SsmInDxValue
public import proofs.«01_k».proof.Proof.OutDxValue
public import proofs.«01_k».proof.Proof.GateDxValue
public import proofs.«01_k».proof.Proof.SwaInDwValue
public import proofs.«01_k».proof.Proof.SwaInDxValue
public import proofs.«01_k».proof.Proof.FoxInValue
public import proofs.«01_k».proof.Proof.MixerOutValue
public import proofs.«01_k».proof.Proof.SsmInValue
public import proofs.«01_k».proof.Proof.SwaInValue
public import proofs.«01_k».proof.Proof.PleMixBwdValue
public import proofs.«01_k».proof.Proof.PleEmbDwValue
public import proofs.«01_k».proof.Proof.PleEmbValue
public import proofs.«01_k».proof.Proof.FoxGateValue
public import Idealize.ShloMosaic.Adequacy
public import Idealize.ShloMosaic.Init

@[expose] public section

noncomputable section

namespace Cert.Proof

open Idealize.ShloMosaic Idealize.SL.Sem Cert.Kernel

/-- The reference runs, keeps its arguments, and has no semaphore. -/
theorem frame_reference (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0) :=
  (θ_run _ _ _).mono (fun r h => ⟨fun c => (h c).2.2.2.2.2, sem_eq_zero_of_no_sems (by decide) r.2⟩) (Cert.ReferenceIdeal.Value.run m g)

/-- The attention's two programs end with equal results. -/
theorem algebraic : @Cert.algebraic_KernelIdeal_ReferenceIdeal_pre_finite Cert.KernelIdeal.Gen.facts Cert.ReferenceIdeal.Gen.facts Cert.FoxPre.facts := by
  intro m g m' g' hpre hargs
  have key : ∀ c, Cert.KernelIdeal.Value.G10 m c = Cert.ReferenceIdeal.Value.res_main_v95 m' c
      ∧ Cert.KernelIdeal.Value.G11 m c = Cert.ReferenceIdeal.Value.res_main_v96 m' c
      ∧ Cert.KernelIdeal.Value.G12 m c = Cert.ReferenceIdeal.Value.res_main_v99 m' c
      ∧ Cert.KernelIdeal.Value.G13 m c = Cert.ReferenceIdeal.Value.res_main_v100 m' c
      ∧ Cert.KernelIdeal.Value.G14 m c = Cert.ReferenceIdeal.Value.res_main_v103 m' c := fun c => by
    obtain ⟨h0, h1, h2⟩ := hpre c
    obtain ⟨q, k, v, gr, cs, R⟩ := Cert.FoxPre.reads_of_finite h0 h1 h2
    obtain ⟨mx, E⟩ := Cert.FoxEntry.entry (m := m) (c := c) R
    obtain ⟨a0, a1, a2⟩ := hargs c
    have r := Cert.FoxClaim.results_eq R E
    rw [Cert.ReferenceIdeal.Read.val_main_v95_eq, Cert.ReferenceIdeal.Read.val_main_v96_eq, Cert.ReferenceIdeal.Read.val_main_v99_eq,
      Cert.ReferenceIdeal.Read.val_main_v100_eq, Cert.ReferenceIdeal.Read.val_main_v103_eq, a0, a1, a2]
    exact r
  refine ⟨fun c => Cert.KernelIdeal.Value.G10 m c, fun c => Cert.KernelIdeal.Value.G11 m c, fun c => Cert.KernelIdeal.Value.G12 m c,
    fun c => Cert.KernelIdeal.Value.G13 m c, fun c => Cert.KernelIdeal.Value.G14 m c, Cert.KernelIdeal.Value.run m g, ?_⟩
  refine (θ_run _ _ _).mono (fun r h c => ?_) (Cert.ReferenceIdeal.Value.run m' g')
  obtain ⟨b0, b1, b2, b3, b4, b5⟩ := h c
  obtain ⟨k0, k1, k2, k3, k4⟩ := key c
  exact ⟨b0.trans k0.symm, b1.trans k1.symm, b2.trans k2.symm, b3.trans k3.symm, b4.trans k4.symm, b5⟩

/-- And the products'. -/
theorem in_dw : @Cert.algebraic_InDwIdeal_InDwReferenceIdeal Cert.InDwIdeal.Gen.facts Cert.InDwReferenceIdeal.Gen.facts := by
  intro m g m' g' _ hargs
  refine ⟨fun c => Cert.InDwValue.out m c,
    (θ_run _ _ _).mono (fun r h c => ⟨(h c).1.trans (Cert.InDwValue.final m c), (h c).2⟩) (Cert.InDwIdeal.Value.run_blocks m g),
    (θ_run _ _ _).mono (fun r h c => ⟨(h c).1.trans ?_, (h c).2⟩) (Cert.InDwReferenceIdeal.Value.run m' g')⟩
  rw [Cert.InDwReferenceIdeal.Read.val_main_v8_eq, (hargs c).1, (hargs c).2]
  exact funext (Cert.InDwValue.reference_eq _ _)

theorem in_dx : @Cert.algebraic_InDxIdeal_InDxReferenceIdeal Cert.InDxIdeal.Gen.facts Cert.InDxReferenceIdeal.Gen.facts := by
  intro m g m' g' _ hargs
  refine ⟨fun c => Cert.InDxValue.out m c,
    (θ_run _ _ _).mono (fun r h c => ⟨(h c).1.trans (Cert.InDxValue.final m c), (h c).2⟩) (Cert.InDxIdeal.Value.run m g),
    (θ_run _ _ _).mono (fun r h c => ⟨(h c).1.trans ?_, (h c).2⟩) (Cert.InDxReferenceIdeal.Value.run m' g')⟩
  rw [Cert.InDxReferenceIdeal.Read.val_main_v6_eq, (hargs c).1, (hargs c).2]
  exact funext (Cert.InDxValue.reference_eq _ _)

theorem out_dw : @Cert.algebraic_OutDwIdeal_OutDwReferenceIdeal Cert.OutDwIdeal.Gen.facts Cert.OutDwReferenceIdeal.Gen.facts := by
  intro m g m' g' _ hargs
  refine ⟨fun c => Cert.OutDwValue.out m c,
    (θ_run _ _ _).mono (fun r h c => ⟨(h c).1.trans (Cert.OutDwValue.final m c), (h c).2⟩) (Cert.OutDwIdeal.Value.run_blocks m g),
    (θ_run _ _ _).mono (fun r h c => ⟨(h c).1.trans ?_, (h c).2⟩) (Cert.OutDwReferenceIdeal.Value.run m' g')⟩
  rw [Cert.OutDwReferenceIdeal.Read.val_main_v6_eq, (hargs c).1, (hargs c).2]
  exact funext (Cert.OutDwValue.reference_eq _ _)

theorem ssm_in_dw : @Cert.algebraic_SsmInDwIdeal_SsmInDwReferenceIdeal Cert.SsmInDwIdeal.Gen.facts Cert.SsmInDwReferenceIdeal.Gen.facts := by
  intro m g m' g' _ hargs
  refine ⟨fun c => Cert.SsmInDwValue.out m c,
    (θ_run _ _ _).mono (fun r h c => ⟨(h c).1.trans (Cert.SsmInDwValue.final m c), (h c).2⟩) (Cert.SsmInDwIdeal.Value.run_blocks m g),
    (θ_run _ _ _).mono (fun r h c => ⟨(h c).1.trans ?_, (h c).2⟩) (Cert.SsmInDwReferenceIdeal.Value.run m' g')⟩
  rw [Cert.SsmInDwReferenceIdeal.Read.val_main_v8_eq, (hargs c).1, (hargs c).2]
  exact funext (Cert.SsmInDwValue.reference_eq _ _)

theorem ssm_in_dx : @Cert.algebraic_SsmInDxIdeal_SsmInDxReferenceIdeal Cert.SsmInDxIdeal.Gen.facts Cert.SsmInDxReferenceIdeal.Gen.facts := by
  intro m g m' g' _ hargs
  refine ⟨fun c => Cert.SsmInDxValue.out m c,
    (θ_run _ _ _).mono (fun r h c => ⟨(h c).1.trans (Cert.SsmInDxValue.final m c), (h c).2⟩) (Cert.SsmInDxIdeal.Value.run m g),
    (θ_run _ _ _).mono (fun r h c => ⟨(h c).1.trans ?_, (h c).2⟩) (Cert.SsmInDxReferenceIdeal.Value.run m' g')⟩
  rw [Cert.SsmInDxReferenceIdeal.Read.val_main_v6_eq, (hargs c).1, (hargs c).2]
  exact funext (Cert.SsmInDxValue.reference_eq _ _)

theorem out_dx : @Cert.algebraic_OutDxIdeal_OutDxReferenceIdeal Cert.OutDxIdeal.Gen.facts Cert.OutDxReferenceIdeal.Gen.facts := by
  intro m g m' g' _ hargs
  refine ⟨fun c => Cert.OutDxValue.out m c,
    (θ_run _ _ _).mono (fun r h c => ⟨(h c).1.trans (Cert.OutDxValue.final m c), (h c).2⟩) (Cert.OutDxIdeal.Value.run_blocks m g),
    (θ_run _ _ _).mono (fun r h c => ⟨(h c).1.trans ?_, (h c).2⟩) (Cert.OutDxReferenceIdeal.Value.run m' g')⟩
  rw [Cert.OutDxReferenceIdeal.Read.val_main_v5_eq, (hargs c).1, (hargs c).2]
  exact funext (Cert.OutDxValue.reference_eq _ _)

theorem gate_dx : @Cert.algebraic_GateDxIdeal_GateDxReferenceIdeal Cert.GateDxIdeal.Gen.facts Cert.GateDxReferenceIdeal.Gen.facts := by
  intro m g m' g' _ hargs
  refine ⟨fun c => Cert.GateDxValue.out m c,
    (θ_run _ _ _).mono (fun r h c => ⟨(h c).1.trans (Cert.GateDxValue.final m c), (h c).2⟩) (Cert.GateDxIdeal.Value.run_blocks m g),
    (θ_run _ _ _).mono (fun r h c => ⟨(h c).1.trans ?_, (h c).2⟩) (Cert.GateDxReferenceIdeal.Value.run m' g')⟩
  rw [Cert.GateDxReferenceIdeal.Read.val_main_v4_eq, (hargs c).1, (hargs c).2]
  exact funext (Cert.GateDxValue.reference_eq _ _)

theorem swa_in_dw : @Cert.algebraic_SwaInDwIdeal_SwaInDwReferenceIdeal Cert.SwaInDwIdeal.Gen.facts Cert.SwaInDwReferenceIdeal.Gen.facts := by
  intro m g m' g' _ hargs
  refine ⟨fun c => Cert.SwaInDwValue.out m c,
    (θ_run _ _ _).mono (fun r h c => ⟨(h c).1.trans (Cert.SwaInDwValue.final m c), (h c).2⟩) (Cert.SwaInDwIdeal.Value.run_blocks m g),
    (θ_run _ _ _).mono (fun r h c => ⟨(h c).1.trans ?_, (h c).2⟩) (Cert.SwaInDwReferenceIdeal.Value.run m' g')⟩
  rw [Cert.SwaInDwReferenceIdeal.Read.val_main_v8_eq, (hargs c).1, (hargs c).2]
  exact funext (Cert.SwaInDwValue.reference_eq _ _)

theorem swa_in_dx : @Cert.algebraic_SwaInDxIdeal_SwaInDxReferenceIdeal Cert.SwaInDxIdeal.Gen.facts Cert.SwaInDxReferenceIdeal.Gen.facts := by
  intro m g m' g' _ hargs
  refine ⟨fun c => Cert.SwaInDxValue.out m c,
    (θ_run _ _ _).mono (fun r h c => ⟨(h c).1.trans (Cert.SwaInDxValue.final m c), (h c).2⟩) (Cert.SwaInDxIdeal.Value.run m g),
    (θ_run _ _ _).mono (fun r h c => ⟨(h c).1.trans ?_, (h c).2⟩) (Cert.SwaInDxReferenceIdeal.Value.run m' g')⟩
  rw [Cert.SwaInDxReferenceIdeal.Read.val_main_v6_eq, (hargs c).1, (hargs c).2]
  exact funext (Cert.SwaInDxValue.reference_eq _ _)

theorem fox_in : @Cert.algebraic_FoxInIdeal_FoxInReferenceIdeal Cert.FoxInIdeal.Gen.facts Cert.FoxInReferenceIdeal.Gen.facts := by
  intro m g m' g' _ hargs
  refine ⟨fun c => Cert.FoxInValue.out m c,
    (θ_run _ _ _).mono (fun r h c => ⟨(h c).1.trans (Cert.FoxInValue.final m c), (h c).2⟩) (Cert.FoxInIdeal.Value.run_blocks m g),
    (θ_run _ _ _).mono (fun r h c => ⟨(h c).1.trans ?_, (h c).2⟩) (Cert.FoxInReferenceIdeal.Value.run m' g')⟩
  rw [Cert.FoxInReferenceIdeal.Read.val_main_v5_eq, (hargs c).1, (hargs c).2]
  exact funext (Cert.FoxInValue.reference_eq _ _)

theorem mixer_out : @Cert.algebraic_MixerOutIdeal_MixerOutReferenceIdeal Cert.MixerOutIdeal.Gen.facts Cert.MixerOutReferenceIdeal.Gen.facts := by
  intro m g m' g' _ hargs
  refine ⟨fun c => Cert.MixerOutValue.out m c,
    (θ_run _ _ _).mono (fun r h c => ⟨(h c).1.trans (Cert.MixerOutValue.final m c), (h c).2⟩) (Cert.MixerOutIdeal.Value.run_blocks m g),
    (θ_run _ _ _).mono (fun r h c => ⟨(h c).1.trans ?_, (h c).2⟩) (Cert.MixerOutReferenceIdeal.Value.run m' g')⟩
  rw [Cert.MixerOutReferenceIdeal.Read.val_main_v2_eq, (hargs c).1, (hargs c).2]
  exact funext (Cert.MixerOutValue.reference_eq _ _)

theorem ssm_in : @Cert.algebraic_SsmInIdeal_SsmInReferenceIdeal Cert.SsmInIdeal.Gen.facts Cert.SsmInReferenceIdeal.Gen.facts := by
  intro m g m' g' _ hargs
  refine ⟨fun c => Cert.SsmInValue.out m c,
    (θ_run _ _ _).mono (fun r h c => ⟨(h c).1.trans (Cert.SsmInValue.final m c), (h c).2⟩) (Cert.SsmInIdeal.Value.run_blocks m g),
    (θ_run _ _ _).mono (fun r h c => ⟨(h c).1.trans ?_, (h c).2⟩) (Cert.SsmInReferenceIdeal.Value.run m' g')⟩
  rw [Cert.SsmInReferenceIdeal.Read.val_main_v4_eq, (hargs c).1, (hargs c).2]
  exact funext (Cert.SsmInValue.reference_eq _ _)

theorem swa_in : @Cert.algebraic_SwaInIdeal_SwaInReferenceIdeal Cert.SwaInIdeal.Gen.facts Cert.SwaInReferenceIdeal.Gen.facts := by
  intro m g m' g' _ hargs
  refine ⟨fun c => Cert.SwaInValue.out m c,
    (θ_run _ _ _).mono (fun r h c => ⟨(h c).1.trans (Cert.SwaInValue.final m c), (h c).2⟩) (Cert.SwaInIdeal.Value.run_blocks m g),
    (θ_run _ _ _).mono (fun r h c => ⟨(h c).1.trans ?_, (h c).2⟩) (Cert.SwaInReferenceIdeal.Value.run m' g')⟩
  rw [Cert.SwaInReferenceIdeal.Read.val_main_v5_eq, (hargs c).1, (hargs c).2]
  exact funext (Cert.SwaInValue.reference_eq _ _)

theorem ple_mix_bwd : @Cert.algebraic_PleMixBwdIdeal_PleMixBwdReferenceIdeal Cert.PleMixBwdIdeal.Gen.facts Cert.PleMixBwdReferenceIdeal.Gen.facts := by
  intro m g m' g' _ hargs
  refine ⟨_, _, Cert.PleMixBwdIdeal.Value.run m g,
    (θ_run _ _ _).mono (fun r h c => ⟨(h c).1.trans ?_, (h c).2.1.trans ?_, (h c).2.2⟩) (Cert.PleMixBwdReferenceIdeal.Value.run m' g')⟩
  · rw [Cert.PleMixBwdReferenceIdeal.Read.val_main_v13_eq, (hargs c).1, (hargs c).2.2]
    exact (Cert.PleMixBwdValue.emb_eq _ _).symm
  · rw [Cert.PleMixBwdReferenceIdeal.Read.val_main_v14_eq, (hargs c).1, (hargs c).2.1, (hargs c).2.2]
    exact (Cert.PleMixBwdValue.gate_eq _ _ _).symm

theorem ple_emb_dw : @Cert.algebraic_PleEmbDwIdeal_PleEmbDwReferenceIdeal Cert.PleEmbDwIdeal.Gen.facts Cert.PleEmbDwReferenceIdeal.Gen.facts := by
  intro m g m' g' _ hargs
  refine ⟨fun c => Cert.PleEmbDwValue.out m c,
    (θ_run _ _ _).mono (fun r h c => ⟨(h c).1.trans (Cert.PleEmbDwValue.final m c), (h c).2⟩) (Cert.PleEmbDwIdeal.Value.run_blocks m g),
    (θ_run _ _ _).mono (fun r h c => ⟨(h c).1.trans ?_, (h c).2⟩) (Cert.PleEmbDwReferenceIdeal.Value.run m' g')⟩
  rw [Cert.PleEmbDwReferenceIdeal.Read.val_main_v8_eq, (hargs c).1, (hargs c).2]
  exact funext (Cert.PleEmbDwValue.reference_eq _ _)

theorem ple_emb : @Cert.algebraic_PleEmbIdeal_PleEmbReferenceIdeal Cert.PleEmbIdeal.Gen.facts Cert.PleEmbReferenceIdeal.Gen.facts := by
  intro m g m' g' _ hargs
  refine ⟨fun c => Cert.PleEmbValue.out m c,
    (θ_run _ _ _).mono (fun r h c => ⟨(h c).1.trans (Cert.PleEmbValue.final m c), (h c).2⟩) (Cert.PleEmbIdeal.Value.run_blocks m g),
    (θ_run _ _ _).mono (fun r h c => ⟨(h c).1.trans ?_, (h c).2⟩) (Cert.PleEmbReferenceIdeal.Value.run m' g')⟩
  rw [Cert.PleEmbReferenceIdeal.Read.val_main_v4_eq, (hargs c).1, (hargs c).2]
  exact funext (Cert.PleEmbValue.reference_eq _ _)

theorem fox_gate_bwd : @Cert.algebraic_FoxGateBwdIdeal_FoxGateBwdReferenceIdeal_pre_finite_gated Cert.FoxGateBwdIdeal.Gen.facts
    Cert.FoxGateBwdReferenceIdeal.Gen.facts Cert.FoxGateValue.facts := by
  intro m g m' g' hpre hargs
  refine ⟨_, _, Cert.FoxGateBwdIdeal.Value.run m g,
    (θ_run _ _ _).mono (fun r h c => ⟨(h c).1.trans ?_, (h c).2.1.trans ?_, (h c).2.2⟩) (Cert.FoxGateBwdReferenceIdeal.Value.run m' g')⟩
  · rw [Cert.FoxGateBwdReferenceIdeal.Read.val_main_v12_eq, (hargs c).1, (hargs c).2.2]
    exact (Cert.FoxGateValue.out_grad _ _).symm
  · obtain ⟨hd, ho⟩ := Cert.FoxGateValue.reals (hpre c).1 (hpre c).2
    rw [Cert.FoxGateBwdReferenceIdeal.Read.val_main_v13_eq, (hargs c).1, (hargs c).2.1, (hargs c).2.2]
    exact (Cert.FoxGateValue.gate_grad _ _ _ hd ho).symm

theorem fox_gate : @Cert.algebraic_FoxGateIdeal_FoxGateReferenceIdeal Cert.FoxGateIdeal.Gen.facts Cert.FoxGateReferenceIdeal.Gen.facts := by
  intro m g m' g' _ hargs
  refine ⟨_, Cert.FoxGateIdeal.Value.run m g,
    (θ_run _ _ _).mono (fun r h c => ⟨(h c).1.trans ?_, (h c).2⟩) (Cert.FoxGateReferenceIdeal.Value.run m' g')⟩
  rw [Cert.FoxGateReferenceIdeal.Read.val_main_v8_eq, (hargs c).1, (hargs c).2]
  exact (Cert.FoxGateValue.forward _ _).symm

theorem claim : Cert.Claim := ⟨Cert.Kernel.Gen.facts, Cert.KernelIdeal.Gen.facts, Cert.ReferenceIdeal.Gen.facts,
  Cert.InDw.Gen.facts, Cert.InDwIdeal.Gen.facts, Cert.InDwReferenceIdeal.Gen.facts,
  Cert.InDx.Gen.facts, Cert.InDxIdeal.Gen.facts, Cert.InDxReferenceIdeal.Gen.facts,
  Cert.OutDw.Gen.facts, Cert.OutDwIdeal.Gen.facts, Cert.OutDwReferenceIdeal.Gen.facts,
  Cert.SsmInDw.Gen.facts, Cert.SsmInDwIdeal.Gen.facts, Cert.SsmInDwReferenceIdeal.Gen.facts,
  Cert.SsmInDx.Gen.facts, Cert.SsmInDxIdeal.Gen.facts, Cert.SsmInDxReferenceIdeal.Gen.facts,
  Cert.OutDx.Gen.facts, Cert.OutDxIdeal.Gen.facts, Cert.OutDxReferenceIdeal.Gen.facts,
  Cert.GateDx.Gen.facts, Cert.GateDxIdeal.Gen.facts, Cert.GateDxReferenceIdeal.Gen.facts,
  Cert.SwaInDw.Gen.facts, Cert.SwaInDwIdeal.Gen.facts, Cert.SwaInDwReferenceIdeal.Gen.facts,
  Cert.SwaInDx.Gen.facts, Cert.SwaInDxIdeal.Gen.facts, Cert.SwaInDxReferenceIdeal.Gen.facts,
  Cert.FoxIn.Gen.facts, Cert.FoxInIdeal.Gen.facts, Cert.FoxInReferenceIdeal.Gen.facts,
  Cert.MixerOut.Gen.facts, Cert.MixerOutIdeal.Gen.facts, Cert.MixerOutReferenceIdeal.Gen.facts,
  Cert.SsmIn.Gen.facts, Cert.SsmInIdeal.Gen.facts, Cert.SsmInReferenceIdeal.Gen.facts,
  Cert.SwaIn.Gen.facts, Cert.SwaInIdeal.Gen.facts, Cert.SwaInReferenceIdeal.Gen.facts,
  Cert.PleMixBwd.Gen.facts, Cert.PleMixBwdIdeal.Gen.facts, Cert.PleMixBwdReferenceIdeal.Gen.facts,
  Cert.PleEmbDw.Gen.facts, Cert.PleEmbDwIdeal.Gen.facts, Cert.PleEmbDwReferenceIdeal.Gen.facts,
  Cert.PleEmb.Gen.facts, Cert.PleEmbIdeal.Gen.facts, Cert.PleEmbReferenceIdeal.Gen.facts,
  Cert.FoxGateBwd.Gen.facts, Cert.FoxGateBwdIdeal.Gen.facts, Cert.FoxGateBwdReferenceIdeal.Gen.facts,
  Cert.FoxGate.Gen.facts, Cert.FoxGateIdeal.Gen.facts, Cert.FoxGateReferenceIdeal.Gen.facts,
  Cert.FoxPre.facts, Cert.FoxGateValue.facts,
  fun m g _ => Cert.Kernel.Gen.frame m g,
  fun m g _ => Cert.KernelIdeal.Gen.frame m g,
  fun m g _ => Cert.KernelIdeal.Gen.frame m g,
  fun m g _ => frame_reference m g,
  fun m g _ => frame_reference m g,
  fun m g _ => Cert.InDw.Gen.frame m g,
  fun m g _ => Cert.InDwIdeal.Gen.frame m g,
  fun m g _ => (θ_run _ _ _).mono (fun r h => ⟨fun c => (h c).2, sem_eq_zero_of_no_sems (by decide) r.2⟩) (Cert.InDwReferenceIdeal.Value.run m g),
  fun m g _ => Cert.InDx.Gen.frame m g,
  fun m g _ => Cert.InDxIdeal.Gen.frame m g,
  fun m g _ => (θ_run _ _ _).mono (fun r h => ⟨fun c => (h c).2, sem_eq_zero_of_no_sems (by decide) r.2⟩) (Cert.InDxReferenceIdeal.Value.run m g),
  fun m g _ => Cert.OutDw.Gen.frame m g,
  fun m g _ => Cert.OutDwIdeal.Gen.frame m g,
  fun m g _ => (θ_run _ _ _).mono (fun r h => ⟨fun c => (h c).2, sem_eq_zero_of_no_sems (by decide) r.2⟩) (Cert.OutDwReferenceIdeal.Value.run m g),
  fun m g _ => Cert.SsmInDw.Gen.frame m g,
  fun m g _ => Cert.SsmInDwIdeal.Gen.frame m g,
  fun m g _ => (θ_run _ _ _).mono (fun r h => ⟨fun c => (h c).2, sem_eq_zero_of_no_sems (by decide) r.2⟩) (Cert.SsmInDwReferenceIdeal.Value.run m g),
  fun m g _ => Cert.SsmInDx.Gen.frame m g,
  fun m g _ => Cert.SsmInDxIdeal.Gen.frame m g,
  fun m g _ => (θ_run _ _ _).mono (fun r h => ⟨fun c => (h c).2, sem_eq_zero_of_no_sems (by decide) r.2⟩) (Cert.SsmInDxReferenceIdeal.Value.run m g),
  fun m g _ => Cert.OutDx.Gen.frame m g,
  fun m g _ => Cert.OutDxIdeal.Gen.frame m g,
  fun m g _ => (θ_run _ _ _).mono (fun r h => ⟨fun c => (h c).2, sem_eq_zero_of_no_sems (by decide) r.2⟩) (Cert.OutDxReferenceIdeal.Value.run m g),
  fun m g _ => Cert.GateDx.Gen.frame m g,
  fun m g _ => Cert.GateDxIdeal.Gen.frame m g,
  fun m g _ => (θ_run _ _ _).mono (fun r h => ⟨fun c => (h c).2, sem_eq_zero_of_no_sems (by decide) r.2⟩) (Cert.GateDxReferenceIdeal.Value.run m g),
  fun m g _ => Cert.SwaInDw.Gen.frame m g,
  fun m g _ => Cert.SwaInDwIdeal.Gen.frame m g,
  fun m g _ => (θ_run _ _ _).mono (fun r h => ⟨fun c => (h c).2, sem_eq_zero_of_no_sems (by decide) r.2⟩) (Cert.SwaInDwReferenceIdeal.Value.run m g),
  fun m g _ => Cert.SwaInDx.Gen.frame m g,
  fun m g _ => Cert.SwaInDxIdeal.Gen.frame m g,
  fun m g _ => (θ_run _ _ _).mono (fun r h => ⟨fun c => (h c).2, sem_eq_zero_of_no_sems (by decide) r.2⟩) (Cert.SwaInDxReferenceIdeal.Value.run m g),
  fun m g _ => Cert.FoxIn.Gen.frame m g,
  fun m g _ => Cert.FoxInIdeal.Gen.frame m g,
  fun m g _ => (θ_run _ _ _).mono (fun r h => ⟨fun c => (h c).2, sem_eq_zero_of_no_sems (by decide) r.2⟩) (Cert.FoxInReferenceIdeal.Value.run m g),
  fun m g _ => Cert.MixerOut.Gen.frame m g,
  fun m g _ => Cert.MixerOutIdeal.Gen.frame m g,
  fun m g _ => (θ_run _ _ _).mono (fun r h => ⟨fun c => (h c).2, sem_eq_zero_of_no_sems (by decide) r.2⟩) (Cert.MixerOutReferenceIdeal.Value.run m g),
  fun m g _ => Cert.SsmIn.Gen.frame m g,
  fun m g _ => Cert.SsmInIdeal.Gen.frame m g,
  fun m g _ => (θ_run _ _ _).mono (fun r h => ⟨fun c => (h c).2, sem_eq_zero_of_no_sems (by decide) r.2⟩) (Cert.SsmInReferenceIdeal.Value.run m g),
  fun m g _ => Cert.SwaIn.Gen.frame m g,
  fun m g _ => Cert.SwaInIdeal.Gen.frame m g,
  fun m g _ => (θ_run _ _ _).mono (fun r h => ⟨fun c => (h c).2, sem_eq_zero_of_no_sems (by decide) r.2⟩) (Cert.SwaInReferenceIdeal.Value.run m g),
  fun m g _ => Cert.PleMixBwd.Gen.frame m g,
  fun m g _ => Cert.PleMixBwdIdeal.Gen.frame m g,
  fun m g _ => (θ_run _ _ _).mono (fun r h => ⟨fun c => (h c).2.2, sem_eq_zero_of_no_sems (by decide) r.2⟩) (Cert.PleMixBwdReferenceIdeal.Value.run m g),
  fun m g _ => Cert.PleEmbDw.Gen.frame m g,
  fun m g _ => Cert.PleEmbDwIdeal.Gen.frame m g,
  fun m g _ => (θ_run _ _ _).mono (fun r h => ⟨fun c => (h c).2, sem_eq_zero_of_no_sems (by decide) r.2⟩) (Cert.PleEmbDwReferenceIdeal.Value.run m g),
  fun m g _ => Cert.PleEmb.Gen.frame m g,
  fun m g _ => Cert.PleEmbIdeal.Gen.frame m g,
  fun m g _ => (θ_run _ _ _).mono (fun r h => ⟨fun c => (h c).2, sem_eq_zero_of_no_sems (by decide) r.2⟩) (Cert.PleEmbReferenceIdeal.Value.run m g),
  fun m g _ => Cert.FoxGateBwd.Gen.frame m g,
  fun m g _ => Cert.FoxGateBwdIdeal.Gen.frame m g,
  fun m g _ => Cert.FoxGateBwdIdeal.Gen.frame m g,
  fun m g _ => (θ_run _ _ _).mono (fun r h => ⟨fun c => (h c).2.2, sem_eq_zero_of_no_sems (by decide) r.2⟩) (Cert.FoxGateBwdReferenceIdeal.Value.run m g),
  fun m g _ => (θ_run _ _ _).mono (fun r h => ⟨fun c => (h c).2.2, sem_eq_zero_of_no_sems (by decide) r.2⟩) (Cert.FoxGateBwdReferenceIdeal.Value.run m g),
  fun m g _ => Cert.FoxGate.Gen.frame m g,
  fun m g _ => Cert.FoxGateIdeal.Gen.frame m g,
  fun m g _ => (θ_run _ _ _).mono (fun r h => ⟨fun c => (h c).2, sem_eq_zero_of_no_sems (by decide) r.2⟩) (Cert.FoxGateReferenceIdeal.Value.run m g),
  IdealRules.named_const.statement Cert.KernelIdeal.κ "mask" .f32 0xF149F2CA#32 ⊥ rfl,
  algebraic,
  trivial, in_dw, trivial, in_dx, trivial, out_dw,
  trivial, ssm_in_dw, trivial, ssm_in_dx, trivial, out_dx, trivial, gate_dx, trivial, swa_in_dw, trivial, swa_in_dx, trivial, fox_in, trivial, mixer_out, trivial, ssm_in, trivial, swa_in,
  trivial, ple_mix_bwd, trivial, ple_emb_dw, trivial, ple_emb, trivial, fox_gate_bwd, trivial, fox_gate⟩

end Cert.Proof

end
